-- ==== Defs.lean ====
def Pre_Linear (m : (ℓ : Loc Cert.Linear.nD Cert.Linear.τ Cert.Linear.sig) → Buf (Elt Bits) ℓ) : Prop :=
  True

def Pre_LinearIdeal (m : (ℓ : Loc Cert.LinearIdeal.nD Cert.LinearIdeal.τ Cert.LinearIdeal.sig) → Buf (Elt Ideal) ℓ) : Prop :=
  True

def Pre_LinearRefIdeal (m : (ℓ : Loc Cert.LinearRefIdeal.nD Cert.LinearRefIdeal.τ Cert.LinearRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_OddLinear (m : (ℓ : Loc Cert.OddLinear.nD Cert.OddLinear.τ Cert.OddLinear.sig) → Buf (Elt Bits) ℓ) : Prop :=
  True

def Pre_OddLinearIdeal (m : (ℓ : Loc Cert.OddLinearIdeal.nD Cert.OddLinearIdeal.τ Cert.OddLinearIdeal.sig) → Buf (Elt Ideal) ℓ) : Prop :=
  True

def Pre_OddLinearRefIdeal (m : (ℓ : Loc Cert.OddLinearRefIdeal.nD Cert.OddLinearRefIdeal.τ Cert.OddLinearRefIdeal.sig) → Buf (Elt Ideal) ℓ) : Prop :=
  True

def Pre_OddTail (m : (ℓ : Loc Cert.OddTail.nD Cert.OddTail.τ Cert.OddTail.sig) → Buf (Elt Bits) ℓ) : Prop :=
  True

def Pre_OddTailIdeal (m : (ℓ : Loc Cert.OddTailIdeal.nD Cert.OddTailIdeal.τ Cert.OddTailIdeal.sig) → Buf (Elt Ideal) ℓ) : Prop :=
  True

def Pre_OddTailRefIdeal (m : (ℓ : Loc Cert.OddTailRefIdeal.nD Cert.OddTailRefIdeal.τ Cert.OddTailRefIdeal.sig) → Buf (Elt Ideal) ℓ) : Prop :=
  True

def Pre_MemAtt (m : (ℓ : Loc Cert.MemAtt.nD Cert.MemAtt.τ Cert.MemAtt.sig) → Buf (Elt Bits) ℓ) : Prop :=
  True

def Pre_MemAttIdeal (m : (ℓ : Loc Cert.MemAttIdeal.nD Cert.MemAttIdeal.τ Cert.MemAttIdeal.sig) → Buf (Elt Ideal) ℓ) : Prop :=
  True

def Pre_MemAttIdeal_finite_queries_and_keys [hPre_finite_queries_and_keys : Cert.Pre_finite_queries_and_keys.Facts] (m : (ℓ : Loc Cert.MemAttIdeal.nD Cert.MemAttIdeal.τ Cert.MemAttIdeal.sig) → Buf (Elt Ideal) ℓ) : Prop :=
  ∀ c : Dev Cert.MemAttIdeal.nD,
    (Cert.Pre_finite_queries_and_keys.fn (F := Ideal) (m ((c.tc : Thread Cert.MemAttIdeal.nD Cert.MemAttIdeal.τ).loc Cert.MemAttIdeal.main_arg0)) (m ((c.tc : Thread Cert.MemAttIdeal.nD Cert.MemAttIdeal.τ).loc Cert.MemAttIdeal.main_arg1)) (m ((c.tc : Thread Cert.MemAttIdeal.nD Cert.MemAttIdeal.τ).loc Cert.MemAttIdeal.main_arg2))).1 = (fun _ => 1#1)
    ∧ (Cert.Pre_finite_queries_and_keys.fn (F := Ideal) (m ((c.tc : Thread Cert.MemAttIdeal.nD Cert.MemAttIdeal.τ).loc Cert.MemAttIdeal.main_arg0)) (m ((c.tc : Thread Cert.MemAttIdeal.nD Cert.MemAttIdeal.τ).loc Cert.MemAttIdeal.main_arg1)) (m ((c.tc : Thread Cert.MemAttIdeal.nD Cert.MemAttIdeal.τ).loc Cert.MemAttIdeal.main_arg2))).2 = (fun _ => 1#1)

def Pre_MemAttRefIdeal (m : (ℓ : Loc Cert.MemAttRefIdeal.nD Cert.MemAttRefIdeal.τ Cert.MemAttRefIdeal.sig) → Buf (Elt Ideal) ℓ) : Prop :=
  True

def Pre_MemAttRefIdeal_finite_queries_and_keys [hPre_finite_queries_and_keys : Cert.Pre_finite_queries_and_keys.Facts] (m : (ℓ : Loc Cert.MemAttRefIdeal.nD Cert.MemAttRefIdeal.τ Cert.MemAttRefIdeal.sig) → Buf (Elt Ideal) ℓ) : Prop :=
  ∀ c : Dev Cert.MemAttRefIdeal.nD,
    (Cert.Pre_finite_queries_and_keys.fn (F := Ideal) (m ((c.tc : Thread Cert.MemAttRefIdeal.nD Cert.MemAttRefIdeal.τ).loc Cert.MemAttRefIdeal.main_arg0)) (m ((c.tc : Thread Cert.MemAttRefIdeal.nD Cert.MemAttRefIdeal.τ).loc Cert.MemAttRefIdeal.main_arg1)) (m ((c.tc : Thread Cert.MemAttRefIdeal.nD Cert.MemAttRefIdeal.τ).loc Cert.MemAttRefIdeal.main_arg2))).1 = (fun _ => 1#1)
    ∧ (Cert.Pre_finite_queries_and_keys.fn (F := Ideal) (m ((c.tc : Thread Cert.MemAttRefIdeal.nD Cert.MemAttRefIdeal.τ).loc Cert.MemAttRefIdeal.main_arg0)) (m ((c.tc : Thread Cert.MemAttRefIdeal.nD Cert.MemAttRefIdeal.τ).loc Cert.MemAttRefIdeal.main_arg1)) (m ((c.tc : Thread Cert.MemAttRefIdeal.nD Cert.MemAttRefIdeal.τ).loc Cert.MemAttRefIdeal.main_arg2))).2 = (fun _ => 1#1)

def Pre_EvenTail (m : (ℓ : Loc Cert.EvenTail.nD Cert.EvenTail.τ Cert.EvenTail.sig) → Buf (Elt Bits) ℓ) : Prop :=
  True

def Pre_EvenTailIdeal (m : (ℓ : Loc Cert.EvenTailIdeal.nD Cert.EvenTailIdeal.τ Cert.EvenTailIdeal.sig) → Buf (Elt Ideal) ℓ) : Prop :=
  True

def Pre_EvenTailRefIdeal (m : (ℓ : Loc Cert.EvenTailRefIdeal.nD Cert.EvenTailRefIdeal.τ Cert.EvenTailRefIdeal.sig) → Buf (Elt Ideal) ℓ) : Prop :=
  True

def Pre_Ssd (m : (ℓ : Loc Cert.Ssd.nD Cert.Ssd.τ Cert.Ssd.sig) → Buf (Elt Bits) ℓ) : Prop :=
  True

def Pre_SsdIdeal (m : (ℓ : Loc Cert.SsdIdeal.nD Cert.SsdIdeal.τ Cert.SsdIdeal.sig) → Buf (Elt Ideal) ℓ) : Prop :=
  True

def Pre_SsdRefIdeal (m : (ℓ : Loc Cert.SsdRefIdeal.nD Cert.SsdRefIdeal.τ Cert.SsdRefIdeal.sig) → Buf (Elt Ideal) ℓ) : Prop :=
  True

def quiescent_Linear [hLinear : Cert.Linear.Facts] : Prop :=
  ∀ (m : (ℓ : Loc Cert.Linear.nD Cert.Linear.τ Cert.Linear.sig) → Buf (Elt Bits) ℓ) (g : Dev Cert.Linear.nD → PrngReg), Pre_Linear m →
    θ_run (Cert.Linear.defs (F := Bits)) (onTc (τ := Cert.Linear.τ) (Cert.Linear.main (F := Bits))) ⟨m, fun _ => 0, g⟩ (fun r => (∀ c : Dev Cert.Linear.nD,
      r.2.mem ((c.tc : Thread Cert.Linear.nD Cert.Linear.τ).loc Cert.Linear.main_arg0) = m ((c.tc : Thread Cert.Linear.nD Cert.Linear.τ).loc Cert.Linear.main_arg0)
      ∧ r.2.mem ((c.tc : Thread Cert.Linear.nD Cert.Linear.τ).loc Cert.Linear.main_arg1) = m ((c.tc : Thread Cert.Linear.nD Cert.Linear.τ).loc Cert.Linear.main_arg1)
      ∧ r.2.mem ((c.tc : Thread Cert.Linear.nD Cert.Linear.τ).loc Cert.Linear.main_arg2) = m ((c.tc : Thread Cert.Linear.nD Cert.Linear.τ).loc Cert.Linear.main_arg2))
      ∧ r.2.sem = fun _ => 0)

def quiescent_LinearIdeal [hLinearIdeal : Cert.LinearIdeal.Facts] : Prop :=
  ∀ (m : (ℓ : Loc Cert.LinearIdeal.nD Cert.LinearIdeal.τ Cert.LinearIdeal.sig) → Buf (Elt Ideal) ℓ) (g : Dev Cert.LinearIdeal.nD → PrngReg), Pre_LinearIdeal m →
    θ_run (Cert.LinearIdeal.defs (F := Ideal)) (onTc (τ := Cert.LinearIdeal.τ) (Cert.LinearIdeal.main (F := Ideal))) ⟨m, fun _ => 0, g⟩ (fun r => (∀ c : Dev Cert.LinearIdeal.nD,
      r.2.mem ((c.tc : Thread Cert.LinearIdeal.nD Cert.LinearIdeal.τ).loc Cert.LinearIdeal.main_arg0) = m ((c.tc : Thread Cert.LinearIdeal.nD Cert.LinearIdeal.τ).loc Cert.LinearIdeal.main_arg0)
      ∧ r.2.mem ((c.tc : Thread Cert.LinearIdeal.nD Cert.LinearIdeal.τ).loc Cert.LinearIdeal.main_arg1) = m ((c.tc : Thread Cert.LinearIdeal.nD Cert.LinearIdeal.τ).loc Cert.LinearIdeal.main_arg1)
      ∧ r.2.mem ((c.tc : Thread Cert.LinearIdeal.nD Cert.LinearIdeal.τ).loc Cert.LinearIdeal.main_arg2) = m ((c.tc : Thread Cert.LinearIdeal.nD Cert.LinearIdeal.τ).loc Cert.LinearIdeal.main_arg2))
      ∧ r.2.sem = fun _ => 0)

def quiescent_LinearRefIdeal [hLinearRefIdeal : Cert.LinearRefIdeal.Facts] : Prop :=
  ∀ (m : (ℓ : Loc Cert.LinearRefIdeal.nD Cert.LinearRefIdeal.τ Cert.LinearRefIdeal.sig) → Buf (Elt Ideal) ℓ) (g : Dev Cert.LinearRefIdeal.nD → PrngReg), Pre_LinearRefIdeal m →
    θ_run (Cert.LinearRefIdeal.defs (F := Ideal)) (onTc (τ := Cert.LinearRefIdeal.τ) (Cert.LinearRefIdeal.main (F := Ideal))) ⟨m, fun _ => 0, g⟩ (fun r => (∀ c : Dev Cert.LinearRefIdeal.nD,
      r.2.mem ((c.tc : Thread Cert.LinearRefIdeal.nD Cert.LinearRefIdeal.τ).loc Cert.LinearRefIdeal.main_arg0) = m ((c.tc : Thread Cert.LinearRefIdeal.nD Cert.LinearRefIdeal.τ).loc Cert.LinearRefIdeal.main_arg0)
      ∧ r.2.mem ((c.tc : Thread Cert.LinearRefIdeal.nD Cert.LinearRefIdeal.τ).loc Cert.LinearRefIdeal.main_arg1) = m ((c.tc : Thread Cert.LinearRefIdeal.nD Cert.LinearRefIdeal.τ).loc Cert.LinearRefIdeal.main_arg1)
      ∧ r.2.mem ((c.tc : Thread Cert.LinearRefIdeal.nD Cert.LinearRefIdeal.τ).loc Cert.LinearRefIdeal.main_arg2) = m ((c.tc : Thread Cert.LinearRefIdeal.nD Cert.LinearRefIdeal.τ).loc Cert.LinearRefIdeal.main_arg2))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1))
      ∧ r.2.sem = fun _ => 0)

def quiescent_OddLinear [hOddLinear : Cert.OddLinear.Facts] : Prop :=
  ∀ (m : (ℓ : Loc Cert.OddLinear.nD Cert.OddLinear.τ Cert.OddLinear.sig) → Buf (Elt Bits) ℓ) (g : Dev Cert.OddLinear.nD → PrngReg), Pre_OddLinear m →
    θ_run (Cert.OddLinear.defs (F := Bits)) (onTc (τ := Cert.OddLinear.τ) (Cert.OddLinear.main (F := Bits))) ⟨m, fun _ => 0, g⟩ (fun r => (∀ c : Dev Cert.OddLinear.nD,
      r.2.mem ((c.tc : Thread Cert.OddLinear.nD Cert.OddLinear.τ).loc Cert.OddLinear.main_arg0) = m ((c.tc : Thread Cert.OddLinear.nD Cert.OddLinear.τ).loc Cert.OddLinear.main_arg0)
      ∧ r.2.mem ((c.tc : Thread Cert.OddLinear.nD Cert.OddLinear.τ).loc Cert.OddLinear.main_arg1) = m ((c.tc : Thread Cert.OddLinear.nD Cert.OddLinear.τ).loc Cert.OddLinear.main_arg1)
      ∧ r.2.mem ((c.tc : Thread Cert.OddLinear.nD Cert.OddLinear.τ).loc Cert.OddLinear.main_arg2) = m ((c.tc : Thread Cert.OddLinear.nD Cert.OddLinear.τ).loc Cert.OddLinear.main_arg2))
      ∧ r.2.sem = fun _ => 0)

def quiescent_OddLinearIdeal [hOddLinearIdeal : Cert.OddLinearIdeal.Facts] : Prop :=
  ∀ (m : (ℓ : Loc Cert.OddLinearIdeal.nD Cert.OddLinearIdeal.τ Cert.OddLinearIdeal.sig) → Buf (Elt Ideal) ℓ) (g : Dev Cert.OddLinearIdeal.nD → PrngReg), Pre_OddLinearIdeal m →
    θ_run (Cert.OddLinearIdeal.defs (F := Ideal)) (onTc (τ := Cert.OddLinearIdeal.τ) (Cert.OddLinearIdeal.main (F := Ideal))) ⟨m, fun _ => 0, g⟩ (fun r => (∀ c : Dev Cert.OddLinearIdeal.nD,
      r.2.mem ((c.tc : Thread Cert.OddLinearIdeal.nD Cert.OddLinearIdeal.τ).loc Cert.OddLinearIdeal.main_arg0) = m ((c.tc : Thread Cert.OddLinearIdeal.nD Cert.OddLinearIdeal.τ).loc Cert.OddLinearIdeal.main_arg0)
      ∧ r.2.mem ((c.tc : Thread Cert.OddLinearIdeal.nD Cert.OddLinearIdeal.τ).loc Cert.OddLinearIdeal.main_arg1) = m ((c.tc : Thread Cert.OddLinearIdeal.nD Cert.OddLinearIdeal.τ).loc Cert.OddLinearIdeal.main_arg1)
      ∧ r.2.mem ((c.tc : Thread Cert.OddLinearIdeal.nD Cert.OddLinearIdeal.τ).loc Cert.OddLinearIdeal.main_arg2) = m ((c.tc : Thread Cert.OddLinearIdeal.nD Cert.OddLinearIdeal.τ).loc Cert.OddLinearIdeal.main_arg2))
      ∧ r.2.sem = fun _ => 0)

def quiescent_OddLinearRefIdeal [hOddLinearRefIdeal : Cert.OddLinearRefIdeal.Facts] : Prop :=
  ∀ (m : (ℓ : Loc Cert.OddLinearRefIdeal.nD Cert.OddLinearRefIdeal.τ Cert.OddLinearRefIdeal.sig) → Buf (Elt Ideal) ℓ) (g : Dev Cert.OddLinearRefIdeal.nD → PrngReg), Pre_OddLinearRefIdeal m →
    θ_run (Cert.OddLinearRefIdeal.defs (F := Ideal)) (onTc (τ := Cert.OddLinearRefIdeal.τ) (Cert.OddLinearRefIdeal.main (F := Ideal))) ⟨m, fun _ => 0, g⟩ (fun r => (∀ c : Dev Cert.OddLinearRefIdeal.nD,
      r.2.mem ((c.tc : Thread Cert.OddLinearRefIdeal.nD Cert.OddLinearRefIdeal.τ).loc Cert.OddLinearRefIdeal.main_arg0) = m ((c.tc : Thread Cert.OddLinearRefIdeal.nD Cert.OddLinearRefIdeal.τ).loc Cert.OddLinearRefIdeal.main_arg0)
      ∧ r.2.mem ((c.tc : Thread Cert.OddLinearRefIdeal.nD Cert.OddLinearRefIdeal.τ).loc Cert.OddLinearRefIdeal.main_arg1) = m ((c.tc : Thread Cert.OddLinearRefIdeal.nD Cert.OddLinearRefIdeal.τ).loc Cert.OddLinearRefIdeal.main_arg1)
      ∧ r.2.mem ((c.tc : Thread Cert.OddLinearRefIdeal.nD Cert.OddLinearRefIdeal.τ).loc Cert.OddLinearRefIdeal.main_arg2) = m ((c.tc : Thread Cert.OddLinearRefIdeal.nD Cert.OddLinearRefIdeal.τ).loc Cert.OddLinearRefIdeal.main_arg2))
      ∧ r.2.sem = fun _ => 0)

def quiescent_OddTail [hOddTail : Cert.OddTail.Facts] : Prop :=
  ∀ (m : (ℓ : Loc Cert.OddTail.nD Cert.OddTail.τ Cert.OddTail.sig) → Buf (Elt Bits) ℓ) (g : Dev Cert.OddTail.nD → PrngReg), Pre_OddTail m →
    θ_run (Cert.OddTail.defs (F := Bits)) (onTc (τ := Cert.OddTail.τ) (Cert.OddTail.main (F := Bits))) ⟨m, fun _ => 0, g⟩ (fun r => (∀ c : Dev Cert.OddTail.nD,
      r.2.mem ((c.tc : Thread Cert.OddTail.nD Cert.OddTail.τ).loc Cert.OddTail.main_arg0) = m ((c.tc : Thread Cert.OddTail.nD Cert.OddTail.τ).loc Cert.OddTail.main_arg0)
      ∧ r.2.mem ((c.tc : Thread Cert.OddTail.nD Cert.OddTail.τ).loc Cert.OddTail.main_arg1) = m ((c.tc : Thread Cert.OddTail.nD Cert.OddTail.τ).loc Cert.OddTail.main_arg1)
      ∧ r.2.mem ((c.tc : Thread Cert.OddTail.nD Cert.OddTail.τ).loc Cert.OddTail.main_arg2) = m ((c.tc : Thread Cert.OddTail.nD Cert.OddTail.τ).loc Cert.OddTail.main_arg2)
      ∧ r.2.mem ((c.tc : Thread Cert.OddTail.nD Cert.OddTail.τ).loc Cert.OddTail.main_arg3) = m ((c.tc : Thread Cert.OddTail.nD Cert.OddTail.τ).loc Cert.OddTail.main_arg3)
      ∧ r.2.mem ((c.tc : Thread Cert.OddTail.nD Cert.OddTail.τ).loc Cert.OddTail.main_arg4) = m ((c.tc : Thread Cert.OddTail.nD Cert.OddTail.τ).loc Cert.OddTail.main_arg4)
      ∧ r.2.mem ((c.tc : Thread Cert.OddTail.nD Cert.OddTail.τ).loc Cert.OddTail.main_arg5) = m ((c.tc : Thread Cert.OddTail.nD Cert.OddTail.τ).loc Cert.OddTail.main_arg5)
      ∧ r.2.mem ((c.tc : Thread Cert.OddTail.nD Cert.OddTail.τ).loc Cert.OddTail.main_arg6) = m ((c.tc : Thread Cert.OddTail.nD Cert.OddTail.τ).loc Cert.OddTail.main_arg6)
      ∧ r.2.mem ((c.tc : Thread Cert.OddTail.nD Cert.OddTail.τ).loc Cert.OddTail.main_arg7) = m ((c.tc : Thread Cert.OddTail.nD Cert.OddTail.τ).loc Cert.OddTail.main_arg7)
      ∧ r.2.mem ((c.tc : Thread Cert.OddTail.nD Cert.OddTail.τ).loc Cert.OddTail.main_arg8) = m ((c.tc : Thread Cert.OddTail.nD Cert.OddTail.τ).loc Cert.OddTail.main_arg8))
      ∧ r.2.sem = fun _ => 0)

def quiescent_OddTailIdeal [hOddTailIdeal : Cert.OddTailIdeal.Facts] : Prop :=
  ∀ (m : (ℓ : Loc Cert.OddTailIdeal.nD Cert.OddTailIdeal.τ Cert.OddTailIdeal.sig) → Buf (Elt Ideal) ℓ) (g : Dev Cert.OddTailIdeal.nD → PrngReg), Pre_OddTailIdeal m →
    θ_run (Cert.OddTailIdeal.defs (F := Ideal)) (onTc (τ := Cert.OddTailIdeal.τ) (Cert.OddTailIdeal.main (F := Ideal))) ⟨m, fun _ => 0, g⟩ (fun r => (∀ c : Dev Cert.OddTailIdeal.nD,
      r.2.mem ((c.tc : Thread Cert.OddTailIdeal.nD Cert.OddTailIdeal.τ).loc Cert.OddTailIdeal.main_arg0) = m ((c.tc : Thread Cert.OddTailIdeal.nD Cert.OddTailIdeal.τ).loc Cert.OddTailIdeal.main_arg0)
      ∧ r.2.mem ((c.tc : Thread Cert.OddTailIdeal.nD Cert.OddTailIdeal.τ).loc Cert.OddTailIdeal.main_arg1) = m ((c.tc : Thread Cert.OddTailIdeal.nD Cert.OddTailIdeal.τ).loc Cert.OddTailIdeal.main_arg1)
      ∧ r.2.mem ((c.tc : Thread Cert.OddTailIdeal.nD Cert.OddTailIdeal.τ).loc Cert.OddTailIdeal.main_arg2) = m ((c.tc : Thread Cert.OddTailIdeal.nD Cert.OddTailIdeal.τ).loc Cert.OddTailIdeal.main_arg2)
      ∧ r.2.mem ((c.tc : Thread Cert.OddTailIdeal.nD Cert.OddTailIdeal.τ).loc Cert.OddTailIdeal.main_arg3) = m ((c.tc : Thread Cert.OddTailIdeal.nD Cert.OddTailIdeal.τ).loc Cert.OddTailIdeal.main_arg3)
      ∧ r.2.mem ((c.tc : Thread Cert.OddTailIdeal.nD Cert.OddTailIdeal.τ).loc Cert.OddTailIdeal.main_arg4) = m ((c.tc : Thread Cert.OddTailIdeal.nD Cert.OddTailIdeal.τ).loc Cert.OddTailIdeal.main_arg4)
      ∧ r.2.mem ((c.tc : Thread Cert.OddTailIdeal.nD Cert.OddTailIdeal.τ).loc Cert.OddTailIdeal.main_arg5) = m ((c.tc : Thread Cert.OddTailIdeal.nD Cert.OddTailIdeal.τ).loc Cert.OddTailIdeal.main_arg5)
      ∧ r.2.mem ((c.tc : Thread Cert.OddTailIdeal.nD Cert.OddTailIdeal.τ).loc Cert.OddTailIdeal.main_arg6) = m ((c.tc : Thread Cert.OddTailIdeal.nD Cert.OddTailIdeal.τ).loc Cert.OddTailIdeal.main_arg6)
      ∧ r.2.mem ((c.tc : Thread Cert.OddTailIdeal.nD Cert.OddTailIdeal.τ).loc Cert.OddTailIdeal.main_arg7) = m ((c.tc : Thread Cert.OddTailIdeal.nD Cert.OddTailIdeal.τ).loc Cert.OddTailIdeal.main_arg7)
      ∧ r.2.mem ((c.tc : Thread Cert.OddTailIdeal.nD Cert.OddTailIdeal.τ).loc Cert.OddTailIdeal.main_arg8) = m ((c.tc : Thread Cert.OddTailIdeal.nD Cert.OddTailIdeal.τ).loc Cert.OddTailIdeal.main_arg8))
      ∧ r.2.sem = fun _ => 0)

def quiescent_OddTailRefIdeal [hOddTailRefIdeal : Cert.OddTailRefIdeal.Facts] : Prop :=
  ∀ (m : (ℓ : Loc Cert.OddTailRefIdeal.nD Cert.OddTailRefIdeal.τ Cert.OddTailRefIdeal.sig) → Buf (Elt Ideal) ℓ) (g : Dev Cert.OddTailRefIdeal.nD → PrngReg), Pre_OddTailRefIdeal m →
    θ_run (Cert.OddTailRefIdeal.defs (F := Ideal)) (onTc (τ := Cert.OddTailRefIdeal.τ) (Cert.OddTailRefIdeal.main (F := Ideal))) ⟨m, fun _ => 0, g⟩ (fun r => (∀ c : Dev Cert.OddTailRefIdeal.nD,
      r.2.mem ((c.tc : Thread Cert.OddTailRefIdeal.nD Cert.OddTailRefIdeal.τ).loc Cert.OddTailRefIdeal.main_arg0) = m ((c.tc : Thread Cert.OddTailRefIdeal.nD Cert.OddTailRefIdeal.τ).loc Cert.OddTailRefIdeal.main_arg0)
      ∧ r.2.mem ((c.tc : Thread Cert.OddTailRefIdeal.nD Cert.OddTailRefIdeal.τ).loc Cert.OddTailRefIdeal.main_arg1) = m ((c.tc : Thread Cert.OddTailRefIdeal.nD Cert.OddTailRefIdeal.τ).loc Cert.OddTailRefIdeal.main_arg1)
      ∧ r.2.mem ((c.tc : Thread Cert.OddTailRefIdeal.nD Cert.OddTailRefIdeal.τ).loc Cert.OddTailRefIdeal.main_arg2) = m ((c.tc : Thread Cert.OddTailRefIdeal.nD Cert.OddTailRefIdeal.τ).loc Cert.OddTailRefIdeal.main_arg2)
      ∧ r.2.mem ((c.tc : Thread Cert.OddTailRefIdeal.nD Cert.OddTailRefIdeal.τ).loc Cert.OddTailRefIdeal.main_arg3) = m ((c.tc : Thread Cert.OddTailRefIdeal.nD Cert.OddTailRefIdeal.τ).loc Cert.OddTailRefIdeal.main_arg3)
      ∧ r.2.mem ((c.tc : Thread Cert.OddTailRefIdeal.nD Cert.OddTailRefIdeal.τ).loc Cert.OddTailRefIdeal.main_arg4) = m ((c.tc : Thread Cert.OddTailRefIdeal.nD Cert.OddTailRefIdeal.τ).loc Cert.OddTailRefIdeal.main_arg4)
      ∧ r.2.mem ((c.tc : Thread Cert.OddTailRefIdeal.nD Cert.OddTailRefIdeal.τ).loc Cert.OddTailRefIdeal.main_arg5) = m ((c.tc : Thread Cert.OddTailRefIdeal.nD Cert.OddTailRefIdeal.τ).loc Cert.OddTailRefIdeal.main_arg5)
      ∧ r.2.mem ((c.tc : Thread Cert.OddTailRefIdeal.nD Cert.OddTailRefIdeal.τ).loc Cert.OddTailRefIdeal.main_arg6) = m ((c.tc : Thread Cert.OddTailRefIdeal.nD Cert.OddTailRefIdeal.τ).loc Cert.OddTailRefIdeal.main_arg6)
      ∧ r.2.mem ((c.tc : Thread Cert.OddTailRefIdeal.nD Cert.OddTailRefIdeal.τ).loc Cert.OddTailRefIdeal.main_arg7) = m ((c.tc : Thread Cert.OddTailRefIdeal.nD Cert.OddTailRefIdeal.τ).loc Cert.OddTailRefIdeal.main_arg7)
      ∧ r.2.mem ((c.tc : Thread Cert.OddTailRefIdeal.nD Cert.OddTailRefIdeal.τ).loc Cert.OddTailRefIdeal.main_arg8) = m ((c.tc : Thread Cert.OddTailRefIdeal.nD Cert.OddTailRefIdeal.τ).loc Cert.OddTailRefIdeal.main_arg8))
      ∧ r.2.sem = fun _ => 0)

def quiescent_MemAtt [hMemAtt : Cert.MemAtt.Facts] : Prop :=
  ∀ (m : (ℓ : Loc Cert.MemAtt.nD Cert.MemAtt.τ Cert.MemAtt.sig) → Buf (Elt Bits) ℓ) (g : Dev Cert.MemAtt.nD → PrngReg), Pre_MemAtt m →
    θ_run (Cert.MemAtt.defs (F := Bits)) (onTc (τ := Cert.MemAtt.τ) (Cert.MemAtt.main (F := Bits))) ⟨m, fun _ => 0, g⟩ (fun r => (∀ c : Dev Cert.MemAtt.nD,
      r.2.mem ((c.tc : Thread Cert.MemAtt.nD Cert.MemAtt.τ).loc Cert.MemAtt.main_arg0) = m ((c.tc : Thread Cert.MemAtt.nD Cert.MemAtt.τ).loc Cert.MemAtt.main_arg0)
      ∧ r.2.mem ((c.tc : Thread Cert.MemAtt.nD Cert.MemAtt.τ).loc Cert.MemAtt.main_arg1) = m ((c.tc : Thread Cert.MemAtt.nD Cert.MemAtt.τ).loc Cert.MemAtt.main_arg1)
      ∧ r.2.mem ((c.tc : Thread Cert.MemAtt.nD Cert.MemAtt.τ).loc Cert.MemAtt.main_arg2) = m ((c.tc : Thread Cert.MemAtt.nD Cert.MemAtt.τ).loc Cert.MemAtt.main_arg2))
      ∧ r.2.sem = fun _ => 0)

def quiescent_MemAttIdeal [hMemAttIdeal : Cert.MemAttIdeal.Facts] : Prop :=
  ∀ (m : (ℓ : Loc Cert.MemAttIdeal.nD Cert.MemAttIdeal.τ Cert.MemAttIdeal.sig) → Buf (Elt Ideal) ℓ) (g : Dev Cert.MemAttIdeal.nD → PrngReg), Pre_MemAttIdeal m →
    θ_run (Cert.MemAttIdeal.defs (F := Ideal)) (onTc (τ := Cert.MemAttIdeal.τ) (Cert.MemAttIdeal.main (F := Ideal))) ⟨m, fun _ => 0, g⟩ (fun r => (∀ c : Dev Cert.MemAttIdeal.nD,
      r.2.mem ((c.tc : Thread Cert.MemAttIdeal.nD Cert.MemAttIdeal.τ).loc Cert.MemAttIdeal.main_arg0) = m ((c.tc : Thread Cert.MemAttIdeal.nD Cert.MemAttIdeal.τ).loc Cert.MemAttIdeal.main_arg0)
      ∧ r.2.mem ((c.tc : Thread Cert.MemAttIdeal.nD Cert.MemAttIdeal.τ).loc Cert.MemAttIdeal.main_arg1) = m ((c.tc : Thread Cert.MemAttIdeal.nD Cert.MemAttIdeal.τ).loc Cert.MemAttIdeal.main_arg1)
      ∧ r.2.mem ((c.tc : Thread Cert.MemAttIdeal.nD Cert.MemAttIdeal.τ).loc Cert.MemAttIdeal.main_arg2) = m ((c.tc : Thread Cert.MemAttIdeal.nD Cert.MemAttIdeal.τ).loc Cert.MemAttIdeal.main_arg2))
      ∧ r.2.sem = fun _ => 0)

def quiescent_MemAttIdeal_pre_finite_queries_and_keys [hMemAttIdeal : Cert.MemAttIdeal.Facts] [hPre_finite_queries_and_keys : Cert.Pre_finite_queries_and_keys.Facts] : Prop :=
  ∀ (m : (ℓ : Loc Cert.MemAttIdeal.nD Cert.MemAttIdeal.τ Cert.MemAttIdeal.sig) → Buf (Elt Ideal) ℓ) (g : Dev Cert.MemAttIdeal.nD → PrngReg), Pre_MemAttIdeal_finite_queries_and_keys m →
    θ_run (Cert.MemAttIdeal.defs (F := Ideal)) (onTc (τ := Cert.MemAttIdeal.τ) (Cert.MemAttIdeal.main (F := Ideal))) ⟨m, fun _ => 0, g⟩ (fun r => (∀ c : Dev Cert.MemAttIdeal.nD,
      r.2.mem ((c.tc : Thread Cert.MemAttIdeal.nD Cert.MemAttIdeal.τ).loc Cert.MemAttIdeal.main_arg0) = m ((c.tc : Thread Cert.MemAttIdeal.nD Cert.MemAttIdeal.τ).loc Cert.MemAttIdeal.main_arg0)
      ∧ r.2.mem ((c.tc : Thread Cert.MemAttIdeal.nD Cert.MemAttIdeal.τ).loc Cert.MemAttIdeal.main_arg1) = m ((c.tc : Thread Cert.MemAttIdeal.nD Cert.MemAttIdeal.τ).loc Cert.MemAttIdeal.main_arg1)
      ∧ r.2.mem ((c.tc : Thread Cert.MemAttIdeal.nD Cert.MemAttIdeal.τ).loc Cert.MemAttIdeal.main_arg2) = m ((c.tc : Thread Cert.MemAttIdeal.nD Cert.MemAttIdeal.τ).loc Cert.MemAttIdeal.main_arg2))
      ∧ r.2.sem = fun _ => 0)

def quiescent_MemAttRefIdeal [hMemAttRefIdeal : Cert.MemAttRefIdeal.Facts] : Prop :=
  ∀ (m : (ℓ : Loc Cert.MemAttRefIdeal.nD Cert.MemAttRefIdeal.τ Cert.MemAttRefIdeal.sig) → Buf (Elt Ideal) ℓ) (g : Dev Cert.MemAttRefIdeal.nD → PrngReg), Pre_MemAttRefIdeal m →
    θ_run (Cert.MemAttRefIdeal.defs (F := Ideal)) (onTc (τ := Cert.MemAttRefIdeal.τ) (Cert.MemAttRefIdeal.main (F := Ideal))) ⟨m, fun _ => 0, g⟩ (fun r => (∀ c : Dev Cert.MemAttRefIdeal.nD,
      r.2.mem ((c.tc : Thread Cert.MemAttRefIdeal.nD Cert.MemAttRefIdeal.τ).loc Cert.MemAttRefIdeal.main_arg0) = m ((c.tc : Thread Cert.MemAttRefIdeal.nD Cert.MemAttRefIdeal.τ).loc Cert.MemAttRefIdeal.main_arg0)
      ∧ r.2.mem ((c.tc : Thread Cert.MemAttRefIdeal.nD Cert.MemAttRefIdeal.τ).loc Cert.MemAttRefIdeal.main_arg1) = m ((c.tc : Thread Cert.MemAttRefIdeal.nD Cert.MemAttRefIdeal.τ).loc Cert.MemAttRefIdeal.main_arg1)
      ∧ r.2.mem ((c.tc : Thread Cert.MemAttRefIdeal.nD Cert.MemAttRefIdeal.τ).loc Cert.MemAttRefIdeal.main_arg2) = m ((c.tc : Thread Cert.MemAttRefIdeal.nD Cert.MemAttRefIdeal.τ).loc Cert.MemAttRefIdeal.main_arg2))
      ∧ r.2.sem = fun _ => 0)

def quiescent_MemAttRefIdeal_pre_finite_queries_and_keys [hMemAttRefIdeal : Cert.MemAttRefIdeal.Facts] [hPre_finite_queries_and_keys : Cert.Pre_finite_queries_and_keys.Facts] : Prop :=
  ∀ (m : (ℓ : Loc Cert.MemAttRefIdeal.nD Cert.MemAttRefIdeal.τ Cert.MemAttRefIdeal.sig) → Buf (Elt Ideal) ℓ) (g : Dev Cert.MemAttRefIdeal.nD → PrngReg), Pre_MemAttRefIdeal_finite_queries_and_keys m →
    θ_run (Cert.MemAttRefIdeal.defs (F := Ideal)) (onTc (τ := Cert.MemAttRefIdeal.τ) (Cert.MemAttRefIdeal.main (F := Ideal))) ⟨m, fun _ => 0, g⟩ (fun r => (∀ c : Dev Cert.MemAttRefIdeal.nD,
      r.2.mem ((c.tc : Thread Cert.MemAttRefIdeal.nD Cert.MemAttRefIdeal.τ).loc Cert.MemAttRefIdeal.main_arg0) = m ((c.tc : Thread Cert.MemAttRefIdeal.nD Cert.MemAttRefIdeal.τ).loc Cert.MemAttRefIdeal.main_arg0)
      ∧ r.2.mem ((c.tc : Thread Cert.MemAttRefIdeal.nD Cert.MemAttRefIdeal.τ).loc Cert.MemAttRefIdeal.main_arg1) = m ((c.tc : Thread Cert.MemAttRefIdeal.nD Cert.MemAttRefIdeal.τ).loc Cert.MemAttRefIdeal.main_arg1)
      ∧ r.2.mem ((c.tc : Thread Cert.MemAttRefIdeal.nD Cert.MemAttRefIdeal.τ).loc Cert.MemAttRefIdeal.main_arg2) = m ((c.tc : Thread Cert.MemAttRefIdeal.nD Cert.MemAttRefIdeal.τ).loc Cert.MemAttRefIdeal.main_arg2))
      ∧ r.2.sem = fun _ => 0)

def quiescent_EvenTail [hEvenTail : Cert.EvenTail.Facts] : Prop :=
  ∀ (m : (ℓ : Loc Cert.EvenTail.nD Cert.EvenTail.τ Cert.EvenTail.sig) → Buf (Elt Bits) ℓ) (g : Dev Cert.EvenTail.nD → PrngReg), Pre_EvenTail m →
    θ_run (Cert.EvenTail.defs (F := Bits)) (onTc (τ := Cert.EvenTail.τ) (Cert.EvenTail.main (F := Bits))) ⟨m, fun _ => 0, g⟩ (fun r => (∀ c : Dev Cert.EvenTail.nD,
      r.2.mem ((c.tc : Thread Cert.EvenTail.nD Cert.EvenTail.τ).loc Cert.EvenTail.main_arg0) = m ((c.tc : Thread Cert.EvenTail.nD Cert.EvenTail.τ).loc Cert.EvenTail.main_arg0)
      ∧ r.2.mem ((c.tc : Thread Cert.EvenTail.nD Cert.EvenTail.τ).loc Cert.EvenTail.main_arg1) = m ((c.tc : Thread Cert.EvenTail.nD Cert.EvenTail.τ).loc Cert.EvenTail.main_arg1)
      ∧ r.2.mem ((c.tc : Thread Cert.EvenTail.nD Cert.EvenTail.τ).loc Cert.EvenTail.main_arg2) = m ((c.tc : Thread Cert.EvenTail.nD Cert.EvenTail.τ).loc Cert.EvenTail.main_arg2)
      ∧ r.2.mem ((c.tc : Thread Cert.EvenTail.nD Cert.EvenTail.τ).loc Cert.EvenTail.main_arg3) = m ((c.tc : Thread Cert.EvenTail.nD Cert.EvenTail.τ).loc Cert.EvenTail.main_arg3)
      ∧ r.2.mem ((c.tc : Thread Cert.EvenTail.nD Cert.EvenTail.τ).loc Cert.EvenTail.main_arg4) = m ((c.tc : Thread Cert.EvenTail.nD Cert.EvenTail.τ).loc Cert.EvenTail.main_arg4)
      ∧ r.2.mem ((c.tc : Thread Cert.EvenTail.nD Cert.EvenTail.τ).loc Cert.EvenTail.main_arg5) = m ((c.tc : Thread Cert.EvenTail.nD Cert.EvenTail.τ).loc Cert.EvenTail.main_arg5)
      ∧ r.2.mem ((c.tc : Thread Cert.EvenTail.nD Cert.EvenTail.τ).loc Cert.EvenTail.main_arg6) = m ((c.tc : Thread Cert.EvenTail.nD Cert.EvenTail.τ).loc Cert.EvenTail.main_arg6)
      ∧ r.2.mem ((c.tc : Thread Cert.EvenTail.nD Cert.EvenTail.τ).loc Cert.EvenTail.main_arg7) = m ((c.tc : Thread Cert.EvenTail.nD Cert.EvenTail.τ).loc Cert.EvenTail.main_arg7)
      ∧ r.2.mem ((c.tc : Thread Cert.EvenTail.nD Cert.EvenTail.τ).loc Cert.EvenTail.main_arg8) = m ((c.tc : Thread Cert.EvenTail.nD Cert.EvenTail.τ).loc Cert.EvenTail.main_arg8))
      ∧ r.2.sem = fun _ => 0)

def quiescent_EvenTailIdeal [hEvenTailIdeal : Cert.EvenTailIdeal.Facts] : Prop :=
  ∀ (m : (ℓ : Loc Cert.EvenTailIdeal.nD Cert.EvenTailIdeal.τ Cert.EvenTailIdeal.sig) → Buf (Elt Ideal) ℓ) (g : Dev Cert.EvenTailIdeal.nD → PrngReg), Pre_EvenTailIdeal m →
    θ_run (Cert.EvenTailIdeal.defs (F := Ideal)) (onTc (τ := Cert.EvenTailIdeal.τ) (Cert.EvenTailIdeal.main (F := Ideal))) ⟨m, fun _ => 0, g⟩ (fun r => (∀ c : Dev Cert.EvenTailIdeal.nD,
      r.2.mem ((c.tc : Thread Cert.EvenTailIdeal.nD Cert.EvenTailIdeal.τ).loc Cert.EvenTailIdeal.main_arg0) = m ((c.tc : Thread Cert.EvenTailIdeal.nD Cert.EvenTailIdeal.τ).loc Cert.EvenTailIdeal.main_arg0)
      ∧ r.2.mem ((c.tc : Thread Cert.EvenTailIdeal.nD Cert.EvenTailIdeal.τ).loc Cert.EvenTailIdeal.main_arg1) = m ((c.tc : Thread Cert.EvenTailIdeal.nD Cert.EvenTailIdeal.τ).loc Cert.EvenTailIdeal.main_arg1)
      ∧ r.2.mem ((c.tc : Thread Cert.EvenTailIdeal.nD Cert.EvenTailIdeal.τ).loc Cert.EvenTailIdeal.main_arg2) = m ((c.tc : Thread Cert.EvenTailIdeal.nD Cert.EvenTailIdeal.τ).loc Cert.EvenTailIdeal.main_arg2)
      ∧ r.2.mem ((c.tc : Thread Cert.EvenTailIdeal.nD Cert.EvenTailIdeal.τ).loc Cert.EvenTailIdeal.main_arg3) = m ((c.tc : Thread Cert.EvenTailIdeal.nD Cert.EvenTailIdeal.τ).loc Cert.EvenTailIdeal.main_arg3)
      ∧ r.2.mem ((c.tc : Thread Cert.EvenTailIdeal.nD Cert.EvenTailIdeal.τ).loc Cert.EvenTailIdeal.main_arg4) = m ((c.tc : Thread Cert.EvenTailIdeal.nD Cert.EvenTailIdeal.τ).loc Cert.EvenTailIdeal.main_arg4)
      ∧ r.2.mem ((c.tc : Thread Cert.EvenTailIdeal.nD Cert.EvenTailIdeal.τ).loc Cert.EvenTailIdeal.main_arg5) = m ((c.tc : Thread Cert.EvenTailIdeal.nD Cert.EvenTailIdeal.τ).loc Cert.EvenTailIdeal.main_arg5)
      ∧ r.2.mem ((c.tc : Thread Cert.EvenTailIdeal.nD Cert.EvenTailIdeal.τ).loc Cert.EvenTailIdeal.main_arg6) = m ((c.tc : Thread Cert.EvenTailIdeal.nD Cert.EvenTailIdeal.τ).loc Cert.EvenTailIdeal.main_arg6)
      ∧ r.2.mem ((c.tc : Thread Cert.EvenTailIdeal.nD Cert.EvenTailIdeal.τ).loc Cert.EvenTailIdeal.main_arg7) = m ((c.tc : Thread Cert.EvenTailIdeal.nD Cert.EvenTailIdeal.τ).loc Cert.EvenTailIdeal.main_arg7)
      ∧ r.2.mem ((c.tc : Thread Cert.EvenTailIdeal.nD Cert.EvenTailIdeal.τ).loc Cert.EvenTailIdeal.main_arg8) = m ((c.tc : Thread Cert.EvenTailIdeal.nD Cert.EvenTailIdeal.τ).loc Cert.EvenTailIdeal.main_arg8))
      ∧ r.2.sem = fun _ => 0)

def quiescent_EvenTailRefIdeal [hEvenTailRefIdeal : Cert.EvenTailRefIdeal.Facts] : Prop :=
  ∀ (m : (ℓ : Loc Cert.EvenTailRefIdeal.nD Cert.EvenTailRefIdeal.τ Cert.EvenTailRefIdeal.sig) → Buf (Elt Ideal) ℓ) (g : Dev Cert.EvenTailRefIdeal.nD → PrngReg), Pre_EvenTailRefIdeal m →
    θ_run (Cert.EvenTailRefIdeal.defs (F := Ideal)) (onTc (τ := Cert.EvenTailRefIdeal.τ) (Cert.EvenTailRefIdeal.main (F := Ideal))) ⟨m, fun _ => 0, g⟩ (fun r => (∀ c : Dev Cert.EvenTailRefIdeal.nD,
      r.2.mem ((c.tc : Thread Cert.EvenTailRefIdeal.nD Cert.EvenTailRefIdeal.τ).loc Cert.EvenTailRefIdeal.main_arg0) = m ((c.tc : Thread Cert.EvenTailRefIdeal.nD Cert.EvenTailRefIdeal.τ).loc Cert.EvenTailRefIdeal.main_arg0)
      ∧ r.2.mem ((c.tc : Thread Cert.EvenTailRefIdeal.nD Cert.EvenTailRefIdeal.τ).loc Cert.EvenTailRefIdeal.main_arg1) = m ((c.tc : Thread Cert.EvenTailRefIdeal.nD Cert.EvenTailRefIdeal.τ).loc Cert.EvenTailRefIdeal.main_arg1)
      ∧ r.2.mem ((c.tc : Thread Cert.EvenTailRefIdeal.nD Cert.EvenTailRefIdeal.τ).loc Cert.EvenTailRefIdeal.main_arg2) = m ((c.tc : Thread Cert.EvenTailRefIdeal.nD Cert.EvenTailRefIdeal.τ).loc Cert.EvenTailRefIdeal.main_arg2)
      ∧ r.2.mem ((c.tc : Thread Cert.EvenTailRefIdeal.nD Cert.EvenTailRefIdeal.τ).loc Cert.EvenTailRefIdeal.main_arg3) = m ((c.tc : Thread Cert.EvenTailRefIdeal.nD Cert.EvenTailRefIdeal.τ).loc Cert.EvenTailRefIdeal.main_arg3)
      ∧ r.2.mem ((c.tc : Thread Cert.EvenTailRefIdeal.nD Cert.EvenTailRefIdeal.τ).loc Cert.EvenTailRefIdeal.main_arg4) = m ((c.tc : Thread Cert.EvenTailRefIdeal.nD Cert.EvenTailRefIdeal.τ).loc Cert.EvenTailRefIdeal.main_arg4)
      ∧ r.2.mem ((c.tc : Thread Cert.EvenTailRefIdeal.nD Cert.EvenTailRefIdeal.τ).loc Cert.EvenTailRefIdeal.main_arg5) = m ((c.tc : Thread Cert.EvenTailRefIdeal.nD Cert.EvenTailRefIdeal.τ).loc Cert.EvenTailRefIdeal.main_arg5)
      ∧ r.2.mem ((c.tc : Thread Cert.EvenTailRefIdeal.nD Cert.EvenTailRefIdeal.τ).loc Cert.EvenTailRefIdeal.main_arg6) = m ((c.tc : Thread Cert.EvenTailRefIdeal.nD Cert.EvenTailRefIdeal.τ).loc Cert.EvenTailRefIdeal.main_arg6)
      ∧ r.2.mem ((c.tc : Thread Cert.EvenTailRefIdeal.nD Cert.EvenTailRefIdeal.τ).loc Cert.EvenTailRefIdeal.main_arg7) = m ((c.tc : Thread Cert.EvenTailRefIdeal.nD Cert.EvenTailRefIdeal.τ).loc Cert.EvenTailRefIdeal.main_arg7)
      ∧ r.2.mem ((c.tc : Thread Cert.EvenTailRefIdeal.nD Cert.EvenTailRefIdeal.τ).loc Cert.EvenTailRefIdeal.main_arg8) = m ((c.tc : Thread Cert.EvenTailRefIdeal.nD Cert.EvenTailRefIdeal.τ).loc Cert.EvenTailRefIdeal.main_arg8))
      ∧ r.2.sem = fun _ => 0)

def quiescent_Ssd [hSsd : Cert.Ssd.Facts] : Prop :=
  ∀ (m : (ℓ : Loc Cert.Ssd.nD Cert.Ssd.τ Cert.Ssd.sig) → Buf (Elt Bits) ℓ) (g : Dev Cert.Ssd.nD → PrngReg), Pre_Ssd m →
    θ_run (Cert.Ssd.defs (F := Bits)) (onTc (τ := Cert.Ssd.τ) (Cert.Ssd.main (F := Bits))) ⟨m, fun _ => 0, g⟩ (fun r => (∀ c : Dev Cert.Ssd.nD,
      r.2.mem ((c.tc : Thread Cert.Ssd.nD Cert.Ssd.τ).loc Cert.Ssd.main_arg0) = m ((c.tc : Thread Cert.Ssd.nD Cert.Ssd.τ).loc Cert.Ssd.main_arg0)
      ∧ r.2.mem ((c.tc : Thread Cert.Ssd.nD Cert.Ssd.τ).loc Cert.Ssd.main_arg1) = m ((c.tc : Thread Cert.Ssd.nD Cert.Ssd.τ).loc Cert.Ssd.main_arg1)
      ∧ r.2.mem ((c.tc : Thread Cert.Ssd.nD Cert.Ssd.τ).loc Cert.Ssd.main_arg2) = m ((c.tc : Thread Cert.Ssd.nD Cert.Ssd.τ).loc Cert.Ssd.main_arg2)
      ∧ r.2.mem ((c.tc : Thread Cert.Ssd.nD Cert.Ssd.τ).loc Cert.Ssd.main_arg3) = m ((c.tc : Thread Cert.Ssd.nD Cert.Ssd.τ).loc Cert.Ssd.main_arg3)
      ∧ r.2.mem ((c.tc : Thread Cert.Ssd.nD Cert.Ssd.τ).loc Cert.Ssd.main_arg4) = m ((c.tc : Thread Cert.Ssd.nD Cert.Ssd.τ).loc Cert.Ssd.main_arg4)
      ∧ r.2.mem ((c.tc : Thread Cert.Ssd.nD Cert.Ssd.τ).loc Cert.Ssd.main_arg5) = m ((c.tc : Thread Cert.Ssd.nD Cert.Ssd.τ).loc Cert.Ssd.main_arg5)
      ∧ r.2.mem ((c.tc : Thread Cert.Ssd.nD Cert.Ssd.τ).loc Cert.Ssd.main_arg6) = m ((c.tc : Thread Cert.Ssd.nD Cert.Ssd.τ).loc Cert.Ssd.main_arg6))
      ∧ r.2.sem = fun _ => 0)

def quiescent_SsdIdeal [hSsdIdeal : Cert.SsdIdeal.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
      ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
      ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6))
      ∧ r.2.sem = fun _ => 0)

def quiescent_SsdRefIdeal [hSsdRefIdeal : Cert.SsdRefIdeal.Facts] : Prop :=
  ∀ (m : (ℓ : Loc Cert.SsdRefIdeal.nD Cert.SsdRefIdeal.τ Cert.SsdRefIdeal.sig) → Buf (Elt Ideal) ℓ) (g : Dev Cert.SsdRefIdeal.nD → PrngReg), Pre_SsdRefIdeal m →
    θ_run (Cert.SsdRefIdeal.defs (F := Ideal)) (onTc (τ := Cert.SsdRefIdeal.τ) (Cert.SsdRefIdeal.main (F := Ideal))) ⟨m, fun _ => 0, g⟩ (fun r => (∀ c : Dev Cert.SsdRefIdeal.nD,
      r.2.mem ((c.tc : Thread Cert.SsdRefIdeal.nD Cert.SsdRefIdeal.τ).loc Cert.SsdRefIdeal.main_arg0) = m ((c.tc : Thread Cert.SsdRefIdeal.nD Cert.SsdRefIdeal.τ).loc Cert.SsdRefIdeal.main_arg0)
      ∧ r.2.mem ((c.tc : Thread Cert.SsdRefIdeal.nD Cert.SsdRefIdeal.τ).loc Cert.SsdRefIdeal.main_arg1) = m ((c.tc : Thread Cert.SsdRefIdeal.nD Cert.SsdRefIdeal.τ).loc Cert.SsdRefIdeal.main_arg1)
      ∧ r.2.mem ((c.tc : Thread Cert.SsdRefIdeal.nD Cert.SsdRefIdeal.τ).loc Cert.SsdRefIdeal.main_arg2) = m ((c.tc : Thread Cert.SsdRefIdeal.nD Cert.SsdRefIdeal.τ).loc Cert.SsdRefIdeal.main_arg2)
      ∧ r.2.mem ((c.tc : Thread Cert.SsdRefIdeal.nD Cert.SsdRefIdeal.τ).loc Cert.SsdRefIdeal.main_arg3) = m ((c.tc : Thread Cert.SsdRefIdeal.nD Cert.SsdRefIdeal.τ).loc Cert.SsdRefIdeal.main_arg3)
      ∧ r.2.mem ((c.tc : Thread Cert.SsdRefIdeal.nD Cert.SsdRefIdeal.τ).loc Cert.SsdRefIdeal.main_arg4) = m ((c.tc : Thread Cert.SsdRefIdeal.nD Cert.SsdRefIdeal.τ).loc Cert.SsdRefIdeal.main_arg4)
      ∧ r.2.mem ((c.tc : Thread Cert.SsdRefIdeal.nD Cert.SsdRefIdeal.τ).loc Cert.SsdRefIdeal.main_arg5) = m ((c.tc : Thread Cert.SsdRefIdeal.nD Cert.SsdRefIdeal.τ).loc Cert.SsdRefIdeal.main_arg5)
      ∧ r.2.mem ((c.tc : Thread Cert.SsdRefIdeal.nD Cert.SsdRefIdeal.τ).loc Cert.SsdRefIdeal.main_arg6) = m ((c.tc : Thread Cert.SsdRefIdeal.nD Cert.SsdRefIdeal.τ).loc Cert.SsdRefIdeal.main_arg6))
      ∧ r.2.sem = fun _ => 0)

def preserves_Linear_LinearIdeal : Prop :=
  True

def algebraic_LinearIdeal_LinearRefIdeal [hLinearIdeal : Cert.LinearIdeal.Facts] [hLinearRefIdeal : Cert.LinearRefIdeal.Facts] : Prop :=
  ∀ (m : (ℓ : Loc Cert.LinearIdeal.nD Cert.LinearIdeal.τ Cert.LinearIdeal.sig) → Buf (Elt Ideal) ℓ) (g : Dev Cert.LinearIdeal.nD → PrngReg)
    (m' : (ℓ : Loc Cert.LinearRefIdeal.nD Cert.LinearRefIdeal.τ Cert.LinearRefIdeal.sig) → Buf (Elt Ideal) ℓ) (g' : Dev Cert.LinearRefIdeal.nD → PrngReg), Pre_LinearIdeal m →
    (∀ c : Dev Cert.LinearIdeal.nD,
      m' ((c.tc : Thread Cert.LinearRefIdeal.nD Cert.LinearRefIdeal.τ).loc Cert.LinearRefIdeal.main_arg0) = m ((c.tc : Thread Cert.LinearIdeal.nD Cert.LinearIdeal.τ).loc Cert.LinearIdeal.main_arg0)
      ∧ m' ((c.tc : Thread Cert.LinearRefIdeal.nD Cert.LinearRefIdeal.τ).loc Cert.LinearRefIdeal.main_arg1) = m ((c.tc : Thread Cert.LinearIdeal.nD Cert.LinearIdeal.τ).loc Cert.LinearIdeal.main_arg1)
      ∧ m' ((c.tc : Thread Cert.LinearRefIdeal.nD Cert.LinearRefIdeal.τ).loc Cert.LinearRefIdeal.main_arg2) = m ((c.tc : Thread Cert.LinearIdeal.nD Cert.LinearIdeal.τ).loc Cert.LinearIdeal.main_arg2)) →
    ∃ (v0 : (c : Dev Cert.LinearIdeal.nD) → Buf (Elt Ideal) ((c.tc : Thread Cert.LinearIdeal.nD Cert.LinearIdeal.τ).loc Cert.LinearIdeal.main_v4)),
      θ_run (Cert.LinearIdeal.defs (F := Ideal)) (onTc (τ := Cert.LinearIdeal.τ) (Cert.LinearIdeal.main (F := Ideal))) ⟨m, fun _ => 0, g⟩ (fun r => ∀ c : Dev Cert.LinearIdeal.nD,
          r.2.mem ((c.tc : Thread Cert.LinearIdeal.nD Cert.LinearIdeal.τ).loc Cert.LinearIdeal.main_v4) = v0 c
          ∧ r.2.mem ((c.tc : Thread Cert.LinearIdeal.nD Cert.LinearIdeal.τ).loc Cert.LinearIdeal.main_arg0) = m ((c.tc : Thread Cert.LinearIdeal.nD Cert.LinearIdeal.τ).loc Cert.LinearIdeal.main_arg0)
          ∧ r.2.mem ((c.tc : Thread Cert.LinearIdeal.nD Cert.LinearIdeal.τ).loc Cert.LinearIdeal.main_arg1) = m ((c.tc : Thread Cert.LinearIdeal.nD Cert.LinearIdeal.τ).loc Cert.LinearIdeal.main_arg1)
          ∧ r.2.mem ((c.tc : Thread Cert.LinearIdeal.nD Cert.LinearIdeal.τ).loc Cert.LinearIdeal.main_arg2) = m ((c.tc : Thread Cert.LinearIdeal.nD Cert.LinearIdeal.τ).loc Cert.LinearIdeal.main_arg2))
      ∧ θ_run (Cert.LinearRefIdeal.defs (F := Ideal)) (onTc (τ := Cert.LinearRefIdeal.τ) (Cert.LinearRefIdeal.main (F := Ideal))) ⟨m', fun _ => 0, g'⟩ (fun r => ∀ c : Dev Cert.LinearRefIdeal.nD,
          r.2.mem ((c.tc : Thread Cert.LinearRefIdeal.nD Cert.LinearRefIdeal.τ).loc Cert.LinearRefIdeal.main_v17) = v0 c
          ∧ r.2.mem ((c.tc : Thread Cert.LinearRefIdeal.nD Cert.LinearRefIdeal.τ).loc Cert.LinearRefIdeal.main_arg0) = m' ((c.tc : Thread Cert.LinearRefIdeal.nD Cert.LinearRefIdeal.τ).loc Cert.LinearRefIdeal.main_arg0)
          ∧ r.2.mem ((c.tc : Thread Cert.LinearRefIdeal.nD Cert.LinearRefIdeal.τ).loc Cert.LinearRefIdeal.main_arg1) = m' ((c.tc : Thread Cert.LinearRefIdeal.nD Cert.LinearRefIdeal.τ).loc Cert.LinearRefIdeal.main_arg1)
          ∧ r.2.mem ((c.tc : Thread Cert.LinearRefIdeal.nD Cert.LinearRefIdeal.τ).loc Cert.LinearRefIdeal.main_arg2) = m' ((c.tc : Thread Cert.LinearRefIdeal.nD Cert.LinearRefIdeal.τ).loc Cert.LinearRefIdeal.main_arg2))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)) →
    ∃ (v0 : (c : Dev Cert.MemKvIdeal.nD) → Buf (Elt Ideal) ((c.tc : Thread Cert.MemKvIdeal.nD Cert.MemKvIdeal.τ).loc Cert.MemKvIdeal.main_v6)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v6) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v3) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1))

def preserves_OddLinear_OddLinearIdeal : Prop :=
  True

def algebraic_OddLinearIdeal_OddLinearRefIdeal [hOddLinearIdeal : Cert.OddLinearIdeal.Facts] [hOddLinearRefIdeal : Cert.OddLinearRefIdeal.Facts] : Prop :=
  ∀ (m : (ℓ : Loc Cert.OddLinearIdeal.nD Cert.OddLinearIdeal.τ Cert.OddLinearIdeal.sig) → Buf (Elt Ideal) ℓ) (g : Dev Cert.OddLinearIdeal.nD → PrngReg)
    (m' : (ℓ : Loc Cert.OddLinearRefIdeal.nD Cert.OddLinearRefIdeal.τ Cert.OddLinearRefIdeal.sig) → Buf (Elt Ideal) ℓ) (g' : Dev Cert.OddLinearRefIdeal.nD → PrngReg), Pre_OddLinearIdeal m →
    (∀ c : Dev Cert.OddLinearIdeal.nD,
      m' ((c.tc : Thread Cert.OddLinearRefIdeal.nD Cert.OddLinearRefIdeal.τ).loc Cert.OddLinearRefIdeal.main_arg0) = m ((c.tc : Thread Cert.OddLinearIdeal.nD Cert.OddLinearIdeal.τ).loc Cert.OddLinearIdeal.main_arg0)
      ∧ m' ((c.tc : Thread Cert.OddLinearRefIdeal.nD Cert.OddLinearRefIdeal.τ).loc Cert.OddLinearRefIdeal.main_arg1) = m ((c.tc : Thread Cert.OddLinearIdeal.nD Cert.OddLinearIdeal.τ).loc Cert.OddLinearIdeal.main_arg1)
      ∧ m' ((c.tc : Thread Cert.OddLinearRefIdeal.nD Cert.OddLinearRefIdeal.τ).loc Cert.OddLinearRefIdeal.main_arg2) = m ((c.tc : Thread Cert.OddLinearIdeal.nD Cert.OddLinearIdeal.τ).loc Cert.OddLinearIdeal.main_arg2)) →
    ∃ (v0 : (c : Dev Cert.OddLinearIdeal.nD) → Buf (Elt Ideal) ((c.tc : Thread Cert.OddLinearIdeal.nD Cert.OddLinearIdeal.τ).loc Cert.OddLinearIdeal.main_v14)),
      θ_run (Cert.OddLinearIdeal.defs (F := Ideal)) (onTc (τ := Cert.OddLinearIdeal.τ) (Cert.OddLinearIdeal.main (F := Ideal))) ⟨m, fun _ => 0, g⟩ (fun r => ∀ c : Dev Cert.OddLinearIdeal.nD,
          r.2.mem ((c.tc : Thread Cert.OddLinearIdeal.nD Cert.OddLinearIdeal.τ).loc Cert.OddLinearIdeal.main_v14) = v0 c
          ∧ r.2.mem ((c.tc : Thread Cert.OddLinearIdeal.nD Cert.OddLinearIdeal.τ).loc Cert.OddLinearIdeal.main_arg0) = m ((c.tc : Thread Cert.OddLinearIdeal.nD Cert.OddLinearIdeal.τ).loc Cert.OddLinearIdeal.main_arg0)
          ∧ r.2.mem ((c.tc : Thread Cert.OddLinearIdeal.nD Cert.OddLinearIdeal.τ).loc Cert.OddLinearIdeal.main_arg1) = m ((c.tc : Thread Cert.OddLinearIdeal.nD Cert.OddLinearIdeal.τ).loc Cert.OddLinearIdeal.main_arg1)
          ∧ r.2.mem ((c.tc : Thread Cert.OddLinearIdeal.nD Cert.OddLinearIdeal.τ).loc Cert.OddLinearIdeal.main_arg2) = m ((c.tc : Thread Cert.OddLinearIdeal.nD Cert.OddLinearIdeal.τ).loc Cert.OddLinearIdeal.main_arg2))
      ∧ θ_run (Cert.OddLinearRefIdeal.defs (F := Ideal)) (onTc (τ := Cert.OddLinearRefIdeal.τ) (Cert.OddLinearRefIdeal.main (F := Ideal))) ⟨m', fun _ => 0, g'⟩ (fun r => ∀ c : Dev Cert.OddLinearRefIdeal.nD,
          r.2.mem ((c.tc : Thread Cert.OddLinearRefIdeal.nD Cert.OddLinearRefIdeal.τ).loc Cert.OddLinearRefIdeal.main_v19) = v0 c
          ∧ r.2.mem ((c.tc : Thread Cert.OddLinearRefIdeal.nD Cert.OddLinearRefIdeal.τ).loc Cert.OddLinearRefIdeal.main_arg0) = m' ((c.tc : Thread Cert.OddLinearRefIdeal.nD Cert.OddLinearRefIdeal.τ).loc Cert.OddLinearRefIdeal.main_arg0)
          ∧ r.2.mem ((c.tc : Thread Cert.OddLinearRefIdeal.nD Cert.OddLinearRefIdeal.τ).loc Cert.OddLinearRefIdeal.main_arg1) = m' ((c.tc : Thread Cert.OddLinearRefIdeal.nD Cert.OddLinearRefIdeal.τ).loc Cert.OddLinearRefIdeal.main_arg1)
          ∧ r.2.mem ((c.tc : Thread Cert.OddLinearRefIdeal.nD Cert.OddLinearRefIdeal.τ).loc Cert.OddLinearRefIdeal.main_arg2) = m' ((c.tc : Thread Cert.OddLinearRefIdeal.nD Cert.OddLinearRefIdeal.τ).loc Cert.OddLinearRefIdeal.main_arg2))

def preserves_OddTail_OddTailIdeal : Prop :=
  True

def algebraic_OddTailIdeal_OddTailRefIdeal [hOddTailIdeal : Cert.OddTailIdeal.Facts] [hOddTailRefIdeal : Cert.OddTailRefIdeal.Facts] : Prop :=
  ∀ (m : (ℓ : Loc Cert.OddTailIdeal.nD Cert.OddTailIdeal.τ Cert.OddTailIdeal.sig) → Buf (Elt Ideal) ℓ) (g : Dev Cert.OddTailIdeal.nD → PrngReg)
    (m' : (ℓ : Loc Cert.OddTailRefIdeal.nD Cert.OddTailRefIdeal.τ Cert.OddTailRefIdeal.sig) → Buf (Elt Ideal) ℓ) (g' : Dev Cert.OddTailRefIdeal.nD → PrngReg), Pre_OddTailIdeal m →
    (∀ c : Dev Cert.OddTailIdeal.nD,
      m' ((c.tc : Thread Cert.OddTailRefIdeal.nD Cert.OddTailRefIdeal.τ).loc Cert.OddTailRefIdeal.main_arg0) = m ((c.tc : Thread Cert.OddTailIdeal.nD Cert.OddTailIdeal.τ).loc Cert.OddTailIdeal.main_arg0)
      ∧ m' ((c.tc : Thread Cert.OddTailRefIdeal.nD Cert.OddTailRefIdeal.τ).loc Cert.OddTailRefIdeal.main_arg1) = m ((c.tc : Thread Cert.OddTailIdeal.nD Cert.OddTailIdeal.τ).loc Cert.OddTailIdeal.main_arg1)
      ∧ m' ((c.tc : Thread Cert.OddTailRefIdeal.nD Cert.OddTailRefIdeal.τ).loc Cert.OddTailRefIdeal.main_arg2) = m ((c.tc : Thread Cert.OddTailIdeal.nD Cert.OddTailIdeal.τ).loc Cert.OddTailIdeal.main_arg2)
      ∧ m' ((c.tc : Thread Cert.OddTailRefIdeal.nD Cert.OddTailRefIdeal.τ).loc Cert.OddTailRefIdeal.main_arg3) = m ((c.tc : Thread Cert.OddTailIdeal.nD Cert.OddTailIdeal.τ).loc Cert.OddTailIdeal.main_arg3)
      ∧ m' ((c.tc : Thread Cert.OddTailRefIdeal.nD Cert.OddTailRefIdeal.τ).loc Cert.OddTailRefIdeal.main_arg4) = m ((c.tc : Thread Cert.OddTailIdeal.nD Cert.OddTailIdeal.τ).loc Cert.OddTailIdeal.main_arg4)
      ∧ m' ((c.tc : Thread Cert.OddTailRefIdeal.nD Cert.OddTailRefIdeal.τ).loc Cert.OddTailRefIdeal.main_arg5) = m ((c.tc : Thread Cert.OddTailIdeal.nD Cert.OddTailIdeal.τ).loc Cert.OddTailIdeal.main_arg5)
      ∧ m' ((c.tc : Thread Cert.OddTailRefIdeal.nD Cert.OddTailRefIdeal.τ).loc Cert.OddTailRefIdeal.main_arg6) = m ((c.tc : Thread Cert.OddTailIdeal.nD Cert.OddTailIdeal.τ).loc Cert.OddTailIdeal.main_arg6)
      ∧ m' ((c.tc : Thread Cert.OddTailRefIdeal.nD Cert.OddTailRefIdeal.τ).loc Cert.OddTailRefIdeal.main_arg7) = m ((c.tc : Thread Cert.OddTailIdeal.nD Cert.OddTailIdeal.τ).loc Cert.OddTailIdeal.main_arg7)
      ∧ m' ((c.tc : Thread Cert.OddTailRefIdeal.nD Cert.OddTailRefIdeal.τ).loc Cert.OddTailRefIdeal.main_arg8) = m ((c.tc : Thread Cert.OddTailIdeal.nD Cert.OddTailIdeal.τ).loc Cert.OddTailIdeal.main_arg8)) →
    ∃ (v0 : (c : Dev Cert.OddTailIdeal.nD) → Buf (Elt Ideal) ((c.tc : Thread Cert.OddTailIdeal.nD Cert.OddTailIdeal.τ).loc Cert.OddTailIdeal.main_v14_0)) (v1 : (c : Dev Cert.OddTailIdeal.nD) → Buf (Elt Ideal) ((c.tc : Thread Cert.OddTailIdeal.nD Cert.OddTailIdeal.τ).loc Cert.OddTailIdeal.main_v14_1)),
      θ_run (Cert.OddTailIdeal.defs (F := Ideal)) (onTc (τ := Cert.OddTailIdeal.τ) (Cert.OddTailIdeal.main (F := Ideal))) ⟨m, fun _ => 0, g⟩ (fun r => ∀ c : Dev Cert.OddTailIdeal.nD,
          r.2.mem ((c.tc : Thread Cert.OddTailIdeal.nD Cert.OddTailIdeal.τ).loc Cert.OddTailIdeal.main_v14_0) = v0 c
          ∧ r.2.mem ((c.tc : Thread Cert.OddTailIdeal.nD Cert.OddTailIdeal.τ).loc Cert.OddTailIdeal.main_v14_1) = v1 c
          ∧ r.2.mem ((c.tc : Thread Cert.OddTailIdeal.nD Cert.OddTailIdeal.τ).loc Cert.OddTailIdeal.main_arg0) = m ((c.tc : Thread Cert.OddTailIdeal.nD Cert.OddTailIdeal.τ).loc Cert.OddTailIdeal.main_arg0)
          ∧ r.2.mem ((c.tc : Thread Cert.OddTailIdeal.nD Cert.OddTailIdeal.τ).loc Cert.OddTailIdeal.main_arg1) = m ((c.tc : Thread Cert.OddTailIdeal.nD Cert.OddTailIdeal.τ).loc Cert.OddTailIdeal.main_arg1)
          ∧ r.2.mem ((c.tc : Thread Cert.OddTailIdeal.nD Cert.OddTailIdeal.τ).loc Cert.OddTailIdeal.main_arg2) = m ((c.tc : Thread Cert.OddTailIdeal.nD Cert.OddTailIdeal.τ).loc Cert.OddTailIdeal.main_arg2)
          ∧ r.2.mem ((c.tc : Thread Cert.OddTailIdeal.nD Cert.OddTailIdeal.τ).loc Cert.OddTailIdeal.main_arg3) = m ((c.tc : Thread Cert.OddTailIdeal.nD Cert.OddTailIdeal.τ).loc Cert.OddTailIdeal.main_arg3)
          ∧ r.2.mem ((c.tc : Thread Cert.OddTailIdeal.nD Cert.OddTailIdeal.τ).loc Cert.OddTailIdeal.main_arg4) = m ((c.tc : Thread Cert.OddTailIdeal.nD Cert.OddTailIdeal.τ).loc Cert.OddTailIdeal.main_arg4)
          ∧ r.2.mem ((c.tc : Thread Cert.OddTailIdeal.nD Cert.OddTailIdeal.τ).loc Cert.OddTailIdeal.main_arg5) = m ((c.tc : Thread Cert.OddTailIdeal.nD Cert.OddTailIdeal.τ).loc Cert.OddTailIdeal.main_arg5)
          ∧ r.2.mem ((c.tc : Thread Cert.OddTailIdeal.nD Cert.OddTailIdeal.τ).loc Cert.OddTailIdeal.main_arg6) = m ((c.tc : Thread Cert.OddTailIdeal.nD Cert.OddTailIdeal.τ).loc Cert.OddTailIdeal.main_arg6)
          ∧ r.2.mem ((c.tc : Thread Cert.OddTailIdeal.nD Cert.OddTailIdeal.τ).loc Cert.OddTailIdeal.main_arg7) = m ((c.tc : Thread Cert.OddTailIdeal.nD Cert.OddTailIdeal.τ).loc Cert.OddTailIdeal.main_arg7)
          ∧ r.2.mem ((c.tc : Thread Cert.OddTailIdeal.nD Cert.OddTailIdeal.τ).loc Cert.OddTailIdeal.main_arg8) = m ((c.tc : Thread Cert.OddTailIdeal.nD Cert.OddTailIdeal.τ).loc Cert.OddTailIdeal.main_arg8))
      ∧ θ_run (Cert.OddTailRefIdeal.defs (F := Ideal)) (onTc (τ := Cert.OddTailRefIdeal.τ) (Cert.OddTailRefIdeal.main (F := Ideal))) ⟨m', fun _ => 0, g'⟩ (fun r => ∀ c : Dev Cert.OddTailRefIdeal.nD,
          r.2.mem ((c.tc : Thread Cert.OddTailRefIdeal.nD Cert.OddTailRefIdeal.τ).loc Cert.OddTailRefIdeal.main_v76) = v0 c
          ∧ r.2.mem ((c.tc : Thread Cert.OddTailRefIdeal.nD Cert.OddTailRefIdeal.τ).loc Cert.OddTailRefIdeal.main_v77) = v1 c
          ∧ r.2.mem ((c.tc : Thread Cert.OddTailRefIdeal.nD Cert.OddTailRefIdeal.τ).loc Cert.OddTailRefIdeal.main_arg0) = m' ((c.tc : Thread Cert.OddTailRefIdeal.nD Cert.OddTailRefIdeal.τ).loc Cert.OddTailRefIdeal.main_arg0)
          ∧ r.2.mem ((c.tc : Thread Cert.OddTailRefIdeal.nD Cert.OddTailRefIdeal.τ).loc Cert.OddTailRefIdeal.main_arg1) = m' ((c.tc : Thread Cert.OddTailRefIdeal.nD Cert.OddTailRefIdeal.τ).loc Cert.OddTailRefIdeal.main_arg1)
          ∧ r.2.mem ((c.tc : Thread Cert.OddTailRefIdeal.nD Cert.OddTailRefIdeal.τ).loc Cert.OddTailRefIdeal.main_arg2) = m' ((c.tc : Thread Cert.OddTailRefIdeal.nD Cert.OddTailRefIdeal.τ).loc Cert.OddTailRefIdeal.main_arg2)
          ∧ r.2.mem ((c.tc : Thread Cert.OddTailRefIdeal.nD Cert.OddTailRefIdeal.τ).loc Cert.OddTailRefIdeal.main_arg3) = m' ((c.tc : Thread Cert.OddTailRefIdeal.nD Cert.OddTailRefIdeal.τ).loc Cert.OddTailRefIdeal.main_arg3)
          ∧ r.2.mem ((c.tc : Thread Cert.OddTailRefIdeal.nD Cert.OddTailRefIdeal.τ).loc Cert.OddTailRefIdeal.main_arg4) = m' ((c.tc : Thread Cert.OddTailRefIdeal.nD Cert.OddTailRefIdeal.τ).loc Cert.OddTailRefIdeal.main_arg4)
          ∧ r.2.mem ((c.tc : Thread Cert.OddTailRefIdeal.nD Cert.OddTailRefIdeal.τ).loc Cert.OddTailRefIdeal.main_arg5) = m' ((c.tc : Thread Cert.OddTailRefIdeal.nD Cert.OddTailRefIdeal.τ).loc Cert.OddTailRefIdeal.main_arg5)
          ∧ r.2.mem ((c.tc : Thread Cert.OddTailRefIdeal.nD Cert.OddTailRefIdeal.τ).loc Cert.OddTailRefIdeal.main_arg6) = m' ((c.tc : Thread Cert.OddTailRefIdeal.nD Cert.OddTailRefIdeal.τ).loc Cert.OddTailRefIdeal.main_arg6)
          ∧ r.2.mem ((c.tc : Thread Cert.OddTailRefIdeal.nD Cert.OddTailRefIdeal.τ).loc Cert.OddTailRefIdeal.main_arg7) = m' ((c.tc : Thread Cert.OddTailRefIdeal.nD Cert.OddTailRefIdeal.τ).loc Cert.OddTailRefIdeal.main_arg7)
          ∧ r.2.mem ((c.tc : Thread Cert.OddTailRefIdeal.nD Cert.OddTailRefIdeal.τ).loc Cert.OddTailRefIdeal.main_arg8) = m' ((c.tc : Thread Cert.OddTailRefIdeal.nD Cert.OddTailRefIdeal.τ).loc Cert.OddTailRefIdeal.main_arg8))

def preserves_MemAtt_MemAttIdeal : Prop :=
  True

def algebraic_MemAttIdeal_MemAttRefIdeal_pre_finite_queries_and_keys [hMemAttIdeal : Cert.MemAttIdeal.Facts] [hMemAttRefIdeal : Cert.MemAttRefIdeal.Facts] [hPre_finite_queries_and_keys : Cert.Pre_finite_queries_and_keys.Facts] : Prop :=
  ∀ (m : (ℓ : Loc Cert.MemAttIdeal.nD Cert.MemAttIdeal.τ Cert.MemAttIdeal.sig) → Buf (Elt Ideal) ℓ) (g : Dev Cert.MemAttIdeal.nD → PrngReg)
    (m' : (ℓ : Loc Cert.MemAttRefIdeal.nD Cert.MemAttRefIdeal.τ Cert.MemAttRefIdeal.sig) → Buf (Elt Ideal) ℓ) (g' : Dev Cert.MemAttRefIdeal.nD → PrngReg), Pre_MemAttIdeal_finite_queries_and_keys m →
    (∀ c : Dev Cert.MemAttIdeal.nD,
      m' ((c.tc : Thread Cert.MemAttRefIdeal.nD Cert.MemAttRefIdeal.τ).loc Cert.MemAttRefIdeal.main_arg0) = m ((c.tc : Thread Cert.MemAttIdeal.nD Cert.MemAttIdeal.τ).loc Cert.MemAttIdeal.main_arg0)
      ∧ m' ((c.tc : Thread Cert.MemAttRefIdeal.nD Cert.MemAttRefIdeal.τ).loc Cert.MemAttRefIdeal.main_arg1) = m ((c.tc : Thread Cert.MemAttIdeal.nD Cert.MemAttIdeal.τ).loc Cert.MemAttIdeal.main_arg1)
      ∧ m' ((c.tc : Thread Cert.MemAttRefIdeal.nD Cert.MemAttRefIdeal.τ).loc Cert.MemAttRefIdeal.main_arg2) = m ((c.tc : Thread Cert.MemAttIdeal.nD Cert.MemAttIdeal.τ).loc Cert.MemAttIdeal.main_arg2)) →
    ∃ (v0 : (c : Dev Cert.MemAttIdeal.nD) → Buf (Elt Ideal) ((c.tc : Thread Cert.MemAttIdeal.nD Cert.MemAttIdeal.τ).loc Cert.MemAttIdeal.main_v7)),
      θ_run (Cert.MemAttIdeal.defs (F := Ideal)) (onTc (τ := Cert.MemAttIdeal.τ) (Cert.MemAttIdeal.main (F := Ideal))) ⟨m, fun _ => 0, g⟩ (fun r => ∀ c : Dev Cert.MemAttIdeal.nD,
          r.2.mem ((c.tc : Thread Cert.MemAttIdeal.nD Cert.MemAttIdeal.τ).loc Cert.MemAttIdeal.main_v7) = v0 c
          ∧ r.2.mem ((c.tc : Thread Cert.MemAttIdeal.nD Cert.MemAttIdeal.τ).loc Cert.MemAttIdeal.main_arg0) = m ((c.tc : Thread Cert.MemAttIdeal.nD Cert.MemAttIdeal.τ).loc Cert.MemAttIdeal.main_arg0)
          ∧ r.2.mem ((c.tc : Thread Cert.MemAttIdeal.nD Cert.MemAttIdeal.τ).loc Cert.MemAttIdeal.main_arg1) = m ((c.tc : Thread Cert.MemAttIdeal.nD Cert.MemAttIdeal.τ).loc Cert.MemAttIdeal.main_arg1)
          ∧ r.2.mem ((c.tc : Thread Cert.MemAttIdeal.nD Cert.MemAttIdeal.τ).loc Cert.MemAttIdeal.main_arg2) = m ((c.tc : Thread Cert.MemAttIdeal.nD Cert.MemAttIdeal.τ).loc Cert.MemAttIdeal.main_arg2))
      ∧ θ_run (Cert.MemAttRefIdeal.defs (F := Ideal)) (onTc (τ := Cert.MemAttRefIdeal.τ) (Cert.MemAttRefIdeal.main (F := Ideal))) ⟨m', fun _ => 0, g'⟩ (fun r => ∀ c : Dev Cert.MemAttRefIdeal.nD,
          r.2.mem ((c.tc : Thread Cert.MemAttRefIdeal.nD Cert.MemAttRefIdeal.τ).loc Cert.MemAttRefIdeal.main_v25) = v0 c
          ∧ r.2.mem ((c.tc : Thread Cert.MemAttRefIdeal.nD Cert.MemAttRefIdeal.τ).loc Cert.MemAttRefIdeal.main_arg0) = m' ((c.tc : Thread Cert.MemAttRefIdeal.nD Cert.MemAttRefIdeal.τ).loc Cert.MemAttRefIdeal.main_arg0)
          ∧ r.2.mem ((c.tc : Thread Cert.MemAttRefIdeal.nD Cert.MemAttRefIdeal.τ).loc Cert.MemAttRefIdeal.main_arg1) = m' ((c.tc : Thread Cert.MemAttRefIdeal.nD Cert.MemAttRefIdeal.τ).loc Cert.MemAttRefIdeal.main_arg1)
          ∧ r.2.mem ((c.tc : Thread Cert.MemAttRefIdeal.nD Cert.MemAttRefIdeal.τ).loc Cert.MemAttRefIdeal.main_arg2) = m' ((c.tc : Thread Cert.MemAttRefIdeal.nD Cert.MemAttRefIdeal.τ).loc Cert.MemAttRefIdeal.main_arg2))

def preserves_EvenTail_EvenTailIdeal : Prop :=
  True

def algebraic_EvenTailIdeal_EvenTailRefIdeal [hEvenTailIdeal : Cert.EvenTailIdeal.Facts] [hEvenTailRefIdeal : Cert.EvenTailRefIdeal.Facts] : Prop :=
  ∀ (m : (ℓ : Loc Cert.EvenTailIdeal.nD Cert.EvenTailIdeal.τ Cert.EvenTailIdeal.sig) → Buf (Elt Ideal) ℓ) (g : Dev Cert.EvenTailIdeal.nD → PrngReg)
    (m' : (ℓ : Loc Cert.EvenTailRefIdeal.nD Cert.EvenTailRefIdeal.τ Cert.EvenTailRefIdeal.sig) → Buf (Elt Ideal) ℓ) (g' : Dev Cert.EvenTailRefIdeal.nD → PrngReg), Pre_EvenTailIdeal m →
    (∀ c : Dev Cert.EvenTailIdeal.nD,
      m' ((c.tc : Thread Cert.EvenTailRefIdeal.nD Cert.EvenTailRefIdeal.τ).loc Cert.EvenTailRefIdeal.main_arg0) = m ((c.tc : Thread Cert.EvenTailIdeal.nD Cert.EvenTailIdeal.τ).loc Cert.EvenTailIdeal.main_arg0)
      ∧ m' ((c.tc : Thread Cert.EvenTailRefIdeal.nD Cert.EvenTailRefIdeal.τ).loc Cert.EvenTailRefIdeal.main_arg1) = m ((c.tc : Thread Cert.EvenTailIdeal.nD Cert.EvenTailIdeal.τ).loc Cert.EvenTailIdeal.main_arg1)
      ∧ m' ((c.tc : Thread Cert.EvenTailRefIdeal.nD Cert.EvenTailRefIdeal.τ).loc Cert.EvenTailRefIdeal.main_arg2) = m ((c.tc : Thread Cert.EvenTailIdeal.nD Cert.EvenTailIdeal.τ).loc Cert.EvenTailIdeal.main_arg2)
      ∧ m' ((c.tc : Thread Cert.EvenTailRefIdeal.nD Cert.EvenTailRefIdeal.τ).loc Cert.EvenTailRefIdeal.main_arg3) = m ((c.tc : Thread Cert.EvenTailIdeal.nD Cert.EvenTailIdeal.τ).loc Cert.EvenTailIdeal.main_arg3)
      ∧ m' ((c.tc : Thread Cert.EvenTailRefIdeal.nD Cert.EvenTailRefIdeal.τ).loc Cert.EvenTailRefIdeal.main_arg4) = m ((c.tc : Thread Cert.EvenTailIdeal.nD Cert.EvenTailIdeal.τ).loc Cert.EvenTailIdeal.main_arg4)
      ∧ m' ((c.tc : Thread Cert.EvenTailRefIdeal.nD Cert.EvenTailRefIdeal.τ).loc Cert.EvenTailRefIdeal.main_arg5) = m ((c.tc : Thread Cert.EvenTailIdeal.nD Cert.EvenTailIdeal.τ).loc Cert.EvenTailIdeal.main_arg5)
      ∧ m' ((c.tc : Thread Cert.EvenTailRefIdeal.nD Cert.EvenTailRefIdeal.τ).loc Cert.EvenTailRefIdeal.main_arg6) = m ((c.tc : Thread Cert.EvenTailIdeal.nD Cert.EvenTailIdeal.τ).loc Cert.EvenTailIdeal.main_arg6)
      ∧ m' ((c.tc : Thread Cert.EvenTailRefIdeal.nD Cert.EvenTailRefIdeal.τ).loc Cert.EvenTailRefIdeal.main_arg7) = m ((c.tc : Thread Cert.EvenTailIdeal.nD Cert.EvenTailIdeal.τ).loc Cert.EvenTailIdeal.main_arg7)
      ∧ m' ((c.tc : Thread Cert.EvenTailRefIdeal.nD Cert.EvenTailRefIdeal.τ).loc Cert.EvenTailRefIdeal.main_arg8) = m ((c.tc : Thread Cert.EvenTailIdeal.nD Cert.EvenTailIdeal.τ).loc Cert.EvenTailIdeal.main_arg8)) →
    ∃ (v0 : (c : Dev Cert.EvenTailIdeal.nD) → Buf (Elt Ideal) ((c.tc : Thread Cert.EvenTailIdeal.nD Cert.EvenTailIdeal.τ).loc Cert.EvenTailIdeal.main_v13_0)) (v1 : (c : Dev Cert.EvenTailIdeal.nD) → Buf (Elt Ideal) ((c.tc : Thread Cert.EvenTailIdeal.nD Cert.EvenTailIdeal.τ).loc Cert.EvenTailIdeal.main_v13_1)) (v2 : (c : Dev Cert.EvenTailIdeal.nD) → Buf (Elt Ideal) ((c.tc : Thread Cert.EvenTailIdeal.nD Cert.EvenTailIdeal.τ).loc Cert.EvenTailIdeal.main_v13_2)) (v3 : (c : Dev Cert.EvenTailIdeal.nD) → Buf (Elt Ideal) ((c.tc : Thread Cert.EvenTailIdeal.nD Cert.EvenTailIdeal.τ).loc Cert.EvenTailIdeal.main_v13_3)),
      θ_run (Cert.EvenTailIdeal.defs (F := Ideal)) (onTc (τ := Cert.EvenTailIdeal.τ) (Cert.EvenTailIdeal.main (F := Ideal))) ⟨m, fun _ => 0, g⟩ (fun r => ∀ c : Dev Cert.EvenTailIdeal.nD,
          r.2.mem ((c.tc : Thread Cert.EvenTailIdeal.nD Cert.EvenTailIdeal.τ).loc Cert.EvenTailIdeal.main_v13_0) = v0 c
          ∧ r.2.mem ((c.tc : Thread Cert.EvenTailIdeal.nD Cert.EvenTailIdeal.τ).loc Cert.EvenTailIdeal.main_v13_1) = v1 c
          ∧ r.2.mem ((c.tc : Thread Cert.EvenTailIdeal.nD Cert.EvenTailIdeal.τ).loc Cert.EvenTailIdeal.main_v13_2) = v2 c
          ∧ r.2.mem ((c.tc : Thread Cert.EvenTailIdeal.nD Cert.EvenTailIdeal.τ).loc Cert.EvenTailIdeal.main_v13_3) = v3 c
          ∧ r.2.mem ((c.tc : Thread Cert.EvenTailIdeal.nD Cert.EvenTailIdeal.τ).loc Cert.EvenTailIdeal.main_arg0) = m ((c.tc : Thread Cert.EvenTailIdeal.nD Cert.EvenTailIdeal.τ).loc Cert.EvenTailIdeal.main_arg0)
          ∧ r.2.mem ((c.tc : Thread Cert.EvenTailIdeal.nD Cert.EvenTailIdeal.τ).loc Cert.EvenTailIdeal.main_arg1) = m ((c.tc : Thread Cert.EvenTailIdeal.nD Cert.EvenTailIdeal.τ).loc Cert.EvenTailIdeal.main_arg1)
          ∧ r.2.mem ((c.tc : Thread Cert.EvenTailIdeal.nD Cert.EvenTailIdeal.τ).loc Cert.EvenTailIdeal.main_arg2) = m ((c.tc : Thread Cert.EvenTailIdeal.nD Cert.EvenTailIdeal.τ).loc Cert.EvenTailIdeal.main_arg2)
          ∧ r.2.mem ((c.tc : Thread Cert.EvenTailIdeal.nD Cert.EvenTailIdeal.τ).loc Cert.EvenTailIdeal.main_arg3) = m ((c.tc : Thread Cert.EvenTailIdeal.nD Cert.EvenTailIdeal.τ).loc Cert.EvenTailIdeal.main_arg3)
          ∧ r.2.mem ((c.tc : Thread Cert.EvenTailIdeal.nD Cert.EvenTailIdeal.τ).loc Cert.EvenTailIdeal.main_arg4) = m ((c.tc : Thread Cert.EvenTailIdeal.nD Cert.EvenTailIdeal.τ).loc Cert.EvenTailIdeal.main_arg4)
          ∧ r.2.mem ((c.tc : Thread Cert.EvenTailIdeal.nD Cert.EvenTailIdeal.τ).loc Cert.EvenTailIdeal.main_arg5) = m ((c.tc : Thread Cert.EvenTailIdeal.nD Cert.EvenTailIdeal.τ).loc Cert.EvenTailIdeal.main_arg5)
          ∧ r.2.mem ((c.tc : Thread Cert.EvenTailIdeal.nD Cert.EvenTailIdeal.τ).loc Cert.EvenTailIdeal.main_arg6) = m ((c.tc : Thread Cert.EvenTailIdeal.nD Cert.EvenTailIdeal.τ).loc Cert.EvenTailIdeal.main_arg6)
          ∧ r.2.mem ((c.tc : Thread Cert.EvenTailIdeal.nD Cert.EvenTailIdeal.τ).loc Cert.EvenTailIdeal.main_arg7) = m ((c.tc : Thread Cert.EvenTailIdeal.nD Cert.EvenTailIdeal.τ).loc Cert.EvenTailIdeal.main_arg7)
          ∧ r.2.mem ((c.tc : Thread Cert.EvenTailIdeal.nD Cert.EvenTailIdeal.τ).loc Cert.EvenTailIdeal.main_arg8) = m ((c.tc : Thread Cert.EvenTailIdeal.nD Cert.EvenTailIdeal.τ).loc Cert.EvenTailIdeal.main_arg8))
      ∧ θ_run (Cert.EvenTailRefIdeal.defs (F := Ideal)) (onTc (τ := Cert.EvenTailRefIdeal.τ) (Cert.EvenTailRefIdeal.main (F := Ideal))) ⟨m', fun _ => 0, g'⟩ (fun r => ∀ c : Dev Cert.EvenTailRefIdeal.nD,
          r.2.mem ((c.tc : Thread Cert.EvenTailRefIdeal.nD Cert.EvenTailRefIdeal.τ).loc Cert.EvenTailRefIdeal.main_v79) = v0 c
          ∧ r.2.mem ((c.tc : Thread Cert.EvenTailRefIdeal.nD Cert.EvenTailRefIdeal.τ).loc Cert.EvenTailRefIdeal.main_v80) = v1 c
          ∧ r.2.mem ((c.tc : Thread Cert.EvenTailRefIdeal.nD Cert.EvenTailRefIdeal.τ).loc Cert.EvenTailRefIdeal.main_v83) = v2 c
          ∧ r.2.mem ((c.tc : Thread Cert.EvenTailRefIdeal.nD Cert.EvenTailRefIdeal.τ).loc Cert.EvenTailRefIdeal.main_v85) = v3 c
          ∧ r.2.mem ((c.tc : Thread Cert.EvenTailRefIdeal.nD Cert.EvenTailRefIdeal.τ).loc Cert.EvenTailRefIdeal.main_arg0) = m' ((c.tc : Thread Cert.EvenTailRefIdeal.nD Cert.EvenTailRefIdeal.τ).loc Cert.EvenTailRefIdeal.main_arg0)
          ∧ r.2.mem ((c.tc : Thread Cert.EvenTailRefIdeal.nD Cert.EvenTailRefIdeal.τ).loc Cert.EvenTailRefIdeal.main_arg1) = m' ((c.tc : Thread Cert.EvenTailRefIdeal.nD Cert.EvenTailRefIdeal.τ).loc Cert.EvenTailRefIdeal.main_arg1)
          ∧ r.2.mem ((c.tc : Thread Cert.EvenTailRefIdeal.nD Cert.EvenTailRefIdeal.τ).loc Cert.EvenTailRefIdeal.main_arg2) = m' ((c.tc : Thread Cert.EvenTailRefIdeal.nD Cert.EvenTailRefIdeal.τ).loc Cert.EvenTailRefIdeal.main_arg2)
          ∧ r.2.mem ((c.tc : Thread Cert.EvenTailRefIdeal.nD Cert.EvenTailRefIdeal.τ).loc Cert.EvenTailRefIdeal.main_arg3) = m' ((c.tc : Thread Cert.EvenTailRefIdeal.nD Cert.EvenTailRefIdeal.τ).loc Cert.EvenTailRefIdeal.main_arg3)
          ∧ r.2.mem ((c.tc : Thread Cert.EvenTailRefIdeal.nD Cert.EvenTailRefIdeal.τ).loc Cert.EvenTailRefIdeal.main_arg4) = m' ((c.tc : Thread Cert.EvenTailRefIdeal.nD Cert.EvenTailRefIdeal.τ).loc Cert.EvenTailRefIdeal.main_arg4)
          ∧ r.2.mem ((c.tc : Thread Cert.EvenTailRefIdeal.nD Cert.EvenTailRefIdeal.τ).loc Cert.EvenTailRefIdeal.main_arg5) = m' ((c.tc : Thread Cert.EvenTailRefIdeal.nD Cert.EvenTailRefIdeal.τ).loc Cert.EvenTailRefIdeal.main_arg5)
          ∧ r.2.mem ((c.tc : Thread Cert.EvenTailRefIdeal.nD Cert.EvenTailRefIdeal.τ).loc Cert.EvenTailRefIdeal.main_arg6) = m' ((c.tc : Thread Cert.EvenTailRefIdeal.nD Cert.EvenTailRefIdeal.τ).loc Cert.EvenTailRefIdeal.main_arg6)
          ∧ r.2.mem ((c.tc : Thread Cert.EvenTailRefIdeal.nD Cert.EvenTailRefIdeal.τ).loc Cert.EvenTailRefIdeal.main_arg7) = m' ((c.tc : Thread Cert.EvenTailRefIdeal.nD Cert.EvenTailRefIdeal.τ).loc Cert.EvenTailRefIdeal.main_arg7)
          ∧ r.2.mem ((c.tc : Thread Cert.EvenTailRefIdeal.nD Cert.EvenTailRefIdeal.τ).loc Cert.EvenTailRefIdeal.main_arg8) = m' ((c.tc : Thread Cert.EvenTailRefIdeal.nD Cert.EvenTailRefIdeal.τ).loc Cert.EvenTailRefIdeal.main_arg8))

def preserves_Ssd_SsdIdeal : Prop :=
  True

def algebraic_SsdIdeal_SsdRefIdeal [hSsdIdeal : Cert.SsdIdeal.Facts] [hSsdRefIdeal : Cert.SsdRefIdeal.Facts] : Prop :=
  ∀ (m : (ℓ : Loc Cert.SsdIdeal.nD Cert.SsdIdeal.τ Cert.SsdIdeal.sig) → Buf (Elt Ideal) ℓ) (g : Dev Cert.SsdIdeal.nD → PrngReg)
    (m' : (ℓ : Loc Cert.SsdRefIdeal.nD Cert.SsdRefIdeal.τ Cert.SsdRefIdeal.sig) → Buf (Elt Ideal) ℓ) (g' : Dev Cert.SsdRefIdeal.nD → PrngReg), Pre_SsdIdeal m →
    (∀ c : Dev Cert.SsdIdeal.nD,
      m' ((c.tc : Thread Cert.SsdRefIdeal.nD Cert.SsdRefIdeal.τ).loc Cert.SsdRefIdeal.main_arg0) = m ((c.tc : Thread Cert.SsdIdeal.nD Cert.SsdIdeal.τ).loc Cert.SsdIdeal.main_arg0)
      ∧ m' ((c.tc : Thread Cert.SsdRefIdeal.nD Cert.SsdRefIdeal.τ).loc Cert.SsdRefIdeal.main_arg1) = m ((c.tc : Thread Cert.SsdIdeal.nD Cert.SsdIdeal.τ).loc Cert.SsdIdeal.main_arg1)
      ∧ m' ((c.tc : Thread Cert.SsdRefIdeal.nD Cert.SsdRefIdeal.τ).loc Cert.SsdRefIdeal.main_arg2) = m ((c.tc : Thread Cert.SsdIdeal.nD Cert.SsdIdeal.τ).loc Cert.SsdIdeal.main_arg2)
      ∧ m' ((c.tc : Thread Cert.SsdRefIdeal.nD Cert.SsdRefIdeal.τ).loc Cert.SsdRefIdeal.main_arg3) = m ((c.tc : Thread Cert.SsdIdeal.nD Cert.SsdIdeal.τ).loc Cert.SsdIdeal.main_arg3)
      ∧ m' ((c.tc : Thread Cert.SsdRefIdeal.nD Cert.SsdRefIdeal.τ).loc Cert.SsdRefIdeal.main_arg4) = m ((c.tc : Thread Cert.SsdIdeal.nD Cert.SsdIdeal.τ).loc Cert.SsdIdeal.main_arg4)
      ∧ m' ((c.tc : Thread Cert.SsdRefIdeal.nD Cert.SsdRefIdeal.τ).loc Cert.SsdRefIdeal.main_arg5) = m ((c.tc : Thread Cert.SsdIdeal.nD Cert.SsdIdeal.τ).loc Cert.SsdIdeal.main_arg5)
      ∧ m' ((c.tc : Thread Cert.SsdRefIdeal.nD Cert.SsdRefIdeal.τ).loc Cert.SsdRefIdeal.main_arg6) = m ((c.tc : Thread Cert.SsdIdeal.nD Cert.SsdIdeal.τ).loc Cert.SsdIdeal.main_arg6)) →
    ∃ (v0 : (c : Dev Cert.SsdIdeal.nD) → Buf (Elt Ideal) ((c.tc : Thread Cert.SsdIdeal.nD Cert.SsdIdeal.τ).loc Cert.SsdIdeal.main_v29_0)) (v1 : (c : Dev Cert.SsdIdeal.nD) → Buf (Elt Ideal) ((c.tc : Thread Cert.SsdIdeal.nD Cert.SsdIdeal.τ).loc Cert.SsdIdeal.main_v29_1)) (v2 : (c : Dev Cert.SsdIdeal.nD) → Buf (Elt Ideal) ((c.tc : Thread Cert.SsdIdeal.nD Cert.SsdIdeal.τ).loc Cert.SsdIdeal.main_v29_2)) (v3 : (c : Dev Cert.SsdIdeal.nD) → Buf (Elt Ideal) ((c.tc : Thread Cert.SsdIdeal.nD Cert.SsdIdeal.τ).loc Cert.SsdIdeal.main_v29_3)),
      θ_run (Cert.SsdIdeal.defs (F := Ideal)) (onTc (τ := Cert.SsdIdeal.τ) (Cert.SsdIdeal.main (F := Ideal))) ⟨m, fun _ => 0, g⟩ (fun r => ∀ c : Dev Cert.SsdIdeal.nD,
          r.2.mem ((c.tc : Thread Cert.SsdIdeal.nD Cert.SsdIdeal.τ).loc Cert.SsdIdeal.main_v29_0) = v0 c
          ∧ r.2.mem ((c.tc : Thread Cert.SsdIdeal.nD Cert.SsdIdeal.τ).loc Cert.SsdIdeal.main_v29_1) = v1 c
          ∧ r.2.mem ((c.tc : Thread Cert.SsdIdeal.nD Cert.SsdIdeal.τ).loc Cert.SsdIdeal.main_v29_2) = v2 c
          ∧ r.2.mem ((c.tc : Thread Cert.SsdIdeal.nD Cert.SsdIdeal.τ).loc Cert.SsdIdeal.main_v29_3) = v3 c
          ∧ r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
          ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
          ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
          ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
          ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
          ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
          ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6))
      ∧ θ_run (Cert.SsdRefIdeal.defs (F := Ideal)) (onTc (τ := Cert.SsdRefIdeal.τ) (Cert.SsdRefIdeal.main (F := Ideal))) ⟨m', fun _ => 0, g'⟩ (fun r => ∀ c : Dev Cert.SsdRefIdeal.nD,
          r.2.mem ((c.tc : Thread Cert.SsdRefIdeal.nD Cert.SsdRefIdeal.τ).loc Cert.SsdRefIdeal.main_v102) = v0 c
          ∧ r.2.mem ((c.tc : Thread Cert.SsdRefIdeal.nD Cert.SsdRefIdeal.τ).loc Cert.SsdRefIdeal.main_v94) = v1 c
          ∧ r.2.mem ((c.tc : Thread Cert.SsdRefIdeal.nD Cert.SsdRefIdeal.τ).loc Cert.SsdRefIdeal.main_v103) = v2 c
          ∧ r.2.mem ((c.tc : Thread Cert.SsdRefIdeal.nD Cert.SsdRefIdeal.τ).loc Cert.SsdRefIdeal.main_v104) = v3 c
          ∧ r.2.mem ((c.tc : Thread Cert.SsdRefIdeal.nD Cert.SsdRefIdeal.τ).loc Cert.SsdRefIdeal.main_arg0) = m' ((c.tc : Thread Cert.SsdRefIdeal.nD Cert.SsdRefIdeal.τ).loc Cert.SsdRefIdeal.main_arg0)
          ∧ r.2.mem ((c.tc : Thread Cert.SsdRefIdeal.nD Cert.SsdRefIdeal.τ).loc Cert.SsdRefIdeal.main_arg1) = m' ((c.tc : Thread Cert.SsdRefIdeal.nD Cert.SsdRefIdeal.τ).loc Cert.SsdRefIdeal.main_arg1)
          ∧ r.2.mem ((c.tc : Thread Cert.SsdRefIdeal.nD Cert.SsdRefIdeal.τ).loc Cert.SsdRefIdeal.main_arg2) = m' ((c.tc : Thread Cert.SsdRefIdeal.nD Cert.SsdRefIdeal.τ).loc Cert.SsdRefIdeal.main_arg2)
          ∧ r.2.mem ((c.tc : Thread Cert.SsdRefIdeal.nD Cert.SsdRefIdeal.τ).loc Cert.SsdRefIdeal.main_arg3) = m' ((c.tc : Thread Cert.SsdRefIdeal.nD Cert.SsdRefIdeal.τ).loc Cert.SsdRefIdeal.main_arg3)
          ∧ r.2.mem ((c.tc : Thread Cert.SsdRefIdeal.nD Cert.SsdRefIdeal.τ).loc Cert.SsdRefIdeal.main_arg4) = m' ((c.tc : Thread Cert.SsdRefIdeal.nD Cert.SsdRefIdeal.τ).loc Cert.SsdRefIdeal.main_arg4)
          ∧ r.2.mem ((c.tc : Thread Cert.SsdRefIdeal.nD Cert.SsdRefIdeal.τ).loc Cert.SsdRefIdeal.main_arg5) = m' ((c.tc : Thread Cert.SsdRefIdeal.nD Cert.SsdRefIdeal.τ).loc Cert.SsdRefIdeal.main_arg5)
          ∧ r.2.mem ((c.tc : Thread Cert.SsdRefIdeal.nD Cert.SsdRefIdeal.τ).loc Cert.SsdRefIdeal.main_arg6) = m' ((c.tc : Thread Cert.SsdRefIdeal.nD Cert.SsdRefIdeal.τ).loc Cert.SsdRefIdeal.main_arg6))

def Claim : Prop :=
  ∃ (hLinear : Cert.Linear.Facts) (hLinearIdeal : Cert.LinearIdeal.Facts) (hLinearRefIdeal : Cert.LinearRefIdeal.Facts) (hMemKv : Cert.MemKv.Facts) (hMemKvIdeal : Cert.MemKvIdeal.Facts) (hMemKvRefIdeal : Cert.MemKvRefIdeal.Facts) (hOddLinear : Cert.OddLinear.Facts) (hOddLinearIdeal : Cert.OddLinearIdeal.Facts) (hOddLinearRefIdeal : Cert.OddLinearRefIdeal.Facts) (hOddTail : Cert.OddTail.Facts) (hOddTailIdeal : Cert.OddTailIdeal.Facts) (hOddTailRefIdeal : Cert.OddTailRefIdeal.Facts) (hMemAtt : Cert.MemAtt.Facts) (hMemAttIdeal : Cert.MemAttIdeal.Facts) (hMemAttRefIdeal : Cert.MemAttRefIdeal.Facts) (hEvenTail : Cert.EvenTail.Facts) (hEvenTailIdeal : Cert.EvenTailIdeal.Facts) (hEvenTailRefIdeal : Cert.EvenTailRefIdeal.Facts) (hSsd : Cert.Ssd.Facts) (hSsdIdeal : Cert.SsdIdeal.Facts) (hSsdRefIdeal : Cert.SsdRefIdeal.Facts) (hPre_finite_queries_and_keys : Cert.Pre_finite_queries_and_keys.Facts),
    quiescent_Linear (hLinear := hLinear)
    ∧ quiescent_LinearIdeal (hLinearIdeal := hLinearIdeal)
    ∧ quiescent_LinearRefIdeal (hLinearRefIdeal := hLinearRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_OddLinear (hOddLinear := hOddLinear)
    ∧ quiescent_OddLinearIdeal (hOddLinearIdeal := hOddLinearIdeal)
    ∧ quiescent_OddLinearRefIdeal (hOddLinearRefIdeal := hOddLinearRefIdeal)
    ∧ quiescent_OddTail (hOddTail := hOddTail)
    ∧ quiescent_OddTailIdeal (hOddTailIdeal := hOddTailIdeal)
    ∧ quiescent_OddTailRefIdeal (hOddTailRefIdeal := hOddTailRefIdeal)
    ∧ quiescent_MemAtt (hMemAtt := hMemAtt)
    ∧ quiescent_MemAttIdeal (hMemAttIdeal := hMemAttIdeal)
    ∧ quiescent_MemAttIdeal_pre_finite_queries_and_keys (hMemAttIdeal := hMemAttIdeal) (hPre_finite_queries_and_keys := hPre_finite_queries_and_keys)
    ∧ quiescent_MemAttRefIdeal (hMemAttRefIdeal := hMemAttRefIdeal)
    ∧ quiescent_MemAttRefIdeal_pre_finite_queries_and_keys (hMemAttRefIdeal := hMemAttRefIdeal) (hPre_finite_queries_and_keys := hPre_finite_queries_and_keys)
    ∧ quiescent_EvenTail (hEvenTail := hEvenTail)
    ∧ quiescent_EvenTailIdeal (hEvenTailIdeal := hEvenTailIdeal)
    ∧ quiescent_EvenTailRefIdeal (hEvenTailRefIdeal := hEvenTailRefIdeal)
    ∧ quiescent_Ssd (hSsd := hSsd)
    ∧ quiescent_SsdIdeal (hSsdIdeal := hSsdIdeal)
    ∧ quiescent_SsdRefIdeal (hSsdRefIdeal := hSsdRefIdeal)
    ∧ preserves_Linear_LinearIdeal
    ∧ algebraic_LinearIdeal_LinearRefIdeal (hLinearIdeal := hLinearIdeal) (hLinearRefIdeal := hLinearRefIdeal)
    ∧ preserves_MemKv_MemKvIdeal
    ∧ algebraic_MemKvIdeal_MemKvRefIdeal (hMemKvIdeal := hMemKvIdeal) (hMemKvRefIdeal := hMemKvRefIdeal)
    ∧ preserves_OddLinear_OddLinearIdeal
    ∧ algebraic_OddLinearIdeal_OddLinearRefIdeal (hOddLinearIdeal := hOddLinearIdeal) (hOddLinearRefIdeal := hOddLinearRefIdeal)
    ∧ preserves_OddTail_OddTailIdeal
    ∧ algebraic_OddTailIdeal_OddTailRefIdeal (hOddTailIdeal := hOddTailIdeal) (hOddTailRefIdeal := hOddTailRefIdeal)
    ∧ preserves_MemAtt_MemAttIdeal
    ∧ algebraic_MemAttIdeal_MemAttRefIdeal_pre_finite_queries_and_keys (hMemAttIdeal := hMemAttIdeal) (hMemAttRefIdeal := hMemAttRefIdeal) (hPre_finite_queries_and_keys := hPre_finite_queries_and_keys)
    ∧ preserves_EvenTail_EvenTailIdeal
    ∧ algebraic_EvenTailIdeal_EvenTailRefIdeal (hEvenTailIdeal := hEvenTailIdeal) (hEvenTailRefIdeal := hEvenTailRefIdeal)
    ∧ preserves_Ssd_SsdIdeal
    ∧ algebraic_SsdIdeal_SsdRefIdeal (hSsdIdeal := hSsdIdeal) (hSsdRefIdeal := hSsdRefIdeal)
-- ==== Pre_finite_queries_and_keys.lean ====
abbrev S1x16384x9216 : Shape := ⟨3, ![1, 16384, 9216]⟩
abbrev S1x256x4x128 : Shape := ⟨4, ![1, 256, 4, 128]⟩
abbrev S1x16384x512 : Shape := ⟨3, ![1, 16384, 512]⟩
abbrev S_ : Shape := ⟨0, ![]⟩

class Facts : Prop where
  slices_S1x16384x9216_S1x16384x512_0_0_6144 : S1x16384x9216.Slices ![0, 0, 6144] S1x16384x512
  bcast_S_S1x16384x512 : S_.BroadcastsInDim S1x16384x512 (![] : Fin 0 → Fin S1x16384x512.rank)
  bcast_S_S1x256x4x128 : S_.BroadcastsInDim S1x256x4x128 (![] : Fin 0 → Fin S1x256x4x128.rank)

variable [Facts]

def fn {F : FTy → Type} [FloatOps F] (main_arg0 : FVec F S1x16384x9216 .f32) (main_arg1 : FVec F S1x256x4x128 .f32) (main_arg2 : FVec F S1x256x4x128 .f32) : IVec S1x16384x512 1 × IVec S1x256x4x128 1 :=
  let main_v0 : FVec F S1x16384x512 .f32 := (extractStridedSlice S1x16384x512 ![0, 0, 6144] · slices_S1x16384x9216_S1x16384x512_0_0_6144) main_arg0
  let main_v1 : FVec F S1x16384x512 .f32 := Host.absf main_v0
  let main_cst : FVec F S_ .f32 := constant S_ .f32 0x7F800000#32
  let main_v2 : FVec F S1x16384x512 .f32 := broadcastInDim S1x16384x512 ![] bcast_S_S1x16384x512 main_cst
  let main_v3 : IVec S1x16384x512 1 := cmpf .olt main_v1 main_v2
  let main_v4 : FVec F S1x256x4x128 .f32 := Host.absf main_arg1
  let main_cst_0 : FVec F S_ .f32 := constant S_ .f32 0x7F800000#32
  let main_v5 : FVec F S1x256x4x128 .f32 := broadcastInDim S1x256x4x128 ![] bcast_S_S1x256x4x128 main_cst_0
  let main_v6 : IVec S1x256x4x128 1 := cmpf .olt main_v4 main_v5
  (main_v3, main_v6)
-- ==== Linear.lean ====
abbrev S1x16384x2048 : Shape := ⟨3, ![1, 16384, 2048]⟩
abbrev S2x2048x9216 : Shape := ⟨3, ![2, 2048, 9216]⟩
abbrev S2x9216 : Shape := ⟨2, ![2, 9216]⟩
abbrev S16384x2048 : Shape := ⟨2, ![16384, 2048]⟩
abbrev S2x1x9216 : Shape := ⟨3, ![2, 1, 9216]⟩
abbrev S16384x9216 : Shape := ⟨2, ![16384, 9216]⟩
abbrev S2048x2048 : Shape := ⟨2, ![2048, 2048]⟩
abbrev S1x2048x512 : Shape := ⟨3, ![1, 2048, 512]⟩
abbrev S1x1x512 : Shape := ⟨3, ![1, 1, 512]⟩
abbrev S2048x512 : Shape := ⟨2, ![2048, 512]⟩
abbrev S1x512 : Shape := ⟨2, ![1, 512]⟩

abbrev nBuf : Space → Nat
  | .hbm => 8
  | .vmem => 8
  | .smem => 0
  | _ => 0

abbrev bufTy : (tb : Table) → Fin (tcTables nBuf tb) → BufTy
  | .hbm, ⟨0, _⟩ => ⟨S1x16384x2048, .f32⟩
  | .hbm, ⟨1, _⟩ => ⟨S2x2048x9216, .f32⟩
  | .hbm, ⟨2, _⟩ => ⟨S2x9216, .f32⟩
  | .hbm, ⟨3, _⟩ => ⟨S16384x2048, .f32⟩
  | .hbm, ⟨4, _⟩ => ⟨S16384x2048, .bf16⟩
  | .hbm, ⟨5, _⟩ => ⟨S2x2048x9216, .bf16⟩
  | .hbm, ⟨6, _⟩ => ⟨S2x1x9216, .f32⟩
  | .hbm, ⟨7, _⟩ => ⟨S16384x9216, .f32⟩
  | .local _ .vmem, ⟨0, _⟩ => ⟨S2048x2048, .bf16⟩
  | .local _ .vmem, ⟨1, _⟩ => ⟨S2048x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x1x512, .f32⟩
  | .local _ .vmem, ⟨5, _⟩ => ⟨S1x1x512, .f32⟩
  | .local _ .vmem, ⟨6, _⟩ => ⟨S2048x512, .f32⟩
  | .local _ .vmem, ⟨7, _⟩ => ⟨S2048x512, .f32⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 1 := Scalar.cmpi .slt arg1 c5_i32
  let c12_i32 : BitVec 32 := 12#32
  let v1 : BitVec 32 := Scalar.addi arg1 c12_i32
  let c1_i32 : BitVec 32 := 1#32
  let v2 : BitVec 32 := Scalar.addi v1 c1_i32
  let c5_i32_0 : BitVec 32 := 5#32
  let v3 : BitVec 1 := Scalar.cmpi .eq arg1 c5_i32_0
  let c5_i32_1 : BitVec 32 := 5#32
  let v4 : BitVec 32 := Scalar.subi arg1 c5_i32_1
  let c1_i32_2 : BitVec 32 := 1#32
  let v5 : BitVec 32 := Scalar.subi v4 c1_i32_2
  let c12_i32_3 : BitVec 32 := 12#32
  let v6 : BitVec 32 := Scalar.select v3 c12_i32_3 v5
  let v7 : BitVec 32 := Scalar.select v0 v2 v6
  let c0_i32 : BitVec 32 := 0#32
  let c0_i32_4 : BitVec 32 := 0#32
  let c0_i32_5 : BitVec 32 := 0#32
  ![c0_i32.toNat, c0_i32_4.toNat, v7.toNat]

def cc0_transform_2 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 1 := Scalar.cmpi .slt arg1 c5_i32
  let c12_i32 : BitVec 32 := 12#32
  let v1 : BitVec 32 := Scalar.addi arg1 c12_i32
  let c1_i32 : BitVec 32 := 1#32
  let v2 : BitVec 32 := Scalar.addi v1 c1_i32
  let c5_i32_0 : BitVec 32 := 5#32
  let v3 : BitVec 1 := Scalar.cmpi .eq arg1 c5_i32_0
  let c5_i32_1 : BitVec 32 := 5#32
  let v4 : BitVec 32 := Scalar.subi arg1 c5_i32_1
  let c1_i32_2 : BitVec 32 := 1#32
  let v5 : BitVec 32 := Scalar.subi v4 c1_i32_2
  let c12_i32_3 : BitVec 32 := 12#32
  let v6 : BitVec 32 := Scalar.select v3 c12_i32_3 v5
  let v7 : BitVec 32 := Scalar.select v0 v2 v6
  let c0_i32 : BitVec 32 := 0#32
  let c0_i32_4 : BitVec 32 := 0#32
  let c0_i32_5 : BitVec 32 := 0#32
  ![c0_i32.toNat, c0_i32_4.toNat, v7.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== LinearRefIdeal.lean ====
abbrev S1x16384x2048 : Shape := ⟨3, ![1, 16384, 2048]⟩
abbrev S2x2048x9216 : Shape := ⟨3, ![2, 2048, 9216]⟩
abbrev S2x9216 : Shape := ⟨2, ![2, 9216]⟩
abbrev S1x2048x9216 : Shape := ⟨3, ![1, 2048, 9216]⟩
abbrev S2048x9216 : Shape := ⟨2, ![2048, 9216]⟩
abbrev S1x16384x9216 : Shape := ⟨3, ![1, 16384, 9216]⟩
abbrev S1x9216 : Shape := ⟨2, ![1, 9216]⟩
abbrev S9216 : Shape := ⟨1, ![9216]⟩
abbrev S1x1x9216 : Shape := ⟨3, ![1, 1, 9216]⟩
abbrev S1x16384x1024 : Shape := ⟨3, ![1, 16384, 1024]⟩
abbrev S1x16384x512 : Shape := ⟨3, ![1, 16384, 512]⟩
abbrev S1x16384x2560 : Shape := ⟨3, ![1, 16384, 2560]⟩
abbrev S16384x9216 : Shape := ⟨2, ![16384, 9216]⟩

abbrev nBuf : Space → Nat
  | .hbm => 21
  | .vmem => 0
  | .smem => 0
  | _ => 0

abbrev bufTy : (tb : Table) → Fin (tcTables nBuf tb) → BufTy
  | .hbm, ⟨0, _⟩ => ⟨S1x16384x2048, .f32⟩
  | .hbm, ⟨1, _⟩ => ⟨S2x2048x9216, .f32⟩
  | .hbm, ⟨2, _⟩ => ⟨S2x9216, .f32⟩
  | .hbm, ⟨3, _⟩ => ⟨S1x2048x9216, .f32⟩
  | .hbm, ⟨4, _⟩ => ⟨S2048x9216, .f32⟩
  | .hbm, ⟨5, _⟩ => ⟨S1x16384x9216, .f32⟩
  | .hbm, ⟨6, _⟩ => ⟨S1x9216, .f32⟩
  | .hbm, ⟨7, _⟩ => ⟨S9216, .f32⟩
  | .hbm, ⟨8, _⟩ => ⟨S1x1x9216, .f32⟩
  | .hbm, ⟨9, _⟩ => ⟨S1x16384x9216, .f32⟩
  | .hbm, ⟨10, _⟩ => ⟨S1x16384x9216, .f32⟩
  | .hbm, ⟨11, _⟩ => ⟨S1x16384x1024, .f32⟩
  | .hbm, ⟨12, _⟩ => ⟨S1x16384x1024, .f32⟩
  | .hbm, ⟨13, _⟩ => ⟨S1x16384x1024, .f32⟩
  | .hbm, ⟨14, _⟩ => ⟨S1x16384x1024, .f32⟩
  | .hbm, ⟨15, _⟩ => ⟨S1x16384x1024, .f32⟩
  | .hbm, ⟨16, _⟩ => ⟨S1x16384x1024, .f32⟩
  | .hbm, ⟨17, _⟩ => ⟨S1x16384x512, .f32⟩
  | .hbm, ⟨18, _⟩ => ⟨S1x16384x2560, .f32⟩
  | .hbm, ⟨19, _⟩ => ⟨S1x16384x9216, .f32⟩
  | .hbm, ⟨20, _⟩ => ⟨S16384x9216, .f32⟩
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩

abbrev nD : Nat := 1
abbrev τ : Topo := Topo.v7x

variable {F : FTy → Type} [FloatOps F]
-- ==== MemKv.lean ====
abbrev S1x256x2048 : Shape := ⟨3, ![1, 256, 2048]⟩
abbrev S4x2048x1024 : Shape := ⟨3, ![4, 2048, 1024]⟩
abbrev S_ : Shape := ⟨0, ![]⟩
abbrev S1x1x1024 : Shape := ⟨3, ![1, 1, 1024]⟩
abbrev S256x2048 : Shape := ⟨2, ![256, 2048]⟩
abbrev S1x4x1x1024 : Shape := ⟨4, ![1, 4, 1, 1024]⟩
abbrev S4x1x1024 : Shape := ⟨3, ![4, 1, 1024]⟩
abbrev S256x1024 : Shape := ⟨2, ![256, 1024]⟩
abbrev S1x2048x512 : Shape := ⟨3, ![1, 2048, 512]⟩
abbrev S1x1x512 : Shape := ⟨3, ![1, 1, 512]⟩
abbrev S256x512 : Shape := ⟨2, ![256, 512]⟩
abbrev S2048x512 : Shape := ⟨2, ![2048, 512]⟩
abbrev S1x512 : Shape := ⟨2, ![1, 512]⟩

abbrev nBuf : Space → Nat
  | .hbm => 10
  | .vmem => 7
  | .smem => 0
  | _ => 0

abbrev bufTy : (tb : Table) → Fin (tcTables nBuf tb) → BufTy
  | .hbm, ⟨0, _⟩ => ⟨S1x256x2048, .f32⟩
  | .hbm, ⟨1, _⟩ => ⟨S4x2048x1024, .f32⟩
  | .hbm, ⟨2, _⟩ => ⟨S_, .f32⟩
  | .hbm, ⟨3, _⟩ => ⟨S1x1x1024, .f32⟩
  | .hbm, ⟨4, _⟩ => ⟨S256x2048, .f32⟩
  | .hbm, ⟨5, _⟩ => ⟨S256x2048, .bf16⟩
  | .hbm, ⟨6, _⟩ => ⟨S4x2048x1024, .bf16⟩
  | .hbm, ⟨7, _⟩ => ⟨S1x4x1x1024, .f32⟩
  | .hbm, ⟨8, _⟩ => ⟨S4x1x1024, .f32⟩
  | .hbm, ⟨9, _⟩ => ⟨S256x1024, .f32⟩
  | .local _ .vmem, ⟨0, _⟩ => ⟨S256x2048, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x1x512, .f32⟩
  | .local _ .vmem, ⟨4, _⟩ => ⟨S1x1x512, .f32⟩
  | .local _ .vmem, ⟨5, _⟩ => ⟨S256x512, .f32⟩
  | .local _ .vmem, ⟨6, _⟩ => ⟨S256x512, .f32⟩
  | _, _ => ⟨S1x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemKvRefIdeal.lean ====
abbrev S1x256x2048 : Shape := ⟨3, ![1, 256, 2048]⟩
abbrev S4x2048x1024 : Shape := ⟨3, ![4, 2048, 1024]⟩
abbrev S1x2048x1024 : Shape := ⟨3, ![1, 2048, 1024]⟩
abbrev S2048x1024 : Shape := ⟨2, ![2048, 1024]⟩
abbrev S1x256x1024 : Shape := ⟨3, ![1, 256, 1024]⟩
abbrev S256x1024 : Shape := ⟨2, ![256, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1x256x2048, .f32⟩
  | .hbm, ⟨1, _⟩ => ⟨S4x2048x1024, .f32⟩
  | .hbm, ⟨2, _⟩ => ⟨S1x2048x1024, .f32⟩
  | .hbm, ⟨3, _⟩ => ⟨S2048x1024, .f32⟩
  | .hbm, ⟨4, _⟩ => ⟨S1x256x1024, .f32⟩
  | .hbm, ⟨5, _⟩ => ⟨S256x1024, .f32⟩
  | _, _ => ⟨S1x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OddLinear.lean ====
abbrev S1x16384x2048 : Shape := ⟨3, ![1, 16384, 2048]⟩
abbrev S2x2048x8736 : Shape := ⟨3, ![2, 2048, 8736]⟩
abbrev S2x8736 : Shape := ⟨2, ![2, 8736]⟩
abbrev S16384x2048 : Shape := ⟨2, ![16384, 2048]⟩
abbrev S2x2048x2560 : Shape := ⟨3, ![2, 2048, 2560]⟩
abbrev S2x2048x512 : Shape := ⟨3, ![2, 2048, 512]⟩
abbrev S2x2048x4096 : Shape := ⟨3, ![2, 2048, 4096]⟩
abbrev S2x2048x1536 : Shape := ⟨3, ![2, 2048, 1536]⟩
abbrev S2x2048x8704 : Shape := ⟨3, ![2, 2048, 8704]⟩
abbrev S2x2560 : Shape := ⟨2, ![2, 2560]⟩
abbrev S2x512 : Shape := ⟨2, ![2, 512]⟩
abbrev S2x4096 : Shape := ⟨2, ![2, 4096]⟩
abbrev S2x1536 : Shape := ⟨2, ![2, 1536]⟩
abbrev S2x8704 : Shape := ⟨2, ![2, 8704]⟩
abbrev S2x1x8704 : Shape := ⟨3, ![2, 1, 8704]⟩
abbrev S16384x8704 : Shape := ⟨2, ![16384, 8704]⟩
abbrev S2048x2048 : Shape := ⟨2, ![2048, 2048]⟩
abbrev S1x2048x512 : Shape := ⟨3, ![1, 2048, 512]⟩
abbrev S1x1x512 : Shape := ⟨3, ![1, 1, 512]⟩
abbrev S2048x512 : Shape := ⟨2, ![2048, 512]⟩
abbrev S1x512 : Shape := ⟨2, ![1, 512]⟩

abbrev nBuf : Space → Nat
  | .hbm => 18
  | .vmem => 8
  | .smem => 0
  | _ => 0

abbrev bufTy : (tb : Table) → Fin (tcTables nBuf tb) → BufTy
  | .hbm, ⟨0, _⟩ => ⟨S1x16384x2048, .f32⟩
  | .hbm, ⟨1, _⟩ => ⟨S2x2048x8736, .f32⟩
  | .hbm, ⟨2, _⟩ => ⟨S2x8736, .f32⟩
  | .hbm, ⟨3, _⟩ => ⟨S16384x2048, .f32⟩
  | .hbm, ⟨4, _⟩ => ⟨S16384x2048, .bf16⟩
  | .hbm, ⟨5, _⟩ => ⟨S2x2048x2560, .f32⟩
  | .hbm, ⟨6, _⟩ => ⟨S2x2048x512, .f32⟩
  | .hbm, ⟨7, _⟩ => ⟨S2x2048x4096, .f32⟩
  | .hbm, ⟨8, _⟩ => ⟨S2x2048x1536, .f32⟩
  | .hbm, ⟨9, _⟩ => ⟨S2x2048x8704, .f32⟩
  | .hbm, ⟨10, _⟩ => ⟨S2x2048x8704, .bf16⟩
  | .hbm, ⟨11, _⟩ => ⟨S2x2560, .f32⟩
  | .hbm, ⟨12, _⟩ => ⟨S2x512, .f32⟩
  | .hbm, ⟨13, _⟩ => ⟨S2x4096, .f32⟩
  | .hbm, ⟨14, _⟩ => ⟨S2x1536, .f32⟩
  | .hbm, ⟨15, _⟩ => ⟨S2x8704, .f32⟩
  | .hbm, ⟨16, _⟩ => ⟨S2x1x8704, .f32⟩
  | .hbm, ⟨17, _⟩ => ⟨S16384x8704, .f32⟩
  | .local _ .vmem, ⟨0, _⟩ => ⟨S2048x2048, .bf16⟩
  | .local _ .vmem, ⟨1, _⟩ => ⟨S2048x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x1x512, .f32⟩
  | .local _ .vmem, ⟨5, _⟩ => ⟨S1x1x512, .f32⟩
  | .local _ .vmem, ⟨6, _⟩ => ⟨S2048x512, .f32⟩
  | .local _ .vmem, ⟨7, _⟩ => ⟨S2048x512, .f32⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OddLinearRefIdeal.lean ====
abbrev S1x16384x2048 : Shape := ⟨3, ![1, 16384, 2048]⟩
abbrev S2x2048x8736 : Shape := ⟨3, ![2, 2048, 8736]⟩
abbrev S2x8736 : Shape := ⟨2, ![2, 8736]⟩
abbrev S1x2048x8736 : Shape := ⟨3, ![1, 2048, 8736]⟩
abbrev S2048x8736 : Shape := ⟨2, ![2048, 8736]⟩
abbrev S1x16384x8736 : Shape := ⟨3, ![1, 16384, 8736]⟩
abbrev S1x8736 : Shape := ⟨2, ![1, 8736]⟩
abbrev S8736 : Shape := ⟨1, ![8736]⟩
abbrev S1x1x8736 : Shape := ⟨3, ![1, 1, 8736]⟩
abbrev S1x16384x1024 : Shape := ⟨3, ![1, 16384, 1024]⟩
abbrev S1x16384x8 : Shape := ⟨3, ![1, 16384, 8]⟩
abbrev S1x16384x1536 : Shape := ⟨3, ![1, 16384, 1536]⟩
abbrev S1x16384x16 : Shape := ⟨3, ![1, 16384, 16]⟩
abbrev S1x16384x512 : Shape := ⟨3, ![1, 16384, 512]⟩
abbrev S1x16384x2560 : Shape := ⟨3, ![1, 16384, 2560]⟩
abbrev S1x16384x8704 : Shape := ⟨3, ![1, 16384, 8704]⟩
abbrev S16384x8704 : Shape := ⟨2, ![16384, 8704]⟩

abbrev nBuf : Space → Nat
  | .hbm => 23
  | .vmem => 0
  | .smem => 0
  | _ => 0

abbrev bufTy : (tb : Table) → Fin (tcTables nBuf tb) → BufTy
  | .hbm, ⟨0, _⟩ => ⟨S1x16384x2048, .f32⟩
  | .hbm, ⟨1, _⟩ => ⟨S2x2048x8736, .f32⟩
  | .hbm, ⟨2, _⟩ => ⟨S2x8736, .f32⟩
  | .hbm, ⟨3, _⟩ => ⟨S1x2048x8736, .f32⟩
  | .hbm, ⟨4, _⟩ => ⟨S2048x8736, .f32⟩
  | .hbm, ⟨5, _⟩ => ⟨S1x16384x8736, .f32⟩
  | .hbm, ⟨6, _⟩ => ⟨S1x8736, .f32⟩
  | .hbm, ⟨7, _⟩ => ⟨S8736, .f32⟩
  | .hbm, ⟨8, _⟩ => ⟨S1x1x8736, .f32⟩
  | .hbm, ⟨9, _⟩ => ⟨S1x16384x8736, .f32⟩
  | .hbm, ⟨10, _⟩ => ⟨S1x16384x8736, .f32⟩
  | .hbm, ⟨11, _⟩ => ⟨S1x16384x1024, .f32⟩
  | .hbm, ⟨12, _⟩ => ⟨S1x16384x1024, .f32⟩
  | .hbm, ⟨13, _⟩ => ⟨S1x16384x1024, .f32⟩
  | .hbm, ⟨14, _⟩ => ⟨S1x16384x1024, .f32⟩
  | .hbm, ⟨15, _⟩ => ⟨S1x16384x8, .f32⟩
  | .hbm, ⟨16, _⟩ => ⟨S1x16384x8, .f32⟩
  | .hbm, ⟨17, _⟩ => ⟨S1x16384x1536, .f32⟩
  | .hbm, ⟨18, _⟩ => ⟨S1x16384x16, .f32⟩
  | .hbm, ⟨19, _⟩ => ⟨S1x16384x512, .f32⟩
  | .hbm, ⟨20, _⟩ => ⟨S1x16384x2560, .f32⟩
  | .hbm, ⟨21, _⟩ => ⟨S1x16384x8704, .f32⟩
  | .hbm, ⟨22, _⟩ => ⟨S16384x8704, .f32⟩
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩

abbrev nD : Nat := 1
abbrev τ : Topo := Topo.v7x

variable {F : FTy → Type} [FloatOps F]
-- ==== OddTail.lean ====
abbrev S1x16384x8736 : Shape := ⟨3, ![1, 16384, 8736]⟩
abbrev S1x16384x1024 : Shape := ⟨3, ![1, 16384, 1024]⟩
abbrev S1x16384x512 : Shape := ⟨3, ![1, 16384, 512]⟩
abbrev S1x16384x2048 : Shape := ⟨3, ![1, 16384, 2048]⟩
abbrev S2x1024 : Shape := ⟨2, ![2, 1024]⟩
abbrev S4x2560x2048 : Shape := ⟨3, ![4, 2560, 2048]⟩
abbrev S4x2048 : Shape := ⟨2, ![4, 2048]⟩
abbrev S1x16384x2560 : Shape := ⟨3, ![1, 16384, 2560]⟩
abbrev S1x16384x4096 : Shape := ⟨3, ![1, 16384, 4096]⟩
abbrev S1x16384x1536 : Shape := ⟨3, ![1, 16384, 1536]⟩
abbrev S1x16384x8704 : Shape := ⟨3, ![1, 16384, 8704]⟩
abbrev S16384x8704 : Shape := ⟨2, ![16384, 8704]⟩
abbrev S16384x1024 : Shape := ⟨2, ![16384, 1024]⟩
abbrev S16384x512 : Shape := ⟨2, ![16384, 512]⟩
abbrev S16384x2048 : Shape := ⟨2, ![16384, 2048]⟩
abbrev S2x1x1024 : Shape := ⟨3, ![2, 1, 1024]⟩
abbrev S4x1x2048 : Shape := ⟨3, ![4, 1, 2048]⟩
abbrev S256x2560 : Shape := ⟨2, ![256, 2560]⟩
abbrev S256x1024 : Shape := ⟨2, ![256, 1024]⟩
abbrev S256x512 : Shape := ⟨2, ![256, 512]⟩
abbrev S1x1x1024 : Shape := ⟨3, ![1, 1, 1024]⟩
abbrev S256x2048 : Shape := ⟨2, ![256, 2048]⟩
abbrev S1x2560x2048 : Shape := ⟨3, ![1, 2560, 2048]⟩
abbrev S1x1x2048 : Shape := ⟨3, ![1, 1, 2048]⟩
abbrev S128x2560 : Shape := ⟨2, ![128, 2560]⟩
abbrev S128x1024 : Shape := ⟨2, ![128, 1024]⟩
abbrev S128 : Shape := ⟨1, ![128]⟩
abbrev S128x1 : Shape := ⟨2, ![128, 1]⟩
abbrev S1x1024 : Shape := ⟨2, ![1, 1024]⟩
abbrev S128x512 : Shape := ⟨2, ![128, 512]⟩
abbrev S1x1024x2048 : Shape := ⟨3, ![1, 1024, 2048]⟩
abbrev S1024x2048 : Shape := ⟨2, ![1024, 2048]⟩
abbrev S128x2048 : Shape := ⟨2, ![128, 2048]⟩
abbrev S1x512x2048 : Shape := ⟨3, ![1, 512, 2048]⟩
abbrev S512x2048 : Shape := ⟨2, ![512, 2048]⟩
abbrev S1x2048 : Shape := ⟨2, ![1, 2048]⟩

abbrev nBuf : Space → Nat
  | .hbm => 25
  | .vmem => 20
  | .smem => 0
  | _ => 0

abbrev bufTy : (tb : Table) → Fin (tcTables nBuf tb) → BufTy
  | .hbm, ⟨0, _⟩ => ⟨S1x16384x8736, .f32⟩
  | .hbm, ⟨1, _⟩ => ⟨S1x16384x1024, .f32⟩
  | .hbm, ⟨2, _⟩ => ⟨S1x16384x1024, .f32⟩
  | .hbm, ⟨3, _⟩ => ⟨S1x16384x512, .f32⟩
  | .hbm, ⟨4, _⟩ => ⟨S1x16384x2048, .f32⟩
  | .hbm, ⟨5, _⟩ => ⟨S2x1024, .f32⟩
  | .hbm, ⟨6, _⟩ => ⟨S4x2560x2048, .f32⟩
  | .hbm, ⟨7, _⟩ => ⟨S4x2048, .f32⟩
  | .hbm, ⟨8, _⟩ => ⟨S4x2048, .f32⟩
  | .hbm, ⟨9, _⟩ => ⟨S1x16384x2560, .f32⟩
  | .hbm, ⟨10, _⟩ => ⟨S1x16384x512, .f32⟩
  | .hbm, ⟨11, _⟩ => ⟨S1x16384x4096, .f32⟩
  | .hbm, ⟨12, _⟩ => ⟨S1x16384x1536, .f32⟩
  | .hbm, ⟨13, _⟩ => ⟨S1x16384x8704, .f32⟩
  | .hbm, ⟨14, _⟩ => ⟨S16384x8704, .f32⟩
  | .hbm, ⟨15, _⟩ => ⟨S16384x1024, .f32⟩
  | .hbm, ⟨16, _⟩ => ⟨S16384x1024, .f32⟩
  | .hbm, ⟨17, _⟩ => ⟨S16384x512, .f32⟩
  | .hbm, ⟨18, _⟩ => ⟨S16384x2048, .f32⟩
  | .hbm, ⟨19, _⟩ => ⟨S2x1x1024, .f32⟩
  | .hbm, ⟨20, _⟩ => ⟨S4x2560x2048, .bf16⟩
  | .hbm, ⟨21, _⟩ => ⟨S4x1x2048, .f32⟩
  | .hbm, ⟨22, _⟩ => ⟨S4x1x2048, .f32⟩
  | .hbm, ⟨23, _⟩ => ⟨S16384x2048, .f32⟩
  | .hbm, ⟨24, _⟩ => ⟨S16384x2048, .bf16⟩
  | .local _ .vmem, ⟨0, _⟩ => ⟨S256x2560, .f32⟩
  | .local _ .vmem, ⟨1, _⟩ => ⟨S256x2560, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x512, .f32⟩
  | .local _ .vmem, ⟨9, _⟩ => ⟨S256x512, .f32⟩
  | .local _ .vmem, ⟨10, _⟩ => ⟨S1x1x1024, .f32⟩
  | .local _ .vmem, ⟨11, _⟩ => ⟨S256x2048, .f32⟩
  | .local _ .vmem, ⟨12, _⟩ => ⟨S256x2048, .f32⟩
  | .local _ .vmem, ⟨13, _⟩ => ⟨S1x2560x2048, .bf16⟩
  | .local _ .vmem, ⟨14, _⟩ => ⟨S1x1x2048, .f32⟩
  | .local _ .vmem, ⟨15, _⟩ => ⟨S1x1x2048, .f32⟩
  | .local _ .vmem, ⟨16, _⟩ => ⟨S256x2048, .f32⟩
  | .local _ .vmem, ⟨17, _⟩ => ⟨S256x2048, .f32⟩
  | .local _ .vmem, ⟨18, _⟩ => ⟨S256x2048, .bf16⟩
  | .local _ .vmem, ⟨19, _⟩ => ⟨S256x2048, .bf16⟩
  | _, _ => ⟨S1x16384x8736, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![64, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x2560x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== OddTailRefIdeal.lean ====
abbrev S1x16384x8736 : Shape := ⟨3, ![1, 16384, 8736]⟩
abbrev S1x16384x1024 : Shape := ⟨3, ![1, 16384, 1024]⟩
abbrev S1x16384x512 : Shape := ⟨3, ![1, 16384, 512]⟩
abbrev S1x16384x2048 : Shape := ⟨3, ![1, 16384, 2048]⟩
abbrev S2x1024 : Shape := ⟨2, ![2, 1024]⟩
abbrev S4x2560x2048 : Shape := ⟨3, ![4, 2560, 2048]⟩
abbrev S4x2048 : Shape := ⟨2, ![4, 2048]⟩
abbrev S1x16384x8 : Shape := ⟨3, ![1, 16384, 8]⟩
abbrev S1x16384x1536 : Shape := ⟨3, ![1, 16384, 1536]⟩
abbrev S1x16384x16 : Shape := ⟨3, ![1, 16384, 16]⟩
abbrev S1x16384x2560 : Shape := ⟨3, ![1, 16384, 2560]⟩
abbrev S_ : Shape := ⟨0, ![]⟩
abbrev S1x1024 : Shape := ⟨2, ![1, 1024]⟩
abbrev S1024 : Shape := ⟨1, ![1024]⟩
abbrev S1x16384 : Shape := ⟨2, ![1, 16384]⟩
abbrev S1x16384x1 : Shape := ⟨3, ![1, 16384, 1]⟩
abbrev S1x1x1024 : Shape := ⟨3, ![1, 1, 1024]⟩
abbrev S1x2560x2048 : Shape := ⟨3, ![1, 2560, 2048]⟩
abbrev S2560x2048 : Shape := ⟨2, ![2560, 2048]⟩
abbrev S1x2048 : Shape := ⟨2, ![1, 2048]⟩
abbrev S2048 : Shape := ⟨1, ![2048]⟩
abbrev S1x1x2048 : Shape := ⟨3, ![1, 1, 2048]⟩
abbrev S16384x2048 : Shape := ⟨2, ![16384, 2048]⟩

abbrev nBuf : Space → Nat
  | .hbm => 122
  | .vmem => 0
  | .smem => 0
  | _ => 0

abbrev bufTy : (tb : Table) → Fin (tcTables nBuf tb) → BufTy
  | .hbm, ⟨0, _⟩ => ⟨S1x16384x8736, .f32⟩
  | .hbm, ⟨1, _⟩ => ⟨S1x16384x1024, .f32⟩
  | .hbm, ⟨2, _⟩ => ⟨S1x16384x1024, .f32⟩
  | .hbm, ⟨3, _⟩ => ⟨S1x16384x512, .f32⟩
  | .hbm, ⟨4, _⟩ => ⟨S1x16384x2048, .f32⟩
  | .hbm, ⟨5, _⟩ => ⟨S2x1024, .f32⟩
  | .hbm, ⟨6, _⟩ => ⟨S4x2560x2048, .f32⟩
  | .hbm, ⟨7, _⟩ => ⟨S4x2048, .f32⟩
  | .hbm, ⟨8, _⟩ => ⟨S4x2048, .f32⟩
  | .hbm, ⟨9, _⟩ => ⟨S1x16384x1024, .f32⟩
  | .hbm, ⟨10, _⟩ => ⟨S1x16384x1024, .f32⟩
  | .hbm, ⟨11, _⟩ => ⟨S1x16384x1024, .f32⟩
  | .hbm, ⟨12, _⟩ => ⟨S1x16384x1024, .f32⟩
  | .hbm, ⟨13, _⟩ => ⟨S1x16384x8, .f32⟩
  | .hbm, ⟨14, _⟩ => ⟨S1x16384x8, .f32⟩
  | .hbm, ⟨15, _⟩ => ⟨S1x16384x1536, .f32⟩
  | .hbm, ⟨16, _⟩ => ⟨S1x16384x16, .f32⟩
  | .hbm, ⟨17, _⟩ => ⟨S1x16384x512, .f32⟩
  | .hbm, ⟨18, _⟩ => ⟨S1x16384x2560, .f32⟩
  | .hbm, ⟨19, _⟩ => ⟨S1x16384x1024, .f32⟩
  | .hbm, ⟨20, _⟩ => ⟨S1x16384x1024, .f32⟩
  | .hbm, ⟨21, _⟩ => ⟨S_, .f32⟩
  | .hbm, ⟨22, _⟩ => ⟨S1x16384x1024, .f32⟩
  | .hbm, ⟨23, _⟩ => ⟨S1x16384x1024, .f32⟩
  | .hbm, ⟨24, _⟩ => ⟨S_, .f32⟩
  | .hbm, ⟨25, _⟩ => ⟨S1x16384x1024, .f32⟩
  | .hbm, ⟨26, _⟩ => ⟨S1x16384x1024, .f32⟩
  | .hbm, ⟨27, _⟩ => ⟨S1x16384x1024, .f32⟩
  | .hbm, ⟨28, _⟩ => ⟨S1x16384x1024, .f32⟩
  | .hbm, ⟨29, _⟩ => ⟨S1x16384x1024, .f32⟩
  | .hbm, ⟨30, _⟩ => ⟨S1x16384x512, .f32⟩
  | .hbm, ⟨31, _⟩ => ⟨S1x16384x1024, .f32⟩
  | .hbm, ⟨32, _⟩ => ⟨S1x16384x1024, .f32⟩
  | .hbm, ⟨33, _⟩ => ⟨S_, .f32⟩
  | .hbm, ⟨34, _⟩ => ⟨S1x16384x1024, .f32⟩
  | .hbm, ⟨35, _⟩ => ⟨S1x16384x1024, .f32⟩
  | .hbm, ⟨36, _⟩ => ⟨S_, .f32⟩
  | .hbm, ⟨37, _⟩ => ⟨S1x16384x1024, .f32⟩
  | .hbm, ⟨38, _⟩ => ⟨S1x16384x1024, .f32⟩
  | .hbm, ⟨39, _⟩ => ⟨S1x16384x1024, .f32⟩
  | .hbm, ⟨40, _⟩ => ⟨S1x16384x1024, .f32⟩
  | .hbm, ⟨41, _⟩ => ⟨S1x1024, .f32⟩
  | .hbm, ⟨42, _⟩ => ⟨S1024, .f32⟩
  | .hbm, ⟨43, _⟩ => ⟨S1x16384x1024, .f32⟩
  | .hbm, ⟨44, _⟩ => ⟨S_, .f32⟩
  | .hbm, ⟨45, _⟩ => ⟨S1x16384, .f32⟩
  | .hbm, ⟨46, _⟩ => ⟨S1x16384x1, .f32⟩
  | .hbm, ⟨47, _⟩ => ⟨S_, .f32⟩
  | .hbm, ⟨48, _⟩ => ⟨S1x16384x1, .f32⟩
  | .hbm, ⟨49, _⟩ => ⟨S1x16384x1, .f32⟩
  | .hbm, ⟨50, _⟩ => ⟨S_, .f32⟩
  | .hbm, ⟨51, _⟩ => ⟨S1x16384x1, .f32⟩
  | .hbm, ⟨52, _⟩ => ⟨S1x16384x1, .f32⟩
  | .hbm, ⟨53, _⟩ => ⟨S1x16384x1, .f32⟩
  | .hbm, ⟨54, _⟩ => ⟨S1x16384x1024, .f32⟩
  | .hbm, ⟨55, _⟩ => ⟨S1x16384x1024, .f32⟩
  | .hbm, ⟨56, _⟩ => ⟨S1x1x1024, .f32⟩
  | .hbm, ⟨57, _⟩ => ⟨S1x16384x1024, .f32⟩
  | .hbm, ⟨58, _⟩ => ⟨S1x16384x1024, .f32⟩
  | .hbm, ⟨59, _⟩ => ⟨S1x16384x1024, .f32⟩
  | .hbm, ⟨60, _⟩ => ⟨S1x16384x1024, .f32⟩
  | .hbm, ⟨61, _⟩ => ⟨S_, .f32⟩
  | .hbm, ⟨62, _⟩ => ⟨S1x16384x1024, .f32⟩
  | .hbm, ⟨63, _⟩ => ⟨S1x16384x1024, .f32⟩
  | .hbm, ⟨64, _⟩ => ⟨S_, .f32⟩
  | .hbm, ⟨65, _⟩ => ⟨S1x16384x1024, .f32⟩
  | .hbm, ⟨66, _⟩ => ⟨S1x16384x1024, .f32⟩
  | .hbm, ⟨67, _⟩ => ⟨S1x16384x1024, .f32⟩
  | .hbm, ⟨68, _⟩ => ⟨S1x16384x1024, .f32⟩
  | .hbm, ⟨69, _⟩ => ⟨S1x16384x512, .f32⟩
  | .hbm, ⟨70, _⟩ => ⟨S1x16384x512, .f32⟩
  | .hbm, ⟨71, _⟩ => ⟨S_, .f32⟩
  | .hbm, ⟨72, _⟩ => ⟨S1x16384x512, .f32⟩
  | .hbm, ⟨73, _⟩ => ⟨S1x16384x512, .f32⟩
  | .hbm, ⟨74, _⟩ => ⟨S_, .f32⟩
  | .hbm, ⟨75, _⟩ => ⟨S1x16384x512, .f32⟩
  | .hbm, ⟨76, _⟩ => ⟨S1x16384x512, .f32⟩
  | .hbm, ⟨77, _⟩ => ⟨S1x16384x512, .f32⟩
  | .hbm, ⟨78, _⟩ => ⟨S1x16384x512, .f32⟩
  | .hbm, ⟨79, _⟩ => ⟨S1x16384x2560, .f32⟩
  | .hbm, ⟨80, _⟩ => ⟨S_, .f32⟩
  | .hbm, ⟨81, _⟩ => ⟨S1x16384x2048, .f32⟩
  | .hbm, ⟨82, _⟩ => ⟨S1x16384x2048, .f32⟩
  | .hbm, ⟨83, _⟩ => ⟨S1x2560x2048, .f32⟩
  | .hbm, ⟨84, _⟩ => ⟨S2560x2048, .f32⟩
  | .hbm, ⟨85, _⟩ => ⟨S1x16384x2048, .f32⟩
  | .hbm, ⟨86, _⟩ => ⟨S1x16384x2048, .f32⟩
  | .hbm, ⟨87, _⟩ => ⟨S1x2048, .f32⟩
  | .hbm, ⟨88, _⟩ => ⟨S2048, .f32⟩
  | .hbm, ⟨89, _⟩ => ⟨S1x2048, .f32⟩
  | .hbm, ⟨90, _⟩ => ⟨S2048, .f32⟩
  | .hbm, ⟨91, _⟩ => ⟨S_, .f32⟩
  | .hbm, ⟨92, _⟩ => ⟨S1x16384, .f32⟩
  | .hbm, ⟨93, _⟩ => ⟨S1x16384x1, .f32⟩
  | .hbm, ⟨94, _⟩ => ⟨S_, .f32⟩
  | .hbm, ⟨95, _⟩ => ⟨S1x16384x1, .f32⟩
  | .hbm, ⟨96, _⟩ => ⟨S1x16384x1, .f32⟩
  | .hbm, ⟨97, _⟩ => ⟨S1x16384x2048, .f32⟩
  | .hbm, ⟨98, _⟩ => ⟨S1x16384x2048, .f32⟩
  | .hbm, ⟨99, _⟩ => ⟨S1x16384x2048, .f32⟩
  | .hbm, ⟨100, _⟩ => ⟨S_, .f32⟩
  | .hbm, ⟨101, _⟩ => ⟨S1x16384, .f32⟩
  | .hbm, ⟨102, _⟩ => ⟨S1x16384x1, .f32⟩
  | .hbm, ⟨103, _⟩ => ⟨S_, .f32⟩
  | .hbm, ⟨104, _⟩ => ⟨S1x16384x1, .f32⟩
  | .hbm, ⟨105, _⟩ => ⟨S1x16384x1, .f32⟩
  | .hbm, ⟨106, _⟩ => ⟨S1x16384x2048, .f32⟩
  | .hbm, ⟨107, _⟩ => ⟨S1x16384x2048, .f32⟩
  | .hbm, ⟨108, _⟩ => ⟨S_, .f32⟩
  | .hbm, ⟨109, _⟩ => ⟨S1x16384x1, .f32⟩
  | .hbm, ⟨110, _⟩ => ⟨S1x16384x1, .f32⟩
  | .hbm, ⟨111, _⟩ => ⟨S1x16384x1, .f32⟩
  | .hbm, ⟨112, _⟩ => ⟨S1x16384x2048, .f32⟩
  | .hbm, ⟨113, _⟩ => ⟨S1x16384x2048, .f32⟩
  | .hbm, ⟨114, _⟩ => ⟨S1x1x2048, .f32⟩
  | .hbm, ⟨115, _⟩ => ⟨S1x16384x2048, .f32⟩
  | .hbm, ⟨116, _⟩ => ⟨S1x16384x2048, .f32⟩
  | .hbm, ⟨117, _⟩ => ⟨S1x1x2048, .f32⟩
  | .hbm, ⟨118, _⟩ => ⟨S1x16384x2048, .f32⟩
  | .hbm, ⟨119, _⟩ => ⟨S1x16384x2048, .f32⟩
  | .hbm, ⟨120, _⟩ => ⟨S16384x2048, .f32⟩
  | .hbm, ⟨121, _⟩ => ⟨S16384x2048, .bf16⟩
  | _, _ => ⟨S1x16384x8736, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_1 : Ref sig .tc := ⟨.hbm, 44, rfl⟩
abbrev main_v25 : Ref sig .tc := ⟨.hbm, 45, rfl⟩
abbrev main_v26 : Ref sig .tc := ⟨.hbm, 46, rfl⟩
abbrev main_cst_2 : Ref sig .tc := ⟨.hbm, 47, rfl⟩
abbrev main_v27 : Ref sig .tc := ⟨.hbm, 48, rfl⟩
abbrev main_v28 : Ref sig .tc := ⟨.hbm, 49, rfl⟩
abbrev main_cst_3 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_call1_v0 : Ref sig .tc := ⟨.hbm, 59, rfl⟩
abbrev main_call1_v1 : Ref sig .tc := ⟨.hbm, 60, rfl⟩
abbrev main_call1_cst : Ref sig .tc := ⟨.hbm, 61, rfl⟩
abbrev main_call1_v2 : Ref sig .tc := ⟨.hbm, 62, rfl⟩
abbrev main_call1_v3 : Ref sig .tc := ⟨.hbm, 63, rfl⟩
abbrev main_call1_cst_0 : Ref sig .tc := ⟨.hbm, 64, rfl⟩
abbrev main_call1_v4 : Ref sig .tc := ⟨.hbm, 65, rfl⟩
abbrev main_call1_v5 : Ref sig .tc := ⟨.hbm, 66, rfl⟩
abbrev main_v37 : Ref sig .tc := ⟨.hbm, 67, rfl⟩
abbrev main_v38 : Ref sig .tc := ⟨.hbm, 68, rfl⟩
abbrev main_call2_v0 : Ref sig .tc := ⟨.hbm, 69, rfl⟩
abbrev main_call2_v1 : Ref sig .tc := ⟨.hbm, 70, rfl⟩
abbrev main_call2_cst : Ref sig .tc := ⟨.hbm, 71, rfl⟩
abbrev main_call2_v2 : Ref sig .tc := ⟨.hbm, 72, rfl⟩
abbrev main_call2_v3 : Ref sig .tc := ⟨.hbm, 73, rfl⟩
abbrev main_call2_cst_0 : Ref sig .tc := ⟨.hbm, 74, rfl⟩
abbrev main_call2_v4 : Ref sig .tc := ⟨.hbm, 75, rfl⟩
abbrev main_call2_v5 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_cst_4 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_cst_5 : Ref sig .tc := ⟨.hbm, 91, rfl⟩
abbrev main_v52 : Ref sig .tc := ⟨.hbm, 92, rfl⟩
abbrev main_v53 : Ref sig .tc := ⟨.hbm, 93, rfl⟩
abbrev main_cst_6 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_cst_7 : Ref sig .tc := ⟨.hbm, 100, rfl⟩
abbrev main_v59 : Ref sig .tc := ⟨.hbm, 101, rfl⟩
abbrev main_v60 : Ref sig .tc := ⟨.hbm, 102, rfl⟩
abbrev main_cst_8 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_cst_9 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩

abbrev nD : Nat := 1
abbrev τ : Topo := Topo.v7x

variable {F : FTy → Type} [FloatOps F]
-- ==== MemAtt.lean ====
abbrev S1x16384x9216 : Shape := ⟨3, ![1, 16384, 9216]⟩
abbrev S1x256x4x128 : Shape := ⟨4, ![1, 256, 4, 128]⟩
abbrev S1x16384x2560 : Shape := ⟨3, ![1, 16384, 2560]⟩
abbrev S1x16384x512 : Shape := ⟨3, ![1, 16384, 512]⟩
abbrev S1x16384x6144 : Shape := ⟨3, ![1, 16384, 6144]⟩
abbrev S16384x9216 : Shape := ⟨2, ![16384, 9216]⟩
abbrev S1x1x1024x128 : Shape := ⟨4, ![1, 1, 1024, 128]⟩
abbrev S16384x512 : Shape := ⟨2, ![16384, 512]⟩
abbrev S512x512 : Shape := ⟨2, ![512, 512]⟩
abbrev S512x128 : Shape := ⟨2, ![512, 128]⟩
abbrev S1024x128 : Shape := ⟨2, ![1024, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 11
  | .vmem => 6
  | .smem => 0
  | _ => 0

abbrev bufTy : (tb : Table) → Fin (tcTables nBuf tb) → BufTy
  | .hbm, ⟨0, _⟩ => ⟨S1x16384x9216, .f32⟩
  | .hbm, ⟨1, _⟩ => ⟨S1x256x4x128, .f32⟩
  | .hbm, ⟨2, _⟩ => ⟨S1x256x4x128, .f32⟩
  | .hbm, ⟨3, _⟩ => ⟨S1x16384x2560, .f32⟩
  | .hbm, ⟨4, _⟩ => ⟨S1x16384x512, .f32⟩
  | .hbm, ⟨5, _⟩ => ⟨S1x16384x6144, .f32⟩
  | .hbm, ⟨6, _⟩ => ⟨S1x16384x9216, .f32⟩
  | .hbm, ⟨7, _⟩ => ⟨S16384x9216, .f32⟩
  | .hbm, ⟨8, _⟩ => ⟨S1x1x1024x128, .f32⟩
  | .hbm, ⟨9, _⟩ => ⟨S1x1x1024x128, .f32⟩
  | .hbm, ⟨10, _⟩ => ⟨S16384x512, .f32⟩
  | .local _ .vmem, ⟨0, _⟩ => ⟨S512x512, .f32⟩
  | .local _ .vmem, ⟨1, _⟩ => ⟨S512x512, .f32⟩
  | .local _ .vmem, ⟨2, _⟩ => ⟨S1x1x1024x128, .f32⟩
  | .local _ .vmem, ⟨3, _⟩ => ⟨S1x1x1024x128, .f32⟩
  | .local _ .vmem, ⟨4, _⟩ => ⟨S512x512, .f32⟩
  | .local _ .vmem, ⟨5, _⟩ => ⟨S512x512, .f32⟩
  | _, _ => ⟨S1x16384x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c5_i32 : BitVec 32 := 5#32
  let c0_i32 : BitVec 32 := 0#32
  ![v1.toNat, c5_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1x1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemAttRefIdeal.lean ====
abbrev S1x16384x9216 : Shape := ⟨3, ![1, 16384, 9216]⟩
abbrev S1x256x4x128 : Shape := ⟨4, ![1, 256, 4, 128]⟩
abbrev S1x16384x1024 : Shape := ⟨3, ![1, 16384, 1024]⟩
abbrev S1x16384x512 : Shape := ⟨3, ![1, 16384, 512]⟩
abbrev S1x16384x2560 : Shape := ⟨3, ![1, 16384, 2560]⟩
abbrev S1x16384x4x128 : Shape := ⟨4, ![1, 16384, 4, 128]⟩
abbrev S1x4x16384x256 : Shape := ⟨4, ![1, 4, 16384, 256]⟩
abbrev S_ : Shape := ⟨0, ![]⟩
abbrev S1x4x16384 : Shape := ⟨3, ![1, 4, 16384]⟩
abbrev S1x4x16384x1 : Shape := ⟨4, ![1, 4, 16384, 1]⟩
abbrev S1x4x128x16384 : Shape := ⟨4, ![1, 4, 128, 16384]⟩
abbrev S16384x512 : Shape := ⟨2, ![16384, 512]⟩

abbrev nBuf : Space → Nat
  | .hbm => 33
  | .vmem => 0
  | .smem => 0
  | _ => 0

abbrev bufTy : (tb : Table) → Fin (tcTables nBuf tb) → BufTy
  | .hbm, ⟨0, _⟩ => ⟨S1x16384x9216, .f32⟩
  | .hbm, ⟨1, _⟩ => ⟨S1x256x4x128, .f32⟩
  | .hbm, ⟨2, _⟩ => ⟨S1x256x4x128, .f32⟩
  | .hbm, ⟨3, _⟩ => ⟨S1x16384x1024, .f32⟩
  | .hbm, ⟨4, _⟩ => ⟨S1x16384x1024, .f32⟩
  | .hbm, ⟨5, _⟩ => ⟨S1x16384x1024, .f32⟩
  | .hbm, ⟨6, _⟩ => ⟨S1x16384x1024, .f32⟩
  | .hbm, ⟨7, _⟩ => ⟨S1x16384x1024, .f32⟩
  | .hbm, ⟨8, _⟩ => ⟨S1x16384x1024, .f32⟩
  | .hbm, ⟨9, _⟩ => ⟨S1x16384x512, .f32⟩
  | .hbm, ⟨10, _⟩ => ⟨S1x16384x2560, .f32⟩
  | .hbm, ⟨11, _⟩ => ⟨S1x16384x4x128, .f32⟩
  | .hbm, ⟨12, _⟩ => ⟨S1x4x16384x256, .f32⟩
  | .hbm, ⟨13, _⟩ => ⟨S_, .f32⟩
  | .hbm, ⟨14, _⟩ => ⟨S1x4x16384x256, .f32⟩
  | .hbm, ⟨15, _⟩ => ⟨S1x4x16384x256, .f32⟩
  | .hbm, ⟨16, _⟩ => ⟨S_, .f32⟩
  | .hbm, ⟨17, _⟩ => ⟨S1x4x16384, .f32⟩
  | .hbm, ⟨18, _⟩ => ⟨S_, .f32⟩
  | .hbm, ⟨19, _⟩ => ⟨S1x4x16384, .f32⟩
  | .hbm, ⟨20, _⟩ => ⟨S1x4x16384, .f32⟩
  | .hbm, ⟨21, _⟩ => ⟨S1x4x16384x1, .f32⟩
  | .hbm, ⟨22, _⟩ => ⟨S1x4x16384x256, .f32⟩
  | .hbm, ⟨23, _⟩ => ⟨S1x4x16384x256, .f32⟩
  | .hbm, ⟨24, _⟩ => ⟨S1x4x16384x256, .f32⟩
  | .hbm, ⟨25, _⟩ => ⟨S_, .f32⟩
  | .hbm, ⟨26, _⟩ => ⟨S1x4x16384, .f32⟩
  | .hbm, ⟨27, _⟩ => ⟨S1x4x16384x1, .f32⟩
  | .hbm, ⟨28, _⟩ => ⟨S1x4x16384x256, .f32⟩
  | .hbm, ⟨29, _⟩ => ⟨S1x4x16384x256, .f32⟩
  | .hbm, ⟨30, _⟩ => ⟨S1x4x128x16384, .f32⟩
  | .hbm, ⟨31, _⟩ => ⟨S1x16384x4x128, .f32⟩
  | .hbm, ⟨32, _⟩ => ⟨S16384x512, .f32⟩
  | _, _ => ⟨S1x16384x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== EvenTail.lean ====
abbrev S1x16384x9216 : Shape := ⟨3, ![1, 16384, 9216]⟩
abbrev S1x16384x1024 : Shape := ⟨3, ![1, 16384, 1024]⟩
abbrev S1x16384x512 : Shape := ⟨3, ![1, 16384, 512]⟩
abbrev S1x16384x2048 : Shape := ⟨3, ![1, 16384, 2048]⟩
abbrev S2x3x1024 : Shape := ⟨3, ![2, 3, 1024]⟩
abbrev S2x1024 : Shape := ⟨2, ![2, 1024]⟩
abbrev S4x2560x2048 : Shape := ⟨3, ![4, 2560, 2048]⟩
abbrev S4x2048 : Shape := ⟨2, ![4, 2048]⟩
abbrev S_ : Shape := ⟨0, ![]⟩
abbrev S1x1x8x1024 : Shape := ⟨4, ![1, 1, 8, 1024]⟩
abbrev S1x16384x2560 : Shape := ⟨3, ![1, 16384, 2560]⟩
abbrev S1x16384x6144 : Shape := ⟨3, ![1, 16384, 6144]⟩
abbrev S16384x9216 : Shape := ⟨2, ![16384, 9216]⟩
abbrev S16384x1024 : Shape := ⟨2, ![16384, 1024]⟩
abbrev S16384x512 : Shape := ⟨2, ![16384, 512]⟩
abbrev S16384x2048 : Shape := ⟨2, ![16384, 2048]⟩
abbrev S2x1x1024 : Shape := ⟨3, ![2, 1, 1024]⟩
abbrev S4x1x2048 : Shape := ⟨3, ![4, 1, 2048]⟩
abbrev S1x8x1024 : Shape := ⟨3, ![1, 8, 1024]⟩
abbrev S256x2560 : Shape := ⟨2, ![256, 2560]⟩
abbrev S256x1024 : Shape := ⟨2, ![256, 1024]⟩
abbrev S256x512 : Shape := ⟨2, ![256, 512]⟩
abbrev S1x3x1024 : Shape := ⟨3, ![1, 3, 1024]⟩
abbrev S1x1x1024 : Shape := ⟨3, ![1, 1, 1024]⟩
abbrev S256x2048 : Shape := ⟨2, ![256, 2048]⟩
abbrev S1x2560x2048 : Shape := ⟨3, ![1, 2560, 2048]⟩
abbrev S1x1x2048 : Shape := ⟨3, ![1, 1, 2048]⟩
abbrev S8x1024 : Shape := ⟨2, ![8, 1024]⟩
abbrev S128x1024 : Shape := ⟨2, ![128, 1024]⟩
abbrev S1x1024 : Shape := ⟨2, ![1, 1024]⟩
abbrev S120x1024 : Shape := ⟨2, ![120, 1024]⟩
abbrev S128x2560 : Shape := ⟨2, ![128, 2560]⟩
abbrev S128x512 : Shape := ⟨2, ![128, 512]⟩
abbrev S1x1024x2048 : Shape := ⟨3, ![1, 1024, 2048]⟩
abbrev S1024x2048 : Shape := ⟨2, ![1024, 2048]⟩
abbrev S128x2048 : Shape := ⟨2, ![128, 2048]⟩
abbrev S1x512x2048 : Shape := ⟨3, ![1, 512, 2048]⟩
abbrev S512x2048 : Shape := ⟨2, ![512, 2048]⟩
abbrev S128 : Shape := ⟨1, ![128]⟩
abbrev S128x1 : Shape := ⟨2, ![128, 1]⟩
abbrev S1x2048 : Shape := ⟨2, ![1, 2048]⟩

abbrev nBuf : Space → Nat
  | .hbm => 27
  | .vmem => 28
  | .smem => 0
  | _ => 0

abbrev bufTy : (tb : Table) → Fin (tcTables nBuf tb) → BufTy
  | .hbm, ⟨0, _⟩ => ⟨S1x16384x9216, .f32⟩
  | .hbm, ⟨1, _⟩ => ⟨S1x16384x1024, .f32⟩
  | .hbm, ⟨2, _⟩ => ⟨S1x16384x512, .f32⟩
  | .hbm, ⟨3, _⟩ => ⟨S1x16384x2048, .f32⟩
  | .hbm, ⟨4, _⟩ => ⟨S2x3x1024, .f32⟩
  | .hbm, ⟨5, _⟩ => ⟨S2x1024, .f32⟩
  | .hbm, ⟨6, _⟩ => ⟨S4x2560x2048, .f32⟩
  | .hbm, ⟨7, _⟩ => ⟨S4x2048, .f32⟩
  | .hbm, ⟨8, _⟩ => ⟨S4x2048, .f32⟩
  | .hbm, ⟨9, _⟩ => ⟨S_, .f32⟩
  | .hbm, ⟨10, _⟩ => ⟨S1x1x8x1024, .f32⟩
  | .hbm, ⟨11, _⟩ => ⟨S1x16384x2560, .f32⟩
  | .hbm, ⟨12, _⟩ => ⟨S1x16384x512, .f32⟩
  | .hbm, ⟨13, _⟩ => ⟨S1x16384x6144, .f32⟩
  | .hbm, ⟨14, _⟩ => ⟨S1x16384x9216, .f32⟩
  | .hbm, ⟨15, _⟩ => ⟨S16384x9216, .f32⟩
  | .hbm, ⟨16, _⟩ => ⟨S16384x1024, .f32⟩
  | .hbm, ⟨17, _⟩ => ⟨S16384x512, .f32⟩
  | .hbm, ⟨18, _⟩ => ⟨S16384x2048, .f32⟩
  | .hbm, ⟨19, _⟩ => ⟨S2x1x1024, .f32⟩
  | .hbm, ⟨20, _⟩ => ⟨S4x2560x2048, .bf16⟩
  | .hbm, ⟨21, _⟩ => ⟨S4x1x2048, .f32⟩
  | .hbm, ⟨22, _⟩ => ⟨S4x1x2048, .f32⟩
  | .hbm, ⟨23, _⟩ => ⟨S16384x2048, .f32⟩
  | .hbm, ⟨24, _⟩ => ⟨S16384x2048, .bf16⟩
  | .hbm, ⟨25, _⟩ => ⟨S16384x2048, .bf16⟩
  | .hbm, ⟨26, _⟩ => ⟨S1x8x1024, .f32⟩
  | .local _ .vmem, ⟨0, _⟩ => ⟨S256x2560, .f32⟩
  | .local _ .vmem, ⟨1, _⟩ => ⟨S256x2560, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x512, .f32⟩
  | .local _ .vmem, ⟨11, _⟩ => ⟨S256x512, .f32⟩
  | .local _ .vmem, ⟨12, _⟩ => ⟨S1x3x1024, .f32⟩
  | .local _ .vmem, ⟨13, _⟩ => ⟨S1x1x1024, .f32⟩
  | .local _ .vmem, ⟨14, _⟩ => ⟨S1x1x8x1024, .f32⟩
  | .local _ .vmem, ⟨15, _⟩ => ⟨S256x2048, .f32⟩
  | .local _ .vmem, ⟨16, _⟩ => ⟨S256x2048, .f32⟩
  | .local _ .vmem, ⟨17, _⟩ => ⟨S1x2560x2048, .bf16⟩
  | .local _ .vmem, ⟨18, _⟩ => ⟨S1x1x2048, .f32⟩
  | .local _ .vmem, ⟨19, _⟩ => ⟨S1x1x2048, .f32⟩
  | .local _ .vmem, ⟨20, _⟩ => ⟨S256x2048, .f32⟩
  | .local _ .vmem, ⟨21, _⟩ => ⟨S256x2048, .f32⟩
  | .local _ .vmem, ⟨22, _⟩ => ⟨S256x2048, .bf16⟩
  | .local _ .vmem, ⟨23, _⟩ => ⟨S256x2048, .bf16⟩
  | .local _ .vmem, ⟨24, _⟩ => ⟨S256x2048, .bf16⟩
  | .local _ .vmem, ⟨25, _⟩ => ⟨S256x2048, .bf16⟩
  | .local _ .vmem, ⟨26, _⟩ => ⟨S1x8x1024, .f32⟩
  | .local _ .vmem, ⟨27, _⟩ => ⟨S1x8x1024, .f32⟩
  | _, _ => ⟨S1x16384x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev main_v13_2 : Ref sig .tc := ⟨.hbm, 25, rfl⟩
abbrev main_v13_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26

abbrev nD : Nat := 1
abbrev τ : Topo := Topo.v7x

variable {F : FTy → Type} [FloatOps F]

abbrev grid0 : Pipeline.Grid := ⟨2, ![1, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c6_i32 : BitVec 32 := 6#32
  let c0_i32 : BitVec 32 := 0#32
  ![v1.toNat, c6_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c7_i32 : BitVec 32 := 7#32
  let c0_i32 : BitVec 32 := 0#32
  ![v1.toNat, c7_i32.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c8_i32 : BitVec 32 := 8#32
  let c0_i32 : BitVec 32 := 0#32
  ![v1.toNat, c8_i32.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x3x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1x8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x2560x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S256x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S256x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 1 → Memref sig .tc .vmem S1x8x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true, false]
-- ==== EvenTailRefIdeal.lean ====
abbrev S1x16384x9216 : Shape := ⟨3, ![1, 16384, 9216]⟩
abbrev S1x16384x1024 : Shape := ⟨3, ![1, 16384, 1024]⟩
abbrev S1x16384x512 : Shape := ⟨3, ![1, 16384, 512]⟩
abbrev S1x16384x2048 : Shape := ⟨3, ![1, 16384, 2048]⟩
abbrev S2x3x1024 : Shape := ⟨3, ![2, 3, 1024]⟩
abbrev S2x1024 : Shape := ⟨2, ![2, 1024]⟩
abbrev S4x2560x2048 : Shape := ⟨3, ![4, 2560, 2048]⟩
abbrev S4x2048 : Shape := ⟨2, ![4, 2048]⟩
abbrev S1x16384x2560 : Shape := ⟨3, ![1, 16384, 2560]⟩
abbrev S_ : Shape := ⟨0, ![]⟩
abbrev S1x2x1024 : Shape := ⟨3, ![1, 2, 1024]⟩
abbrev S1x3x1024 : Shape := ⟨3, ![1, 3, 1024]⟩
abbrev S3x1024 : Shape := ⟨2, ![3, 1024]⟩
abbrev S1x1024 : Shape := ⟨2, ![1, 1024]⟩
abbrev S1024 : Shape := ⟨1, ![1024]⟩
abbrev S1x16386x1024 : Shape := ⟨3, ![1, 16386, 1024]⟩
abbrev S1x1x1024 : Shape := ⟨3, ![1, 1, 1024]⟩
abbrev S1x2560x2048 : Shape := ⟨3, ![1, 2560, 2048]⟩
abbrev S2560x2048 : Shape := ⟨2, ![2560, 2048]⟩
abbrev S1x2048 : Shape := ⟨2, ![1, 2048]⟩
abbrev S2048 : Shape := ⟨1, ![2048]⟩
abbrev S1x16384 : Shape := ⟨2, ![1, 16384]⟩
abbrev S1x16384x1 : Shape := ⟨3, ![1, 16384, 1]⟩
abbrev S1x1x2048 : Shape := ⟨3, ![1, 1, 2048]⟩
abbrev S16384x2048 : Shape := ⟨2, ![16384, 2048]⟩
abbrev S1x8x1024 : Shape := ⟨3, ![1, 8, 1024]⟩

abbrev nBuf : Space → Nat
  | .hbm => 111
  | .vmem => 0
  | .smem => 0
  | _ => 0

abbrev bufTy : (tb : Table) → Fin (tcTables nBuf tb) → BufTy
  | .hbm, ⟨0, _⟩ => ⟨S1x16384x9216, .f32⟩
  | .hbm, ⟨1, _⟩ => ⟨S1x16384x1024, .f32⟩
  | .hbm, ⟨2, _⟩ => ⟨S1x16384x512, .f32⟩
  | .hbm, ⟨3, _⟩ => ⟨S1x16384x2048, .f32⟩
  | .hbm, ⟨4, _⟩ => ⟨S2x3x1024, .f32⟩
  | .hbm, ⟨5, _⟩ => ⟨S2x1024, .f32⟩
  | .hbm, ⟨6, _⟩ => ⟨S4x2560x2048, .f32⟩
  | .hbm, ⟨7, _⟩ => ⟨S4x2048, .f32⟩
  | .hbm, ⟨8, _⟩ => ⟨S4x2048, .f32⟩
  | .hbm, ⟨9, _⟩ => ⟨S1x16384x1024, .f32⟩
  | .hbm, ⟨10, _⟩ => ⟨S1x16384x1024, .f32⟩
  | .hbm, ⟨11, _⟩ => ⟨S1x16384x1024, .f32⟩
  | .hbm, ⟨12, _⟩ => ⟨S1x16384x1024, .f32⟩
  | .hbm, ⟨13, _⟩ => ⟨S1x16384x1024, .f32⟩
  | .hbm, ⟨14, _⟩ => ⟨S1x16384x1024, .f32⟩
  | .hbm, ⟨15, _⟩ => ⟨S1x16384x512, .f32⟩
  | .hbm, ⟨16, _⟩ => ⟨S1x16384x2560, .f32⟩
  | .hbm, ⟨17, _⟩ => ⟨S1x16384x1024, .f32⟩
  | .hbm, ⟨18, _⟩ => ⟨S_, .f32⟩
  | .hbm, ⟨19, _⟩ => ⟨S1x2x1024, .f32⟩
  | .hbm, ⟨20, _⟩ => ⟨S1x3x1024, .f32⟩
  | .hbm, ⟨21, _⟩ => ⟨S3x1024, .f32⟩
  | .hbm, ⟨22, _⟩ => ⟨S1x1024, .f32⟩
  | .hbm, ⟨23, _⟩ => ⟨S1024, .f32⟩
  | .hbm, ⟨24, _⟩ => ⟨S1x16386x1024, .f32⟩
  | .hbm, ⟨25, _⟩ => ⟨S1x16384x1024, .f32⟩
  | .hbm, ⟨26, _⟩ => ⟨S1x1024, .f32⟩
  | .hbm, ⟨27, _⟩ => ⟨S1024, .f32⟩
  | .hbm, ⟨28, _⟩ => ⟨S1x1x1024, .f32⟩
  | .hbm, ⟨29, _⟩ => ⟨S1x16384x1024, .f32⟩
  | .hbm, ⟨30, _⟩ => ⟨S1x16384x1024, .f32⟩
  | .hbm, ⟨31, _⟩ => ⟨S_, .f32⟩
  | .hbm, ⟨32, _⟩ => ⟨S1x16384x1024, .f32⟩
  | .hbm, ⟨33, _⟩ => ⟨S1x16384x1024, .f32⟩
  | .hbm, ⟨34, _⟩ => ⟨S1x16384x1024, .f32⟩
  | .hbm, ⟨35, _⟩ => ⟨S1x1024, .f32⟩
  | .hbm, ⟨36, _⟩ => ⟨S1024, .f32⟩
  | .hbm, ⟨37, _⟩ => ⟨S1x1x1024, .f32⟩
  | .hbm, ⟨38, _⟩ => ⟨S1x16384x1024, .f32⟩
  | .hbm, ⟨39, _⟩ => ⟨S1x16384x1024, .f32⟩
  | .hbm, ⟨40, _⟩ => ⟨S1x16384x1024, .f32⟩
  | .hbm, ⟨41, _⟩ => ⟨S1x16384x1024, .f32⟩
  | .hbm, ⟨42, _⟩ => ⟨S1x1024, .f32⟩
  | .hbm, ⟨43, _⟩ => ⟨S1024, .f32⟩
  | .hbm, ⟨44, _⟩ => ⟨S1x1x1024, .f32⟩
  | .hbm, ⟨45, _⟩ => ⟨S1x16384x1024, .f32⟩
  | .hbm, ⟨46, _⟩ => ⟨S1x16384x1024, .f32⟩
  | .hbm, ⟨47, _⟩ => ⟨S1x16384x1024, .f32⟩
  | .hbm, ⟨48, _⟩ => ⟨S1x1x1024, .f32⟩
  | .hbm, ⟨49, _⟩ => ⟨S1x16384x1024, .f32⟩
  | .hbm, ⟨50, _⟩ => ⟨S1x16384x1024, .f32⟩
  | .hbm, ⟨51, _⟩ => ⟨S1x2x1024, .f32⟩
  | .hbm, ⟨52, _⟩ => ⟨S1x16384x1024, .f32⟩
  | .hbm, ⟨53, _⟩ => ⟨S1x16384x2560, .f32⟩
  | .hbm, ⟨54, _⟩ => ⟨S1x16384x2560, .f32⟩
  | .hbm, ⟨55, _⟩ => ⟨S1x16384x2560, .f32⟩
  | .hbm, ⟨56, _⟩ => ⟨S_, .f32⟩
  | .hbm, ⟨57, _⟩ => ⟨S1x16384x2560, .f32⟩
  | .hbm, ⟨58, _⟩ => ⟨S1x16384x2560, .f32⟩
  | .hbm, ⟨59, _⟩ => ⟨S_, .f32⟩
  | .hbm, ⟨60, _⟩ => ⟨S1x16384x2560, .f32⟩
  | .hbm, ⟨61, _⟩ => ⟨S1x16384x2560, .f32⟩
  | .hbm, ⟨62, _⟩ => ⟨S1x16384x2560, .f32⟩
  | .hbm, ⟨63, _⟩ => ⟨S1x16384x2560, .f32⟩
  | .hbm, ⟨64, _⟩ => ⟨S_, .f32⟩
  | .hbm, ⟨65, _⟩ => ⟨S1x16384x2048, .f32⟩
  | .hbm, ⟨66, _⟩ => ⟨S1x16384x2048, .f32⟩
  | .hbm, ⟨67, _⟩ => ⟨S1x2560x2048, .f32⟩
  | .hbm, ⟨68, _⟩ => ⟨S2560x2048, .f32⟩
  | .hbm, ⟨69, _⟩ => ⟨S1x16384x2048, .f32⟩
  | .hbm, ⟨70, _⟩ => ⟨S1x16384x2048, .f32⟩
  | .hbm, ⟨71, _⟩ => ⟨S1x2048, .f32⟩
  | .hbm, ⟨72, _⟩ => ⟨S2048, .f32⟩
  | .hbm, ⟨73, _⟩ => ⟨S1x2048, .f32⟩
  | .hbm, ⟨74, _⟩ => ⟨S2048, .f32⟩
  | .hbm, ⟨75, _⟩ => ⟨S_, .f32⟩
  | .hbm, ⟨76, _⟩ => ⟨S1x16384, .f32⟩
  | .hbm, ⟨77, _⟩ => ⟨S1x16384x1, .f32⟩
  | .hbm, ⟨78, _⟩ => ⟨S_, .f32⟩
  | .hbm, ⟨79, _⟩ => ⟨S1x16384x1, .f32⟩
  | .hbm, ⟨80, _⟩ => ⟨S1x16384x1, .f32⟩
  | .hbm, ⟨81, _⟩ => ⟨S1x16384x2048, .f32⟩
  | .hbm, ⟨82, _⟩ => ⟨S1x16384x2048, .f32⟩
  | .hbm, ⟨83, _⟩ => ⟨S1x16384x2048, .f32⟩
  | .hbm, ⟨84, _⟩ => ⟨S_, .f32⟩
  | .hbm, ⟨85, _⟩ => ⟨S1x16384, .f32⟩
  | .hbm, ⟨86, _⟩ => ⟨S1x16384x1, .f32⟩
  | .hbm, ⟨87, _⟩ => ⟨S_, .f32⟩
  | .hbm, ⟨88, _⟩ => ⟨S1x16384x1, .f32⟩
  | .hbm, ⟨89, _⟩ => ⟨S1x16384x1, .f32⟩
  | .hbm, ⟨90, _⟩ => ⟨S1x16384x2048, .f32⟩
  | .hbm, ⟨91, _⟩ => ⟨S1x16384x2048, .f32⟩
  | .hbm, ⟨92, _⟩ => ⟨S_, .f32⟩
  | .hbm, ⟨93, _⟩ => ⟨S1x16384x1, .f32⟩
  | .hbm, ⟨94, _⟩ => ⟨S1x16384x1, .f32⟩
  | .hbm, ⟨95, _⟩ => ⟨S1x16384x1, .f32⟩
  | .hbm, ⟨96, _⟩ => ⟨S1x16384x2048, .f32⟩
  | .hbm, ⟨97, _⟩ => ⟨S1x16384x2048, .f32⟩
  | .hbm, ⟨98, _⟩ => ⟨S1x1x2048, .f32⟩
  | .hbm, ⟨99, _⟩ => ⟨S1x16384x2048, .f32⟩
  | .hbm, ⟨100, _⟩ => ⟨S1x16384x2048, .f32⟩
  | .hbm, ⟨101, _⟩ => ⟨S1x1x2048, .f32⟩
  | .hbm, ⟨102, _⟩ => ⟨S1x16384x2048, .f32⟩
  | .hbm, ⟨103, _⟩ => ⟨S1x16384x2048, .f32⟩
  | .hbm, ⟨104, _⟩ => ⟨S16384x2048, .f32⟩
  | .hbm, ⟨105, _⟩ => ⟨S16384x2048, .bf16⟩
  | .hbm, ⟨106, _⟩ => ⟨S16384x2048, .f32⟩
  | .hbm, ⟨107, _⟩ => ⟨S16384x2048, .f32⟩
  | .hbm, ⟨108, _⟩ => ⟨S16384x2048, .bf16⟩
  | .hbm, ⟨109, _⟩ => ⟨S1x16384x1024, .f32⟩
  | .hbm, ⟨110, _⟩ => ⟨S1x8x1024, .f32⟩
  | _, _ => ⟨S1x16384x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_call0_v5 : Ref sig .tc := ⟨.hbm, 61, rfl⟩
abbrev main_v43 : Ref sig .tc := ⟨.hbm, 62, rfl⟩
abbrev main_v44 : Ref sig .tc := ⟨.hbm, 63, rfl⟩
abbrev main_cst_1 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_2 : Ref sig .tc := ⟨.hbm, 75, rfl⟩
abbrev main_v55 : Ref sig .tc := ⟨.hbm, 76, rfl⟩
abbrev main_v56 : Ref sig .tc := ⟨.hbm, 77, rfl⟩
abbrev main_cst_3 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_4 : Ref sig .tc := ⟨.hbm, 84, rfl⟩
abbrev main_v62 : Ref sig .tc := ⟨.hbm, 85, rfl⟩
abbrev main_v63 : Ref sig .tc := ⟨.hbm, 86, rfl⟩
abbrev main_cst_5 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_6 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩

abbrev nD : Nat := 1
abbrev τ : Topo := Topo.v7x

variable {F : FTy → Type} [FloatOps F]
-- ==== Ssd.lean ====
abbrev S32x16x8736 : Shape := ⟨3, ![32, 16, 8736]⟩
abbrev S2x4x1536 : Shape := ⟨3, ![2, 4, 1536]⟩
abbrev S2x1536 : Shape := ⟨2, ![2, 1536]⟩
abbrev S2x16 : Shape := ⟨2, ![2, 16]⟩
abbrev S2x32x16x64x128 : Shape := ⟨5, ![2, 32, 16, 64, 128]⟩
abbrev S2x32x3x1536 : Shape := ⟨4, ![2, 32, 3, 1536]⟩
abbrev S32x16x2560 : Shape := ⟨3, ![32, 16, 2560]⟩
abbrev S32x16x512 : Shape := ⟨3, ![32, 16, 512]⟩
abbrev S32x16x4096 : Shape := ⟨3, ![32, 16, 4096]⟩
abbrev S32x16x1536 : Shape := ⟨3, ![32, 16, 1536]⟩
abbrev S32x16x8704 : Shape := ⟨3, ![32, 16, 8704]⟩
abbrev S512x8704 : Shape := ⟨2, ![512, 8704]⟩
abbrev S32x16x16 : Shape := ⟨3, ![32, 16, 16]⟩
abbrev S_ : Shape := ⟨0, ![]⟩
abbrev S32x16x96 : Shape := ⟨3, ![32, 16, 96]⟩
abbrev S32x16x128 : Shape := ⟨3, ![32, 16, 128]⟩
abbrev S512x128 : Shape := ⟨2, ![512, 128]⟩
abbrev S512x32 : Shape := ⟨2, ![512, 32]⟩
abbrev S32x16x32 : Shape := ⟨3, ![32, 16, 32]⟩
abbrev S32x32x16 : Shape := ⟨3, ![32, 32, 16]⟩
abbrev S2x4x1024 : Shape := ⟨3, ![2, 4, 1024]⟩
abbrev S2x4x512 : Shape := ⟨3, ![2, 4, 512]⟩
abbrev S2x1024 : Shape := ⟨2, ![2, 1024]⟩
abbrev S2x1x1024 : Shape := ⟨3, ![2, 1, 1024]⟩
abbrev S2x512 : Shape := ⟨2, ![2, 512]⟩
abbrev S2x1x512 : Shape := ⟨3, ![2, 1, 512]⟩
abbrev S2x1x16 : Shape := ⟨3, ![2, 1, 16]⟩
abbrev S2x16x1 : Shape := ⟨3, ![2, 16, 1]⟩
abbrev S2x16x64 : Shape := ⟨3, ![2, 16, 64]⟩
abbrev S2x32x5x1536 : Shape := ⟨4, ![2, 32, 5, 1536]⟩
abbrev S2x32x8x1536 : Shape := ⟨4, ![2, 32, 8, 1536]⟩
abbrev S2x32x8x1024 : Shape := ⟨4, ![2, 32, 8, 1024]⟩
abbrev S2x32x8x512 : Shape := ⟨4, ![2, 32, 8, 512]⟩
abbrev S512x1024 : Shape := ⟨2, ![512, 1024]⟩
abbrev S32x16x64x128 : Shape := ⟨4, ![32, 16, 64, 128]⟩
abbrev S32x8x1024 : Shape := ⟨3, ![32, 8, 1024]⟩
abbrev S32x8x512 : Shape := ⟨3, ![32, 8, 512]⟩
abbrev S16x1024 : Shape := ⟨2, ![16, 1024]⟩
abbrev S16x512 : Shape := ⟨2, ![16, 512]⟩
abbrev S16x128 : Shape := ⟨2, ![16, 128]⟩
abbrev S1x32x16 : Shape := ⟨3, ![1, 32, 16]⟩
abbrev S1x4x1024 : Shape := ⟨3, ![1, 4, 1024]⟩
abbrev S1x4x512 : Shape := ⟨3, ![1, 4, 512]⟩
abbrev S1x1x1024 : Shape := ⟨3, ![1, 1, 1024]⟩
abbrev S1x1x512 : Shape := ⟨3, ![1, 1, 512]⟩
abbrev S1x1x16 : Shape := ⟨3, ![1, 1, 16]⟩
abbrev S1x16x1 : Shape := ⟨3, ![1, 16, 1]⟩
abbrev S1x1x8x1024 : Shape := ⟨4, ![1, 1, 8, 1024]⟩
abbrev S1x1x8x512 : Shape := ⟨4, ![1, 1, 8, 512]⟩
abbrev S1x1x16x64x128 : Shape := ⟨5, ![1, 1, 16, 64, 128]⟩
abbrev S1x16x64x128 : Shape := ⟨4, ![1, 16, 64, 128]⟩
abbrev S1x8x1024 : Shape := ⟨3, ![1, 8, 1024]⟩
abbrev S1x8x512 : Shape := ⟨3, ![1, 8, 512]⟩
abbrev S8x1024 : Shape := ⟨2, ![8, 1024]⟩
abbrev S8x512 : Shape := ⟨2, ![8, 512]⟩
abbrev S1x1024 : Shape := ⟨2, ![1, 1024]⟩
abbrev S1x512 : Shape := ⟨2, ![1, 512]⟩
abbrev S16x16 : Shape := ⟨2, ![16, 16]⟩
abbrev S1x16x16 : Shape := ⟨3, ![1, 16, 16]⟩
abbrev S1x16 : Shape := ⟨2, ![1, 16]⟩
abbrev S16x1 : Shape := ⟨2, ![16, 1]⟩
abbrev S16x64 : Shape := ⟨2, ![16, 64]⟩
abbrev S1x1x64x128 : Shape := ⟨4, ![1, 1, 64, 128]⟩
abbrev S64x128 : Shape := ⟨2, ![64, 128]⟩
abbrev S1x1x64 : Shape := ⟨3, ![1, 1, 64]⟩
abbrev S1x64 : Shape := ⟨2, ![1, 64]⟩
abbrev S1x1 : Shape := ⟨2, ![1, 1]⟩

abbrev nBuf : Space → Nat
  | .hbm => 42
  | .vmem => 31
  | .smem => 0
  | _ => 0

abbrev bufTy : (tb : Table) → Fin (tcTables nBuf tb) → BufTy
  | .hbm, ⟨0, _⟩ => ⟨S32x16x8736, .f32⟩
  | .hbm, ⟨1, _⟩ => ⟨S2x4x1536, .f32⟩
  | .hbm, ⟨2, _⟩ => ⟨S2x1536, .f32⟩
  | .hbm, ⟨3, _⟩ => ⟨S2x16, .f32⟩
  | .hbm, ⟨4, _⟩ => ⟨S2x16, .f32⟩
  | .hbm, ⟨5, _⟩ => ⟨S2x32x16x64x128, .f32⟩
  | .hbm, ⟨6, _⟩ => ⟨S2x32x3x1536, .f32⟩
  | .hbm, ⟨7, _⟩ => ⟨S32x16x2560, .f32⟩
  | .hbm, ⟨8, _⟩ => ⟨S32x16x512, .f32⟩
  | .hbm, ⟨9, _⟩ => ⟨S32x16x4096, .f32⟩
  | .hbm, ⟨10, _⟩ => ⟨S32x16x1536, .f32⟩
  | .hbm, ⟨11, _⟩ => ⟨S32x16x8704, .f32⟩
  | .hbm, ⟨12, _⟩ => ⟨S512x8704, .f32⟩
  | .hbm, ⟨13, _⟩ => ⟨S32x16x16, .f32⟩
  | .hbm, ⟨14, _⟩ => ⟨S32x16x16, .f32⟩
  | .hbm, ⟨15, _⟩ => ⟨S_, .f32⟩
  | .hbm, ⟨16, _⟩ => ⟨S32x16x96, .f32⟩
  | .hbm, ⟨17, _⟩ => ⟨S32x16x128, .f32⟩
  | .hbm, ⟨18, _⟩ => ⟨S512x128, .f32⟩
  | .hbm, ⟨19, _⟩ => ⟨S512x32, .f32⟩
  | .hbm, ⟨20, _⟩ => ⟨S32x16x32, .f32⟩
  | .hbm, ⟨21, _⟩ => ⟨S32x32x16, .f32⟩
  | .hbm, ⟨22, _⟩ => ⟨S2x4x1024, .f32⟩
  | .hbm, ⟨23, _⟩ => ⟨S2x4x512, .f32⟩
  | .hbm, ⟨24, _⟩ => ⟨S2x1024, .f32⟩
  | .hbm, ⟨25, _⟩ => ⟨S2x1x1024, .f32⟩
  | .hbm, ⟨26, _⟩ => ⟨S2x512, .f32⟩
  | .hbm, ⟨27, _⟩ => ⟨S2x1x512, .f32⟩
  | .hbm, ⟨28, _⟩ => ⟨S2x1x16, .f32⟩
  | .hbm, ⟨29, _⟩ => ⟨S2x16x1, .f32⟩
  | .hbm, ⟨30, _⟩ => ⟨S2x16x64, .f32⟩
  | .hbm, ⟨31, _⟩ => ⟨S2x1024, .f32⟩
  | .hbm, ⟨32, _⟩ => ⟨S2x1x1024, .f32⟩
  | .hbm, ⟨33, _⟩ => ⟨S_, .f32⟩
  | .hbm, ⟨34, _⟩ => ⟨S2x32x5x1536, .f32⟩
  | .hbm, ⟨35, _⟩ => ⟨S2x32x8x1536, .f32⟩
  | .hbm, ⟨36, _⟩ => ⟨S2x32x8x1024, .f32⟩
  | .hbm, ⟨37, _⟩ => ⟨S2x32x8x512, .f32⟩
  | .hbm, ⟨38, _⟩ => ⟨S512x1024, .f32⟩
  | .hbm, ⟨39, _⟩ => ⟨S32x16x64x128, .f32⟩
  | .hbm, ⟨40, _⟩ => ⟨S32x8x1024, .f32⟩
  | .hbm, ⟨41, _⟩ => ⟨S32x8x512, .f32⟩
  | .local _ .vmem, ⟨0, _⟩ => ⟨S16x1024, .f32⟩
  | .local _ .vmem, ⟨1, _⟩ => ⟨S16x1024, .f32⟩
  | .local _ .vmem, ⟨2, _⟩ => ⟨S16x512, .f32⟩
  | .local _ .vmem, ⟨3, _⟩ => ⟨S16x512, .f32⟩
  | .local _ .vmem, ⟨4, _⟩ => ⟨S16x128, .f32⟩
  | .local _ .vmem, ⟨5, _⟩ => ⟨S16x128, .f32⟩
  | .local _ .vmem, ⟨6, _⟩ => ⟨S1x32x16, .f32⟩
  | .local _ .vmem, ⟨7, _⟩ => ⟨S1x32x16, .f32⟩
  | .local _ .vmem, ⟨8, _⟩ => ⟨S1x4x1024, .f32⟩
  | .local _ .vmem, ⟨9, _⟩ => ⟨S1x4x512, .f32⟩
  | .local _ .vmem, ⟨10, _⟩ => ⟨S1x1x1024, .f32⟩
  | .local _ .vmem, ⟨11, _⟩ => ⟨S1x1x512, .f32⟩
  | .local _ .vmem, ⟨12, _⟩ => ⟨S1x1x16, .f32⟩
  | .local _ .vmem, ⟨13, _⟩ => ⟨S1x16x1, .f32⟩
  | .local _ .vmem, ⟨14, _⟩ => ⟨S1x1x1024, .f32⟩
  | .local _ .vmem, ⟨15, _⟩ => ⟨S1x1x8x1024, .f32⟩
  | .local _ .vmem, ⟨16, _⟩ => ⟨S1x1x8x1024, .f32⟩
  | .local _ .vmem, ⟨17, _⟩ => ⟨S1x1x8x512, .f32⟩
  | .local _ .vmem, ⟨18, _⟩ => ⟨S1x1x8x512, .f32⟩
  | .local _ .vmem, ⟨19, _⟩ => ⟨S1x1x16x64x128, .f32⟩
  | .local _ .vmem, ⟨20, _⟩ => ⟨S1x1x16x64x128, .f32⟩
  | .local _ .vmem, ⟨21, _⟩ => ⟨S16x1024, .f32⟩
  | .local _ .vmem, ⟨22, _⟩ => ⟨S16x1024, .f32⟩
  | .local _ .vmem, ⟨23, _⟩ => ⟨S1x16x64x128, .f32⟩
  | .local _ .vmem, ⟨24, _⟩ => ⟨S1x16x64x128, .f32⟩
  | .local _ .vmem, ⟨25, _⟩ => ⟨S1x8x1024, .f32⟩
  | .local _ .vmem, ⟨26, _⟩ => ⟨S1x8x1024, .f32⟩
  | .local _ .vmem, ⟨27, _⟩ => ⟨S1x8x512, .f32⟩
  | .local _ .vmem, ⟨28, _⟩ => ⟨S1x8x512, .f32⟩
  | .local _ .vmem, ⟨29, _⟩ => ⟨S8x1024, .f32⟩
  | .local _ .vmem, ⟨30, _⟩ => ⟨S8x512, .f32⟩
  | _, _ => ⟨S32x16x8736, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_0 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29_0 : Ref sig .tc := ⟨.hbm, 38, rfl⟩
abbrev main_v29_1 : Ref sig .tc := ⟨.hbm, 39, rfl⟩
abbrev main_v29_2 : Ref sig .tc := ⟨.hbm, 40, rfl⟩
abbrev main_v29_3 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_scratch0 : Ref sig .tc := ⟨.vmem, 29, rfl⟩
abbrev cc0_scratch1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c7_i32 : BitVec 32 := 7#32
  let c0_i32 : BitVec 32 := 0#32
  ![v1.toNat, c7_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c16_i32 : BitVec 32 := 16#32
  let c0_i32 : BitVec 32 := 0#32
  ![v1.toNat, c16_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_13 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_14 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x16x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1x8x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x1x16x64x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S16x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x16x64x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x8x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x8x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]
-- ==== SsdRefIdeal.lean ====
abbrev S32x16x8736 : Shape := ⟨3, ![32, 16, 8736]⟩
abbrev S2x4x1536 : Shape := ⟨3, ![2, 4, 1536]⟩
abbrev S2x1536 : Shape := ⟨2, ![2, 1536]⟩
abbrev S2x16 : Shape := ⟨2, ![2, 16]⟩
abbrev S2x32x16x64x128 : Shape := ⟨5, ![2, 32, 16, 64, 128]⟩
abbrev S2x32x3x1536 : Shape := ⟨4, ![2, 32, 3, 1536]⟩
abbrev S32x16x1536 : Shape := ⟨3, ![32, 16, 1536]⟩
abbrev S32x16x16 : Shape := ⟨3, ![32, 16, 16]⟩
abbrev S1x32x3x1536 : Shape := ⟨4, ![1, 32, 3, 1536]⟩
abbrev S32x3x1536 : Shape := ⟨3, ![32, 3, 1536]⟩
abbrev S32x19x1536 : Shape := ⟨3, ![32, 19, 1536]⟩
abbrev S1x32x16x1536 : Shape := ⟨4, ![1, 32, 16, 1536]⟩
abbrev S4x32x16x1536 : Shape := ⟨4, ![4, 32, 16, 1536]⟩
abbrev S1x1536 : Shape := ⟨2, ![1, 1536]⟩
abbrev S1536 : Shape := ⟨1, ![1536]⟩
abbrev S1x4x1536 : Shape := ⟨3, ![1, 4, 1536]⟩
abbrev S4x1536 : Shape := ⟨2, ![4, 1536]⟩
abbrev S1536x32x16 : Shape := ⟨3, ![1536, 32, 16]⟩
abbrev S1x1x1536 : Shape := ⟨3, ![1, 1, 1536]⟩
abbrev S_ : Shape := ⟨0, ![]⟩
abbrev S32x16x1024 : Shape := ⟨3, ![32, 16, 1024]⟩
abbrev S32x16x16x64 : Shape := ⟨4, ![32, 16, 16, 64]⟩
abbrev S32x16x256 : Shape := ⟨3, ![32, 16, 256]⟩
abbrev S32x16x2x128 : Shape := ⟨4, ![32, 16, 2, 128]⟩
abbrev S32x16x2x8x128 : Shape := ⟨5, ![32, 16, 2, 8, 128]⟩
abbrev S32x16x16x128 : Shape := ⟨4, ![32, 16, 16, 128]⟩
abbrev S1x32x16x64x128 : Shape := ⟨5, ![1, 32, 16, 64, 128]⟩
abbrev S32x16x64x128 : Shape := ⟨4, ![32, 16, 64, 128]⟩
abbrev S1x16 : Shape := ⟨2, ![1, 16]⟩
abbrev S16 : Shape := ⟨1, ![16]⟩
abbrev S1x1x16 : Shape := ⟨3, ![1, 1, 16]⟩
abbrev S32x1x16 : Shape := ⟨3, ![32, 1, 16]⟩
abbrev S1x1x16x16 : Shape := ⟨4, ![1, 1, 16, 16]⟩
abbrev S32x16x16x1 : Shape := ⟨4, ![32, 16, 16, 1]⟩
abbrev S32x16x1x16 : Shape := ⟨4, ![32, 16, 1, 16]⟩
abbrev S32x16x16x16 : Shape := ⟨4, ![32, 16, 16, 16]⟩
abbrev S32x16x64x16 : Shape := ⟨4, ![32, 16, 64, 16]⟩
abbrev S32x16 : Shape := ⟨2, ![32, 16]⟩
abbrev S32x16x1x1 : Shape := ⟨4, ![32, 16, 1, 1]⟩
abbrev S16x1 : Shape := ⟨2, ![16, 1]⟩
abbrev S1x1x16x1 : Shape := ⟨4, ![1, 1, 16, 1]⟩
abbrev S512x1024 : Shape := ⟨2, ![512, 1024]⟩
abbrev S32x8x1024 : Shape := ⟨3, ![32, 8, 1024]⟩
abbrev S32x8x512 : Shape := ⟨3, ![32, 8, 512]⟩

abbrev nBuf : Space → Nat
  | .hbm => 120
  | .vmem => 0
  | .smem => 0
  | _ => 0

abbrev bufTy : (tb : Table) → Fin (tcTables nBuf tb) → BufTy
  | .hbm, ⟨0, _⟩ => ⟨S32x16x8736, .f32⟩
  | .hbm, ⟨1, _⟩ => ⟨S2x4x1536, .f32⟩
  | .hbm, ⟨2, _⟩ => ⟨S2x1536, .f32⟩
  | .hbm, ⟨3, _⟩ => ⟨S2x16, .f32⟩
  | .hbm, ⟨4, _⟩ => ⟨S2x16, .f32⟩
  | .hbm, ⟨5, _⟩ => ⟨S2x32x16x64x128, .f32⟩
  | .hbm, ⟨6, _⟩ => ⟨S2x32x3x1536, .f32⟩
  | .hbm, ⟨7, _⟩ => ⟨S32x16x1536, .f32⟩
  | .hbm, ⟨8, _⟩ => ⟨S32x16x16, .f32⟩
  | .hbm, ⟨9, _⟩ => ⟨S1x32x3x1536, .f32⟩
  | .hbm, ⟨10, _⟩ => ⟨S32x3x1536, .f32⟩
  | .hbm, ⟨11, _⟩ => ⟨S32x19x1536, .f32⟩
  | .hbm, ⟨12, _⟩ => ⟨S32x16x1536, .f32⟩
  | .hbm, ⟨13, _⟩ => ⟨S32x16x1536, .f32⟩
  | .hbm, ⟨14, _⟩ => ⟨S32x16x1536, .f32⟩
  | .hbm, ⟨15, _⟩ => ⟨S32x16x1536, .f32⟩
  | .hbm, ⟨16, _⟩ => ⟨S1x32x16x1536, .f32⟩
  | .hbm, ⟨17, _⟩ => ⟨S1x32x16x1536, .f32⟩
  | .hbm, ⟨18, _⟩ => ⟨S1x32x16x1536, .f32⟩
  | .hbm, ⟨19, _⟩ => ⟨S1x32x16x1536, .f32⟩
  | .hbm, ⟨20, _⟩ => ⟨S4x32x16x1536, .f32⟩
  | .hbm, ⟨21, _⟩ => ⟨S1x1536, .f32⟩
  | .hbm, ⟨22, _⟩ => ⟨S1536, .f32⟩
  | .hbm, ⟨23, _⟩ => ⟨S1x4x1536, .f32⟩
  | .hbm, ⟨24, _⟩ => ⟨S4x1536, .f32⟩
  | .hbm, ⟨25, _⟩ => ⟨S1536x32x16, .f32⟩
  | .hbm, ⟨26, _⟩ => ⟨S32x16x1536, .f32⟩
  | .hbm, ⟨27, _⟩ => ⟨S1x1x1536, .f32⟩
  | .hbm, ⟨28, _⟩ => ⟨S32x16x1536, .f32⟩
  | .hbm, ⟨29, _⟩ => ⟨S32x16x1536, .f32⟩
  | .hbm, ⟨30, _⟩ => ⟨S32x16x1536, .f32⟩
  | .hbm, ⟨31, _⟩ => ⟨S32x16x1536, .f32⟩
  | .hbm, ⟨32, _⟩ => ⟨S_, .f32⟩
  | .hbm, ⟨33, _⟩ => ⟨S32x16x1536, .f32⟩
  | .hbm, ⟨34, _⟩ => ⟨S32x16x1536, .f32⟩
  | .hbm, ⟨35, _⟩ => ⟨S32x16x1536, .f32⟩
  | .hbm, ⟨36, _⟩ => ⟨S32x16x1024, .f32⟩
  | .hbm, ⟨37, _⟩ => ⟨S32x16x16x64, .f32⟩
  | .hbm, ⟨38, _⟩ => ⟨S32x16x256, .f32⟩
  | .hbm, ⟨39, _⟩ => ⟨S32x16x2x128, .f32⟩
  | .hbm, ⟨40, _⟩ => ⟨S32x16x2x8x128, .f32⟩
  | .hbm, ⟨41, _⟩ => ⟨S32x16x16x128, .f32⟩
  | .hbm, ⟨42, _⟩ => ⟨S32x16x256, .f32⟩
  | .hbm, ⟨43, _⟩ => ⟨S32x16x2x128, .f32⟩
  | .hbm, ⟨44, _⟩ => ⟨S32x16x2x8x128, .f32⟩
  | .hbm, ⟨45, _⟩ => ⟨S32x16x16x128, .f32⟩
  | .hbm, ⟨46, _⟩ => ⟨S_, .f32⟩
  | .hbm, ⟨47, _⟩ => ⟨S32x16x16, .f32⟩
  | .hbm, ⟨48, _⟩ => ⟨S32x16x16, .f32⟩
  | .hbm, ⟨49, _⟩ => ⟨S32x16x16, .f32⟩
  | .hbm, ⟨50, _⟩ => ⟨S32x16x16, .f32⟩
  | .hbm, ⟨51, _⟩ => ⟨S32x16x16, .f32⟩
  | .hbm, ⟨52, _⟩ => ⟨S32x16x16, .f32⟩
  | .hbm, ⟨53, _⟩ => ⟨S32x16x16, .f32⟩
  | .hbm, ⟨54, _⟩ => ⟨S1x32x16x64x128, .f32⟩
  | .hbm, ⟨55, _⟩ => ⟨S32x16x64x128, .f32⟩
  | .hbm, ⟨56, _⟩ => ⟨S1x16, .f32⟩
  | .hbm, ⟨57, _⟩ => ⟨S16, .f32⟩
  | .hbm, ⟨58, _⟩ => ⟨S16, .f32⟩
  | .hbm, ⟨59, _⟩ => ⟨S16, .f32⟩
  | .hbm, ⟨60, _⟩ => ⟨S1x1x16, .f32⟩
  | .hbm, ⟨61, _⟩ => ⟨S32x16x16, .f32⟩
  | .hbm, ⟨62, _⟩ => ⟨S32x16x16, .f32⟩
  | .hbm, ⟨63, _⟩ => ⟨S_, .f32⟩
  | .hbm, ⟨64, _⟩ => ⟨S_, .f32⟩
  | .hbm, ⟨65, _⟩ => ⟨S32x16x16, .f32⟩
  | .hbm, ⟨66, _⟩ => ⟨S32x1x16, .f32⟩
  | .hbm, ⟨67, _⟩ => ⟨S32x16x16, .f32⟩
  | .hbm, ⟨68, _⟩ => ⟨S1x1x16x16, .i32⟩
  | .hbm, ⟨69, _⟩ => ⟨S1x1x16x16, .i32⟩
  | .hbm, ⟨70, _⟩ => ⟨S1x1x16x16, .i1⟩
  | .hbm, ⟨71, _⟩ => ⟨S32x16x16x1, .f32⟩
  | .hbm, ⟨72, _⟩ => ⟨S32x16x1x16, .f32⟩
  | .hbm, ⟨73, _⟩ => ⟨S32x16x16x16, .f32⟩
  | .hbm, ⟨74, _⟩ => ⟨S32x16x16x16, .f32⟩
  | .hbm, ⟨75, _⟩ => ⟨S32x16x16x16, .f32⟩
  | .hbm, ⟨76, _⟩ => ⟨S_, .f32⟩
  | .hbm, ⟨77, _⟩ => ⟨S_, .f32⟩
  | .hbm, ⟨78, _⟩ => ⟨S32x16x16x16, .i1⟩
  | .hbm, ⟨79, _⟩ => ⟨S32x16x16x16, .f32⟩
  | .hbm, ⟨80, _⟩ => ⟨S32x16x16x16, .f32⟩
  | .hbm, ⟨81, _⟩ => ⟨S32x16x16x16, .f32⟩
  | .hbm, ⟨82, _⟩ => ⟨S32x16x16x16, .f32⟩
  | .hbm, ⟨83, _⟩ => ⟨S32x16x16x16, .f32⟩
  | .hbm, ⟨84, _⟩ => ⟨S32x16x16x1, .f32⟩
  | .hbm, ⟨85, _⟩ => ⟨S32x16x16x64, .f32⟩
  | .hbm, ⟨86, _⟩ => ⟨S32x16x16x64, .f32⟩
  | .hbm, ⟨87, _⟩ => ⟨S32x16x64x16, .f32⟩
  | .hbm, ⟨88, _⟩ => ⟨S32x16x16x64, .f32⟩
  | .hbm, ⟨89, _⟩ => ⟨S32x16x16, .f32⟩
  | .hbm, ⟨90, _⟩ => ⟨S32x16x16x1, .f32⟩
  | .hbm, ⟨91, _⟩ => ⟨S32x16x64x16, .f32⟩
  | .hbm, ⟨92, _⟩ => ⟨S32x16x16x64, .f32⟩
  | .hbm, ⟨93, _⟩ => ⟨S32x16x16x64, .f32⟩
  | .hbm, ⟨94, _⟩ => ⟨S32x16x16x64, .f32⟩
  | .hbm, ⟨95, _⟩ => ⟨S32x16x16x64, .f32⟩
  | .hbm, ⟨96, _⟩ => ⟨S32x16x16, .f32⟩
  | .hbm, ⟨97, _⟩ => ⟨S32x16x16, .f32⟩
  | .hbm, ⟨98, _⟩ => ⟨S32x16x16, .f32⟩
  | .hbm, ⟨99, _⟩ => ⟨S32x16x16, .f32⟩
  | .hbm, ⟨100, _⟩ => ⟨S32x1x16, .f32⟩
  | .hbm, ⟨101, _⟩ => ⟨S32x16, .f32⟩
  | .hbm, ⟨102, _⟩ => ⟨S32x16x1x1, .f32⟩
  | .hbm, ⟨103, _⟩ => ⟨S32x16x64x128, .f32⟩
  | .hbm, ⟨104, _⟩ => ⟨S32x16x64x128, .f32⟩
  | .hbm, ⟨105, _⟩ => ⟨S32x16x16x1, .f32⟩
  | .hbm, ⟨106, _⟩ => ⟨S32x16x16x64, .f32⟩
  | .hbm, ⟨107, _⟩ => ⟨S32x16x16x64, .f32⟩
  | .hbm, ⟨108, _⟩ => ⟨S32x16x64x128, .f32⟩
  | .hbm, ⟨109, _⟩ => ⟨S32x16x64x128, .f32⟩
  | .hbm, ⟨110, _⟩ => ⟨S1x16, .f32⟩
  | .hbm, ⟨111, _⟩ => ⟨S16, .f32⟩
  | .hbm, ⟨112, _⟩ => ⟨S16x1, .f32⟩
  | .hbm, ⟨113, _⟩ => ⟨S1x1x16x1, .f32⟩
  | .hbm, ⟨114, _⟩ => ⟨S32x16x16x64, .f32⟩
  | .hbm, ⟨115, _⟩ => ⟨S32x16x16x64, .f32⟩
  | .hbm, ⟨116, _⟩ => ⟨S32x16x16x64, .f32⟩
  | .hbm, ⟨117, _⟩ => ⟨S512x1024, .f32⟩
  | .hbm, ⟨118, _⟩ => ⟨S32x8x1024, .f32⟩
  | .hbm, ⟨119, _⟩ => ⟨S32x8x512, .f32⟩
  | _, _ => ⟨S32x16x8736, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_0 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_call0_call0_cst : Ref sig .tc := ⟨.hbm, 63, rfl⟩
abbrev main_call0_call0_v0 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_cst_1 : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩

abbrev nD : Nat := 1
abbrev τ : Topo := Topo.v7x

variable {F : FTy → Type} [FloatOps F]
-- ==== Proof.LinearBlocks.lean ====
module

public import proofs.«01_k».proof.Defs
public import proofs.«01_k».proof.Proof.Gen.LinearIdeal.Value
public import Idealize.ShloMosaic.Lib.Pipeline.Value
public import Idealize.ShloMosaic.Lib.Pipeline.ValueKit
public import Idealize.ShloMosaic.Lib.Pointwise

@[expose] public section

set_option maxRecDepth 16384

noncomputable section

namespace Cert.LinearIdeal.Blocks

open Cert.LinearIdeal Cert.LinearIdeal.Gen Idealize.ShloMosaic Idealize.ShloMosaic.TcCoe Idealize.SL.Sem
open Idealize.ShloMosaic.Pipeline (Dat)

variable (m : (ℓ : Loc nD τ sig) → Buf (Elt Ideal) ℓ)

/-- Column `n` of the output is column `src n` of the weights and of the bias: the gate's columns come first, then the
    memory queries', then the rest in their order. -/
def src (n : Nat) : Nat := if n < 2560 then n + 6656 else if n < 3072 then n + 3584 else n - 3072

theorem src_lt {n : Nat} (h : n < 9216) : src n < 9216 := by unfold src; split_ifs <;> omega

/-- The block coordinates of the windows at a grid point. -/
theorem idx_facts : ∀ t : Fin cfg0.N,
    win0_0.index t (0 : Fin 2) = win0_3.index t (0 : Fin 2) ∧ win0_0.index t (1 : Fin 2) = 0
    ∧ win0_1.index t (0 : Fin 3) = 0 ∧ win0_1.index t (1 : Fin 3) = 0
    ∧ win0_1.index t (2 : Fin 3) * 512 = src (win0_3.index t (1 : Fin 2) * 512)
    ∧ win0_2.index t (0 : Fin 3) = 0 ∧ win0_2.index t (1 : Fin 3) = 0
    ∧ win0_2.index t (2 : Fin 3) * 512 = src (win0_3.index t (1 : Fin 2) * 512)
    ∧ win0_3.index t (0 : Fin 2) < 8 ∧ win0_3.index t (1 : Fin 2) < 18 :=
  (by decide +kernel : ∀ t : Fin grid0.N, _)

/-- The three arrays the region reads, as the arguments. -/
theorem V_x (c : Dev nD) : V m c main_v1 = shapeCast S16384x2048 (m ((c : Thread nD τ).loc main_arg0)) shapeCasts_S1x16384x2048_S16384x2048 := by
  dsimp only [V]; after_results; rfl
theorem V_w (c : Dev nD) : V m c main_v2 = (m ((c : Thread nD τ).loc main_arg1)) := by
  dsimp only [V]; after_results; rfl
theorem V_b (c : Dev nD) : V m c main_v3 = broadcastInDim S2x1x9216 ![0, 2] bcast_S2x9216_S2x1x9216_0_2 (m ((c : Thread nD τ).loc main_arg2)) := by
  dsimp only [V]; after_results

/-- The projection at a row and a column of its output. -/
def proj (x : S1x16384x2048.Idx → EReal) (w : S2x2048x9216.Idx → EReal) (b : S2x9216.Idx → EReal) : S16384x9216.Idx → EReal := fun i =>
  (∑ k : Fin 2048, x (ix3 (0 : Fin 1) (i 0) k) * w (ix3 (0 : Fin 2) k ⟨src (i 1).val, src_lt (i 1).isLt⟩))
  + b (ix2 (0 : Fin 2) ⟨src (i 1).val, src_lt (i 1).isLt⟩)

/-- The same of the three arguments a memory holds. -/
def G (c : Dev nD) : Buf (Elt Ideal) ((c : Thread nD τ).loc main_v4) :=
  proj (m ((c : Thread nD τ).loc main_arg0)) (m ((c : Thread nD τ).loc main_arg1)) (m ((c : Thread nD τ).loc main_arg2))

theorem rows_apply {α : Type} (x : S1x16384x2048.Idx → α) (h : S1x16384x2048.ShapeCasts S16384x2048) (i : S16384x2048.Idx) :
    shapeCast S16384x2048 x h i = x (ix3 (0 : Fin 1) (i 0) (i 1)) :=
  shapeCast_apply x h i (ix3 (0 : Fin 1) (i 0) (i 1))
    (by rewrite [Shape.rowMajor_val_three, Shape.rowMajor_val_two]; show (0 * 16384 + (i 0).val) * 2048 + (i 1).val = (i 0).val * 2048 + (i 1).val; omega)

/-- The three arrays at an index. -/
theorem V_x_apply (c : Dev nD) (i : S16384x2048.Idx) : (V m c main_v1 : S16384x2048.Idx → EReal) i
    = (m ((c : Thread nD τ).loc main_arg0) : S1x16384x2048.Idx → EReal) (ix3 (0 : Fin 1) (i 0) (i 1)) := by
  rw [V_x]
  exact rows_apply _ _ i
theorem V_b_apply (c : Dev nD) (i : S2x1x9216.Idx) : (V m c main_v3 : S2x1x9216.Idx → EReal) i
    = (m ((c : Thread nD τ).loc main_arg2) : S2x9216.Idx → EReal) (ix2 (i 0) (i 2)) := by
  rw [V_b]
  generalize (m ((c : Thread nD τ).loc main_arg2)) = x
  pointwise

/-- Where an index of a block lies in its array, axis by axis. -/
theorem emb0_0 (t : Fin cfg0.N) (z : (win0_0.rect t).shape.Idx) :
    ((win0_0.rect t).emb z 0 : Nat) = win0_0.index t (0 : Fin 2) * 2048 + (z 0 : Nat) :=
  ValueKit.rect_emb_unit_val _ _ _ z (0 : Fin 2)
theorem emb0_1 (t : Fin cfg0.N) (z : (win0_0.rect t).shape.Idx) :
    ((win0_0.rect t).emb z 1 : Nat) = win0_0.index t (1 : Fin 2) * 2048 + (z 1 : Nat) :=
  ValueKit.rect_emb_unit_val _ _ _ z (1 : Fin 2)
theorem emb1_0 (t : Fin cfg0.N) (z : (win0_1.rect t).shape.Idx) :
    ((win0_1.rect t).emb z 0 : Nat) = win0_1.index t (0 : Fin 3) * 1 + (z 0 : Nat) :=
  ValueKit.rect_emb_unit_val _ _ _ z (0 : Fin 3)
theorem emb1_1 (t : Fin cfg0.N) (z : (win0_1.rect t).shape.Idx) :
    ((win0_1.rect t).emb z 1 : Nat) = win0_1.index t (1 : Fin 3) * 2048 + (z 1 : Nat) :=
  ValueKit.rect_emb_unit_val _ _ _ z (1 : Fin 3)
theorem emb1_2 (t : Fin cfg0.N) (z : (win0_1.rect t).shape.Idx) :
    ((win0_1.rect t).emb z 2 : Nat) = win0_1.index t (2 : Fin 3) * 512 + (z 2 : Nat) :=
  ValueKit.rect_emb_unit_val _ _ _ z (2 : Fin 3)
theorem emb2_0 (t : Fin cfg0.N) (z : (win0_2.rect t).shape.Idx) :
    ((win0_2.rect t).emb z 0 : Nat) = win0_2.index t (0 : Fin 3) * 1 + (z 0 : Nat) :=
  ValueKit.rect_emb_unit_val _ _ _ z (0 : Fin 3)
theorem emb2_1 (t : Fin cfg0.N) (z : (win0_2.rect t).shape.Idx) :
    ((win0_2.rect t).emb z 1 : Nat) = win0_2.index t (1 : Fin 3) * 1 + (z 1 : Nat) :=
  ValueKit.rect_emb_unit_val _ _ _ z (1 : Fin 3)
theorem emb2_2 (t : Fin cfg0.N) (z : (win0_2.rect t).shape.Idx) :
    ((win0_2.rect t).emb z 2 : Nat) = win0_2.index t (2 : Fin 3) * 512 + (z 2 : Nat) :=
  ValueKit.rect_emb_unit_val _ _ _ z (2 : Fin 3)
theorem emb3_0 (t : Fin cfg0.N) (z : (win0_3.rect t).shape.Idx) :
    ((win0_3.rect t).emb z 0 : Nat) = win0_3.index t (0 : Fin 2) * 2048 + (z 0 : Nat) :=
  ValueKit.rect_emb_unit_val _ _ _ z (0 : Fin 2)
theorem emb3_1 (t : Fin cfg0.N) (z : (win0_3.rect t).shape.Idx) :
    ((win0_3.rect t).emb z 1 : Nat) = win0_3.index t (1 : Fin 2) * 512 + (z 1 : Nat) :=
  ValueKit.rect_emb_unit_val _ _ _ z (1 : Fin 2)

/-- After the run the result array holds the projection. -/
theorem final (c : Dev nD) : (dats m 0 c).arrAt 3 cfg0.N = G m c := by
  refine (dats m 0 c).arrAt_eq_of_covers 3 _ (by decide +kernel) fun t hf y => ?_
  blk_simp
  rw [after0_3]; frame_out
  obtain ⟨e00, e01, e10, e11, e12, e20, e21, e22, l0, l1⟩ := idx_facts t
  have hy1 : (y 1 : Nat) < 512 := (y 1).isLt
  have hs : src (win0_3.index t (1 : Fin 2) * 512 + (y 1 : Nat)) = src (win0_3.index t (1 : Fin 2) * 512) + (y 1 : Nat) := by
    unfold src; split_ifs <;> omega
  unfold G proj
  pointwise [k0_pay1]
  refine congrArg₂ (· + ·) (Finset.sum_congr rfl fun k _ => congrArg₂ (· * ·) ?_ ?_) ?_
  · refine (V_x_apply m c ((win0_0.rect t).emb (ix2 (y 0) k))).trans (congrArg _ (funext fun a => ?_))
    fin_cases a
    · rfl
    · exact Fin.ext ((emb0_0 t _).trans ((congrArg (· * 2048 + (y 0 : Nat)) e00).trans (emb3_0 t y).symm))
    · exact Fin.ext ((emb0_1 t _).trans (by rw [e01]; exact Nat.zero_add _))
  · refine (congrFun (V_w m c) ((win0_1.rect t).emb (ix3 0 k (y 1)))).trans (congrArg _ (funext fun a => ?_))
    fin_cases a
    · exact Fin.ext ((emb1_0 t _).trans (by rw [e10]; exact Nat.zero_add _))
    · exact Fin.ext ((emb1_1 t _).trans (by rw [e11]; exact Nat.zero_add _))
    · refine Fin.ext ((emb1_2 t _).trans ?_)
      show _ = src ((win0_3.rect t).emb y 1 : Nat)
      rw [emb3_1, hs, ← e12]; refine congrArg (fun q : Nat => win0_1.index t (2 : Fin 3) * 512 + q) (show ((ix3 (0 : Fin 1) k (y 1) : S1x2048x512.Idx) 2 : Nat) = (y 1 : Nat) from rfl)
  · refine (V_b_apply m c ((win0_2.rect t).emb (ix3 0 0 (y 1)))).trans (congrArg _ (funext fun a => ?_))
    fin_cases a
    · exact Fin.ext ((emb2_0 t _).trans (by rw [e20]; exact Nat.zero_add _))
    · refine Fin.ext ((emb2_2 t _).trans ?_)
      show _ = src ((win0_3.rect t).emb y 1 : Nat)
      rw [emb3_1, hs, ← e22]; refine congrArg (fun q : Nat => win0_2.index t (2 : Fin 3) * 512 + q) (show ((ix3 (0 : Fin 1) (0 : Fin 1) (y 1) : S1x1x512.Idx) 2 : Nat) = (y 1 : Nat) from rfl)

end Cert.LinearIdeal.Blocks

end
-- ==== Proof.LinearRefRead.lean ====
module

public import proofs.«01_k».proof.Proof.LinearBlocks
public import proofs.«01_k».proof.Proof.Gen.LinearRefIdeal.Read

@[expose] public section

set_option maxRecDepth 16384

noncomputable section

namespace Cert.LinearRefIdeal.Entry

open Cert.LinearRefIdeal Cert.LinearRefIdeal.Gen Cert.LinearRefIdeal.Read Idealize.ShloMosaic Idealize.ShloMosaic.TcCoe Idealize.SL.Sem
open Cert.LinearIdeal.Blocks (src src_lt proj)

variable (x : S1x16384x2048.Idx → EReal) (w : S2x2048x9216.Idx → EReal) (b : S2x9216.Idx → EReal)

/-- One entry of the projection: row `r` of the activations against column `n` of the weights, plus the bias. -/
def entry (r : Fin 16384) (n : Fin 9216) : EReal :=
  (∑ k : Fin 2048, x (ix3 (0 : Fin 1) r k) * w (ix3 (0 : Fin 2) k n)) + b (ix2 (0 : Fin 2) n)

/-- The projection before its columns are put in order. -/
theorem v7_apply (i : S1x16384x9216.Idx) : val_main_v7 (F := Ideal) x w b i = entry x w b (i 1) (i 2) := by
  unfold entry
  have h0 : (i 0).val < 1 := (i 0).isLt
  have h2 : (i 2).val < 9216 := (i 2).isLt
  rw [val_main_v7_apply, val_main_v2_apply, val_main_v6_apply, val_main_v5_apply, val_main_v4_apply, val_main_v3_apply]
  refine congrArg₂ (· + ·) (Finset.sum_congr rfl fun k _ => ?_) (congrArg b ?_)
  · have hk := k.isLt
    rw [val_main_v1_apply, val_main_v0_apply]
    refine congrArg₂ (· * ·) (congrArg x ?_) (congrArg w ?_)
    · funext a; apply Fin.ext; fin_cases a <;> simp <;> omega
    · funext a; apply Fin.ext; fin_cases a <;> simp <;> omega
  · funext a; apply Fin.ext; fin_cases a <;> simp <;> omega

/-- The reference's result is the projection. -/
theorem result (i : S16384x9216.Idx) : val_main_v17 (F := Ideal) x w b i = proj x w b i := by
  have h0 : (i 0).val < 16384 := (i 0).isLt
  have h1 : (i 1).val < 9216 := (i 1).isLt
  have e : idx_main_v17 i = ix3 (0 : Fin 1) (i 0) (i 1) := by
    funext a; apply Fin.ext
    match a with
    | ⟨0, _⟩ => rfl
    | ⟨1, _⟩ => show ((i 0).val * 9216 + (i 1).val) / 9216 % 16384 = (i 0).val; omega
    | ⟨2, _⟩ => show ((i 0).val * 9216 + (i 1).val) % 9216 = (i 1).val; omega
  rw [val_main_v17_apply, e]
  unfold val_main_v16
  pointwise
  simp only [val_main_v8_apply, val_main_v9_apply, val_main_v10_apply, val_main_v11_apply, val_main_v12_apply, val_main_v13_apply, val_main_v14_apply, val_main_v15_apply, v7_apply]
  show _ = entry x w b (i 0) ⟨src (i 1).val, src_lt (i 1).isLt⟩
  have hs : ((i 1).val < 2560 ∧ src (i 1).val = (i 1).val + 6656) ∨ (2560 ≤ (i 1).val ∧ (i 1).val < 3072 ∧ src (i 1).val = (i 1).val + 3584)
      ∨ (3072 ≤ (i 1).val ∧ src (i 1).val = (i 1).val - 3072) := by unfold src; split_ifs <;> omega
  have fin2 : ∀ n n' : Fin 9216, n.val = n'.val → entry x w b (i 0) n = entry x w b (i 0) n' := fun n n' h => congrArg _ (Fin.ext h)
  by_cases c0 : (i 1).val < 2560
  · rw [dif_pos c0]; exact fin2 _ _ ((show _ = 6656 + ((i 1).val) from rfl).trans (by show _ = src (i 1).val; omega))
  rw [dif_neg c0]
  by_cases c1 : (i 1).val - 2560 < 512
  · rw [dif_pos c1]; exact fin2 _ _ ((show _ = 6144 + ((i 1).val - 2560) from rfl).trans (by show _ = src (i 1).val; omega))
  rw [dif_neg c1]
  by_cases c2 : (i 1).val - 2560 - 512 < 1024
  · rw [dif_pos c2]; exact fin2 _ _ ((show _ = 0 + ((i 1).val - 2560 - 512) from (Nat.zero_add _).symm).trans (by show _ = src (i 1).val; omega))
  rw [dif_neg c2]
  by_cases c3 : (i 1).val - 2560 - 512 - 1024 < 1024
  · rw [dif_pos c3]; exact fin2 _ _ ((show _ = 1024 + ((i 1).val - 2560 - 512 - 1024) from rfl).trans (by show _ = src (i 1).val; omega))
  rw [dif_neg c3]
  by_cases c4 : (i 1).val - 2560 - 512 - 1024 - 1024 < 1024
  · rw [dif_pos c4]; exact fin2 _ _ ((show _ = 2048 + ((i 1).val - 2560 - 512 - 1024 - 1024) from rfl).trans (by show _ = src (i 1).val; omega))
  rw [dif_neg c4]
  by_cases c5 : (i 1).val - 2560 - 512 - 1024 - 1024 - 1024 < 1024
  · rw [dif_pos c5]; exact fin2 _ _ ((show _ = 3072 + ((i 1).val - 2560 - 512 - 1024 - 1024 - 1024) from rfl).trans (by show _ = src (i 1).val; omega))
  rw [dif_neg c5]
  by_cases c6 : (i 1).val - 2560 - 512 - 1024 - 1024 - 1024 - 1024 < 1024
  · rw [dif_pos c6]; exact fin2 _ _ ((show _ = 4096 + ((i 1).val - 2560 - 512 - 1024 - 1024 - 1024 - 1024) from rfl).trans (by show _ = src (i 1).val; omega))
  rw [dif_neg c6]
  exact fin2 _ _ ((show _ = 5120 + ((i 1).val - 2560 - 512 - 1024 - 1024 - 1024 - 1024 - 1024) from rfl).trans (by show _ = src (i 1).val; omega))

end Cert.LinearRefIdeal.Entry

end
-- ==== Proof.LinearClaims.lean ====
module

public import proofs.«01_k».proof.Proof.LinearRefRead
public import proofs.«01_k».proof.Proof.Gen.Linear.Frame
public import proofs.«01_k».proof.Proof.Gen.LinearRefIdeal.Run
public import Idealize.ShloMosaic.Lib.Quiescent

@[expose] public section

noncomputable section

namespace Cert.LinearClaims

open Idealize.ShloMosaic Idealize.ShloMosaic.TcCoe Idealize.SL.Sem

/-- The kernel and its ideal reading leave their arguments alone and no semaphore raised. -/
theorem frame_k : Cert.quiescent_Linear := fun m ρ _ => Cert.Linear.Gen.frame m ρ
theorem frame_ki : Cert.quiescent_LinearIdeal := fun m ρ _ => Cert.LinearIdeal.Gen.frame m ρ

/-- So does the reference, which has no semaphore. -/
theorem frame_ri : Cert.quiescent_LinearRefIdeal := fun m ρ _ =>
  (θ_run Cert.LinearRefIdeal.defs _ _).mono (fun r h => ⟨fun c => (h c).2, Idealize.ShloMosaic.sem_eq_zero_of_no_sems (by decide) r.2⟩)
    (Cert.LinearRefIdeal.Value.run (F := Ideal) m ρ)

/-- At the ideal reading the kernel's result and the reference's are the same projection of the same arguments. -/
theorem algebraic : Cert.algebraic_LinearIdeal_LinearRefIdeal := by
  intro m ρ m' ρ' _ hag
  refine ⟨fun c => Cert.LinearIdeal.Blocks.G m c, ?_, ?_⟩
  · exact (θ_run Cert.LinearIdeal.defs _ _).mono (fun _ h c => ⟨(h c).1.trans (Cert.LinearIdeal.Blocks.final m c), (h c).2⟩)
      (Cert.LinearIdeal.Value.run_blocks (F := Ideal) m ρ)
  · refine (θ_run Cert.LinearRefIdeal.defs _ _).mono (fun _ h c => ⟨(h c).1.trans ?_, (h c).2⟩)
      (Cert.LinearRefIdeal.Value.run (F := Ideal) m' ρ')
    rw [Cert.LinearRefIdeal.Read.val_main_v17_eq, (hag c).1, (hag c).2.1, (hag c).2.2]
    exact funext fun i => Cert.LinearRefIdeal.Entry.result _ _ _ i

end Cert.LinearClaims

end
-- ==== Proof.MemKvBlocks.lean ====
module

public import proofs.«01_k».proof.Defs
public import proofs.«01_k».proof.Proof.Gen.MemKvIdeal.Value
public import Idealize.ShloMosaic.Lib.Pipeline.Value
public import Idealize.ShloMosaic.Lib.Pipeline.ValueKit
public import Idealize.ShloMosaic.Lib.Pointwise

@[expose] public section

set_option maxRecDepth 256

noncomputable section

namespace Cert.MemKvIdeal.Blocks

open Cert.MemKvIdeal Cert.MemKvIdeal.Gen Idealize.ShloMosaic Idealize.ShloMosaic.TcCoe Idealize.SL.Sem
open Idealize.ShloMosaic.Pipeline (Dat)

variable (m : (ℓ : Loc nD τ sig) → Buf (Elt Ideal) ℓ)

/-- The block coordinates of the windows at a grid point. -/
theorem idx_facts : ∀ t : Fin cfg0.N,
    win0_0.index t (0 : Fin 2) = win0_3.index t (0 : Fin 2) ∧ win0_0.index t (1 : Fin 2) = 0
    ∧ win0_1.index t (0 : Fin 3) = 0 ∧ win0_1.index t (1 : Fin 3) = 0
    ∧ win0_1.index t (2 : Fin 3) = win0_3.index t (1 : Fin 2) :=
  (by decide +kernel : ∀ t : Fin grid0.N, _)

/-- The three arrays the region reads, as the arguments; the third is zero. -/
theorem V_x (c : Dev nD) : V m c main_v2 = shapeCast S256x2048 (m ((c : Thread nD τ).loc main_arg0)) shapeCasts_S1x256x2048_S256x2048 := by
  dsimp only [V]; after_results; rfl
theorem V_w (c : Dev nD) : V m c main_v3 = (m ((c : Thread nD τ).loc main_arg1)) := by
  dsimp only [V]; after_results; rfl
theorem V_b (c : Dev nD) : V m c main_v5 = shapeCast S4x1x1024 (broadcastInDim S1x4x1x1024 ![0, 2, 3] bcast_S1x1x1024_S1x4x1x1024_0_2_3
    (broadcastInDim S1x1x1024 ![] bcast_S_S1x1x1024 (constant (F := Ideal) S_ .f32 0x00000000#32))) shapeCasts_S1x4x1x1024_S4x1x1024 := by
  dsimp only [V]; after_results; rfl

/-- The projection at a row and a column of its output. -/
def proj (x : S1x256x2048.Idx → EReal) (w : S4x2048x1024.Idx → EReal) : S256x1024.Idx → EReal := fun i =>
  ∑ k : Fin 2048, x (ix3 (0 : Fin 1) (i 0) k) * w (ix3 (0 : Fin 4) k (i 1))

/-- The same of the two arguments a memory holds. -/
def G (c : Dev nD) : Buf (Elt Ideal) ((c : Thread nD τ).loc main_v6) :=
  proj (m ((c : Thread nD τ).loc main_arg0)) (m ((c : Thread nD τ).loc main_arg1))

theorem rows_apply {α : Type} (x : S1x256x2048.Idx → α) (h : S1x256x2048.ShapeCasts S256x2048) (i : S256x2048.Idx) :
    shapeCast S256x2048 x h i = x (ix3 (0 : Fin 1) (i 0) (i 1)) :=
  shapeCast_apply x h i (ix3 (0 : Fin 1) (i 0) (i 1))
    (by rewrite [Shape.rowMajor_val_three, Shape.rowMajor_val_two]; show (0 * 256 + (i 0).val) * 2048 + (i 1).val = (i 0).val * 2048 + (i 1).val; omega)

/-- The three arrays at an index. -/
theorem V_x_apply (c : Dev nD) (i : S256x2048.Idx) : (V m c main_v2 : S256x2048.Idx → EReal) i
    = (m ((c : Thread nD τ).loc main_arg0) : S1x256x2048.Idx → EReal) (ix3 (0 : Fin 1) (i 0) (i 1)) := by
  rw [V_x]
  exact rows_apply _ _ i
theorem V_b_apply (c : Dev nD) (i : S4x1x1024.Idx) : (V m c main_v5 : S4x1x1024.Idx → EReal) i = (0 : EReal) := by
  rw [V_b]
  pointwise

/-- Where an index of a block lies in its array, axis by axis. -/
theorem emb0_0 (t : Fin cfg0.N) (z : (win0_0.rect t).shape.Idx) :
    ((win0_0.rect t).emb z 0 : Nat) = win0_0.index t (0 : Fin 2) * 256 + (z 0 : Nat) :=
  ValueKit.rect_emb_unit_val _ _ _ z (0 : Fin 2)
theorem emb0_1 (t : Fin cfg0.N) (z : (win0_0.rect t).shape.Idx) :
    ((win0_0.rect t).emb z 1 : Nat) = win0_0.index t (1 : Fin 2) * 2048 + (z 1 : Nat) :=
  ValueKit.rect_emb_unit_val _ _ _ z (1 : Fin 2)
theorem emb1_0 (t : Fin cfg0.N) (z : (win0_1.rect t).shape.Idx) :
    ((win0_1.rect t).emb z 0 : Nat) = win0_1.index t (0 : Fin 3) * 1 + (z 0 : Nat) :=
  ValueKit.rect_emb_unit_val _ _ _ z (0 : Fin 3)
theorem emb1_1 (t : Fin cfg0.N) (z : (win0_1.rect t).shape.Idx) :
    ((win0_1.rect t).emb z 1 : Nat) = win0_1.index t (1 : Fin 3) * 2048 + (z 1 : Nat) :=
  ValueKit.rect_emb_unit_val _ _ _ z (1 : Fin 3)
theorem emb1_2 (t : Fin cfg0.N) (z : (win0_1.rect t).shape.Idx) :
    ((win0_1.rect t).emb z 2 : Nat) = win0_1.index t (2 : Fin 3) * 512 + (z 2 : Nat) :=
  ValueKit.rect_emb_unit_val _ _ _ z (2 : Fin 3)
theorem emb2_0 (t : Fin cfg0.N) (z : (win0_2.rect t).shape.Idx) :
    ((win0_2.rect t).emb z 0 : Nat) = win0_2.index t (0 : Fin 3) * 1 + (z 0 : Nat) :=
  ValueKit.rect_emb_unit_val _ _ _ z (0 : Fin 3)
theorem emb2_1 (t : Fin cfg0.N) (z : (win0_2.rect t).shape.Idx) :
    ((win0_2.rect t).emb z 1 : Nat) = win0_2.index t (1 : Fin 3) * 1 + (z 1 : Nat) :=
  ValueKit.rect_emb_unit_val _ _ _ z (1 : Fin 3)
theorem emb2_2 (t : Fin cfg0.N) (z : (win0_2.rect t).shape.Idx) :
    ((win0_2.rect t).emb z 2 : Nat) = win0_2.index t (2 : Fin 3) * 512 + (z 2 : Nat) :=
  ValueKit.rect_emb_unit_val _ _ _ z (2 : Fin 3)
theorem emb3_0 (t : Fin cfg0.N) (z : (win0_3.rect t).shape.Idx) :
    ((win0_3.rect t).emb z 0 : Nat) = win0_3.index t (0 : Fin 2) * 256 + (z 0 : Nat) :=
  ValueKit.rect_emb_unit_val _ _ _ z (0 : Fin 2)
theorem emb3_1 (t : Fin cfg0.N) (z : (win0_3.rect t).shape.Idx) :
    ((win0_3.rect t).emb z 1 : Nat) = win0_3.index t (1 : Fin 2) * 512 + (z 1 : Nat) :=
  ValueKit.rect_emb_unit_val _ _ _ z (1 : Fin 2)

theorem add_of_zero (a b z : EReal) (hz : z = 0) (h : a = b) : a + z = b := by rw [hz, h, add_zero]

/-- After the run the result array holds the projection. -/
theorem final (c : Dev nD) : (dats m 0 c).arrAt 3 cfg0.N = G m c := by
  refine (dats m 0 c).arrAt_eq_of_covers 3 _ (by decide +kernel) fun t hf y => ?_
  blk_simp
  rw [after0_3]; frame_out
  obtain ⟨e00, e01, e10, e11, e12⟩ := idx_facts t
  unfold G proj
  pointwise [k0_pay1]
  refine add_of_zero _ _ _ (V_b_apply m c ((win0_2.rect t).emb (ix3 0 0 (y 1)))) (Finset.sum_congr rfl fun k _ => congrArg₂ (· * ·) ?_ ?_)
  · refine (V_x_apply m c ((win0_0.rect t).emb (ix2 (y 0) k))).trans (congrArg _ (funext fun a => ?_))
    fin_cases a
    · rfl
    · exact Fin.ext ((emb0_0 t _).trans ((congrArg (· * 256 + (y 0 : Nat)) e00).trans (emb3_0 t y).symm))
    · exact Fin.ext ((emb0_1 t _).trans (by rw [e01]; exact Nat.zero_add _))
  · refine (congrFun (V_w m c) ((win0_1.rect t).emb (ix3 0 k (y 1)))).trans (congrArg _ (funext fun a => ?_))
    fin_cases a
    · exact Fin.ext ((emb1_0 t _).trans (by rw [e10]; exact Nat.zero_add _))
    · exact Fin.ext ((emb1_1 t _).trans (by rw [e11]; exact Nat.zero_add _))
    · exact Fin.ext ((emb1_2 t _).trans ((congrArg (· * 512 + (y 1 : Nat)) e12).trans (emb3_1 t y).symm))

end Cert.MemKvIdeal.Blocks

end
-- ==== Proof.MemKvRefRead.lean ====
module

public import proofs.«01_k».proof.Proof.MemKvBlocks
public import proofs.«01_k».proof.Proof.Gen.MemKvRefIdeal.Read

@[expose] public section

set_option maxRecDepth 16384

noncomputable section

namespace Cert.MemKvRefIdeal.Entry

open Cert.MemKvRefIdeal Cert.MemKvRefIdeal.Gen Cert.MemKvRefIdeal.Read Idealize.ShloMosaic Idealize.ShloMosaic.TcCoe Idealize.SL.Sem
open Cert.MemKvIdeal.Blocks (proj)

variable (x : S1x256x2048.Idx → EReal) (w : S4x2048x1024.Idx → EReal)

/-- The reference's result is the projection. -/
theorem result (i : S256x1024.Idx) : val_main_v3 (F := Ideal) x w i = proj x w i := by
  have h0 : (i 0).val < 256 := (i 0).isLt
  have h1 : (i 1).val < 1024 := (i 1).isLt
  have e : idx_main_v3 i = (ix3 (0 : Fin 1) (i 0 : Fin 256) (i 1 : Fin 1024) : S1x256x1024.Idx) := by
    funext a; apply Fin.ext
    match a with
    | ⟨0, _⟩ => rfl
    | ⟨1, _⟩ => show ((i 0).val * 1024 + (i 1).val) / 1024 % 256 = (i 0).val; omega
    | ⟨2, _⟩ => show ((i 0).val * 1024 + (i 1).val) % 1024 = (i 1).val; omega
  rw [val_main_v3_apply, e, val_main_v2_apply]
  unfold proj
  refine Finset.sum_congr rfl fun k _ => ?_
  have hk := k.isLt
  rw [val_main_v1_apply, val_main_v0_apply]
  refine congrArg₂ (· * ·) (congrArg x ?_) (congrArg w ?_)
  · funext a; apply Fin.ext; fin_cases a <;> rfl
  · funext a; apply Fin.ext; fin_cases a <;> simp <;> omega

end Cert.MemKvRefIdeal.Entry

end
-- ==== Proof.MemKvClaims.lean ====
module

public import proofs.«01_k».proof.Proof.MemKvRefRead
public import proofs.«01_k».proof.Proof.Gen.MemKv.Frame
public import proofs.«01_k».proof.Proof.Gen.MemKvRefIdeal.Run
public import Idealize.ShloMosaic.Lib.Quiescent

@[expose] public section

noncomputable section

namespace Cert.MemKvClaims

open Idealize.ShloMosaic Idealize.ShloMosaic.TcCoe Idealize.SL.Sem

/-- The kernel and its ideal reading leave their arguments alone and no semaphore raised. -/
theorem frame_k : Cert.quiescent_MemKv := fun m ρ _ => Cert.MemKv.Gen.frame m ρ
theorem frame_ki : Cert.quiescent_MemKvIdeal := fun m ρ _ => Cert.MemKvIdeal.Gen.frame m ρ

/-- So does the reference, which has no semaphore. -/
theorem frame_ri : Cert.quiescent_MemKvRefIdeal := fun m ρ _ =>
  (θ_run Cert.MemKvRefIdeal.defs _ _).mono (fun r h => ⟨fun c => (h c).2, Idealize.ShloMosaic.sem_eq_zero_of_no_sems (by decide) r.2⟩)
    (Cert.MemKvRefIdeal.Value.run (F := Ideal) m ρ)

/-- At the ideal reading the kernel's result and the reference's are the same projection of the same arguments. -/
theorem algebraic : Cert.algebraic_MemKvIdeal_MemKvRefIdeal := by
  intro m ρ m' ρ' _ hag
  refine ⟨fun c => Cert.MemKvIdeal.Blocks.G m c, ?_, ?_⟩
  · exact (θ_run Cert.MemKvIdeal.defs _ _).mono (fun _ h c => ⟨(h c).1.trans (Cert.MemKvIdeal.Blocks.final m c), (h c).2⟩)
      (Cert.MemKvIdeal.Value.run_blocks (F := Ideal) m ρ)
  · refine (θ_run Cert.MemKvRefIdeal.defs _ _).mono (fun _ h c => ⟨(h c).1.trans ?_, (h c).2⟩)
      (Cert.MemKvRefIdeal.Value.run (F := Ideal) m' ρ')
    rw [Cert.MemKvRefIdeal.Read.val_main_v3_eq, (hag c).1, (hag c).2]
    exact funext fun i => Cert.MemKvRefIdeal.Entry.result _ _ i

end Cert.MemKvClaims

end
-- ==== Proof.OddLinearBlocks.lean ====
module

public import proofs.«01_k».proof.Defs
public import proofs.«01_k».proof.Proof.Gen.OddLinearIdeal.Value
public import Idealize.ShloMosaic.Lib.Pipeline.Value
public import Idealize.ShloMosaic.Lib.Pipeline.ValueKit
public import Idealize.ShloMosaic.Lib.Pointwise

@[expose] public section

set_option maxRecDepth 16384

noncomputable section

namespace Cert.OddLinearIdeal.Blocks

open Cert.OddLinearIdeal Cert.OddLinearIdeal.Gen Idealize.ShloMosaic Idealize.ShloMosaic.TcCoe Idealize.SL.Sem
open Idealize.ShloMosaic.Pipeline (Dat)

variable (m : (ℓ : Loc nD τ sig) → Buf (Elt Ideal) ℓ)

/-- Column `n` of the output is column `src n` of the weights and of the bias: the gate's columns come first, then the
    memory queries', then the rest in their order. -/
def src (n : Nat) : Nat := if n < 2560 then n + 6176 else if n < 3072 then n + 3104 else if n < 7168 then n - 3072 else n - 3056

theorem src_lt {n : Nat} (h : n < 8704) : src n < 8736 := by unfold src; split_ifs <;> omega

/-- The block coordinates of the windows at a grid point. -/
theorem idx_facts : ∀ t : Fin cfg0.N,
    win0_0.index t (0 : Fin 2) = win0_3.index t (0 : Fin 2) ∧ win0_0.index t (1 : Fin 2) = 0
    ∧ win0_1.index t (0 : Fin 3) = 1 ∧ win0_1.index t (1 : Fin 3) = 0
    ∧ win0_1.index t (2 : Fin 3) = win0_3.index t (1 : Fin 2)
    ∧ win0_2.index t (0 : Fin 3) = 1 ∧ win0_2.index t (1 : Fin 3) = 0
    ∧ win0_2.index t (2 : Fin 3) = win0_3.index t (1 : Fin 2) :=
  (by decide +kernel : ∀ t : Fin grid0.N, _)

/-- The three arrays the region reads, as the arguments. -/
theorem V_x (c : Dev nD) : V m c main_v1 = shapeCast S16384x2048 (m ((c : Thread nD τ).loc main_arg0)) shapeCasts_S1x16384x2048_S16384x2048 := by
  dsimp only [V]; after_results; rfl
theorem V_w (c : Dev nD) : V m c main_v7 = concatenate S2x2048x8704 2 [
      ⟨S2x2048x2560, extractStridedSlice S2x2048x2560 ![0, 0, 6176] (m ((c : Thread nD τ).loc main_arg1)) slices_S2x2048x8736_S2x2048x2560_0_0_6176⟩,
      ⟨S2x2048x512, extractStridedSlice S2x2048x512 ![0, 0, 5664] (m ((c : Thread nD τ).loc main_arg1)) slices_S2x2048x8736_S2x2048x512_0_0_5664⟩,
      ⟨S2x2048x4096, extractStridedSlice S2x2048x4096 ![0, 0, 0] (m ((c : Thread nD τ).loc main_arg1)) slices_S2x2048x8736_S2x2048x4096_0_0_0⟩,
      ⟨S2x2048x1536, extractStridedSlice S2x2048x1536 ![0, 0, 4112] (m ((c : Thread nD τ).loc main_arg1)) slices_S2x2048x8736_S2x2048x1536_0_0_4112⟩]
      concatenates_S2x2048x2560_S2x2048x512_S2x2048x4096_S2x2048x1536_S2x2048x8704_d2 := by
  dsimp only [V]; after_results; rfl
theorem V_b (c : Dev nD) : V m c main_v13 = broadcastInDim S2x1x8704 ![0, 2] bcast_S2x8704_S2x1x8704_0_2 (concatenate S2x8704 1 [
      ⟨S2x2560, extractStridedSlice S2x2560 ![0, 6176] (m ((c : Thread nD τ).loc main_arg2)) slices_S2x8736_S2x2560_0_6176⟩,
      ⟨S2x512, extractStridedSlice S2x512 ![0, 5664] (m ((c : Thread nD τ).loc main_arg2)) slices_S2x8736_S2x512_0_5664⟩,
      ⟨S2x4096, extractStridedSlice S2x4096 ![0, 0] (m ((c : Thread nD τ).loc main_arg2)) slices_S2x8736_S2x4096_0_0⟩,
      ⟨S2x1536, extractStridedSlice S2x1536 ![0, 4112] (m ((c : Thread nD τ).loc main_arg2)) slices_S2x8736_S2x1536_0_4112⟩]
      concatenates_S2x2560_S2x512_S2x4096_S2x1536_S2x8704_d1) := by
  dsimp only [V]; after_results; rfl

/-- The projection at a row and a column of its output. -/
def proj (x : S1x16384x2048.Idx → EReal) (w : S2x2048x8736.Idx → EReal) (b : S2x8736.Idx → EReal) : S16384x8704.Idx → EReal := fun i =>
  (∑ k : Fin 2048, x (ix3 (0 : Fin 1) (i 0) k) * w (ix3 (1 : Fin 2) k ⟨src (i 1).val, src_lt (i 1).isLt⟩))
  + b (ix2 (1 : Fin 2) ⟨src (i 1).val, src_lt (i 1).isLt⟩)

/-- The same of the three arguments a memory holds. -/
def G (c : Dev nD) : Buf (Elt Ideal) ((c : Thread nD τ).loc main_v14) :=
  proj (m ((c : Thread nD τ).loc main_arg0)) (m ((c : Thread nD τ).loc main_arg1)) (m ((c : Thread nD τ).loc main_arg2))

theorem rows_apply {α : Type} (x : S1x16384x2048.Idx → α) (h : S1x16384x2048.ShapeCasts S16384x2048) (i : S16384x2048.Idx) :
    shapeCast S16384x2048 x h i = x (ix3 (0 : Fin 1) (i 0) (i 1)) :=
  shapeCast_apply x h i (ix3 (0 : Fin 1) (i 0) (i 1))
    (by rewrite [Shape.rowMajor_val_three, Shape.rowMajor_val_two]; show (0 * 16384 + (i 0).val) * 2048 + (i 1).val = (i 0).val * 2048 + (i 1).val; omega)

/-- The three arrays at an index. -/
theorem V_x_apply (c : Dev nD) (i : S16384x2048.Idx) : (V m c main_v1 : S16384x2048.Idx → EReal) i
    = (m ((c : Thread nD τ).loc main_arg0) : S1x16384x2048.Idx → EReal) (ix3 (0 : Fin 1) (i 0) (i 1)) := by
  rw [V_x]
  exact rows_apply _ _ i
theorem V_w_apply (c : Dev nD) (i : S2x2048x8704.Idx) : (V m c main_v7 : S2x2048x8704.Idx → EReal) i
    = (m ((c : Thread nD τ).loc main_arg1) : S2x2048x8736.Idx → EReal) (ix3 (i 0) (i 1) ⟨src (i 2).val, src_lt (i 2).isLt⟩) := by
  rw [V_w]
  generalize (m ((c : Thread nD τ).loc main_arg1)) = w
  pointwise
  have h2 : (i 2).val < 8704 := (i 2).isLt
  have hs : ((i 2).val < 2560 ∧ src (i 2).val = (i 2).val + 6176) ∨ (2560 ≤ (i 2).val ∧ (i 2).val < 3072 ∧ src (i 2).val = (i 2).val + 3104)
      ∨ (3072 ≤ (i 2).val ∧ (i 2).val < 7168 ∧ src (i 2).val = (i 2).val - 3072) ∨ (7168 ≤ (i 2).val ∧ src (i 2).val = (i 2).val - 3056) := by unfold src; split_ifs <;> omega
  have fin2 : ∀ n n' : Fin 8736, n.val = n'.val → w (ix3 (i 0) (i 1) n) = w (ix3 (i 0) (i 1) n') := fun n n' h => congrArg _ (congrArg _ (Fin.ext h))
  by_cases c0 : (i 2).val < 2560
  · rw [dif_pos c0]; exact fin2 _ _ ((show _ = 6176 + ((i 2).val) from rfl).trans (by show _ = src (i 2).val; omega))
  rw [dif_neg c0]
  by_cases c1 : (i 2).val - 2560 < 512
  · rw [dif_pos c1]; exact fin2 _ _ ((show _ = 5664 + ((i 2).val - 2560) from rfl).trans (by show _ = src (i 2).val; omega))
  rw [dif_neg c1]
  by_cases c2 : (i 2).val - 2560 - 512 < 4096
  · rw [dif_pos c2]; exact fin2 _ _ ((show _ = 0 + ((i 2).val - 2560 - 512) from (Nat.zero_add _).symm).trans (by show _ = src (i 2).val; omega))
  rw [dif_neg c2]
  exact fin2 _ _ ((show _ = 4112 + ((i 2).val - 2560 - 512 - 4096) from rfl).trans (by show _ = src (i 2).val; omega))
theorem V_b_apply (c : Dev nD) (i : S2x1x8704.Idx) : (V m c main_v13 : S2x1x8704.Idx → EReal) i
    = (m ((c : Thread nD τ).loc main_arg2) : S2x8736.Idx → EReal) (ix2 (i 0) ⟨src (i 2).val, src_lt (i 2).isLt⟩) := by
  rw [V_b]
  generalize (m ((c : Thread nD τ).loc main_arg2)) = b
  pointwise
  have h2 : (i 2).val < 8704 := (i 2).isLt
  have hs : ((i 2).val < 2560 ∧ src (i 2).val = (i 2).val + 6176) ∨ (2560 ≤ (i 2).val ∧ (i 2).val < 3072 ∧ src (i 2).val = (i 2).val + 3104)
      ∨ (3072 ≤ (i 2).val ∧ (i 2).val < 7168 ∧ src (i 2).val = (i 2).val - 3072) ∨ (7168 ≤ (i 2).val ∧ src (i 2).val = (i 2).val - 3056) := by unfold src; split_ifs <;> omega
  have fin2 : ∀ n n' : Fin 8736, n.val = n'.val → b (ix2 (i 0) n) = b (ix2 (i 0) n') := fun n n' h => congrArg _ (congrArg _ (Fin.ext h))
  by_cases c0 : (i 2).val < 2560
  · rw [dif_pos c0]; exact fin2 _ _ ((show _ = 6176 + ((i 2).val) from rfl).trans (by show _ = src (i 2).val; omega))
  rw [dif_neg c0]
  by_cases c1 : (i 2).val - 2560 < 512
  · rw [dif_pos c1]; exact fin2 _ _ ((show _ = 5664 + ((i 2).val - 2560) from rfl).trans (by show _ = src (i 2).val; omega))
  rw [dif_neg c1]
  by_cases c2 : (i 2).val - 2560 - 512 < 4096
  · rw [dif_pos c2]; exact fin2 _ _ ((show _ = 0 + ((i 2).val - 2560 - 512) from (Nat.zero_add _).symm).trans (by show _ = src (i 2).val; omega))
  rw [dif_neg c2]
  exact fin2 _ _ ((show _ = 4112 + ((i 2).val - 2560 - 512 - 4096) from rfl).trans (by show _ = src (i 2).val; omega))

/-- Where an index of a block lies in its array, axis by axis. -/
theorem emb0_0 (t : Fin cfg0.N) (z : (win0_0.rect t).shape.Idx) :
    ((win0_0.rect t).emb z 0 : Nat) = win0_0.index t (0 : Fin 2) * 2048 + (z 0 : Nat) :=
  ValueKit.rect_emb_unit_val _ _ _ z (0 : Fin 2)
theorem emb0_1 (t : Fin cfg0.N) (z : (win0_0.rect t).shape.Idx) :
    ((win0_0.rect t).emb z 1 : Nat) = win0_0.index t (1 : Fin 2) * 2048 + (z 1 : Nat) :=
  ValueKit.rect_emb_unit_val _ _ _ z (1 : Fin 2)
theorem emb1_0 (t : Fin cfg0.N) (z : (win0_1.rect t).shape.Idx) :
    ((win0_1.rect t).emb z 0 : Nat) = win0_1.index t (0 : Fin 3) * 1 + (z 0 : Nat) :=
  ValueKit.rect_emb_unit_val _ _ _ z (0 : Fin 3)
theorem emb1_1 (t : Fin cfg0.N) (z : (win0_1.rect t).shape.Idx) :
    ((win0_1.rect t).emb z 1 : Nat) = win0_1.index t (1 : Fin 3) * 2048 + (z 1 : Nat) :=
  ValueKit.rect_emb_unit_val _ _ _ z (1 : Fin 3)
theorem emb1_2 (t : Fin cfg0.N) (z : (win0_1.rect t).shape.Idx) :
    ((win0_1.rect t).emb z 2 : Nat) = win0_1.index t (2 : Fin 3) * 512 + (z 2 : Nat) :=
  ValueKit.rect_emb_unit_val _ _ _ z (2 : Fin 3)
theorem emb2_0 (t : Fin cfg0.N) (z : (win0_2.rect t).shape.Idx) :
    ((win0_2.rect t).emb z 0 : Nat) = win0_2.index t (0 : Fin 3) * 1 + (z 0 : Nat) :=
  ValueKit.rect_emb_unit_val _ _ _ z (0 : Fin 3)
theorem emb2_1 (t : Fin cfg0.N) (z : (win0_2.rect t).shape.Idx) :
    ((win0_2.rect t).emb z 1 : Nat) = win0_2.index t (1 : Fin 3) * 1 + (z 1 : Nat) :=
  ValueKit.rect_emb_unit_val _ _ _ z (1 : Fin 3)
theorem emb2_2 (t : Fin cfg0.N) (z : (win0_2.rect t).shape.Idx) :
    ((win0_2.rect t).emb z 2 : Nat) = win0_2.index t (2 : Fin 3) * 512 + (z 2 : Nat) :=
  ValueKit.rect_emb_unit_val _ _ _ z (2 : Fin 3)
theorem emb3_0 (t : Fin cfg0.N) (z : (win0_3.rect t).shape.Idx) :
    ((win0_3.rect t).emb z 0 : Nat) = win0_3.index t (0 : Fin 2) * 2048 + (z 0 : Nat) :=
  ValueKit.rect_emb_unit_val _ _ _ z (0 : Fin 2)
theorem emb3_1 (t : Fin cfg0.N) (z : (win0_3.rect t).shape.Idx) :
    ((win0_3.rect t).emb z 1 : Nat) = win0_3.index t (1 : Fin 2) * 512 + (z 1 : Nat) :=
  ValueKit.rect_emb_unit_val _ _ _ z (1 : Fin 2)

/-- After the run the result array holds the projection. -/
theorem final (c : Dev nD) : (dats m 0 c).arrAt 3 cfg0.N = G m c := by
  refine (dats m 0 c).arrAt_eq_of_covers 3 _ (by decide +kernel) fun t hf y => ?_
  blk_simp
  rw [after0_3]; frame_out
  obtain ⟨e00, e01, e10, e11, e12, e20, e21, e22⟩ := idx_facts t
  unfold G proj
  pointwise [k0_pay1]
  refine congrArg₂ (· + ·) (Finset.sum_congr rfl fun k _ => congrArg₂ (· * ·) ?_ ?_) ?_
  · refine (V_x_apply m c ((win0_0.rect t).emb (ix2 (y 0) k))).trans (congrArg _ (funext fun a => ?_))
    fin_cases a
    · rfl
    · exact Fin.ext ((emb0_0 t _).trans ((congrArg (· * 2048 + (y 0 : Nat)) e00).trans (emb3_0 t y).symm))
    · exact Fin.ext ((emb0_1 t _).trans (by rw [e01]; exact Nat.zero_add _))
  · refine (V_w_apply m c ((win0_1.rect t).emb (ix3 0 k (y 1)))).trans (congrArg _ (funext fun a => ?_))
    fin_cases a
    · exact Fin.ext ((emb1_0 t _).trans (by rw [e10]; rfl))
    · exact Fin.ext ((emb1_1 t _).trans (by rw [e11]; exact Nat.zero_add _))
    · exact Fin.ext (congrArg src ((emb1_2 t _).trans ((congrArg (· * 512 + (y 1 : Nat)) e12).trans (emb3_1 t y).symm)))
  · refine (V_b_apply m c ((win0_2.rect t).emb (ix3 0 0 (y 1)))).trans (congrArg _ (funext fun a => ?_))
    fin_cases a
    · exact Fin.ext ((emb2_0 t _).trans (by rw [e20]; rfl))
    · exact Fin.ext (congrArg src ((emb2_2 t _).trans ((congrArg (· * 512 + (y 1 : Nat)) e22).trans (emb3_1 t y).symm)))

end Cert.OddLinearIdeal.Blocks

end
-- ==== Proof.OddLinearRefRead.lean ====
module

public import proofs.«01_k».proof.Proof.OddLinearBlocks
public import proofs.«01_k».proof.Proof.Gen.OddLinearRefIdeal.Read

@[expose] public section

set_option maxRecDepth 16384

noncomputable section

namespace Cert.OddLinearRefIdeal.Entry

open Cert.OddLinearRefIdeal Cert.OddLinearRefIdeal.Gen Cert.OddLinearRefIdeal.Read Idealize.ShloMosaic Idealize.ShloMosaic.TcCoe Idealize.SL.Sem
open Cert.OddLinearIdeal.Blocks (src src_lt proj)

variable (x : S1x16384x2048.Idx → EReal) (w : S2x2048x8736.Idx → EReal) (b : S2x8736.Idx → EReal)

/-- One entry of the projection: row `r` of the activations against column `n` of the weights, plus the bias. -/
def entry (r : Fin 16384) (n : Fin 8736) : EReal :=
  (∑ k : Fin 2048, x (ix3 (0 : Fin 1) r k) * w (ix3 (1 : Fin 2) k n)) + b (ix2 (1 : Fin 2) n)

/-- The projection before its columns are put in order. -/
theorem v7_apply (i : S1x16384x8736.Idx) : val_main_v7 (F := Ideal) x w b i = entry x w b (i 1) (i 2) := by
  unfold entry
  have h0 : (i 0).val < 1 := (i 0).isLt
  have h2 : (i 2).val < 8736 := (i 2).isLt
  rw [val_main_v7_apply, val_main_v2_apply, val_main_v6_apply, val_main_v5_apply, val_main_v4_apply, val_main_v3_apply]
  refine congrArg₂ (· + ·) (Finset.sum_congr rfl fun k _ => ?_) (congrArg b ?_)
  · have hk := k.isLt
    rw [val_main_v1_apply, val_main_v0_apply]
    refine congrArg₂ (· * ·) (congrArg x ?_) (congrArg w ?_)
    · funext a; apply Fin.ext; fin_cases a <;> simp <;> omega
    · funext a; apply Fin.ext; fin_cases a <;> simp <;> omega
  · funext a; apply Fin.ext; fin_cases a <;> simp <;> omega

/-- The reference's result is the projection. -/
theorem result (i : S16384x8704.Idx) : val_main_v19 (F := Ideal) x w b i = proj x w b i := by
  have h0 : (i 0).val < 16384 := (i 0).isLt
  have h1 : (i 1).val < 8704 := (i 1).isLt
  have e : idx_main_v19 i = ix3 (0 : Fin 1) (i 0) (i 1) := by
    funext a; apply Fin.ext
    match a with
    | ⟨0, _⟩ => rfl
    | ⟨1, _⟩ => show ((i 0).val * 8704 + (i 1).val) / 8704 % 16384 = (i 0).val; omega
    | ⟨2, _⟩ => show ((i 0).val * 8704 + (i 1).val) % 8704 = (i 1).val; omega
  rw [val_main_v19_apply, e]
  unfold val_main_v18
  pointwise
  simp only [val_main_v8_apply, val_main_v9_apply, val_main_v10_apply, val_main_v11_apply, val_main_v14_apply, val_main_v16_apply, val_main_v17_apply, v7_apply]
  show _ = entry x w b (i 0) ⟨src (i 1).val, src_lt (i 1).isLt⟩
  have h2 : (i 1).val < 8704 := (i 1).isLt
  have hs : ((i 1).val < 2560 ∧ src (i 1).val = (i 1).val + 6176) ∨ (2560 ≤ (i 1).val ∧ (i 1).val < 3072 ∧ src (i 1).val = (i 1).val + 3104)
      ∨ (3072 ≤ (i 1).val ∧ (i 1).val < 7168 ∧ src (i 1).val = (i 1).val - 3072) ∨ (7168 ≤ (i 1).val ∧ src (i 1).val = (i 1).val - 3056) := by unfold src; split_ifs <;> omega
  have fin2 : ∀ n n' : Fin 8736, n.val = n'.val → entry x w b (i 0) n = entry x w b (i 0) n' := fun n n' h => congrArg _ (Fin.ext h)
  by_cases c0 : (i 1).val < 2560
  · rw [dif_pos c0]; exact fin2 _ _ ((show _ = 6176 + ((i 1).val) from rfl).trans (by show _ = src (i 1).val; omega))
  rw [dif_neg c0]
  by_cases c1 : (i 1).val - 2560 < 512
  · rw [dif_pos c1]; exact fin2 _ _ ((show _ = 5664 + ((i 1).val - 2560) from rfl).trans (by show _ = src (i 1).val; omega))
  rw [dif_neg c1]
  by_cases c2 : (i 1).val - 2560 - 512 < 1024
  · rw [dif_pos c2]; exact fin2 _ _ ((show _ = 0 + ((i 1).val - 2560 - 512) from (Nat.zero_add _).symm).trans (by show _ = src (i 1).val; omega))
  rw [dif_neg c2]
  by_cases c3 : (i 1).val - 2560 - 512 - 1024 < 1024
  · rw [dif_pos c3]; exact fin2 _ _ ((show _ = 1024 + ((i 1).val - 2560 - 512 - 1024) from rfl).trans (by show _ = src (i 1).val; omega))
  rw [dif_neg c3]
  by_cases c4 : (i 1).val - 2560 - 512 - 1024 - 1024 < 1024
  · rw [dif_pos c4]; exact fin2 _ _ ((show _ = 2048 + ((i 1).val - 2560 - 512 - 1024 - 1024) from rfl).trans (by show _ = src (i 1).val; omega))
  rw [dif_neg c4]
  by_cases c5 : (i 1).val - 2560 - 512 - 1024 - 1024 - 1024 < 1024
  · rw [dif_pos c5]; exact fin2 _ _ ((show _ = 3072 + ((i 1).val - 2560 - 512 - 1024 - 1024 - 1024) from rfl).trans (by show _ = src (i 1).val; omega))
  rw [dif_neg c5]
  exact fin2 _ _ ((show _ = 4112 + ((i 1).val - 2560 - 512 - 1024 - 1024 - 1024 - 1024) from rfl).trans (by show _ = src (i 1).val; omega))

end Cert.OddLinearRefIdeal.Entry

end
-- ==== Proof.OddLinearClaims.lean ====
module

public import proofs.«01_k».proof.Proof.OddLinearRefRead
public import proofs.«01_k».proof.Proof.Gen.OddLinear.Frame
public import proofs.«01_k».proof.Proof.Gen.OddLinearRefIdeal.Run
public import Idealize.ShloMosaic.Lib.Quiescent

@[expose] public section

noncomputable section

namespace Cert.OddLinearClaims

open Idealize.ShloMosaic Idealize.ShloMosaic.TcCoe Idealize.SL.Sem

/-- The kernel and its ideal reading leave their arguments alone and no semaphore raised. -/
theorem frame_k : Cert.quiescent_OddLinear := fun m ρ _ => Cert.OddLinear.Gen.frame m ρ
theorem frame_ki : Cert.quiescent_OddLinearIdeal := fun m ρ _ => Cert.OddLinearIdeal.Gen.frame m ρ

/-- So does the reference, which has no semaphore. -/
theorem frame_ri : Cert.quiescent_OddLinearRefIdeal := fun m ρ _ =>
  (θ_run Cert.OddLinearRefIdeal.defs _ _).mono (fun r h => ⟨fun c => (h c).2, Idealize.ShloMosaic.sem_eq_zero_of_no_sems (by decide) r.2⟩)
    (Cert.OddLinearRefIdeal.Value.run (F := Ideal) m ρ)

/-- At the ideal reading the kernel's result and the reference's are the same projection of the same arguments. -/
theorem algebraic : Cert.algebraic_OddLinearIdeal_OddLinearRefIdeal := by
  intro m ρ m' ρ' _ hag
  refine ⟨fun c => Cert.OddLinearIdeal.Blocks.G m c, ?_, ?_⟩
  · exact (θ_run Cert.OddLinearIdeal.defs _ _).mono (fun _ h c => ⟨(h c).1.trans (Cert.OddLinearIdeal.Blocks.final m c), (h c).2⟩)
      (Cert.OddLinearIdeal.Value.run_blocks (F := Ideal) m ρ)
  · refine (θ_run Cert.OddLinearRefIdeal.defs _ _).mono (fun _ h c => ⟨(h c).1.trans ?_, (h c).2⟩)
      (Cert.OddLinearRefIdeal.Value.run (F := Ideal) m' ρ')
    rw [Cert.OddLinearRefIdeal.Read.val_main_v19_eq, (hag c).1, (hag c).2.1, (hag c).2.2]
    exact funext fun i => Cert.OddLinearRefIdeal.Entry.result _ _ _ i

end Cert.OddLinearClaims

end
-- ==== Proof.TailSpec.lean ====
module

public import Idealize.ShloMosaic.Lib.Pipeline.Value
public import Idealize.ShloMosaic.Lib.Pipeline.ValueKit
public import Idealize.ShloMosaic.Lib.Pointwise

@[expose] public section

noncomputable section

/-! The end of a layer, one row at a time: the mixed branches through the output projection, added to the scaled
    residual, and the normalisation of the row. -/

namespace TailSpec

open Idealize.ShloMosaic

/-- `x · sigmoid x`. -/
def silu (x : EReal) : EReal := x * Ideal.logistic x

/-- A row normalised to mean zero and variance one, scaled and shifted. -/
def layerNorm (y g b : Fin 2048 → EReal) (n : Fin 2048) : EReal :=
  (y n - Ideal.div (∑ k, y k) (Ideal.ofBits .f32 0x45000000#32))
    * Ideal.rsqrt (Ideal.div (∑ j, (y j - Ideal.div (∑ k, y k) (Ideal.ofBits .f32 0x45000000#32))
        * (y j - Ideal.div (∑ k, y k) (Ideal.ofBits .f32 0x45000000#32))) (Ideal.ofBits .f32 0x45000000#32)
      + Ideal.ofBits .f32 0x3727C5AC#32) * g n + b n

/-- A row over its root mean square, scaled. -/
def rmsNorm (z w : Fin 1024 → EReal) (k : Fin 1024) : EReal :=
  z k * Ideal.rsqrt (Ideal.div (∑ j, z j * z j) (Ideal.ofBits .f32 0x44800000#32) + Ideal.ofBits .f32 0x3727C5AC#32) * w k

/-- The three branches of a row through their rows of the output weights. -/
def mixed (p q : Fin 1024 → EReal) (r : Fin 512 → EReal) (wp wq : Fin 1024 → Fin 2048 → EReal) (wr : Fin 512 → Fin 2048 → EReal)
    (n : Fin 2048) : EReal :=
  ((∑ k, p k * wp k n) + (∑ k, q k * wq k n)) + ∑ k, r k * wr k n

/-- The row a layer ends with. -/
def row (x : Fin 2048 → EReal) (mix : Fin 2048 → EReal) (g b : Fin 2048 → EReal) (n : Fin 2048) : EReal :=
  layerNorm (fun n => Ideal.ofBits .f32 0x3FD744FD#32 * x n + mix n) g b n

/-- A sum over the 2560 rows of the output weights, branch by branch. -/
theorem sum_branches (f : Fin 2560 → EReal) :
    ∑ k, f k = ((∑ k : Fin 1024, f ⟨k.val, by omega⟩) + (∑ k : Fin 1024, f ⟨1024 + k.val, by omega⟩))
      + ∑ k : Fin 512, f ⟨2048 + k.val, by omega⟩ := by
  have h1 := Fin.sum_univ_add (M := EReal) (a := 2048) (b := 512) f
  have h2 := Fin.sum_univ_add (M := EReal) (a := 1024) (b := 1024) (fun k : Fin 2048 => f (Fin.castAdd 512 k))
  exact h1.trans (congrArg (· + _) h2)

end TailSpec

end
-- ==== Proof.OddTailPays.lean ====
module

public import proofs.«01_k».proof.Proof.TailSpec
public import proofs.«01_k».proof.Proof.Gen.OddTailIdeal.Skeleton

@[expose] public section

set_option maxRecDepth 16384

noncomputable section

namespace Cert.OddTailIdeal.Pays

open Cert.OddTailIdeal Cert.OddTailIdeal.Gen Idealize.ShloMosaic Idealize.ShloMosaic.TcCoe
open TailSpec

/-- The row that rows of the twelve loaded blocks give. -/
def blockRow (v0 : S128x2560.Idx → EReal) (v4 v6 v12 : S128x1024.Idx → EReal) (v26 : S1x1x1024.Idx → EReal) (v30 : S128x512.Idx → EReal)
    (v35 v39 : S1x1024x2048.Idx → EReal) (v44 : S1x512x2048.Idx → EReal) (v48 : S128x2048.Idx → EReal) (v69 v73 : S1x1x2048.Idx → EReal)
    (p : Fin 128) (n : Fin 2048) : EReal :=
  row (fun n => v48 (ix2 p n))
    (mixed (fun k => v4 (ix2 p k) * Ideal.logistic (v6 (ix2 p k)) * silu (v0 (ix2 p ⟨k.val, by omega⟩)))
      (rmsNorm (fun k => v12 (ix2 p k) * silu (v0 (ix2 p ⟨1024 + k.val, by omega⟩))) (fun k => v26 (ix3 0 0 k)))
      (fun k => v30 (ix2 p k) * silu (v0 (ix2 p ⟨2048 + k.val, by omega⟩)))
      (fun k n => v35 (ix3 0 k n)) (fun k n => v39 (ix3 0 k n)) (fun k n => v44 (ix3 0 k n)))
    (fun n => v69 (ix3 0 0 n)) (fun n => v73 (ix3 0 0 n)) n

section
variable (v0 : Vec Ideal S128x2560 .f32) (v4 v6 v12 : Vec Ideal S128x1024 .f32) (v26 : Vec Ideal S1x1x1024 .f32) (v30 : Vec Ideal S128x512 .f32)
  (v35 v39 : Vec Ideal S1x1024x2048 .bf16) (v44 : Vec Ideal S1x512x2048 .bf16) (v48 : Vec Ideal S128x2048 .f32) (v69 v73 : Vec Ideal S1x1x2048 .f32)

theorem pay3_apply (i : S128x2560.Idx) : (k0_pay3 (F := Ideal) v0 i : EReal) = silu (v0 i) := by
  unfold silu; pointwise [k0_pay3]
theorem pay11_apply (i : S128x2560.Idx) : (k0_pay11 (F := Ideal) v0 i : EReal) = silu (v0 i) := by
  unfold silu; pointwise [k0_pay11]

theorem pay4_apply (p : Fin 128) (k : Fin 1024) : (k0_pay4 (F := Ideal) v0 v12 v26 (ix2 p k) : EReal)
    = rmsNorm (fun k => v12 (ix2 p k) * silu (v0 (ix2 p ⟨1024 + k.val, by omega⟩))) (fun k => v26 (ix3 0 0 k)) k := by
  unfold rmsNorm; simp only [← pay3_apply]
  generalize hq : k0_pay3 (F := Ideal) v0 = q
  pointwise [k0_pay4, hq]
theorem pay13_apply (p : Fin 128) (k : Fin 1024) : (k0_pay13 (F := Ideal) v0 v12 v26 (ix2 p k) : EReal)
    = rmsNorm (fun k => v12 (ix2 p k) * silu (v0 (ix2 p ⟨1024 + k.val, by omega⟩))) (fun k => v26 (ix3 0 0 k)) k := by
  unfold rmsNorm; simp only [← pay11_apply]
  generalize hq : k0_pay11 (F := Ideal) v0 = q
  pointwise [k0_pay13, hq]

theorem pay5_apply (p : Fin 128) (k : Fin 512) : (k0_pay5 (F := Ideal) v0 v30 (ix2 p k) : EReal)
    = v30 (ix2 p k) * silu (v0 (ix2 p ⟨2048 + k.val, by omega⟩)) := by
  simp only [← pay3_apply]
  generalize hq : k0_pay3 (F := Ideal) v0 = q
  pointwise [k0_pay5, hq]
theorem pay14_apply (p : Fin 128) (k : Fin 512) : (k0_pay14 (F := Ideal) v0 v30 (ix2 p k) : EReal)
    = v30 (ix2 p k) * silu (v0 (ix2 p ⟨2048 + k.val, by omega⟩)) := by
  simp only [← pay11_apply]
  generalize hq : k0_pay11 (F := Ideal) v0 = q
  pointwise [k0_pay14, hq]

theorem pay6_apply (p : Fin 128) (n : Fin 2048) : (k0_pay6 (F := Ideal) v0 v4 v6 v35 (ix2 p n) : EReal)
    = ∑ k : Fin 1024, v4 (ix2 p k) * Ideal.logistic (v6 (ix2 p k)) * silu (v0 (ix2 p ⟨k.val, by omega⟩)) * v35 (ix3 0 k n) := by
  simp only [← pay3_apply]
  generalize hq : k0_pay3 (F := Ideal) v0 = q
  pointwise [k0_pay6, hq]
theorem pay12_apply (p : Fin 128) (k : Fin 1024) : (k0_pay12 (F := Ideal) v0 v4 v6 (ix2 p k) : EReal)
    = v4 (ix2 p k) * Ideal.logistic (v6 (ix2 p k)) * silu (v0 (ix2 p ⟨k.val, by omega⟩)) := by
  simp only [← pay11_apply]
  generalize hq : k0_pay11 (F := Ideal) v0 = q
  pointwise [k0_pay12, hq]

theorem upper_of (a : FVec Ideal S128x1024 .f32) (b : FVec Ideal S128x512 .f32) (d : FVec Ideal S128x2048 .f32) (p : Fin 128) (n : Fin 2048) :
    (k0_pay9 (F := Ideal) (k0_pay7 a b d v39 v44 v48 v69) (k0_pay8 v73) (ix2 p n) : EReal)
      = row (fun n => v48 (ix2 p n)) (fun n => (d (ix2 p n) + ∑ k : Fin 1024, a (ix2 p k) * v39 (ix3 0 k n)) + ∑ k : Fin 512, b (ix2 p k) * v44 (ix3 0 k n))
          (fun n => v69 (ix3 0 0 n)) (fun n => v73 (ix3 0 0 n)) n := by
  unfold row layerNorm
  pointwise [k0_pay9, k0_pay7, k0_pay8]

/-- The upper half of a block, row by row. -/
theorem upper (p : Fin 128) (n : Fin 2048) :
    (k0_pay9 (F := Ideal) (k0_pay7 (k0_pay4 v0 v12 v26) (k0_pay5 v0 v30) (k0_pay6 v0 v4 v6 v35) v39 v44 v48 v69) (k0_pay8 v73) (ix2 p n) : EReal)
      = blockRow v0 v4 v6 v12 v26 v30 v35 v39 v44 v48 v69 v73 p n := by
  rw [upper_of]
  unfold blockRow mixed
  simp only [pay4_apply, pay5_apply, pay6_apply]

theorem lower_of (d a : FVec Ideal S128x1024 .f32) (b : FVec Ideal S128x512 .f32) (p : Fin 128) (n : Fin 2048) :
    (k0_pay1 (F := Ideal) (k0_pay15 d a b v35 v39 v44 v48) (k0_pay16 v69) v73 (ix2 p n) : EReal)
      = row (fun n => v48 (ix2 p n)) (mixed (fun k => d (ix2 p k)) (fun k => a (ix2 p k)) (fun k => b (ix2 p k))
          (fun k n => v35 (ix3 0 k n)) (fun k n => v39 (ix3 0 k n)) (fun k n => v44 (ix3 0 k n)))
          (fun n => v69 (ix3 0 0 n)) (fun n => v73 (ix3 0 0 n)) n := by
  unfold row layerNorm mixed
  pointwise [k0_pay1, k0_pay15, k0_pay16]

/-- The lower half of a block, row by row. -/
theorem lower (p : Fin 128) (n : Fin 2048) :
    (k0_pay1 (F := Ideal) (k0_pay15 (k0_pay12 v0 v4 v6) (k0_pay13 v0 v12 v26) (k0_pay14 v0 v30) v35 v39 v44 v48) (k0_pay16 v69) v73 (ix2 p n) : EReal)
      = blockRow v0 v4 v6 v12 v26 v30 v35 v39 v44 v48 v69 v73 p n := by
  rw [lower_of]
  unfold blockRow
  simp only [pay12_apply, pay13_apply, pay14_apply]
end

end Cert.OddTailIdeal.Pays

end
-- ==== Proof.OddTailBlocks.lean ====
module

public import proofs.«01_k».proof.Defs
public import proofs.«01_k».proof.Proof.Gen.OddTailIdeal.Value
public import proofs.«01_k».proof.Proof.OddTailPays
public import Idealize.ShloMosaic.Lib.Pipeline.Value
public import Idealize.ShloMosaic.Lib.Pipeline.ValueKit
public import Idealize.ShloMosaic.Lib.Pointwise

@[expose] public section

set_option maxRecDepth 16384

noncomputable section

namespace Cert.OddTailIdeal.Blocks

open Cert.OddTailIdeal Cert.OddTailIdeal.Gen Idealize.ShloMosaic Idealize.ShloMosaic.TcCoe Idealize.SL.Sem
open Idealize.ShloMosaic.Pipeline (Dat)
open TailSpec

variable (m : (ℓ : Loc nD τ sig) → Buf (Elt Ideal) ℓ)

/-- Column `n` of the projection the kernel reads is column `src n` of the reference's. -/
def src (n : Nat) : Nat := if n < 2560 then n + 6176 else if n < 3072 then n + 3104 else if n < 7168 then n - 3072 else n - 3056

theorem src_lt {n : Nat} (h : n < 8704) : src n < 8736 := by unfold src; split_ifs <;> omega

/-- A row of the layer's output from the row of the projection, of the branches and of the residual. -/
def outRow (h : S1x16384x8736.Idx → EReal) (hc yd : S1x16384x1024.Idx → EReal) (ym : S1x16384x512.Idx → EReal) (x : S1x16384x2048.Idx → EReal)
    (nw : S2x1024.Idx → EReal) (w : S4x2560x2048.Idx → EReal) (g b : S4x2048.Idx → EReal) (r : Fin 16384) (n : Fin 2048) : EReal :=
  row (fun n => x (ix3 (0 : Fin 1) r n))
    (mixed (fun k => hc (ix3 (0 : Fin 1) r k) * Ideal.logistic (h (ix3 (0 : Fin 1) r ⟨3072 + k.val, by omega⟩)) * silu (h (ix3 (0 : Fin 1) r ⟨6176 + k.val, by omega⟩)))
      (rmsNorm (fun k => yd (ix3 (0 : Fin 1) r k) * silu (h (ix3 (0 : Fin 1) r ⟨7200 + k.val, by omega⟩))) (fun k => nw (ix2 (1 : Fin 2) k)))
      (fun k => ym (ix3 (0 : Fin 1) r k) * silu (h (ix3 (0 : Fin 1) r ⟨8224 + k.val, by omega⟩)))
      (fun k n => w (ix3 (3 : Fin 4) ⟨k.val, by omega⟩ n)) (fun k n => w (ix3 (3 : Fin 4) ⟨1024 + k.val, by omega⟩ n))
      (fun k n => w (ix3 (3 : Fin 4) ⟨2048 + k.val, by omega⟩ n)))
    (fun n => g (ix2 (3 : Fin 4) n)) (fun n => b (ix2 (3 : Fin 4) n)) n

/-- The same of the arguments a memory holds, at an index of the result. -/
def out (c : Dev nD) (i : S16384x2048.Idx) : EReal :=
  outRow (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (i 0) (i 1)

/-- The block coordinates of the windows at a grid point. -/
theorem idx_facts : ∀ t : Fin cfg0.N,
    (win0_0.index t (0 : Fin 2) = win0_10.index t (0 : Fin 2) ∧ win0_0.index t (1 : Fin 2) = 0)
    ∧ (win0_1.index t (0 : Fin 2) = win0_10.index t (0 : Fin 2) ∧ win0_1.index t (1 : Fin 2) = 6)
    ∧ (win0_2.index t (0 : Fin 2) = win0_10.index t (0 : Fin 2) ∧ win0_2.index t (1 : Fin 2) = 0)
    ∧ (win0_3.index t (0 : Fin 2) = win0_10.index t (0 : Fin 2) ∧ win0_3.index t (1 : Fin 2) = 0)
    ∧ (win0_4.index t (0 : Fin 2) = win0_10.index t (0 : Fin 2) ∧ win0_4.index t (1 : Fin 2) = 0)
    ∧ (win0_5.index t (0 : Fin 3) = 1 ∧ win0_5.index t (1 : Fin 3) = 0 ∧ win0_5.index t (2 : Fin 3) = 0)
    ∧ (win0_6.index t (0 : Fin 2) = win0_10.index t (0 : Fin 2) ∧ win0_6.index t (1 : Fin 2) = 0)
    ∧ (win0_7.index t (0 : Fin 3) = 3 ∧ win0_7.index t (1 : Fin 3) = 0 ∧ win0_7.index t (2 : Fin 3) = 0)
    ∧ (win0_8.index t (0 : Fin 3) = 3 ∧ win0_8.index t (1 : Fin 3) = 0 ∧ win0_8.index t (2 : Fin 3) = 0)
    ∧ (win0_9.index t (0 : Fin 3) = 3 ∧ win0_9.index t (1 : Fin 3) = 0 ∧ win0_9.index t (2 : Fin 3) = 0)
    ∧ (win0_10.index t (1 : Fin 2) = 0 ∧ win0_11.index t (0 : Fin 2) = win0_10.index t (0 : Fin 2) ∧ win0_11.index t (1 : Fin 2) = 0) :=
  (by decide +kernel : ∀ t : Fin grid0.N, _)

/-! ## The arrays the region reads, as the arguments -/

theorem V_proj (c : Dev nD) : V m c main_v5 = shapeCast S16384x8704 (concatenate S1x16384x8704 2 [
      ⟨S1x16384x2560, extractStridedSlice S1x16384x2560 ![0, 0, 6176] (m ((c : Thread nD τ).loc main_arg0)) slices_S1x16384x8736_S1x16384x2560_0_0_6176⟩,
      ⟨S1x16384x512, extractStridedSlice S1x16384x512 ![0, 0, 5664] (m ((c : Thread nD τ).loc main_arg0)) slices_S1x16384x8736_S1x16384x512_0_0_5664⟩,
      ⟨S1x16384x4096, extractStridedSlice S1x16384x4096 ![0, 0, 0] (m ((c : Thread nD τ).loc main_arg0)) slices_S1x16384x8736_S1x16384x4096_0_0_0⟩,
      ⟨S1x16384x1536, extractStridedSlice S1x16384x1536 ![0, 0, 4112] (m ((c : Thread nD τ).loc main_arg0)) slices_S1x16384x8736_S1x16384x1536_0_0_4112⟩]
      concatenates_S1x16384x2560_S1x16384x512_S1x16384x4096_S1x16384x1536_S1x16384x8704_d2) shapeCasts_S1x16384x8704_S16384x8704 := by
  dsimp only [V]; after_results; rfl

theorem at_col (w : S1x16384x8736.Idx → EReal) (i : S1x16384x8704.Idx) (j : S1x16384x8736.Idx) (n : Fin 8736)
    (h0 : (j 0).val = (i 0).val) (h1 : (j 1).val = (i 1).val) (h : (j 2).val = n.val) : w j = w (ix3 (i 0) (i 1) n) :=
  congrArg w (funext fun a => by fin_cases a; exacts [Fin.ext h0, Fin.ext h1, Fin.ext h])

theorem permuted_apply (w : S1x16384x8736.Idx → EReal) (i : S1x16384x8704.Idx) : (concatenate S1x16384x8704 2 [
      ⟨S1x16384x2560, extractStridedSlice S1x16384x2560 ![0, 0, 6176] w slices_S1x16384x8736_S1x16384x2560_0_0_6176⟩,
      ⟨S1x16384x512, extractStridedSlice S1x16384x512 ![0, 0, 5664] w slices_S1x16384x8736_S1x16384x512_0_0_5664⟩,
      ⟨S1x16384x4096, extractStridedSlice S1x16384x4096 ![0, 0, 0] w slices_S1x16384x8736_S1x16384x4096_0_0_0⟩,
      ⟨S1x16384x1536, extractStridedSlice S1x16384x1536 ![0, 0, 4112] w slices_S1x16384x8736_S1x16384x1536_0_0_4112⟩]
      concatenates_S1x16384x2560_S1x16384x512_S1x16384x4096_S1x16384x1536_S1x16384x8704_d2 : S1x16384x8704.Idx → EReal) i
      = w (ix3 (i 0) (i 1) ⟨src (i 2).val, src_lt (i 2).isLt⟩) := by
  pointwise
  have h0' : (i 0).val < 1 := (i 0).isLt
  have h0 : (i 0).val = 0 := by omega
  have h2 : (i 2).val < 8704 := (i 2).isLt
  have hs : ((i 2).val < 2560 ∧ src (i 2).val = (i 2).val + 6176) ∨ (2560 ≤ (i 2).val ∧ (i 2).val < 3072 ∧ src (i 2).val = (i 2).val + 3104)
      ∨ (3072 ≤ (i 2).val ∧ (i 2).val < 7168 ∧ src (i 2).val = (i 2).val - 3072) ∨ (7168 ≤ (i 2).val ∧ src (i 2).val = (i 2).val - 3056) := by unfold src; split_ifs <;> omega
  by_cases c0 : (i 2).val < 2560
  · rw [dif_pos c0]; exact at_col w i _ _ h0.symm (by first | rfl | exact Nat.zero_add _) (by show 6176 + ((i 2).val) = src (i 2).val; omega)
  rw [dif_neg c0]
  by_cases c1 : (i 2).val - 2560 < 512
  · rw [dif_pos c1]; exact at_col w i _ _ h0.symm (by first | rfl | exact Nat.zero_add _) (by show 5664 + ((i 2).val - 2560) = src (i 2).val; omega)
  rw [dif_neg c1]
  by_cases c2 : (i 2).val - 2560 - 512 < 4096
  · rw [dif_pos c2]; exact at_col w i _ _ h0.symm (by first | rfl | exact Nat.zero_add _) (by show ((i 2).val - 2560 - 512) = src (i 2).val; omega)
  rw [dif_neg c2]
  exact at_col w i _ _ h0.symm (by first | rfl | exact Nat.zero_add _) (by show 4112 + ((i 2).val - 2560 - 512 - 4096) = src (i 2).val; omega)

theorem rows_apply {α : Type} {s t : Shape} (x : s.Idx → α) (h : s.ShapeCasts t) (i : t.Idx) (j : s.Idx) (e : (s.rowMajor j : Nat) = t.rowMajor i) :
    shapeCast t x h i = x j := shapeCast_apply x h i j e

theorem V_proj_apply (c : Dev nD) (i : S16384x8704.Idx) : (V m c main_v5 : S16384x8704.Idx → EReal) i
    = (m ((c : Thread nD τ).loc main_arg0) : S1x16384x8736.Idx → EReal) (ix3 (0 : Fin 1) (i 0) ⟨src (i 1).val, src_lt (i 1).isLt⟩) := by
  rw [V_proj]
  refine Eq.trans (shapeCast_apply _ shapeCasts_S1x16384x8704_S16384x8704 i (ix3 (0 : Fin 1) (i 0 : Fin 16384) (i 1 : Fin 8704) : S1x16384x8704.Idx)
    (by rewrite [Shape.rowMajor_val_three, Shape.rowMajor_val_two]; show (0 * 16384 + (i 0).val) * 8704 + (i 1).val = (i 0).val * 8704 + (i 1).val; omega)) ?_
  exact permuted_apply _ _

theorem V_hc_apply (c : Dev nD) (i : S16384x1024.Idx) : (V m c main_v6 : S16384x1024.Idx → EReal) i
    = (m ((c : Thread nD τ).loc main_arg1) : S1x16384x1024.Idx → EReal) (ix3 (0 : Fin 1) (i 0) (i 1)) := by
  have e : V m c main_v6 = shapeCast S16384x1024 (m ((c : Thread nD τ).loc main_arg1)) shapeCasts_S1x16384x1024_S16384x1024 := by
    dsimp only [V]; after_results; rfl
  rw [e]
  exact shapeCast_apply _ shapeCasts_S1x16384x1024_S16384x1024 i (ix3 (0 : Fin 1) (i 0 : Fin 16384) (i 1 : Fin 1024) : S1x16384x1024.Idx)
    (by rewrite [Shape.rowMajor_val_three, Shape.rowMajor_val_two]; show (0 * 16384 + (i 0).val) * 1024 + (i 1).val = (i 0).val * 1024 + (i 1).val; omega)

theorem V_yd_apply (c : Dev nD) (i : S16384x1024.Idx) : (V m c main_v7 : S16384x1024.Idx → EReal) i
    = (m ((c : Thread nD τ).loc main_arg2) : S1x16384x1024.Idx → EReal) (ix3 (0 : Fin 1) (i 0) (i 1)) := by
  have e : V m c main_v7 = shapeCast S16384x1024 (m ((c : Thread nD τ).loc main_arg2)) shapeCasts_S1x16384x1024_S16384x1024 := by
    dsimp only [V]; after_results; rfl
  rw [e]
  exact shapeCast_apply _ shapeCasts_S1x16384x1024_S16384x1024 i (ix3 (0 : Fin 1) (i 0 : Fin 16384) (i 1 : Fin 1024) : S1x16384x1024.Idx)
    (by rewrite [Shape.rowMajor_val_three, Shape.rowMajor_val_two]; show (0 * 16384 + (i 0).val) * 1024 + (i 1).val = (i 0).val * 1024 + (i 1).val; omega)

theorem V_ym_apply (c : Dev nD) (i : S16384x512.Idx) : (V m c main_v8 : S16384x512.Idx → EReal) i
    = (m ((c : Thread nD τ).loc main_arg3) : S1x16384x512.Idx → EReal) (ix3 (0 : Fin 1) (i 0) (i 1)) := by
  have e : V m c main_v8 = shapeCast S16384x512 (m ((c : Thread nD τ).loc main_arg3)) shapeCasts_S1x16384x512_S16384x512 := by
    dsimp only [V]; after_results; rfl
  rw [e]
  exact shapeCast_apply _ shapeCasts_S1x16384x512_S16384x512 i (ix3 (0 : Fin 1) (i 0 : Fin 16384) (i 1 : Fin 512) : S1x16384x512.Idx)
    (by rewrite [Shape.rowMajor_val_three, Shape.rowMajor_val_two]; show (0 * 16384 + (i 0).val) * 512 + (i 1).val = (i 0).val * 512 + (i 1).val; omega)

theorem V_x_apply (c : Dev nD) (i : S16384x2048.Idx) : (V m c main_v9 : S16384x2048.Idx → EReal) i
    = (m ((c : Thread nD τ).loc main_arg4) : S1x16384x2048.Idx → EReal) (ix3 (0 : Fin 1) (i 0) (i 1)) := by
  have e : V m c main_v9 = shapeCast S16384x2048 (m ((c : Thread nD τ).loc main_arg4)) shapeCasts_S1x16384x2048_S16384x2048 := by
    dsimp only [V]; after_results; rfl
  rw [e]
  exact shapeCast_apply _ shapeCasts_S1x16384x2048_S16384x2048 i (ix3 (0 : Fin 1) (i 0 : Fin 16384) (i 1 : Fin 2048) : S1x16384x2048.Idx)
    (by rewrite [Shape.rowMajor_val_three, Shape.rowMajor_val_two]; show (0 * 16384 + (i 0).val) * 2048 + (i 1).val = (i 0).val * 2048 + (i 1).val; omega)

theorem V_nw_apply (c : Dev nD) (i : S2x1x1024.Idx) : (V m c main_v10 : S2x1x1024.Idx → EReal) i
    = (m ((c : Thread nD τ).loc main_arg5) : S2x1024.Idx → EReal) (ix2 (i 0) (i 2)) := by
  have e : V m c main_v10 = broadcastInDim S2x1x1024 ![0, 2] bcast_S2x1024_S2x1x1024_0_2 (m ((c : Thread nD τ).loc main_arg5)) := by
    dsimp only [V]; after_results
  rw [e]
  generalize (m ((c : Thread nD τ).loc main_arg5)) = x
  pointwise

theorem V_g_apply (c : Dev nD) (i : S4x1x2048.Idx) : (V m c main_v12 : S4x1x2048.Idx → EReal) i
    = (m ((c : Thread nD τ).loc main_arg7) : S4x2048.Idx → EReal) (ix2 (i 0) (i 2)) := by
  have e : V m c main_v12 = broadcastInDim S4x1x2048 ![0, 2] bcast_S4x2048_S4x1x2048_0_2 (m ((c : Thread nD τ).loc main_arg7)) := by
    dsimp only [V]; after_results
  rw [e]
  generalize (m ((c : Thread nD τ).loc main_arg7)) = x
  pointwise

theorem V_b_apply (c : Dev nD) (i : S4x1x2048.Idx) : (V m c main_v13 : S4x1x2048.Idx → EReal) i
    = (m ((c : Thread nD τ).loc main_arg8) : S4x2048.Idx → EReal) (ix2 (i 0) (i 2)) := by
  have e : V m c main_v13 = broadcastInDim S4x1x2048 ![0, 2] bcast_S4x2048_S4x1x2048_0_2 (m ((c : Thread nD τ).loc main_arg8)) := by
    dsimp only [V]; after_results
  rw [e]
  generalize (m ((c : Thread nD τ).loc main_arg8)) = x
  pointwise

theorem V_w (c : Dev nD) : V m c main_v11 = m ((c : Thread nD τ).loc main_arg6) := by
  dsimp only [V]; after_results; rfl

/-! ## Where an index of a block lies in its array -/

theorem emb0_0 (t : Fin cfg0.N) (z : (win0_0.rect t).shape.Idx) :
    ((win0_0.rect t).emb z 0 : Nat) = win0_0.index t (0 : Fin 2) * 256 + (z 0 : Nat) :=
  ValueKit.rect_emb_unit_val _ _ _ z (0 : Fin 2)
theorem emb0_1 (t : Fin cfg0.N) (z : (win0_0.rect t).shape.Idx) :
    ((win0_0.rect t).emb z 1 : Nat) = win0_0.index t (1 : Fin 2) * 2560 + (z 1 : Nat) :=
  ValueKit.rect_emb_unit_val _ _ _ z (1 : Fin 2)
theorem emb1_0 (t : Fin cfg0.N) (z : (win0_1.rect t).shape.Idx) :
    ((win0_1.rect t).emb z 0 : Nat) = win0_1.index t (0 : Fin 2) * 256 + (z 0 : Nat) :=
  ValueKit.rect_emb_unit_val _ _ _ z (0 : Fin 2)
theorem emb1_1 (t : Fin cfg0.N) (z : (win0_1.rect t).shape.Idx) :
    ((win0_1.rect t).emb z 1 : Nat) = win0_1.index t (1 : Fin 2) * 1024 + (z 1 : Nat) :=
  ValueKit.rect_emb_unit_val _ _ _ z (1 : Fin 2)
theorem emb2_0 (t : Fin cfg0.N) (z : (win0_2.rect t).shape.Idx) :
    ((win0_2.rect t).emb z 0 : Nat) = win0_2.index t (0 : Fin 2) * 256 + (z 0 : Nat) :=
  ValueKit.rect_emb_unit_val _ _ _ z (0 : Fin 2)
theorem emb2_1 (t : Fin cfg0.N) (z : (win0_2.rect t).shape.Idx) :
    ((win0_2.rect t).emb z 1 : Nat) = win0_2.index t (1 : Fin 2) * 1024 + (z 1 : Nat) :=
  ValueKit.rect_emb_unit_val _ _ _ z (1 : Fin 2)
theorem emb3_0 (t : Fin cfg0.N) (z : (win0_3.rect t).shape.Idx) :
    ((win0_3.rect t).emb z 0 : Nat) = win0_3.index t (0 : Fin 2) * 256 + (z 0 : Nat) :=
  ValueKit.rect_emb_unit_val _ _ _ z (0 : Fin 2)
theorem emb3_1 (t : Fin cfg0.N) (z : (win0_3.rect t).shape.Idx) :
    ((win0_3.rect t).emb z 1 : Nat) = win0_3.index t (1 : Fin 2) * 1024 + (z 1 : Nat) :=
  ValueKit.rect_emb_unit_val _ _ _ z (1 : Fin 2)
theorem emb4_0 (t : Fin cfg0.N) (z : (win0_4.rect t).shape.Idx) :
    ((win0_4.rect t).emb z 0 : Nat) = win0_4.index t (0 : Fin 2) * 256 + (z 0 : Nat) :=
  ValueKit.rect_emb_unit_val _ _ _ z (0 : Fin 2)
theorem emb4_1 (t : Fin cfg0.N) (z : (win0_4.rect t).shape.Idx) :
    ((win0_4.rect t).emb z 1 : Nat) = win0_4.index t (1 : Fin 2) * 512 + (z 1 : Nat) :=
  ValueKit.rect_emb_unit_val _ _ _ z (1 : Fin 2)
theorem emb5_0 (t : Fin cfg0.N) (z : (win0_5.rect t).shape.Idx) :
    ((win0_5.rect t).emb z 0 : Nat) = win0_5.index t (0 : Fin 3) * 1 + (z 0 : Nat) :=
  ValueKit.rect_emb_unit_val _ _ _ z (0 : Fin 3)
theorem emb5_1 (t : Fin cfg0.N) (z : (win0_5.rect t).shape.Idx) :
    ((win0_5.rect t).emb z 1 : Nat) = win0_5.index t (1 : Fin 3) * 1 + (z 1 : Nat) :=
  ValueKit.rect_emb_unit_val _ _ _ z (1 : Fin 3)
theorem emb5_2 (t : Fin cfg0.N) (z : (win0_5.rect t).shape.Idx) :
    ((win0_5.rect t).emb z 2 : Nat) = win0_5.index t (2 : Fin 3) * 1024 + (z 2 : Nat) :=
  ValueKit.rect_emb_unit_val _ _ _ z (2 : Fin 3)
theorem emb6_0 (t : Fin cfg0.N) (z : (win0_6.rect t).shape.Idx) :
    ((win0_6.rect t).emb z 0 : Nat) = win0_6.index t (0 : Fin 2) * 256 + (z 0 : Nat) :=
  ValueKit.rect_emb_unit_val _ _ _ z (0 : Fin 2)
theorem emb6_1 (t : Fin cfg0.N) (z : (win0_6.rect t).shape.Idx) :
    ((win0_6.rect t).emb z 1 : Nat) = win0_6.index t (1 : Fin 2) * 2048 + (z 1 : Nat) :=
  ValueKit.rect_emb_unit_val _ _ _ z (1 : Fin 2)
theorem emb7_0 (t : Fin cfg0.N) (z : (win0_7.rect t).shape.Idx) :
    ((win0_7.rect t).emb z 0 : Nat) = win0_7.index t (0 : Fin 3) * 1 + (z 0 : Nat) :=
  ValueKit.rect_emb_unit_val _ _ _ z (0 : Fin 3)
theorem emb7_1 (t : Fin cfg0.N) (z : (win0_7.rect t).shape.Idx) :
    ((win0_7.rect t).emb z 1 : Nat) = win0_7.index t (1 : Fin 3) * 2560 + (z 1 : Nat) :=
  ValueKit.rect_emb_unit_val _ _ _ z (1 : Fin 3)
theorem emb7_2 (t : Fin cfg0.N) (z : (win0_7.rect t).shape.Idx) :
    ((win0_7.rect t).emb z 2 : Nat) = win0_7.index t (2 : Fin 3) * 2048 + (z 2 : Nat) :=
  ValueKit.rect_emb_unit_val _ _ _ z (2 : Fin 3)
theorem emb8_0 (t : Fin cfg0.N) (z : (win0_8.rect t).shape.Idx) :
    ((win0_8.rect t).emb z 0 : Nat) = win0_8.index t (0 : Fin 3) * 1 + (z 0 : Nat) :=
  ValueKit.rect_emb_unit_val _ _ _ z (0 : Fin 3)
theorem emb8_1 (t : Fin cfg0.N) (z : (win0_8.rect t).shape.Idx) :
    ((win0_8.rect t).emb z 1 : Nat) = win0_8.index t (1 : Fin 3) * 1 + (z 1 : Nat) :=
  ValueKit.rect_emb_unit_val _ _ _ z (1 : Fin 3)
theorem emb8_2 (t : Fin cfg0.N) (z : (win0_8.rect t).shape.Idx) :
    ((win0_8.rect t).emb z 2 : Nat) = win0_8.index t (2 : Fin 3) * 2048 + (z 2 : Nat) :=
  ValueKit.rect_emb_unit_val _ _ _ z (2 : Fin 3)
theorem emb9_0 (t : Fin cfg0.N) (z : (win0_9.rect t).shape.Idx) :
    ((win0_9.rect t).emb z 0 : Nat) = win0_9.index t (0 : Fin 3) * 1 + (z 0 : Nat) :=
  ValueKit.rect_emb_unit_val _ _ _ z (0 : Fin 3)
theorem emb9_1 (t : Fin cfg0.N) (z : (win0_9.rect t).shape.Idx) :
    ((win0_9.rect t).emb z 1 : Nat) = win0_9.index t (1 : Fin 3) * 1 + (z 1 : Nat) :=
  ValueKit.rect_emb_unit_val _ _ _ z (1 : Fin 3)
theorem emb9_2 (t : Fin cfg0.N) (z : (win0_9.rect t).shape.Idx) :
    ((win0_9.rect t).emb z 2 : Nat) = win0_9.index t (2 : Fin 3) * 2048 + (z 2 : Nat) :=
  ValueKit.rect_emb_unit_val _ _ _ z (2 : Fin 3)
theorem emb10_0 (t : Fin cfg0.N) (z : (win0_10.rect t).shape.Idx) :
    ((win0_10.rect t).emb z 0 : Nat) = win0_10.index t (0 : Fin 2) * 256 + (z 0 : Nat) :=
  ValueKit.rect_emb_unit_val _ _ _ z (0 : Fin 2)
theorem emb10_1 (t : Fin cfg0.N) (z : (win0_10.rect t).shape.Idx) :
    ((win0_10.rect t).emb z 1 : Nat) = win0_10.index t (1 : Fin 2) * 2048 + (z 1 : Nat) :=
  ValueKit.rect_emb_unit_val _ _ _ z (1 : Fin 2)
theorem emb11_0 (t : Fin cfg0.N) (z : (win0_11.rect t).shape.Idx) :
    ((win0_11.rect t).emb z 0 : Nat) = win0_11.index t (0 : Fin 2) * 256 + (z 0 : Nat) :=
  ValueKit.rect_emb_unit_val _ _ _ z (0 : Fin 2)
theorem emb11_1 (t : Fin cfg0.N) (z : (win0_11.rect t).shape.Idx) :
    ((win0_11.rect t).emb z 1 : Nat) = win0_11.index t (1 : Fin 2) * 2048 + (z 1 : Nat) :=
  ValueKit.rect_emb_unit_val _ _ _ z (1 : Fin 2)

/-! ## The loads, as the arguments at a row -/

variable (c : Dev nD) (t : Fin cfg0.N)

theorem ld2 (o : Nat) (inb) (p : Fin 128) (k : Fin 1024) (r : Fin 16384) (hr : r.val = win0_10.index t (0 : Fin 2) * 256 + (o + p.val)) :
    (View.ld (iblk m c 2 t) (Rect.unit (s := S256x1024) ![o, 0] ![128, 1024] inb) (ix2 p k) : EReal) = (m ((c : Thread nD τ).loc main_arg1) : S1x16384x1024.Idx → EReal) (ix3 (0 : Fin 1) r k) := by
  have ho : o + 128 ≤ 256 := inb 0
  rw [View.ld_unit_apply_of (iblk m c 2 t) ![o, 0] ![128, 1024] inb (ix2 p k) (ix2 (⟨o + p.val, by omega⟩ : Fin 256) k : S256x1024.Idx)
    (by intro a; fin_cases a; exacts [rfl, (Nat.zero_add _).symm])]
  refine (V_hc_apply m c ((win0_2.rect t).emb (ix2 (⟨o + p.val, by omega⟩ : Fin 256) k : S256x1024.Idx))).trans (congrArg _ (funext fun a => ?_))
  have e := (idx_facts t).2.2.1
  have z0 := emb2_0 t (ix2 (⟨o + p.val, by omega⟩ : Fin 256) k : S256x1024.Idx)
  have z1 := emb2_1 t (ix2 (⟨o + p.val, by omega⟩ : Fin 256) k : S256x1024.Idx)
  rw [e.1] at z0
  rw [e.2] at z1
  fin_cases a
  · rfl
  · exact Fin.ext (z0.trans hr.symm)
  · exact Fin.ext (z1.trans (by show 0 * 1024 + k.val = k.val; omega))

theorem ld3 (o : Nat) (inb) (p : Fin 128) (k : Fin 1024) (r : Fin 16384) (hr : r.val = win0_10.index t (0 : Fin 2) * 256 + (o + p.val)) :
    (View.ld (iblk m c 3 t) (Rect.unit (s := S256x1024) ![o, 0] ![128, 1024] inb) (ix2 p k) : EReal) = (m ((c : Thread nD τ).loc main_arg2) : S1x16384x1024.Idx → EReal) (ix3 (0 : Fin 1) r k) := by
  have ho : o + 128 ≤ 256 := inb 0
  rw [View.ld_unit_apply_of (iblk m c 3 t) ![o, 0] ![128, 1024] inb (ix2 p k) (ix2 (⟨o + p.val, by omega⟩ : Fin 256) k : S256x1024.Idx)
    (by intro a; fin_cases a; exacts [rfl, (Nat.zero_add _).symm])]
  refine (V_yd_apply m c ((win0_3.rect t).emb (ix2 (⟨o + p.val, by omega⟩ : Fin 256) k : S256x1024.Idx))).trans (congrArg _ (funext fun a => ?_))
  have e := (idx_facts t).2.2.2.1
  have z0 := emb3_0 t (ix2 (⟨o + p.val, by omega⟩ : Fin 256) k : S256x1024.Idx)
  have z1 := emb3_1 t (ix2 (⟨o + p.val, by omega⟩ : Fin 256) k : S256x1024.Idx)
  rw [e.1] at z0
  rw [e.2] at z1
  fin_cases a
  · rfl
  · exact Fin.ext (z0.trans hr.symm)
  · exact Fin.ext (z1.trans (by show 0 * 1024 + k.val = k.val; omega))

theorem ld4 (o : Nat) (inb) (p : Fin 128) (k : Fin 512) (r : Fin 16384) (hr : r.val = win0_10.index t (0 : Fin 2) * 256 + (o + p.val)) :
    (View.ld (iblk m c 4 t) (Rect.unit (s := S256x512) ![o, 0] ![128, 512] inb) (ix2 p k) : EReal) = (m ((c : Thread nD τ).loc main_arg3) : S1x16384x512.Idx → EReal) (ix3 (0 : Fin 1) r k) := by
  have ho : o + 128 ≤ 256 := inb 0
  rw [View.ld_unit_apply_of (iblk m c 4 t) ![o, 0] ![128, 512] inb (ix2 p k) (ix2 (⟨o + p.val, by omega⟩ : Fin 256) k : S256x512.Idx)
    (by intro a; fin_cases a; exacts [rfl, (Nat.zero_add _).symm])]
  refine (V_ym_apply m c ((win0_4.rect t).emb (ix2 (⟨o + p.val, by omega⟩ : Fin 256) k : S256x512.Idx))).trans (congrArg _ (funext fun a => ?_))
  have e := (idx_facts t).2.2.2.2.1
  have z0 := emb4_0 t (ix2 (⟨o + p.val, by omega⟩ : Fin 256) k : S256x512.Idx)
  have z1 := emb4_1 t (ix2 (⟨o + p.val, by omega⟩ : Fin 256) k : S256x512.Idx)
  rw [e.1] at z0
  rw [e.2] at z1
  fin_cases a
  · rfl
  · exact Fin.ext (z0.trans hr.symm)
  · exact Fin.ext (z1.trans (by show 0 * 512 + k.val = k.val; omega))

theorem ld6 (o : Nat) (inb) (p : Fin 128) (k : Fin 2048) (r : Fin 16384) (hr : r.val = win0_10.index t (0 : Fin 2) * 256 + (o + p.val)) :
    (View.ld (iblk m c 6 t) (Rect.unit (s := S256x2048) ![o, 0] ![128, 2048] inb) (ix2 p k) : EReal) = (m ((c : Thread nD τ).loc main_arg4) : S1x16384x2048.Idx → EReal) (ix3 (0 : Fin 1) r k) := by
  have ho : o + 128 ≤ 256 := inb 0
  rw [View.ld_unit_apply_of (iblk m c 6 t) ![o, 0] ![128, 2048] inb (ix2 p k) (ix2 (⟨o + p.val, by omega⟩ : Fin 256) k : S256x2048.Idx)
    (by intro a; fin_cases a; exacts [rfl, (Nat.zero_add _).symm])]
  refine (V_x_apply m c ((win0_6.rect t).emb (ix2 (⟨o + p.val, by omega⟩ : Fin 256) k : S256x2048.Idx))).trans (congrArg _ (funext fun a => ?_))
  have e := (idx_facts t).2.2.2.2.2.2.1
  have z0 := emb6_0 t (ix2 (⟨o + p.val, by omega⟩ : Fin 256) k : S256x2048.Idx)
  have z1 := emb6_1 t (ix2 (⟨o + p.val, by omega⟩ : Fin 256) k : S256x2048.Idx)
  rw [e.1] at z0
  rw [e.2] at z1
  fin_cases a
  · rfl
  · exact Fin.ext (z0.trans hr.symm)
  · exact Fin.ext (z1.trans (by show 0 * 2048 + k.val = k.val; omega))

theorem src_gate (j k : Nat) (hk : k < 2560) (h : j = 0 * 2560 + k) : src j = 6176 + k := by unfold src; split_ifs <;> omega

theorem src_o (j k : Nat) (hk : k < 1024) (h : j = 6 * 1024 + k) : src j = 3072 + k := by unfold src; split_ifs <;> omega

theorem X0_0_at (z : S256x2560.Idx) : ∃ y : (win0_0.rect t).shape.Idx, (y 0 : Nat) = z 0 ∧ (y 1 : Nat) = z 1
    ∧ (X0_0 m c t z : EReal) = V m c main_v5 ((win0_0.rect t).emb y) := by
  unfold X0_0 Pipeline.Window.fill
  rw [dif_pos (moved0_0 t _)]
  exact ⟨_, rfl, rfl, rfl⟩

theorem ld0 (o : Nat) (inb) (p : Fin 128) (k : Fin 2560) (r : Fin 16384) (hr : r.val = win0_10.index t (0 : Fin 2) * 256 + (o + p.val)) :
    (View.ld (X0_0 m c t) (Rect.unit (s := S256x2560) ![o, 0] ![128, 2560] inb) (ix2 p k) : EReal) = (m ((c : Thread nD τ).loc main_arg0) : S1x16384x8736.Idx → EReal) (ix3 (0 : Fin 1) r ⟨6176 + k.val, by omega⟩) := by
  have ho : o + 128 ≤ 256 := inb 0
  rw [View.ld_unit_apply_of (X0_0 m c t) ![o, 0] ![128, 2560] inb (ix2 p k) (ix2 (⟨o + p.val, by omega⟩ : Fin 256) k : S256x2560.Idx)
    (by intro a; fin_cases a; exacts [rfl, (Nat.zero_add _).symm])]
  obtain ⟨y, y0, y1, ey⟩ := X0_0_at m c t (ix2 (⟨o + p.val, by omega⟩ : Fin 256) k : S256x2560.Idx)
  rw [ey]
  refine (V_proj_apply m c ((win0_0.rect t).emb y)).trans (congrArg _ (funext fun a => ?_))
  have e := (idx_facts t).1
  have z0 := emb0_0 t y
  have z1 := emb0_1 t y
  rw [e.1] at z0
  rw [e.2] at z1
  rw [y0] at z0
  rw [y1] at z1
  fin_cases a
  · rfl
  · exact Fin.ext (z0.trans hr.symm)
  · exact Fin.ext (src_gate _ _ k.isLt z1)

theorem X0_1_at (z : S256x1024.Idx) : ∃ y : (win0_1.rect t).shape.Idx, (y 0 : Nat) = z 0 ∧ (y 1 : Nat) = z 1
    ∧ (X0_1 m c t z : EReal) = V m c main_v5 ((win0_1.rect t).emb y) := by
  unfold X0_1 Pipeline.Window.fill
  rw [dif_pos (moved0_1 t _)]
  exact ⟨_, rfl, rfl, rfl⟩

theorem ld1 (o : Nat) (inb) (p : Fin 128) (k : Fin 1024) (r : Fin 16384) (hr : r.val = win0_10.index t (0 : Fin 2) * 256 + (o + p.val)) :
    (View.ld (X0_1 m c t) (Rect.unit (s := S256x1024) ![o, 0] ![128, 1024] inb) (ix2 p k) : EReal) = (m ((c : Thread nD τ).loc main_arg0) : S1x16384x8736.Idx → EReal) (ix3 (0 : Fin 1) r ⟨3072 + k.val, by omega⟩) := by
  have ho : o + 128 ≤ 256 := inb 0
  rw [View.ld_unit_apply_of (X0_1 m c t) ![o, 0] ![128, 1024] inb (ix2 p k) (ix2 (⟨o + p.val, by omega⟩ : Fin 256) k : S256x1024.Idx)
    (by intro a; fin_cases a; exacts [rfl, (Nat.zero_add _).symm])]
  obtain ⟨y, y0, y1, ey⟩ := X0_1_at m c t (ix2 (⟨o + p.val, by omega⟩ : Fin 256) k : S256x1024.Idx)
  rw [ey]
  refine (V_proj_apply m c ((win0_1.rect t).emb y)).trans (congrArg _ (funext fun a => ?_))
  have e := (idx_facts t).2.1
  have z0 := emb1_0 t y
  have z1 := emb1_1 t y
  rw [e.1] at z0
  rw [e.2] at z1
  rw [y0] at z0
  rw [y1] at z1
  fin_cases a
  · rfl
  · exact Fin.ext (z0.trans hr.symm)
  · exact Fin.ext (src_o _ _ k.isLt z1)

theorem ld7 (o s : Nat) (inb) (k : Fin s) (n : Fin 2048) (q : Fin 2560) (hq : q.val = o + k.val) :
    (View.ld (iblk m c 7 t) (Rect.unit (s := S1x2560x2048) ![0, o, 0] ![1, s, 2048] inb) (ix3 (0 : Fin 1) k n) : EReal) = (m ((c : Thread nD τ).loc main_arg6) : S4x2560x2048.Idx → EReal) (ix3 (3 : Fin 4) q n) := by
  rw [View.ld_unit_apply_of (iblk m c 7 t) ![0, o, 0] ![1, s, 2048] inb (ix3 (0 : Fin 1) k n) (ix3 (0 : Fin 1) q n : S1x2560x2048.Idx)
    (by intro a; fin_cases a; exacts [rfl, hq, (Nat.zero_add _).symm])]
  refine (congrFun (V_w m c) ((win0_7.rect t).emb (ix3 (0 : Fin 1) q n : S1x2560x2048.Idx))).trans (congrArg _ (funext fun a => ?_))
  obtain ⟨e0, e1, e2⟩ := (idx_facts t).2.2.2.2.2.2.2.1
  have z0 := emb7_0 t (ix3 (0 : Fin 1) q n : S1x2560x2048.Idx)
  have z1 := emb7_1 t (ix3 (0 : Fin 1) q n : S1x2560x2048.Idx)
  have z2 := emb7_2 t (ix3 (0 : Fin 1) q n : S1x2560x2048.Idx)
  rw [e0] at z0
  rw [e1] at z1
  rw [e2] at z2
  fin_cases a
  · exact Fin.ext z0
  · exact Fin.ext (z1.trans (by show 0 * 2560 + q.val = q.val; omega))
  · exact Fin.ext (z2.trans (by show 0 * 2048 + n.val = n.val; omega))

theorem blk5 (k : Fin 1024) : (iblk m c 5 t (ix3 (0 : Fin 1) (0 : Fin 1) k) : EReal) = (m ((c : Thread nD τ).loc main_arg5) : S2x1024.Idx → EReal) (ix2 (1 : Fin 2) k) := by
  refine (V_nw_apply m c ((win0_5.rect t).emb _)).trans (congrArg _ (funext fun a => ?_))
  obtain ⟨e0, e1, e2⟩ := (idx_facts t).2.2.2.2.2.1
  fin_cases a
  · exact Fin.ext ((emb5_0 t _).trans (by rw [e0]; rfl))
  · exact Fin.ext ((emb5_2 t _).trans (by rw [e2]; exact Nat.zero_add _))

theorem blk8 (k : Fin 2048) : (iblk m c 8 t (ix3 (0 : Fin 1) (0 : Fin 1) k) : EReal) = (m ((c : Thread nD τ).loc main_arg7) : S4x2048.Idx → EReal) (ix2 (3 : Fin 4) k) := by
  refine (V_g_apply m c ((win0_8.rect t).emb _)).trans (congrArg _ (funext fun a => ?_))
  obtain ⟨e0, e1, e2⟩ := (idx_facts t).2.2.2.2.2.2.2.2.1
  fin_cases a
  · exact Fin.ext ((emb8_0 t _).trans (by rw [e0]; rfl))
  · exact Fin.ext ((emb8_2 t _).trans (by rw [e2]; exact Nat.zero_add _))

theorem blk9 (k : Fin 2048) : (iblk m c 9 t (ix3 (0 : Fin 1) (0 : Fin 1) k) : EReal) = (m ((c : Thread nD τ).loc main_arg8) : S4x2048.Idx → EReal) (ix2 (3 : Fin 4) k) := by
  refine (V_b_apply m c ((win0_9.rect t).emb _)).trans (congrArg _ (funext fun a => ?_))
  obtain ⟨e0, e1, e2⟩ := (idx_facts t).2.2.2.2.2.2.2.2.2.1
  fin_cases a
  · exact Fin.ext ((emb9_0 t _).trans (by rw [e0]; rfl))
  · exact Fin.ext ((emb9_2 t _).trans (by rw [e2]; exact Nat.zero_add _))

/-- The row of the loaded blocks is the row of the arguments. -/
theorem blockRow_eq (o : Nat) (i0) (i1) (i2) (i3) (j0) (j1) (j2) (p : Fin 128) (n : Fin 2048) (r : Fin 16384)
    (hr : r.val = win0_10.index t (0 : Fin 2) * 256 + (o + p.val)) :
    Pays.blockRow (View.ld (X0_0 m c t) (Rect.unit (s := S256x2560) ![o, 0] ![128, 2560] i0)) (View.ld (iblk m c 2 t) (Rect.unit (s := S256x1024) ![o, 0] ![128, 1024] i1))
      (View.ld (X0_1 m c t) (Rect.unit (s := S256x1024) ![o, 0] ![128, 1024] i1)) (View.ld (iblk m c 3 t) (Rect.unit (s := S256x1024) ![o, 0] ![128, 1024] i1))
      (iblk m c 5 t) (View.ld (iblk m c 4 t) (Rect.unit (s := S256x512) ![o, 0] ![128, 512] i2))
      (View.ld (iblk m c 7 t) (Rect.unit (s := S1x2560x2048) ![0, 0, 0] ![1, 1024, 2048] j0)) (View.ld (iblk m c 7 t) (Rect.unit (s := S1x2560x2048) ![0, 1024, 0] ![1, 1024, 2048] j1))
      (View.ld (iblk m c 7 t) (Rect.unit (s := S1x2560x2048) ![0, 2048, 0] ![1, 512, 2048] j2)) (View.ld (iblk m c 6 t) (Rect.unit (s := S256x2048) ![o, 0] ![128, 2048] i3))
      (iblk m c 8 t) (iblk m c 9 t) p n
      = outRow (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7))
          (m ((c : Thread nD τ).loc main_arg8)) r n := by
  unfold Pays.blockRow outRow
  have h0 := fun k => ld0 m c t o i0 p k r hr
  have h1 := fun k => ld1 m c t o i1 p k r hr
  have h2 := fun k => ld2 m c t o i1 p k r hr
  have h3 := fun k => ld3 m c t o i1 p k r hr
  have h4 := fun k => ld4 m c t o i2 p k r hr
  have h6 := fun k => ld6 m c t o i3 p k r hr
  have h7a := fun (k : Fin 1024) n => ld7 m c t 0 1024 j0 k n ⟨k.val, by omega⟩ (Nat.zero_add _).symm
  have h7b := fun (k : Fin 1024) n => ld7 m c t 1024 1024 j1 k n ⟨1024 + k.val, by omega⟩ rfl
  have h7c := fun (k : Fin 512) n => ld7 m c t 2048 512 j2 k n ⟨2048 + k.val, by omega⟩ rfl
  have h5 := blk5 m c t
  have h8 := blk8 m c t
  have h9 := blk9 m c t
  refine congrFun (congr (congr (congr (congrArg row (funext h6)) ?_) (funext h8)) (funext h9)) n
  refine congr (congr (congr (congr (congr (congrArg mixed ?_) ?_) ?_) ?_) ?_) ?_
  · funext k; exact congr (congrArg _ (congr (congrArg _ (h2 k)) (congrArg _ (h1 k)))) (congrArg _ ((h0 _).trans rfl))
  · refine congr (congrArg rmsNorm (funext fun k => ?_)) (funext h5)
    exact congr (congrArg _ (h3 k)) (congrArg silu ((h0 _).trans (congrArg _ (congrArg _ (Fin.ext (by show 6176 + (1024 + k.val) = 7200 + k.val; omega))))))
  · funext k
    exact congr (congrArg _ (h4 k)) (congrArg silu ((h0 _).trans (congrArg _ (congrArg _ (Fin.ext (by show 6176 + (2048 + k.val) = 8224 + k.val; omega))))))
  · funext k n; exact h7a k n
  · funext k n; exact h7b k n
  · funext k n; exact h7c k n

theorem ix2_surj (x : S128x2048.Idx) : ∃ (p : Fin 128) (n : Fin 2048), x = ix2 p n :=
  ⟨x 0, x 1, by funext a; fin_cases a <;> rfl⟩

/-- After the run result array 0 holds the layer's output. -/
theorem final10 (c : Dev nD) : (dats m 0 c).arrAt 10 cfg0.N = (out m c : Buf (Elt Ideal) ((c : Thread nD τ).loc main_v14_0)) := by
  refine (dats m 0 c).arrAt_eq_of_covers 10 _ (by decide +kernel) fun t hf y => ?_
  blk_simp
  rw [after0_10]
  dsimp only [outsAt0]
  frame_out
  have e := (idx_facts t).2.2.2.2.2.2.2.2.2.2
  have e0 := emb10_0 t y
  have e1 := emb10_1 t y
  rw [e.1] at e1
  have e1' := e1.trans (by omega : 0 * 2048 + (y 1).val = (y 1).val)
  canon_tiles x h
  · obtain ⟨p, n, rfl⟩ := ix2_surj x
    refine (Pays.lower _ _ _ _ _ _ _ _ _ _ _ _ p n).trans ((blockRow_eq m c t 128 _ _ _ _ _ _ _ p n _ (e0.trans (congrArg (_ + ·) h0))).trans ?_)
    exact congrArg _ (Fin.ext (h1.symm.trans (e1'.symm)))
  · obtain ⟨p, n, rfl⟩ := ix2_surj x
    refine (Pays.upper _ _ _ _ _ _ _ _ _ _ _ _ p n).trans ((blockRow_eq m c t 0 _ _ _ _ _ _ _ p n _ (e0.trans (congrArg (_ + ·) (h0.trans (Nat.zero_add _).symm)))).trans ?_)
    exact congrArg _ (Fin.ext (h1.symm.trans (e1'.symm)))

/-- After the run result array 1 holds the layer's output. -/
theorem final11 (c : Dev nD) : (dats m 0 c).arrAt 11 cfg0.N = (out m c : Buf (Elt Ideal) ((c : Thread nD τ).loc main_v14_1)) := by
  refine (dats m 0 c).arrAt_eq_of_covers 11 _ (by decide +kernel) fun t hf y => ?_
  blk_simp
  rw [after0_11]
  dsimp only [outsAt0]
  frame_out
  have e := (idx_facts t).2.2.2.2.2.2.2.2.2.2
  have e0 := emb11_0 t y
  have e1 := emb11_1 t y
  rw [e.2.1] at e0; rw [e.2.2] at e1
  have e1' := e1.trans (by omega : 0 * 2048 + (y 1).val = (y 1).val)
  canon_tiles x h
  · obtain ⟨p, n, rfl⟩ := ix2_surj x
    refine (Pays.lower _ _ _ _ _ _ _ _ _ _ _ _ p n).trans ((blockRow_eq m c t 128 _ _ _ _ _ _ _ p n _ (e0.trans (congrArg (_ + ·) h0))).trans ?_)
    exact congrArg _ (Fin.ext (h1.symm.trans (e1'.symm)))
  · obtain ⟨p, n, rfl⟩ := ix2_surj x
    refine (Pays.upper _ _ _ _ _ _ _ _ _ _ _ _ p n).trans ((blockRow_eq m c t 0 _ _ _ _ _ _ _ p n _ (e0.trans (congrArg (_ + ·) (h0.trans (Nat.zero_add _).symm)))).trans ?_)
    exact congrArg _ (Fin.ext (h1.symm.trans (e1'.symm)))

end Cert.OddTailIdeal.Blocks

end
-- ==== Proof.OddTailRefRead.lean ====
module

public import proofs.«01_k».proof.Proof.OddTailBlocks
public import proofs.«01_k».proof.Proof.Gen.OddTailRefIdeal.Read

@[expose] public section

set_option maxRecDepth 16384

noncomputable section

namespace Cert.OddTailRefIdeal.Entry

open Cert.OddTailRefIdeal Cert.OddTailRefIdeal.Gen Cert.OddTailRefIdeal.Read Idealize.ShloMosaic Idealize.ShloMosaic.TcCoe Idealize.SL.Sem
open TailSpec
open Cert.OddTailIdeal.Blocks (outRow)

variable (h : S1x16384x8736.Idx → EReal) (hc yd : S1x16384x1024.Idx → EReal) (ym : S1x16384x512.Idx → EReal) (x : S1x16384x2048.Idx → EReal)
  (nw : S2x1024.Idx → EReal) (w : S4x2560x2048.Idx → EReal) (g b : S4x2048.Idx → EReal)

/-- The reference's sigmoid is the logistic function. -/
theorem sigmoid (y : EReal) : Ideal.div (Ideal.ofBits .f32 0x3F800000#32) (Ideal.ofBits .f32 0x3F800000#32 + Ideal.exp (-y)) = Ideal.logistic y := by
  rw [Ideal.ofBits_one_f32]; rfl

/-- The gated output of the matrix recurrence. -/
theorem v38_apply (r : Fin 16384) (k : Fin 1024) : (val_main_v38 (F := Ideal) h hc (ix3 (0 : Fin 1) r k) : EReal)
    = hc (ix3 (0 : Fin 1) r k) * Ideal.logistic (h (ix3 (0 : Fin 1) r ⟨3072 + k.val, by omega⟩)) * silu (h (ix3 (0 : Fin 1) r ⟨6176 + k.val, by omega⟩)) := by
  unfold silu
  have e3 : val_main_v3 (F := Ideal) h (ix3 (0 : Fin 1) r k) = h (ix3 (0 : Fin 1) r ⟨3072 + k.val, by omega⟩) := by
    rw [val_main_v3_apply]; exact congrArg h (by funext a; fin_cases a <;> rfl)
  have e17 : val_main_v17 (F := Ideal) h (ix3 (0 : Fin 1) r k) = h (ix3 (0 : Fin 1) r ⟨6176 + k.val, by omega⟩) := by
    rw [val_main_v17_apply, val_main_v9_apply]; exact congrArg h (by funext a; fin_cases a <;> rfl)
  rw [← e3, ← e17, ← sigmoid, ← sigmoid]
  rfl

/-- The gated output of the state-space recurrence. -/
theorem v21_apply (r : Fin 16384) (k : Fin 1024) : (val_main_v21 (F := Ideal) h yd (ix3 (0 : Fin 1) r k) : EReal)
    = yd (ix3 (0 : Fin 1) r k) * silu (h (ix3 (0 : Fin 1) r ⟨7200 + k.val, by omega⟩)) := by
  unfold silu
  have e : val_main_v18 (F := Ideal) h (ix3 (0 : Fin 1) r k) = h (ix3 (0 : Fin 1) r ⟨7200 + k.val, by omega⟩) := by
    rw [val_main_v18_apply, val_main_v9_apply]
    exact congrArg h (by funext a; apply Fin.ext; fin_cases a; exacts [rfl, rfl, (by show 6176 + (1024 + k.val) = 7200 + k.val; omega)])
  rw [← e, ← sigmoid]
  rfl

/-- The gated output of the memory attention. -/
theorem v40_apply (r : Fin 16384) (k : Fin 512) : (val_main_v40 (F := Ideal) h ym (ix3 (0 : Fin 1) r k) : EReal)
    = ym (ix3 (0 : Fin 1) r k) * silu (h (ix3 (0 : Fin 1) r ⟨8224 + k.val, by omega⟩)) := by
  unfold silu
  have e : val_main_v19 (F := Ideal) h (ix3 (0 : Fin 1) r k) = h (ix3 (0 : Fin 1) r ⟨8224 + k.val, by omega⟩) := by
    rw [val_main_v19_apply, val_main_v9_apply]
    exact congrArg h (by funext a; apply Fin.ext; fin_cases a; exacts [rfl, rfl, (by show 6176 + (2048 + k.val) = 8224 + k.val; omega)])
  rw [← e, ← sigmoid]
  rfl

/-- The state-space branch is normalised row by row. -/
theorem v36_apply (r : Fin 16384) (k : Fin 1024) : (val_main_v36 (F := Ideal) h yd nw (ix3 (0 : Fin 1) r k) : EReal)
    = rmsNorm (fun k => yd (ix3 (0 : Fin 1) r k) * silu (h (ix3 (0 : Fin 1) r ⟨7200 + k.val, by omega⟩))) (fun k => nw (ix2 (1 : Fin 2) k)) k := by
  unfold rmsNorm
  simp only [← v21_apply]
  have e35 : val_main_v35 (F := Ideal) nw (ix3 (0 : Fin 1) r k) = nw (ix2 (1 : Fin 2) k) := by
    have hk := k.isLt
    rw [val_main_v35_apply, val_main_v34_apply, val_main_v23_apply, val_main_v22_apply]
    exact congrArg nw (by funext a; apply Fin.ext; fin_cases a; exacts [rfl, Nat.mod_eq_of_lt hk])
  have e32 : (val_main_v32 (F := Ideal) h yd (ix3 (0 : Fin 1) r k) : EReal)
      = Ideal.rsqrt (Ideal.div (∑ j, val_main_v21 (F := Ideal) h yd (ix3 (0 : Fin 1) r j) * val_main_v21 (F := Ideal) h yd (ix3 (0 : Fin 1) r j))
          (Ideal.ofBits .f32 0x44800000#32) + Ideal.ofBits .f32 0x3727C5AC#32) := by
    rw [val_main_v32_apply]
    refine congrArg Ideal.rsqrt (congrArg (· + _) (congrArg (Ideal.div · _) ?_))
    rw [val_main_v26_apply, val_main_v25_apply]
    refine (congrArg (· + _) (Ideal.ofBits_zero_f32)).trans ((zero_add _).trans (Finset.sum_congr rfl fun j _ => ?_))
    rw [show idx_main_v25 (idx_main_v26 (idx_main_v32 (ix3 (0 : Fin 1) r k))) j = ix3 (0 : Fin 1) r j by funext a; fin_cases a <;> rfl]
    rfl
  refine (show _ = val_main_v21 (F := Ideal) h yd (ix3 (0 : Fin 1) r k) * val_main_v32 (F := Ideal) h yd (ix3 (0 : Fin 1) r k)
    * val_main_v35 (F := Ideal) nw (ix3 (0 : Fin 1) r k) from rfl).trans ?_
  rw [e35, e32]

/-- The mixed branches through the output weights. -/
theorem v46_apply (r : Fin 16384) (n : Fin 2048) : (val_main_v46 (F := Ideal) h hc yd ym nw w (ix3 (0 : Fin 1) r n) : EReal)
    = mixed (fun k => hc (ix3 (0 : Fin 1) r k) * Ideal.logistic (h (ix3 (0 : Fin 1) r ⟨3072 + k.val, by omega⟩)) * silu (h (ix3 (0 : Fin 1) r ⟨6176 + k.val, by omega⟩)))
      (rmsNorm (fun k => yd (ix3 (0 : Fin 1) r k) * silu (h (ix3 (0 : Fin 1) r ⟨7200 + k.val, by omega⟩))) (fun k => nw (ix2 (1 : Fin 2) k)))
      (fun k => ym (ix3 (0 : Fin 1) r k) * silu (h (ix3 (0 : Fin 1) r ⟨8224 + k.val, by omega⟩)))
      (fun k n => w (ix3 (3 : Fin 4) ⟨k.val, by omega⟩ n)) (fun k n => w (ix3 (3 : Fin 4) ⟨1024 + k.val, by omega⟩ n))
      (fun k n => w (ix3 (3 : Fin 4) ⟨2048 + k.val, by omega⟩ n)) n := by
  have ew : ∀ k : Fin 2560, val_main_v45 (F := Ideal) w (ridx_main_v46 (ix3 (0 : Fin 1) r n) k) = w (ix3 (3 : Fin 4) k n) := fun k => by
    have hk := k.isLt
    have hn := n.isLt
    rw [val_main_v45_apply, val_main_v44_apply]
    refine congrArg w (by funext a; apply Fin.ext; fin_cases a <;> simp <;> omega)
  rw [val_main_v46_apply, sum_branches]
  unfold mixed
  simp only [ew]
  unfold val_main_v41
  refine congr (congrArg _ (congr (congrArg _ ?_) ?_)) ?_
  · refine Finset.sum_congr rfl fun k _ => congrArg (· * _) ?_
    rw [← v38_apply]
    have hk := k.isLt
    pointwise
  · refine Finset.sum_congr rfl fun k _ => congrArg (· * _) ?_
    rw [← v36_apply]
    have hk := k.isLt
    pointwise
  · refine Finset.sum_congr rfl fun k _ => congrArg (· * _) ?_
    rw [← v40_apply]
    have hk := k.isLt
    pointwise
    rw [dif_neg (by show ¬ (2048 + k.val < 1024); omega), dif_neg (by show ¬ (2048 + k.val - 1024 < 1024); omega)]
    exact congrArg _ (by funext a; apply Fin.ext; fin_cases a; exacts [rfl, rfl, (by show 2048 + k.val - 1024 - 1024 = k.val; omega)])

/-- The rows the reference ends with. -/
theorem v75_apply (r : Fin 16384) (n : Fin 2048) : (val_main_v75 (F := Ideal) h hc yd ym x nw w g b (ix3 (0 : Fin 1) r n) : EReal)
    = outRow h hc yd ym x nw w g b r n := by
  unfold outRow row layerNorm
  simp only [← v46_apply]
  have e47 : ∀ n : Fin 2048, (val_main_v47 (F := Ideal) h hc yd ym x nw w (ix3 (0 : Fin 1) r n) : EReal)
      = Ideal.ofBits .f32 0x3FD744FD#32 * x (ix3 (0 : Fin 1) r n) + val_main_v46 (F := Ideal) h hc yd ym nw w (ix3 (0 : Fin 1) r n) := fun n => rfl
  simp only [← e47]
  have eg : val_main_v71 (F := Ideal) g (ix3 (0 : Fin 1) r n) = g (ix2 (3 : Fin 4) n) := by
    have hn := n.isLt
    rw [val_main_v71_apply, val_main_v70_apply, val_main_v49_apply, val_main_v48_apply]
    exact congrArg g (by funext a; apply Fin.ext; fin_cases a; exacts [rfl, Nat.mod_eq_of_lt hn])
  have eb : val_main_v74 (F := Ideal) b (ix3 (0 : Fin 1) r n) = b (ix2 (3 : Fin 4) n) := by
    have hn := n.isLt
    rw [val_main_v74_apply, val_main_v73_apply, val_main_v51_apply, val_main_v50_apply]
    exact congrArg b (by funext a; apply Fin.ext; fin_cases a; exacts [rfl, Nat.mod_eq_of_lt hn])
  have em : ∀ n : Fin 2048, (val_main_v55 (F := Ideal) h hc yd ym x nw w (idx_main_v56 (ix3 (0 : Fin 1) r n)) : EReal)
      = Ideal.div (∑ k, val_main_v47 (F := Ideal) h hc yd ym x nw w (ix3 (0 : Fin 1) r k)) (Ideal.ofBits .f32 0x45000000#32) := fun n => by
    refine congrArg (Ideal.div · _) ?_
    rw [val_main_v53_apply, val_main_v52_apply]
    refine (congrArg (· + _) (Ideal.ofBits_zero_f32)).trans ((zero_add _).trans (Finset.sum_congr rfl fun j _ => ?_))
    exact congrArg _ (by funext a; fin_cases a <;> rfl)
  have e57 : ∀ n : Fin 2048, (val_main_v57 (F := Ideal) h hc yd ym x nw w (ix3 (0 : Fin 1) r n) : EReal)
      = val_main_v47 (F := Ideal) h hc yd ym x nw w (ix3 (0 : Fin 1) r n)
        - Ideal.div (∑ k, val_main_v47 (F := Ideal) h hc yd ym x nw w (ix3 (0 : Fin 1) r k)) (Ideal.ofBits .f32 0x45000000#32) := fun n => by
    rw [val_main_v57_apply, val_main_v56_apply, em n]; rfl
  have e64 : (val_main_v64 (F := Ideal) h hc yd ym x nw w (ix3 (0 : Fin 1) r n) : EReal)
      = val_main_v47 (F := Ideal) h hc yd ym x nw w (ix3 (0 : Fin 1) r n)
        - Ideal.div (∑ k, val_main_v47 (F := Ideal) h hc yd ym x nw w (ix3 (0 : Fin 1) r k)) (Ideal.ofBits .f32 0x45000000#32) := by
    rw [val_main_v64_apply, val_main_v63_apply]
    exact (congrArg (FloatOps.subf (F := Ideal) (val_main_v47 (F := Ideal) h hc yd ym x nw w (ix3 (0 : Fin 1) r n))) (em n)).trans rfl
  have e68 : (val_main_v68 (F := Ideal) h hc yd ym x nw w (ix3 (0 : Fin 1) r n) : EReal)
      = Ideal.rsqrt (Ideal.div (∑ j, val_main_v57 (F := Ideal) h hc yd ym x nw w (ix3 (0 : Fin 1) r j) * val_main_v57 (F := Ideal) h hc yd ym x nw w (ix3 (0 : Fin 1) r j))
          (Ideal.ofBits .f32 0x45000000#32) + Ideal.ofBits .f32 0x3727C5AC#32) := by
    rw [val_main_v68_apply]
    refine congrArg Ideal.rsqrt (congrArg (· + _) (congrArg (Ideal.div · _) ?_))
    rw [val_main_v60_apply, val_main_v59_apply]
    refine (congrArg (· + _) (Ideal.ofBits_zero_f32)).trans ((zero_add _).trans (Finset.sum_congr rfl fun j _ => ?_))
    rw [show idx_main_v59 (idx_main_v60 (idx_main_v68 (ix3 (0 : Fin 1) r n))) j = ix3 (0 : Fin 1) r j by funext a; fin_cases a <;> rfl]
    rfl
  simp only [e57] at e68
  refine (show _ = val_main_v64 (F := Ideal) h hc yd ym x nw w (ix3 (0 : Fin 1) r n) * val_main_v68 (F := Ideal) h hc yd ym x nw w (ix3 (0 : Fin 1) r n)
    * val_main_v71 (F := Ideal) g (ix3 (0 : Fin 1) r n) + val_main_v74 (F := Ideal) b (ix3 (0 : Fin 1) r n) from rfl).trans ?_
  rw [eg, eb, e64, e68]

/-- The reference's results are the layer's output. -/
theorem result (i : S16384x2048.Idx) : (val_main_v76 (F := Ideal) h hc yd ym x nw w g b i : EReal) = outRow h hc yd ym x nw w g b (i 0) (i 1) := by
  have h0 : (i 0).val < 16384 := (i 0).isLt
  have h1 : (i 1).val < 2048 := (i 1).isLt
  have e : idx_main_v76 i = ix3 (0 : Fin 1) (i 0) (i 1) := by
    funext a; apply Fin.ext
    match a with
    | ⟨0, _⟩ => rfl
    | ⟨1, _⟩ => show ((i 0).val * 2048 + (i 1).val) / 2048 % 16384 = (i 0).val; omega
    | ⟨2, _⟩ => show ((i 0).val * 2048 + (i 1).val) % 2048 = (i 1).val; omega
  rw [val_main_v76_apply, e]
  exact v75_apply h hc yd ym x nw w g b (i 0) (i 1)

end Cert.OddTailRefIdeal.Entry

end
-- ==== Proof.OddTailClaims.lean ====
module

public import proofs.«01_k».proof.Proof.OddTailRefRead
public import proofs.«01_k».proof.Proof.Gen.OddTail.Frame
public import proofs.«01_k».proof.Proof.Gen.OddTailRefIdeal.Run
public import Idealize.ShloMosaic.Lib.Quiescent

@[expose] public section

noncomputable section

namespace Cert.OddTailClaims

open Idealize.ShloMosaic Idealize.ShloMosaic.TcCoe Idealize.SL.Sem

/-- The kernel and its ideal reading leave their arguments alone and no semaphore raised. -/
theorem frame_k : Cert.quiescent_OddTail := fun m ρ _ => Cert.OddTail.Gen.frame m ρ
theorem frame_ki : Cert.quiescent_OddTailIdeal := fun m ρ _ => Cert.OddTailIdeal.Gen.frame m ρ

/-- So does the reference, which has no semaphore. -/
theorem frame_ri : Cert.quiescent_OddTailRefIdeal := fun m ρ _ =>
  (θ_run Cert.OddTailRefIdeal.defs _ _).mono (fun r h => ⟨fun c => (h c).2.2, Idealize.ShloMosaic.sem_eq_zero_of_no_sems (by decide) r.2⟩)
    (Cert.OddTailRefIdeal.Value.run (F := Ideal) m ρ)

/-- At the ideal reading the kernel's two results and the reference's are the same rows of the same arguments. -/
theorem algebraic : Cert.algebraic_OddTailIdeal_OddTailRefIdeal := by
  intro m ρ m' ρ' _ hag
  refine ⟨fun c => Cert.OddTailIdeal.Blocks.out m c, fun c => Cert.OddTailIdeal.Blocks.out m c, ?_, ?_⟩
  · exact (θ_run Cert.OddTailIdeal.defs _ _).mono (fun _ h c => ⟨(h c).1.trans (Cert.OddTailIdeal.Blocks.final10 m c),
      (h c).2.1.trans (Cert.OddTailIdeal.Blocks.final11 m c), (h c).2.2⟩)
      (Cert.OddTailIdeal.Value.run_blocks (F := Ideal) m ρ)
  · refine (θ_run Cert.OddTailRefIdeal.defs _ _).mono (fun _ h c => ⟨(h c).1.trans ?_, (h c).2.1.trans ?_, (h c).2.2⟩)
      (Cert.OddTailRefIdeal.Value.run (F := Ideal) m' ρ')
    · obtain ⟨a0, a1, a2, a3, a4, a5, a6, a7, a8⟩ := hag c
      rw [Cert.OddTailRefIdeal.Read.val_main_v76_eq, a0, a1, a2, a3, a4, a5, a6, a7, a8]
      exact funext fun i => Cert.OddTailRefIdeal.Entry.result _ _ _ _ _ _ _ _ _ i
    · obtain ⟨a0, a1, a2, a3, a4, a5, a6, a7, a8⟩ := hag c
      rw [Cert.OddTailRefIdeal.Read.val_main_v77_eq, a0, a1, a2, a3, a4, a5, a6, a7, a8]
      exact funext fun i => Cert.OddTailRefIdeal.Entry.result _ _ _ _ _ _ _ _ _ i

end Cert.OddTailClaims

end
-- ==== Proof.Softmax.lean ====
module

public import Idealize.ShloMosaic.Lib.Pipeline.Value
public import Idealize.ShloMosaic.Lib.Pipeline.ValueKit
public import Idealize.ShloMosaic.Lib.Pointwise

@[expose] public section

noncomputable section

/-! A softmax whose division is deferred past the product with the values. -/

namespace Softmax

open Idealize.ShloMosaic

variable {n : Nat}

/-- Neither infinity. -/
def Fin' (x : EReal) : Prop := x ≠ ⊥ ∧ x ≠ ⊤

theorem Fin'.coe (r : ℝ) : Fin' (r : EReal) := ⟨EReal.coe_ne_bot r, EReal.coe_ne_top r⟩

theorem Fin'.exists {x : EReal} (h : Fin' x) : ∃ r : ℝ, x = (r : EReal) := ⟨x.toReal, (EReal.coe_toReal h.2 h.1).symm⟩

theorem Fin'.mul {x y : EReal} (hx : Fin' x) (hy : Fin' y) : Fin' (x * y) := by
  obtain ⟨a, rfl⟩ := hx.exists
  obtain ⟨b, rfl⟩ := hy.exists
  rw [← EReal.coe_mul]; exact Fin'.coe _

theorem Fin'.add {x y : EReal} (hx : Fin' x) (hy : Fin' y) : Fin' (x + y) := by
  obtain ⟨a, rfl⟩ := hx.exists
  obtain ⟨b, rfl⟩ := hy.exists
  rw [← EReal.coe_add]; exact Fin'.coe _

theorem Fin'.sum {f : Fin n → EReal} (h : ∀ j, Fin' (f j)) : Fin' (∑ j, f j) := by
  refine Finset.sum_induction f Fin' (fun _ _ => Fin'.add) ?_ (fun j _ => h j)
  exact Fin'.coe 0

/-- The greatest of a row. -/
def top (s : Fin n → EReal) : EReal := Finset.univ.sup s

theorem Fin'.top {s : Fin n → EReal} (h : ∀ j, Fin' (s j)) (j0 : Fin n) : Fin' (top s) := by
  refine ⟨fun e => (h j0).1 (le_bot_iff.mp (e ▸ Finset.le_sup (f := s) (Finset.mem_univ j0))), fun e => ?_⟩
  obtain ⟨j, -, hj⟩ := Finset.exists_mem_eq_sup Finset.univ ⟨j0, Finset.mem_univ j0⟩ s
  exact (h j).2 (hj.symm.trans e)

theorem sum_coe (p : Fin n → ℝ) : (∑ j, (p j : EReal)) = ((∑ j, p j : ℝ) : EReal) := by
  induction (Finset.univ : Finset (Fin n)) using Finset.induction_on with
  | empty => simp
  | insert a s ha ih => rw [Finset.sum_insert ha, Finset.sum_insert ha, ih, EReal.coe_add]

theorem sum_mul_coe (f : Fin n → EReal) (c : ℝ) (hc : 0 ≤ c) : (∑ j, f j) * (c : EReal) = ∑ j, f j * (c : EReal) := by
  induction (Finset.univ : Finset (Fin n)) using Finset.induction_on with
  | empty => simp
  | insert a s ha ih =>
    rw [Finset.sum_insert ha, Finset.sum_insert ha, ← ih, mul_comm,
      EReal.left_distrib_of_nonneg_of_ne_top (EReal.coe_nonneg.mpr hc) (EReal.coe_ne_top c), mul_comm, mul_comm (c : EReal)]

/-- Dividing the weighted sum by the weights' sum is weighing by the divided weights. -/
theorem deferred (p : Fin n → ℝ) (v : Fin n → EReal) (hp : 0 < ∑ j, p j) :
    (∑ j, (p j : EReal) * v j) * Ideal.div 1 (∑ j, (p j : EReal)) = ∑ j, Ideal.div (p j : EReal) (∑ j, (p j : EReal)) * v j := by
  rw [sum_coe, Ideal.div_coe hp.ne', one_mul, sum_mul_coe _ _ (by positivity)]
  refine Finset.sum_congr rfl fun j _ => ?_
  rw [Ideal.div_coe hp.ne']
  exact mul_right_comm _ _ _

/-- A row of scores' softmax over a row of values, the division last. -/
def attend (s v : Fin n → EReal) : EReal :=
  (∑ j, Ideal.exp (s j - top s) * v j) * Ideal.div 1 (∑ j, Ideal.exp (s j - top s))

/-- For finite scores it is the softmax, divided first. -/
theorem attend_eq (s v : Fin n → EReal) (h : ∀ j, Fin' (s j)) (j0 : Fin n) :
    attend s v = ∑ j, Ideal.div (Ideal.exp (s j - top s)) (∑ j, Ideal.exp (s j - top s)) * v j := by
  obtain ⟨m, hm⟩ := (Fin'.top h j0).exists
  have e : ∀ j, ∃ p : ℝ, 0 < p ∧ Ideal.exp (s j - top s) = (p : EReal) := fun j => by
    obtain ⟨a, ha⟩ := (h j).exists
    refine ⟨Real.exp (a - m), Real.exp_pos _, ?_⟩
    rw [ha, hm, ← EReal.coe_sub]; rfl
  choose p hp he using e
  unfold attend
  simp only [he]
  exact deferred p v (Finset.sum_pos (fun j _ => hp j) ⟨j0, Finset.mem_univ j0⟩)

end Softmax

end
-- ==== Proof.MemAttPays.lean ====
module

public import proofs.«01_k».proof.Defs
public import proofs.«01_k».proof.Proof.Gen.MemAttIdeal.Value
public import proofs.«01_k».proof.Proof.Softmax
public import Idealize.ShloMosaic.Lib.Pipeline.Value
public import Idealize.ShloMosaic.Lib.Pipeline.ValueKit
public import Idealize.ShloMosaic.Lib.Pointwise
public import Idealize.ShloMosaic.PureOps.Ideal.Laws

@[expose] public section

set_option maxRecDepth 16384

noncomputable section

/-! What the memory attention stores, one head at a time, at an index. -/

namespace Cert.MemAttIdeal.Pays

open Cert.MemAttIdeal Cert.MemAttIdeal.Gen Idealize.ShloMosaic Idealize.ShloMosaic.TcCoe Idealize.SL.Sem

theorem bits_bot : Ideal.ofBits .f32 0xFF800000#32 = ⊥ := by
  simp only [Ideal.ofBits, Ideal.ieee]; simp

theorem fold_top {n : Nat} (s : Fin n → EReal) : Finset.fold max (Ideal.ofBits .f32 0xFF800000#32) s Finset.univ = Softmax.top s := by
  rw [bits_bot]; rfl

/-- The weights of a row: the exponentials of the scores less the greatest. -/
theorem stored (s : FVec Ideal S512x256 .f32) (cst : Ideal .f32) (v : Vec Ideal S256x128 .f32) (p : Fin 512) (n : Fin 128) :
    (k0_pay1 (F := Ideal) s cst v (ix2 p n) : EReal) = Softmax.attend (fun j => s (ix2 p j) * cst) (fun j => v (ix2 j n)) := by
  unfold Softmax.attend
  pointwise [k0_pay1]
  simp only [fold_top]

/-- The product of queries and keys. -/
theorem scores (q : Vec Ideal S512x128 .f32) (k : Vec Ideal S256x128 .f32) (p : Fin 512) (j : Fin 256) :
    (k0_pay7 (F := Ideal) q k (ix2 p j) : EReal) = ∑ e : Fin 128, q (ix2 p e) * k (ix2 j e) := by
  pointwise [k0_pay7]

/-- A head's output at row `p`. -/
def head (q : Vec Ideal S512x128 .f32) (k v : Vec Ideal S256x128 .f32) (p : Fin 512) (n : Fin 128) : EReal :=
  Softmax.attend (fun j => (∑ e : Fin 128, (q (ix2 p e) : EReal) * k (ix2 j e)) * Ideal.ofBits .f32 0x3DB504F3#32) (fun j => v (ix2 j n))

theorem head3 (q : Vec Ideal S512x128 .f32) (k v : Vec Ideal S256x128 .f32) (p : Fin 512) (n : Fin 128) :
    (k0_pay1 (F := Ideal) (k0_pay7 q k) (Scalar.ofBits .f32 0x3DB504F3#32) v (ix2 p n) : EReal) = head q k v p n := by
  rw [stored]
  unfold head
  simp only [scores]
  rfl

theorem head2 (q : Vec Ideal S512x128 .f32) (k v : Vec Ideal S256x128 .f32) (p : Fin 512) (n : Fin 128) :
    (k0_pay6 (F := Ideal) (k0_pay5 q) k v (ix2 p n) : EReal) = head q k v p n := head3 q k v p n

theorem head1 (q : Vec Ideal S512x128 .f32) (k v : Vec Ideal S256x128 .f32) (p : Fin 512) (n : Fin 128) :
    (k0_pay4 (F := Ideal) (k0_pay3 q) k v (ix2 p n) : EReal) = head q k v p n := head3 q k v p n

theorem head0 (q : Vec Ideal S512x128 .f32) (k v : Vec Ideal S256x128 .f32) (p : Fin 512) (n : Fin 128) :
    (k0_pay2 (F := Ideal) q k v (ix2 p n) : EReal) = head q k v p n := head3 q k v p n

end Cert.MemAttIdeal.Pays

end
-- ==== Proof.MemAttBlocks.lean ====
module

public import proofs.«01_k».proof.Defs
public import proofs.«01_k».proof.Proof.Gen.MemAttIdeal.Value
public import proofs.«01_k».proof.Proof.MemAttPays
public import Idealize.ShloMosaic.Lib.WholeRead
public import Idealize.ShloMosaic.Lib.ValueLayout
public import Idealize.ShloMosaic.Lib.Pipeline.Value
public import Idealize.ShloMosaic.Lib.Pipeline.ValueKit
public import Idealize.ShloMosaic.Lib.Pointwise

@[expose] public section

set_option maxRecDepth 16384

noncomputable section

namespace Cert.MemAttIdeal.Blocks

open Cert.MemAttIdeal Cert.MemAttIdeal.Gen Idealize.ShloMosaic Idealize.ShloMosaic.TcCoe Idealize.SL.Sem
open Idealize.ShloMosaic.Pipeline (Dat)

variable (m : (ℓ : Loc nD τ sig) → Buf (Elt Ideal) ℓ)

/-- Column `n` of the projection the kernel reads is column `src n` of the reference's. -/
def src (n : Nat) : Nat := if n < 2560 then n + 6656 else if n < 3072 then n + 3584 else n - 3072

theorem src_lt {n : Nat} (h : n < 9216) : src n < 9216 := by unfold src; split_ifs <;> omega

/-- Row `r` and column `n` of head `a`: the memory's values weighted by the softmax of the scores. -/
def headOut (h : S1x16384x9216.Idx → EReal) (mk mv : S1x256x4x128.Idx → EReal) (r : Fin 16384) (a : Fin 4) (n : Fin 128) : EReal :=
  Softmax.attend
    (fun j : Fin 256 => (∑ e : Fin 128, h (ix3 (0 : Fin 1) r ⟨6144 + (a.val * 128 + e.val), by omega⟩) * mk (ix4 (0 : Fin 1) j a e)) * Ideal.ofBits .f32 0x3DB504F3#32)
    (fun j => mv (ix4 (0 : Fin 1) j a n))

/-- The same of the arguments a memory holds, at an index of the result. -/
def out (c : Dev nD) (i : S16384x512.Idx) : EReal :=
  headOut (m ((c : Thread nD τ).loc main_arg0)) (m ((c : Thread nD τ).loc main_arg1)) (m ((c : Thread nD τ).loc main_arg2)) (i 0)
    ⟨(i 1).val / 128, by have h : (i 1).val < 512 := (i 1).isLt; omega⟩ ⟨(i 1).val % 128, Nat.mod_lt _ (by omega)⟩

theorem out_at (c : Dev nD) (i : S16384x512.Idx) (r : Fin 16384) (a : Fin 4) (n : Fin 128) (h0 : (i 0).val = r.val) (h1 : (i 1).val = a.val * 128 + n.val) :
    out m c i = headOut (m ((c : Thread nD τ).loc main_arg0)) (m ((c : Thread nD τ).loc main_arg1)) (m ((c : Thread nD τ).loc main_arg2)) r a n := by
  unfold out
  have e0 : (i 0 : Fin 16384) = r := Fin.ext h0
  have e1 : (⟨(i 1).val / 128, by have h : (i 1).val < 512 := (i 1).isLt; omega⟩ : Fin 4) = a := Fin.ext (by show (i 1).val / 128 = a.val; omega)
  have e2 : (⟨(i 1).val % 128, Nat.mod_lt _ (by omega)⟩ : Fin 128) = n := Fin.ext (by show (i 1).val % 128 = n.val; omega)
  exact congr (congr (congrArg _ e0) e1) e2

/-- The block coordinates of the windows at a grid point. -/
theorem idx_facts : ∀ t : Fin cfg0.N,
    (win0_0.index t (0 : Fin 2) = win0_3.index t (0 : Fin 2) ∧ win0_0.index t (1 : Fin 2) = 5)
    ∧ (win0_1.index t (0 : Fin 4) = 0 ∧ win0_1.index t (1 : Fin 4) = 0 ∧ win0_1.index t (2 : Fin 4) = 0 ∧ win0_1.index t (3 : Fin 4) = 0)
    ∧ (win0_2.index t (0 : Fin 4) = 0 ∧ win0_2.index t (1 : Fin 4) = 0 ∧ win0_2.index t (2 : Fin 4) = 0 ∧ win0_2.index t (3 : Fin 4) = 0)
    ∧ win0_3.index t (1 : Fin 2) = 0 :=
  (by decide +kernel : ∀ t : Fin grid0.N, _)

/-! ## The arrays the region reads, as the arguments -/

theorem V_proj (c : Dev nD) : V m c main_v4 = shapeCast S16384x9216 (concatenate S1x16384x9216 2 [
      ⟨S1x16384x2560, extractStridedSlice S1x16384x2560 ![0, 0, 6656] (m ((c : Thread nD τ).loc main_arg0)) slices_S1x16384x9216_S1x16384x2560_0_0_6656⟩,
      ⟨S1x16384x512, extractStridedSlice S1x16384x512 ![0, 0, 6144] (m ((c : Thread nD τ).loc main_arg0)) slices_S1x16384x9216_S1x16384x512_0_0_6144⟩,
      ⟨S1x16384x6144, extractStridedSlice S1x16384x6144 ![0, 0, 0] (m ((c : Thread nD τ).loc main_arg0)) slices_S1x16384x9216_S1x16384x6144_0_0_0⟩]
      concatenates_S1x16384x2560_S1x16384x512_S1x16384x6144_S1x16384x9216_d2) shapeCasts_S1x16384x9216_S16384x9216 := by
  dsimp only [V]; after_results; rfl

theorem at_col (w : S1x16384x9216.Idx → EReal) (i : S1x16384x9216.Idx) (j : S1x16384x9216.Idx) (n : Fin 9216)
    (h0 : (j 0).val = (i 0).val) (h1 : (j 1).val = (i 1).val) (h : (j 2).val = n.val) : w j = w (ix3 (i 0) (i 1) n) :=
  congrArg w (funext fun a => by fin_cases a; exacts [Fin.ext h0, Fin.ext h1, Fin.ext h])

theorem permuted_apply (w : S1x16384x9216.Idx → EReal) (i : S1x16384x9216.Idx) : (concatenate S1x16384x9216 2 [
      ⟨S1x16384x2560, extractStridedSlice S1x16384x2560 ![0, 0, 6656] w slices_S1x16384x9216_S1x16384x2560_0_0_6656⟩,
      ⟨S1x16384x512, extractStridedSlice S1x16384x512 ![0, 0, 6144] w slices_S1x16384x9216_S1x16384x512_0_0_6144⟩,
      ⟨S1x16384x6144, extractStridedSlice S1x16384x6144 ![0, 0, 0] w slices_S1x16384x9216_S1x16384x6144_0_0_0⟩]
      concatenates_S1x16384x2560_S1x16384x512_S1x16384x6144_S1x16384x9216_d2 : S1x16384x9216.Idx → EReal) i
      = w (ix3 (i 0) (i 1) ⟨src (i 2).val, src_lt (i 2).isLt⟩) := by
  pointwise
  have h0' : (i 0).val < 1 := (i 0).isLt
  have h0 : (i 0).val = 0 := by omega
  have h2 : (i 2).val < 9216 := (i 2).isLt
  have hs : ((i 2).val < 2560 ∧ src (i 2).val = (i 2).val + 6656) ∨ (2560 ≤ (i 2).val ∧ (i 2).val < 3072 ∧ src (i 2).val = (i 2).val + 3584)
      ∨ (3072 ≤ (i 2).val ∧ src (i 2).val = (i 2).val - 3072) := by unfold src; split_ifs <;> omega
  by_cases c0 : (i 2).val < 2560
  · rw [dif_pos c0]; exact at_col w i _ _ h0.symm (by first | rfl | exact Nat.zero_add _) (by show 6656 + ((i 2).val) = src (i 2).val; omega)
  rw [dif_neg c0]
  by_cases c1 : (i 2).val - 2560 < 512
  · rw [dif_pos c1]; exact at_col w i _ _ h0.symm (by first | rfl | exact Nat.zero_add _) (by show 6144 + ((i 2).val - 2560) = src (i 2).val; omega)
  rw [dif_neg c1]
  exact at_col w i _ _ h0.symm (by first | rfl | exact Nat.zero_add _) (by show (i 2).val - 2560 - 512 = src (i 2).val; omega)

theorem V_proj_apply (c : Dev nD) (i : S16384x9216.Idx) : (V m c main_v4 : S16384x9216.Idx → EReal) i
    = (m ((c : Thread nD τ).loc main_arg0) : S1x16384x9216.Idx → EReal) (ix3 (0 : Fin 1) (i 0) ⟨src (i 1).val, src_lt (i 1).isLt⟩) := by
  rw [V_proj]
  refine Eq.trans (shapeCast_apply _ shapeCasts_S1x16384x9216_S16384x9216 i (ix3 (0 : Fin 1) (i 0 : Fin 16384) (i 1 : Fin 9216) : S1x16384x9216.Idx)
    (by rewrite [Shape.rowMajor_val_three, Shape.rowMajor_val_two]; show (0 * 16384 + (i 0).val) * 9216 + (i 1).val = (i 0).val * 9216 + (i 1).val; omega)) ?_
  exact permuted_apply _ _

theorem V_mk_apply (c : Dev nD) (i : S1x1x1024x128.Idx) (j : Fin 256) (a : Fin 4) (h : (i 2).val = a.val + 4 * j.val) : (V m c main_v5 : S1x1x1024x128.Idx → EReal) i
    = (m ((c : Thread nD τ).loc main_arg1) : S1x256x4x128.Idx → EReal) (ix4 (0 : Fin 1) j a (i 3)) := by
  have e : V m c main_v5 = shapeCast S1x1x1024x128 (m ((c : Thread nD τ).loc main_arg1)) shapeCasts_S1x256x4x128_S1x1x1024x128 := by
    dsimp only [V]; after_results; rfl
  rw [e]
  have i0 : (i 0).val < 1 := (i 0).isLt
  have i1 : (i 1).val < 1 := (i 1).isLt
  exact shapeCast_apply _ shapeCasts_S1x256x4x128_S1x1x1024x128 i (ix4 (0 : Fin 1) j a (i 3 : Fin 128) : S1x256x4x128.Idx)
    (by rewrite [Shape.rowMajor_val_four, Shape.rowMajor_val_four]
        show ((0 * 256 + j.val) * 4 + a.val) * 128 + (i 3).val = (((i 0).val * 1 + (i 1).val) * 1024 + (i 2).val) * 128 + (i 3).val; omega)

theorem V_mv_apply (c : Dev nD) (i : S1x1x1024x128.Idx) (j : Fin 256) (a : Fin 4) (h : (i 2).val = a.val + 4 * j.val) : (V m c main_v6 : S1x1x1024x128.Idx → EReal) i
    = (m ((c : Thread nD τ).loc main_arg2) : S1x256x4x128.Idx → EReal) (ix4 (0 : Fin 1) j a (i 3)) := by
  have e : V m c main_v6 = shapeCast S1x1x1024x128 (m ((c : Thread nD τ).loc main_arg2)) shapeCasts_S1x256x4x128_S1x1x1024x128 := by
    dsimp only [V]; after_results; rfl
  rw [e]
  have i0 : (i 0).val < 1 := (i 0).isLt
  have i1 : (i 1).val < 1 := (i 1).isLt
  exact shapeCast_apply _ shapeCasts_S1x256x4x128_S1x1x1024x128 i (ix4 (0 : Fin 1) j a (i 3 : Fin 128) : S1x256x4x128.Idx)
    (by rewrite [Shape.rowMajor_val_four, Shape.rowMajor_val_four]
        show ((0 * 256 + j.val) * 4 + a.val) * 128 + (i 3).val = (((i 0).val * 1 + (i 1).val) * 1024 + (i 2).val) * 128 + (i 3).val; omega)

/-! ## Where an index of a block lies in its array -/

theorem emb0_0 (t : Fin cfg0.N) (z : (win0_0.rect t).shape.Idx) :
    ((win0_0.rect t).emb z 0 : Nat) = win0_0.index t (0 : Fin 2) * 512 + (z 0 : Nat) :=
  ValueKit.rect_emb_unit_val _ _ _ z (0 : Fin 2)
theorem emb0_1 (t : Fin cfg0.N) (z : (win0_0.rect t).shape.Idx) :
    ((win0_0.rect t).emb z 1 : Nat) = win0_0.index t (1 : Fin 2) * 512 + (z 1 : Nat) :=
  ValueKit.rect_emb_unit_val _ _ _ z (1 : Fin 2)
theorem emb1_0 (t : Fin cfg0.N) (z : (win0_1.rect t).shape.Idx) :
    ((win0_1.rect t).emb z 0 : Nat) = win0_1.index t (0 : Fin 4) * 1 + (z 0 : Nat) :=
  ValueKit.rect_emb_unit_val _ _ _ z (0 : Fin 4)
theorem emb1_1 (t : Fin cfg0.N) (z : (win0_1.rect t).shape.Idx) :
    ((win0_1.rect t).emb z 1 : Nat) = win0_1.index t (1 : Fin 4) * 1 + (z 1 : Nat) :=
  ValueKit.rect_emb_unit_val _ _ _ z (1 : Fin 4)
theorem emb1_2 (t : Fin cfg0.N) (z : (win0_1.rect t).shape.Idx) :
    ((win0_1.rect t).emb z 2 : Nat) = win0_1.index t (2 : Fin 4) * 1024 + (z 2 : Nat) :=
  ValueKit.rect_emb_unit_val _ _ _ z (2 : Fin 4)
theorem emb1_3 (t : Fin cfg0.N) (z : (win0_1.rect t).shape.Idx) :
    ((win0_1.rect t).emb z 3 : Nat) = win0_1.index t (3 : Fin 4) * 128 + (z 3 : Nat) :=
  ValueKit.rect_emb_unit_val _ _ _ z (3 : Fin 4)
theorem emb2_0 (t : Fin cfg0.N) (z : (win0_2.rect t).shape.Idx) :
    ((win0_2.rect t).emb z 0 : Nat) = win0_2.index t (0 : Fin 4) * 1 + (z 0 : Nat) :=
  ValueKit.rect_emb_unit_val _ _ _ z (0 : Fin 4)
theorem emb2_1 (t : Fin cfg0.N) (z : (win0_2.rect t).shape.Idx) :
    ((win0_2.rect t).emb z 1 : Nat) = win0_2.index t (1 : Fin 4) * 1 + (z 1 : Nat) :=
  ValueKit.rect_emb_unit_val _ _ _ z (1 : Fin 4)
theorem emb2_2 (t : Fin cfg0.N) (z : (win0_2.rect t).shape.Idx) :
    ((win0_2.rect t).emb z 2 : Nat) = win0_2.index t (2 : Fin 4) * 1024 + (z 2 : Nat) :=
  ValueKit.rect_emb_unit_val _ _ _ z (2 : Fin 4)
theorem emb2_3 (t : Fin cfg0.N) (z : (win0_2.rect t).shape.Idx) :
    ((win0_2.rect t).emb z 3 : Nat) = win0_2.index t (3 : Fin 4) * 128 + (z 3 : Nat) :=
  ValueKit.rect_emb_unit_val _ _ _ z (3 : Fin 4)
theorem emb3_0 (t : Fin cfg0.N) (z : (win0_3.rect t).shape.Idx) :
    ((win0_3.rect t).emb z 0 : Nat) = win0_3.index t (0 : Fin 2) * 512 + (z 0 : Nat) :=
  ValueKit.rect_emb_unit_val _ _ _ z (0 : Fin 2)
theorem emb3_1 (t : Fin cfg0.N) (z : (win0_3.rect t).shape.Idx) :
    ((win0_3.rect t).emb z 1 : Nat) = win0_3.index t (1 : Fin 2) * 512 + (z 1 : Nat) :=
  ValueKit.rect_emb_unit_val _ _ _ z (1 : Fin 2)

/-! ## The loads, as the arguments at a row -/

variable (c : Dev nD) (t : Fin cfg0.N)

theorem src_q (j k : Nat) (hk : k < 512) (h : j = 5 * 512 + k) : src j = 6144 + k := by unfold src; split_ifs <;> omega

theorem ldq (o : Nat) (inb) (p : Fin 512) (e : Fin 128) (a : Fin 4) (ha : o = a.val * 128) (r : Fin 16384) (hr : r.val = win0_3.index t (0 : Fin 2) * 512 + p.val) :
    (View.ld (iblk m c 0 t) (Rect.unit (s := S512x512) ![0, o] ![512, 128] inb) (ix2 p e) : EReal)
      = (m ((c : Thread nD τ).loc main_arg0) : S1x16384x9216.Idx → EReal) (ix3 (0 : Fin 1) r ⟨6144 + (a.val * 128 + e.val), by omega⟩) := by
  have ho : o + 128 ≤ 512 := inb 1
  rw [View.ld_unit_apply_of (iblk m c 0 t) ![0, o] ![512, 128] inb (ix2 p e) (ix2 p (⟨o + e.val, by omega⟩ : Fin 512) : S512x512.Idx)
    (by intro a; fin_cases a; exacts [(Nat.zero_add _).symm, rfl])]
  refine (V_proj_apply m c ((win0_0.rect t).emb (ix2 p (⟨o + e.val, by omega⟩ : Fin 512) : S512x512.Idx))).trans (congrArg _ (funext fun b => ?_))
  have f := (idx_facts t).1
  have z0 := emb0_0 t (ix2 p (⟨o + e.val, by omega⟩ : Fin 512) : S512x512.Idx)
  have z1 := emb0_1 t (ix2 p (⟨o + e.val, by omega⟩ : Fin 512) : S512x512.Idx)
  rw [f.1] at z0
  rw [f.2] at z1
  have he : o + e.val < 512 := by have := e.isLt; omega
  fin_cases b
  · rfl
  · exact Fin.ext (z0.trans hr.symm)
  · exact Fin.ext ((src_q _ _ he z1).trans (by show 6144 + (o + e.val) = 6144 + (a.val * 128 + e.val); omega))

/-- The index of a load of every fourth row. -/
theorem idx_strided (o : Nat) (lnb) (j : Fin 256) (e : Fin 128) (ho : o + 4 * j.val < 1024) :
    ({ off := ![o, 0], size := ![256, 128], stride := ![4, 1], inb := lnb } : LoadRect S1024x128).idx (ix2 j e)
      = (ix2 (⟨o + 4 * j.val, ho⟩ : Fin 1024) e : S1024x128.Idx) := by
  funext b
  fin_cases b
  · rfl
  · exact Fin.ext (by show 0 + 1 * e.val = e.val; omega)

/-- A rectangle that is the whole array places an index at itself. -/
theorem emb_whole (inb) (r : Fin 1024) (e : Fin 128) :
    (Rect.unit (s := S1x1x1024x128) ![0, 0, 0, 0] ![1, 1, 1024, 128] inb).emb (ix4 (⟨0, Nat.one_pos⟩ : Fin 1) (⟨0, Nat.one_pos⟩ : Fin 1) r e)
      = (ix4 (0 : Fin 1) (0 : Fin 1) r e : S1x1x1024x128.Idx) := by
  funext b
  fin_cases b
  · rfl
  · rfl
  · exact Fin.ext (by show 0 + 1 * r.val = r.val; omega)
  · exact Fin.ext (by show 0 + 1 * e.val = e.val; omega)

/-- A load of every fourth row of a block seen as rows. -/
theorem ld_strided {e' : EltTy} {κ : Kind} {sp : Space} (M : Memref sig κ sp S1x1x1024x128 e') (hw : M.IsWhole) (X : S1x1x1024x128.Idx → Elt Ideal e') (o : Nat) (inb)
    (hn : S1024x128.numel = (Rect.unit (s := S1x1x1024x128) ![0, 0, 0, 0] ![1, 1, 1024, 128] inb).shape.numel)
    (lnb) (j : Fin 256) (e : Fin 128) (ho : o + 4 * j.val < 1024) :
    View.readAt (Elt Ideal) ((M.view.slice (Rect.unit ![0, 0, 0, 0] ![1, 1, 1024, 128] inb)).reshape S1024x128 hn)
      ({ off := ![o, 0], size := ![256, 128], stride := ![4, 1], inb := lnb } : LoadRect S1024x128) (hw.unread X) (ix2 j e)
      = X (ix4 (0 : Fin 1) (0 : Fin 1) (⟨o + 4 * j.val, ho⟩ : Fin 1024) e) := by
  refine (hw.readAt_slice_reshape_unread X _ hn ({ off := ![o, 0], size := ![256, 128], stride := ![4, 1], inb := lnb } : LoadRect S1024x128) (ix2 j e)).trans ?_
  rw [idx_strided o lnb j e ho]
  exact (congrArg (fun z => X ((Rect.unit (s := S1x1x1024x128) ![0, 0, 0, 0] ![1, 1, 1024, 128] inb).emb z)) (ValueIdx.reshapeEquiv_ix2_11ab hn _ e)).trans
    (congrArg X (emb_whole inb _ e))

theorem blk_mk (j : Fin 256) (a : Fin 4) (e : Fin 128) (r : Fin 1024) (hr : r.val = a.val + 4 * j.val) : (iblk m c 1 t (ix4 (0 : Fin 1) (0 : Fin 1) r e : S1x1x1024x128.Idx) : EReal)
      = (m ((c : Thread nD τ).loc main_arg1) : S1x256x4x128.Idx → EReal) (ix4 (0 : Fin 1) j a e) := by
  obtain ⟨f0, f1, f2, f3⟩ := (idx_facts t).2.1
  have z2 := emb1_2 t (ix4 (0 : Fin 1) (0 : Fin 1) r e : S1x1x1024x128.Idx)
  have z3 := emb1_3 t (ix4 (0 : Fin 1) (0 : Fin 1) r e : S1x1x1024x128.Idx)
  rw [f2] at z2
  rw [f3] at z3
  have z2' := z2.trans (by show 0 * 1024 + r.val = a.val + 4 * j.val; omega)
  refine (V_mk_apply m c ((win0_1.rect t).emb (ix4 (0 : Fin 1) (0 : Fin 1) r e : S1x1x1024x128.Idx)) j a z2').trans (congrArg _ (funext fun b => ?_))
  fin_cases b
  · rfl
  · rfl
  · rfl
  · exact Fin.ext (z3.trans (by show 0 * 128 + e.val = e.val; omega))

theorem ld_mk (o : Nat) (a : Fin 4) (ha : o = a.val) (hw : (ms0_1 t).IsWhole) (inb) (hn : S1024x128.numel = (Rect.unit (s := S1x1x1024x128) ![0, 0, 0, 0] ![1, 1, 1024, 128] inb).shape.numel)
    (lnb) (j : Fin 256) (e : Fin 128) :
    (View.readAt (Elt Ideal) (((ms0_1 t).view.slice (Rect.unit ![0, 0, 0, 0] ![1, 1, 1024, 128] inb)).reshape S1024x128 hn)
      ({ off := ![o, 0], size := ![256, 128], stride := ![4, 1], inb := lnb } : LoadRect S1024x128) (hw.unread (iblk m c 1 t)) (ix2 j e) : EReal)
      = (m ((c : Thread nD τ).loc main_arg1) : S1x256x4x128.Idx → EReal) (ix4 (0 : Fin 1) j a e) := by
  have ho : o + 4 * j.val < 1024 := by have := j.isLt; have := a.isLt; omega
  have hr : (⟨o + 4 * j.val, ho⟩ : Fin 1024).val = a.val + 4 * j.val := by show o + 4 * j.val = a.val + 4 * j.val; omega
  exact (ld_strided (ms0_1 t) hw (iblk m c 1 t) o inb hn lnb j e ho).trans (blk_mk m c t j a e _ hr)

theorem blk_mv (j : Fin 256) (a : Fin 4) (e : Fin 128) (r : Fin 1024) (hr : r.val = a.val + 4 * j.val) : (iblk m c 2 t (ix4 (0 : Fin 1) (0 : Fin 1) r e : S1x1x1024x128.Idx) : EReal)
      = (m ((c : Thread nD τ).loc main_arg2) : S1x256x4x128.Idx → EReal) (ix4 (0 : Fin 1) j a e) := by
  obtain ⟨f0, f1, f2, f3⟩ := (idx_facts t).2.2.1
  have z2 := emb2_2 t (ix4 (0 : Fin 1) (0 : Fin 1) r e : S1x1x1024x128.Idx)
  have z3 := emb2_3 t (ix4 (0 : Fin 1) (0 : Fin 1) r e : S1x1x1024x128.Idx)
  rw [f2] at z2
  rw [f3] at z3
  have z2' := z2.trans (by show 0 * 1024 + r.val = a.val + 4 * j.val; omega)
  refine (V_mv_apply m c ((win0_2.rect t).emb (ix4 (0 : Fin 1) (0 : Fin 1) r e : S1x1x1024x128.Idx)) j a z2').trans (congrArg _ (funext fun b => ?_))
  fin_cases b
  · rfl
  · rfl
  · rfl
  · exact Fin.ext (z3.trans (by show 0 * 128 + e.val = e.val; omega))

theorem ld_mv (o : Nat) (a : Fin 4) (ha : o = a.val) (hw : (ms0_2 t).IsWhole) (inb) (hn : S1024x128.numel = (Rect.unit (s := S1x1x1024x128) ![0, 0, 0, 0] ![1, 1, 1024, 128] inb).shape.numel)
    (lnb) (j : Fin 256) (e : Fin 128) :
    (View.readAt (Elt Ideal) (((ms0_2 t).view.slice (Rect.unit ![0, 0, 0, 0] ![1, 1, 1024, 128] inb)).reshape S1024x128 hn)
      ({ off := ![o, 0], size := ![256, 128], stride := ![4, 1], inb := lnb } : LoadRect S1024x128) (hw.unread (iblk m c 2 t)) (ix2 j e) : EReal)
      = (m ((c : Thread nD τ).loc main_arg2) : S1x256x4x128.Idx → EReal) (ix4 (0 : Fin 1) j a e) := by
  have ho : o + 4 * j.val < 1024 := by have := j.isLt; have := a.isLt; omega
  have hr : (⟨o + 4 * j.val, ho⟩ : Fin 1024).val = a.val + 4 * j.val := by show o + 4 * j.val = a.val + 4 * j.val; omega
  exact (ld_strided (ms0_2 t) hw (iblk m c 2 t) o inb hn lnb j e ho).trans (blk_mv m c t j a e _ hr)

/-- A head of the loaded blocks is a head of the arguments. -/
theorem head_eq (q : Vec Ideal S512x128 .f32) (k v : Vec Ideal S256x128 .f32) (p : Fin 512) (n : Fin 128) (r : Fin 16384) (a : Fin 4)
    (h : S1x16384x9216.Idx → EReal) (mk mv : S1x256x4x128.Idx → EReal)
    (hq : ∀ e : Fin 128, (q (ix2 p e) : EReal) = h (ix3 (0 : Fin 1) r ⟨6144 + (a.val * 128 + e.val), by omega⟩))
    (hk : ∀ (j : Fin 256) (e : Fin 128), (k (ix2 j e) : EReal) = mk (ix4 (0 : Fin 1) j a e))
    (hv : ∀ (j : Fin 256) (e : Fin 128), (v (ix2 j e) : EReal) = mv (ix4 (0 : Fin 1) j a e)) :
    Pays.head q k v p n = headOut h mk mv r a n := by
  unfold Pays.head headOut
  simp only [hq, hk, hv]

theorem ix2_surj (x : S512x128.Idx) : ∃ (p : Fin 512) (n : Fin 128), x = ix2 p n :=
  ⟨x 0, x 1, by funext a; fin_cases a <;> rfl⟩

/-- After the run the result holds the memory attention. -/
theorem final3 (c : Dev nD) : (dats m 0 c).arrAt 3 cfg0.N = (out m c : Buf (Elt Ideal) ((c : Thread nD τ).loc main_v7)) := by
  refine (dats m 0 c).arrAt_eq_of_covers 3 _ (by decide +kernel) fun t hf y => ?_
  blk_simp
  rw [after0_3]
  dsimp only [outsAt0]
  frame_out
  have f := (idx_facts t).2.2.2
  have e0 := emb3_0 t y
  have e1 := emb3_1 t y
  rw [f] at e1
  canon_tiles x h
  · obtain ⟨p, n, rfl⟩ := ix2_surj x
    have g0 : (((win0_3.rect t).emb y) 0 : Nat) = win0_3.index t (0 : Fin 2) * 512 + p.val := e0.trans (congrArg (_ + ·) h0)
    have g1 : (((win0_3.rect t).emb y) 1 : Nat) = (3 : Fin 4).val * 128 + n.val := by
      rw [e1]; have h1' : (y 1).val = 384 + n.val := h1; show 0 * 512 + (y 1).val = 3 * 128 + n.val; omega
    refine (Pays.head3 _ _ _ p n).trans ((head_eq _ _ _ p n (((win0_3.rect t).emb y) 0) 3 _ _ _
      (fun e => ldq m c t 384 _ p e 3 rfl _ g0) (fun j e => ld_mk m c t 3 3 rfl _ _ _ _ j e) (fun j e => ld_mv m c t 3 3 rfl _ _ _ _ j e)).trans ?_)
    exact (out_at m c ((win0_3.rect t).emb y) _ 3 n rfl g1).symm
  · obtain ⟨p, n, rfl⟩ := ix2_surj x
    have g0 : (((win0_3.rect t).emb y) 0 : Nat) = win0_3.index t (0 : Fin 2) * 512 + p.val := e0.trans (congrArg (_ + ·) h0)
    have g1 : (((win0_3.rect t).emb y) 1 : Nat) = (2 : Fin 4).val * 128 + n.val := by
      rw [e1]; have h1' : (y 1).val = 256 + n.val := h1; show 0 * 512 + (y 1).val = 2 * 128 + n.val; omega
    refine (Pays.head2 _ _ _ p n).trans ((head_eq _ _ _ p n (((win0_3.rect t).emb y) 0) 2 _ _ _
      (fun e => ldq m c t 256 _ p e 2 rfl _ g0) (fun j e => ld_mk m c t 2 2 rfl _ _ _ _ j e) (fun j e => ld_mv m c t 2 2 rfl _ _ _ _ j e)).trans ?_)
    exact (out_at m c ((win0_3.rect t).emb y) _ 2 n rfl g1).symm
  · obtain ⟨p, n, rfl⟩ := ix2_surj x
    have g0 : (((win0_3.rect t).emb y) 0 : Nat) = win0_3.index t (0 : Fin 2) * 512 + p.val := e0.trans (congrArg (_ + ·) h0)
    have g1 : (((win0_3.rect t).emb y) 1 : Nat) = (1 : Fin 4).val * 128 + n.val := by
      rw [e1]; have h1' : (y 1).val = 128 + n.val := h1; show 0 * 512 + (y 1).val = 1 * 128 + n.val; omega
    refine (Pays.head1 _ _ _ p n).trans ((head_eq _ _ _ p n (((win0_3.rect t).emb y) 0) 1 _ _ _
      (fun e => ldq m c t 128 _ p e 1 rfl _ g0) (fun j e => ld_mk m c t 1 1 rfl _ _ _ _ j e) (fun j e => ld_mv m c t 1 1 rfl _ _ _ _ j e)).trans ?_)
    exact (out_at m c ((win0_3.rect t).emb y) _ 1 n rfl g1).symm
  · obtain ⟨p, n, rfl⟩ := ix2_surj x
    have g0 : (((win0_3.rect t).emb y) 0 : Nat) = win0_3.index t (0 : Fin 2) * 512 + p.val := e0.trans (congrArg (_ + ·) h0)
    have g1 : (((win0_3.rect t).emb y) 1 : Nat) = (0 : Fin 4).val * 128 + n.val := by
      rw [e1]; have h1' : (y 1).val = n.val := h1; show 0 * 512 + (y 1).val = 0 * 128 + n.val; omega
    refine (Pays.head0 _ _ _ p n).trans ((head_eq _ _ _ p n (((win0_3.rect t).emb y) 0) 0 _ _ _
      (fun e => ldq m c t 0 _ p e 0 rfl _ g0) (fun j e => ld_mk m c t 0 0 rfl _ _ _ _ j e) (fun j e => ld_mv m c t 0 0 rfl _ _ _ _ j e)).trans ?_)
    exact (out_at m c ((win0_3.rect t).emb y) _ 0 n rfl g1).symm

end Cert.MemAttIdeal.Blocks

end
-- ==== Proof.MemAttRefRead.lean ====
module

public import proofs.«01_k».proof.Proof.MemAttBlocks
public import proofs.«01_k».proof.Proof.Gen.MemAttRefIdeal.Read

@[expose] public section

set_option maxRecDepth 16384

noncomputable section

/-! The reference's memory attention, read at an index stage by stage. -/

namespace Cert.MemAttRefIdeal.Entry

open Cert.MemAttRefIdeal Cert.MemAttRefIdeal.Gen Cert.MemAttRefIdeal.Read Idealize.ShloMosaic Idealize.ShloMosaic.TcCoe Idealize.SL.Sem
open Cert.MemAttIdeal.Blocks (headOut)
open Softmax (Fin' attend)

variable (h : S1x16384x9216.Idx → EReal) (mk mv : S1x256x4x128.Idx → EReal)

/-- The score of row `r` against key `j` at head `a`. -/
def score (r : Fin 16384) (a : Fin 4) (j : Fin 256) : EReal :=
  (∑ e : Fin 128, h (ix3 (0 : Fin 1) r ⟨6144 + (a.val * 128 + e.val), by omega⟩) * mk (ix4 (0 : Fin 1) j a e)) * Ideal.ofBits .f32 0x3DB504F3#32

theorem q_apply (r : Fin 16384) (a : Fin 4) (e : Fin 128) :
    val_main_v8 (F := Ideal) h (ix4 (0 : Fin 1) r a e) = h (ix3 (0 : Fin 1) r ⟨6144 + (a.val * 128 + e.val), by omega⟩) := by
  have hr := r.isLt
  have ha := a.isLt
  have he := e.isLt
  rw [val_main_v8_apply, val_main_v6_apply]
  refine congrArg h (funext fun b => Fin.ext ?_)
  match b with
  | ⟨0, _⟩ => rfl
  | ⟨1, _⟩ => show (((0 * 16384 + r.val) * 4 + a.val) * 128 + e.val) / 512 % 16384 = r.val; omega
  | ⟨2, _⟩ => show 6144 + (((0 * 16384 + r.val) * 4 + a.val) * 128 + e.val) % 512 = 6144 + (a.val * 128 + e.val); omega

theorem score_apply (r : Fin 16384) (a : Fin 4) (j : Fin 256) : val_main_v11 (F := Ideal) h mk (ix4 (0 : Fin 1) a r j) = score h mk r a j := by
  unfold score
  rw [val_main_v11_apply, val_main_v9_apply, val_main_v10_apply]
  refine congrArg (· * Ideal.ofBits .f32 0x3DB504F3#32) (Finset.sum_congr rfl fun e _ => ?_)
  refine congrArg₂ (· * ·) ((congrArg _ ?_).trans (q_apply h r a e)) (congrArg mk ?_)
  · funext b; fin_cases b <;> rfl
  · funext b; fin_cases b <;> rfl

theorem reduces3 : S1x4x16384x256.Reduces [3] S1x4x16384 := by decide

theorem top_apply (r : Fin 16384) (a : Fin 4) : val_main_v14 (F := Ideal) h mk (ix3 (0 : Fin 1) a r) = Softmax.top (score h mk r a) := by
  rw [val_main_v14_apply, val_main_v13_apply]
  unfold val_main_v12
  rw [Host.reduce_eq_fold_single FloatOps.maximumf _ _ reducesTo_S1x4x16384x256_S1x4x16384_d3 reduces3 h_S_]
  show max (Ideal.ofBits .f32 0xFF800000#32) (Finset.fold max (Ideal.ofBits .f32 0xFF800000#32) _ Finset.univ) = _
  rw [MemAttIdeal.Pays.bits_bot]
  refine (max_eq_right bot_le).trans ?_
  refine (Finset.fold_congr fun j _ => ?_).trans rfl
  refine (congrArg (val_main_v11 (F := Ideal) h mk) (?_ : _ = ix4 (0 : Fin 1) a r j)).trans (score_apply h mk r a j)
  funext b; fin_cases b <;> rfl

theorem exp_apply (r : Fin 16384) (a : Fin 4) (j : Fin 256) :
    val_main_v18 (F := Ideal) h mk (ix4 (0 : Fin 1) a r j) = Ideal.exp (score h mk r a j - Softmax.top (score h mk r a)) := by
  rw [val_main_v18_apply, val_main_v17_apply, val_main_v16_apply, val_main_v15_apply, score_apply]
  rw [show idx_main_v15 (idx_main_v16 (ix4 (0 : Fin 1) a r j)) = ix3 (0 : Fin 1) a r from by funext b; fin_cases b <;> rfl, top_apply]
  rfl

theorem sum_apply (r : Fin 16384) (a : Fin 4) :
    val_main_v19 (F := Ideal) h mk (ix3 (0 : Fin 1) a r) = ∑ j : Fin 256, Ideal.exp (score h mk r a j - Softmax.top (score h mk r a)) := by
  rw [val_main_v19_apply]
  refine (congrArg (· + _) Ideal.ofBits_zero_f32).trans ((zero_add _).trans (Finset.sum_congr rfl fun j _ => ?_))
  exact (congrArg _ (by funext b; fin_cases b <;> rfl)).trans (exp_apply h mk r a j)

theorem weight_apply (r : Fin 16384) (a : Fin 4) (j : Fin 256) : val_main_v22 (F := Ideal) h mk (ix4 (0 : Fin 1) a r j)
    = Ideal.div (Ideal.exp (score h mk r a j - Softmax.top (score h mk r a))) (∑ j : Fin 256, Ideal.exp (score h mk r a j - Softmax.top (score h mk r a))) := by
  rw [val_main_v22_apply, val_main_v21_apply, val_main_v20_apply, exp_apply]
  rw [show idx_main_v20 (idx_main_v21 (ix4 (0 : Fin 1) a r j)) = ix3 (0 : Fin 1) a r from by funext b; fin_cases b <;> rfl, sum_apply]
  rfl

theorem attend_apply (hf : ∀ r a j, Fin' (score h mk r a j)) (r : Fin 16384) (a : Fin 4) (n : Fin 128) :
    val_main_v24 (F := Ideal) h mk mv (ix4 (0 : Fin 1) r a n) = headOut h mk mv r a n := by
  rw [val_main_v24_apply, val_main_v23_apply]
  refine Eq.trans ?_ (Softmax.attend_eq (score h mk r a) (fun j => mv (ix4 (0 : Fin 1) j a n)) (hf r a) 0).symm
  refine Finset.sum_congr rfl fun j _ => (mul_comm _ _).trans (congrArg₂ (· * ·) ?_ (congrArg mv ?_))
  · exact (congrArg _ (by funext b; fin_cases b <;> rfl)).trans (weight_apply h mk r a j)
  · funext b; fin_cases b <;> rfl

/-- The reference's result is the memory attention. -/
theorem result (hf : ∀ r a j, Fin' (score h mk r a j)) (i : S16384x512.Idx) : val_main_v25 (F := Ideal) h mk mv i
    = headOut h mk mv (i 0) ⟨(i 1).val / 128, by have h : (i 1).val < 512 := (i 1).isLt; omega⟩ ⟨(i 1).val % 128, Nat.mod_lt _ (by omega)⟩ := by
  have h0 : (i 0).val < 16384 := (i 0).isLt
  have h1 : (i 1).val < 512 := (i 1).isLt
  rw [val_main_v25_apply]
  refine Eq.trans (congrArg _ (funext fun b => Fin.ext ?_)) (attend_apply h mk mv hf (i 0) ⟨(i 1).val / 128, by omega⟩ ⟨(i 1).val % 128, Nat.mod_lt _ (by omega)⟩)
  match b with
  | ⟨0, _⟩ => rfl
  | ⟨1, _⟩ => show ((i 0).val * 512 + (i 1).val) / 512 % 16384 = (i 0).val; omega
  | ⟨2, _⟩ => show ((i 0).val * 512 + (i 1).val) / 128 % 4 = (i 1).val / 128; omega
  | ⟨3, _⟩ => show ((i 0).val * 512 + (i 1).val) % 128 = (i 1).val % 128; omega

/-! ## What the precondition says -/

theorem fin_of_lt (x : EReal) (e : Ideal.cmp .olt (max x (-x)) (Ideal.ofBits .f32 0x7F800000#32) = 1#1) : Fin' x := by
  have ht : Ideal.ofBits .f32 0x7F800000#32 = ⊤ := by simp only [Ideal.ofBits, Ideal.ieee]; simp
  rw [ht] at e
  refine ⟨fun hx => ?_, fun hx => ?_⟩ <;> subst hx <;> simp [Ideal.cmp] at e

theorem const_fin : Fin' (Ideal.ofBits .f32 0x3DB504F3#32) := by
  simp only [Ideal.ofBits, Ideal.ieee]; simp; exact ⟨EReal.coe_ne_bot _, EReal.coe_ne_top _⟩

theorem score_fin (hq : ∀ i : S1x16384x512.Idx, Fin' (h (ix3 (i 0) (i 1) ⟨6144 + (i 2).val, by have e : (i 2).val < 512 := (i 2).isLt; omega⟩)))
    (hk : ∀ i, Fin' (mk i)) (r : Fin 16384) (a : Fin 4) (j : Fin 256) : Fin' (score h mk r a j) := by
  refine Fin'.mul (Fin'.sum fun e => Fin'.mul ?_ (hk _)) const_fin
  exact hq (ix3 (0 : Fin 1) r ⟨a.val * 128 + e.val, by have := a.isLt; have := e.isLt; omega⟩)

end Cert.MemAttRefIdeal.Entry

end
-- ==== Proof.MemAttClaims.lean ====
module

public import proofs.«01_k».proof.Proof.MemAttRefRead
public import proofs.«01_k».proof.Proof.Gen.MemAtt.Frame
public import proofs.«01_k».proof.Proof.Gen.MemAttRefIdeal.Run
public import Idealize.ShloMosaic.Lib.Quiescent

@[expose] public section

noncomputable section

namespace Cert.MemAttClaims

open Idealize.ShloMosaic Idealize.ShloMosaic.TcCoe Idealize.SL.Sem

/-- The side conditions of the precondition's operations. -/
theorem pre_facts : Cert.Pre_finite_queries_and_keys.Facts := by
  constructor <;> decide

/-- The kernel and its ideal reading leave their arguments alone and no semaphore raised. -/
theorem frame_k : Cert.quiescent_MemAtt := fun m ρ _ => Cert.MemAtt.Gen.frame m ρ
theorem frame_ki : Cert.quiescent_MemAttIdeal := fun m ρ _ => Cert.MemAttIdeal.Gen.frame m ρ
theorem frame_ki_pre : Cert.quiescent_MemAttIdeal_pre_finite_queries_and_keys (hPre_finite_queries_and_keys := pre_facts) :=
  fun m ρ _ => Cert.MemAttIdeal.Gen.frame m ρ

/-- So does the reference, which has no semaphore. -/
theorem frame_ri : Cert.quiescent_MemAttRefIdeal := fun m ρ _ =>
  (θ_run Cert.MemAttRefIdeal.defs _ _).mono (fun r h => ⟨fun c => (h c).2, Idealize.ShloMosaic.sem_eq_zero_of_no_sems (by decide) r.2⟩)
    (Cert.MemAttRefIdeal.Value.run (F := Ideal) m ρ)
theorem frame_ri_pre : Cert.quiescent_MemAttRefIdeal_pre_finite_queries_and_keys (hPre_finite_queries_and_keys := pre_facts) :=
  fun m ρ _ => frame_ri m ρ trivial

/-- Finite queries and keys have finite scores. -/
theorem scores_finite (m : (ℓ : Loc Cert.MemAttIdeal.nD Cert.MemAttIdeal.τ Cert.MemAttIdeal.sig) → Buf (Elt Ideal) ℓ)
    (hp : Cert.Pre_MemAttIdeal_finite_queries_and_keys (hPre_finite_queries_and_keys := pre_facts) m) (c : Dev Cert.MemAttIdeal.nD)
    (r : Fin 16384) (a : Fin 4) (j : Fin 256) :
    Softmax.Fin' (Cert.MemAttRefIdeal.Entry.score (m ((c.tc : Thread Cert.MemAttIdeal.nD Cert.MemAttIdeal.τ).loc Cert.MemAttIdeal.main_arg0))
      (m ((c.tc : Thread Cert.MemAttIdeal.nD Cert.MemAttIdeal.τ).loc Cert.MemAttIdeal.main_arg1)) r a j) := by
  obtain ⟨hq, hk⟩ := hp c
  refine Cert.MemAttRefIdeal.Entry.score_fin _ _ (fun i => ?_) (fun i => ?_) r a j
  · have e := Cert.MemAttRefIdeal.Entry.fin_of_lt _ (congrFun hq i)
    refine (congrArg Softmax.Fin' (congrArg _ (funext fun b => Fin.ext ?_))).mp e
    match b with
    | ⟨0, _⟩ => exact Nat.zero_add _
    | ⟨1, _⟩ => exact Nat.zero_add _
    | ⟨2, _⟩ => rfl
  · exact Cert.MemAttRefIdeal.Entry.fin_of_lt _ (congrFun hk i)

/-- At the ideal reading the kernel's result and the reference's are the same attention of the same arguments. -/
theorem algebraic : Cert.algebraic_MemAttIdeal_MemAttRefIdeal_pre_finite_queries_and_keys (hPre_finite_queries_and_keys := pre_facts) := by
  intro m ρ m' ρ' hp hag
  refine ⟨fun c => Cert.MemAttIdeal.Blocks.out m c, ?_, ?_⟩
  · exact (θ_run Cert.MemAttIdeal.defs _ _).mono (fun _ h c => ⟨(h c).1.trans (Cert.MemAttIdeal.Blocks.final3 m c), (h c).2⟩)
      (Cert.MemAttIdeal.Value.run_blocks (F := Ideal) m ρ)
  · refine (θ_run Cert.MemAttRefIdeal.defs _ _).mono (fun _ h c => ⟨(h c).1.trans ?_, (h c).2⟩)
      (Cert.MemAttRefIdeal.Value.run (F := Ideal) m' ρ')
    obtain ⟨a0, a1, a2⟩ := hag c
    rw [Cert.MemAttRefIdeal.Read.val_main_v25_eq, a0, a1, a2]
    exact funext fun i => Cert.MemAttRefIdeal.Entry.result _ _ _ (scores_finite m hp c) i

end Cert.MemAttClaims

end
-- ==== Proof.EvenTailPays.lean ====
module

public import proofs.«01_k».proof.Proof.TailSpec
public import proofs.«01_k».proof.Proof.Gen.EvenTailIdeal.Skeleton

@[expose] public section

set_option maxRecDepth 16384

noncomputable section

namespace Cert.EvenTailIdeal.Pays

open Cert.EvenTailIdeal Cert.EvenTailIdeal.Gen Idealize.ShloMosaic Idealize.ShloMosaic.TcCoe
open TailSpec

/-- The row `s` before row `p` of a half block: one of the eight rows `hd` that precede it, or a row of `u` itself. -/
def past (s : Nat) (hs : s ≤ 8) (hd : Fin 8 → Fin 1024 → EReal) (u : Fin 128 → Fin 1024 → EReal) (p : Fin 128) (k : Fin 1024) : EReal :=
  if h : p.val < s then hd ⟨p.val + 8 - s, by omega⟩ k else u ⟨p.val - s, by omega⟩ k

/-- The row that rows of the loaded blocks give: `hd` are the eight rows of the convolution's input before the half block. -/
def blockRow (hd : Fin 8 → Fin 1024 → EReal) (gt : S128x2560.Idx → EReal) (bx bg cg ya : S128x1024.Idx → EReal) (ym : S128x512.Idx → EReal)
    (cb w0 w1 w2 : S1x1x1024.Idx → EReal) (wo0 wo1 : S1x1024x2048.Idx → EReal) (wo2 : S1x512x2048.Idx → EReal) (x : S128x2048.Idx → EReal)
    (g b : S1x1x2048.Idx → EReal) (p : Fin 128) (n : Fin 2048) : EReal :=
  row (fun n => x (ix2 p n))
    (mixed (fun k => ya (ix2 p k) * silu (gt (ix2 p ⟨k.val, by omega⟩)))
      (fun k => bg (ix2 p k) * (((cb (ix3 0 0 k) + past 2 (by omega) hd (fun q k => cg (ix2 q k) * bx (ix2 q k)) p k * w0 (ix3 0 0 k))
          + past 1 (by omega) hd (fun q k => cg (ix2 q k) * bx (ix2 q k)) p k * w1 (ix3 0 0 k)) + cg (ix2 p k) * bx (ix2 p k) * w2 (ix3 0 0 k))
        * silu (gt (ix2 p ⟨1024 + k.val, by omega⟩)))
      (fun k => ym (ix2 p k) * silu (gt (ix2 p ⟨2048 + k.val, by omega⟩)))
      (fun k n => wo0 (ix3 0 k n)) (fun k n => wo1 (ix3 0 k n)) (fun k n => wo2 (ix3 0 k n)))
    (fun n => g (ix3 0 0 n)) (fun n => b (ix3 0 0 n)) n

section
variable (hd : Vec Ideal S1x8x1024 .f32) (bx8 cg8 : Vec Ideal S8x1024 .f32) (gt : Vec Ideal S128x2560 .f32) (bx bg cg ya : Vec Ideal S128x1024 .f32)
  (ym : Vec Ideal S128x512 .f32) (cb w0 w1 w2 : Vec Ideal S1x1x1024 .f32) (wo0 wo1 : Vec Ideal S1x1024x2048 .bf16) (wo2 : Vec Ideal S1x512x2048 .bf16)
  (x : Vec Ideal S128x2048 .f32) (g b : Vec Ideal S1x1x2048 .f32)

theorem pay12_apply (i : S128x2560.Idx) : (k0_pay12 (F := Ideal) gt i : EReal) = silu (gt i) := by
  unfold silu; pointwise [k0_pay12]
theorem pay24_apply (i : S128x2560.Idx) : (k0_pay24 (F := Ideal) gt i : EReal) = silu (gt i) := by
  unfold silu; pointwise [k0_pay24]
theorem pay14_apply (p : Fin 128) (k : Fin 512) : (k0_pay14 (F := Ideal) gt ym (ix2 p k) : EReal)
    = ym (ix2 p k) * silu (gt (ix2 p ⟨2048 + k.val, by omega⟩)) := by
  simp only [← pay12_apply]
  generalize hq : k0_pay12 (F := Ideal) gt = q
  pointwise [k0_pay14, hq]
theorem pay25_apply (p : Fin 128) (k : Fin 512) : (k0_pay25 (F := Ideal) gt ym (ix2 p k) : EReal)
    = ym (ix2 p k) * silu (gt (ix2 p ⟨2048 + k.val, by omega⟩)) := by
  simp only [← pay24_apply]
  generalize hq : k0_pay24 (F := Ideal) gt = q
  pointwise [k0_pay25, hq]

theorem pay5_apply (q : Fin 8) (k : Fin 1024) : (k0_pay5 (F := Ideal) hd (ix2 q k) : EReal) = hd (ix3 0 q k) := by pointwise [k0_pay5]
theorem pay7_apply (q : Fin 128) (k : Fin 1024) : (k0_pay7 (F := Ideal) cg bx (ix2 q k) : EReal) = cg (ix2 q k) * bx (ix2 q k) := by pointwise [k0_pay7]
theorem pay18_apply (q : Fin 8) (k : Fin 1024) : (k0_pay18 (F := Ideal) cg8 bx8 (ix2 q k) : EReal) = cg8 (ix2 q k) * bx8 (ix2 q k) := by pointwise [k0_pay18]
theorem pay20_apply (q : Fin 128) (k : Fin 1024) : (k0_pay20 (F := Ideal) cg bx (ix2 q k) : EReal) = cg (ix2 q k) * bx (ix2 q k) := by pointwise [k0_pay20]
theorem pay6_apply (q : Fin 128) (k : Fin 1024) : (k0_pay6 (F := Ideal) bg (ix2 q k) : EReal) = bg (ix2 q k) := by pointwise [k0_pay6]
theorem pay19_apply (q : Fin 128) (k : Fin 1024) : (k0_pay19 (F := Ideal) bg (ix2 q k) : EReal) = bg (ix2 q k) := by pointwise [k0_pay19]

/-- The two pieces of a shifted half block. -/
theorem shift_apply (s : Nat) (hs : s ≤ 8) (h : Vec Ideal S8x1024 .f32) (u : Vec Ideal S128x1024 .f32) (sel : Vec Ideal S8x1024 .f32) (rot : Vec Ideal S128x1024 .f32)
    (hsel : ∀ (q : Fin 8) (k : Fin 1024), (sel (ix2 q k) : EReal) = if q.val < s then h (ix2 ⟨(q.val + 8 - s) % 8, Nat.mod_lt _ (by omega)⟩ k)
      else rot (ix2 ⟨q.val, by omega⟩ k))
    (hrot : ∀ (q : Fin 128) (k : Fin 1024), (rot (ix2 q k) : EReal) = u (ix2 ⟨(q.val + 128 - s) % 128, Nat.mod_lt _ (by omega)⟩ k))
    (hc) (p : Fin 128) (k : Fin 1024) :
    (concatenate S128x1024 0 [⟨S8x1024, sel⟩, ⟨S120x1024, extractStridedSlice S120x1024 ![8, 0] rot slices_S128x1024_o8_0_S120x1024⟩] hc (ix2 p k) : EReal)
      = past s hs (fun q k => h (ix2 q k)) (fun q k => u (ix2 q k)) p k := by
  have hp := p.isLt
  have ev : (concatenate S128x1024 0 [⟨S8x1024, sel⟩, ⟨S120x1024, extractStridedSlice S120x1024 ![8, 0] rot slices_S128x1024_o8_0_S120x1024⟩] hc (ix2 p k) : EReal)
      = if h8 : p.val < 8 then sel (ix2 ⟨p.val, h8⟩ k) else rot (ix2 p k) := by
    pointwise
    by_cases h8 : p.val < 8
    · rw [dif_pos h8, dif_pos h8]
    · rw [dif_neg h8, dif_neg h8]
      exact congrArg rot (congrArg (fun q => ix2 q k) (Fin.ext (by show 8 + (p.val - 8) = p.val; omega)))
  rw [ev]
  unfold past
  by_cases h8 : p.val < 8
  · rw [dif_pos h8, hsel]
    by_cases h1 : p.val < s
    · rw [if_pos h1, dif_pos h1]
      exact congrArg h (congrArg (fun q => ix2 q k) (Fin.ext (by show (p.val + 8 - s) % 8 = p.val + 8 - s; omega)))
    · rw [if_neg h1, dif_neg h1, hrot]
      exact congrArg u (congrArg (fun q => ix2 q k) (Fin.ext (by show (p.val + 128 - s) % 128 = p.val - s; omega)))
  · rw [dif_neg h8, dif_neg (by omega), hrot]
    exact congrArg u (congrArg (fun q => ix2 q k) (Fin.ext (by show (p.val + 128 - s) % 128 = p.val - s; omega)))

theorem sel_bit (n : Nat) (s : Nat) (hs : s ≤ 8) (hn : n < 8) (a b : EReal) :
    Scalar.select (IntOp.cmpi .slt (BitVec.ofNat 32 n) (BitVec.ofNat 32 s)) a b = if n < s then a else b := by
  have e : IntOp.cmpi .slt (BitVec.ofNat 32 n) (BitVec.ofNat 32 s) = BitVec.ofBool (decide (n < s)) := by
    interval_cases n <;> interval_cases s <;> rfl
  rw [e]
  by_cases h : n < s
  · rw [if_pos h, decide_eq_true h]; rfl
  · rw [if_neg h, decide_eq_false h]; rfl

theorem pay8_apply (p : Fin 128) (k : Fin 1024) : (k0_pay8 (F := Ideal) hd cg bx cb w0 (ix2 p k) : EReal)
    = cb (ix3 0 0 k) + past 2 (by omega) (fun q k => hd (ix3 0 q k)) (fun q k => cg (ix2 q k) * bx (ix2 q k)) p k * w0 (ix3 0 0 k) := by
  rw [show (fun (q : Fin 128) (k : Fin 1024) => (cg (ix2 q k) * bx (ix2 q k) : EReal)) = fun q k => k0_pay7 (F := Ideal) cg bx (ix2 q k) from
      funext fun q => funext fun k => (pay7_apply bx cg q k).symm,
    show (fun (q : Fin 8) (k : Fin 1024) => (hd (ix3 0 q k) : EReal)) = fun q k => k0_pay5 (F := Ideal) hd (ix2 q k) from
      funext fun q => funext fun k => (pay5_apply hd q k).symm]
  generalize hu : k0_pay7 (F := Ideal) cg bx = u
  generalize hh : k0_pay5 (F := Ideal) hd = h
  rw [← shift_apply 2 (by omega) h u
    (select (cmpi .slt (iota .tc S8x1024 32 [0] iota_S8x1024_d0_w32) (broadcast S8x1024 2#32)) (dynamicRotate 0 2#32 none h rotates_S8x1024_d0)
      (extractStridedSlice S8x1024 ![0, 0] (dynamicRotate 0 2#32 none u rotates_S128x1024_d0) slices_S128x1024_o0_0_S8x1024))
    (dynamicRotate 0 2#32 none u rotates_S128x1024_d0)
    (fun q k => by pointwise; exact sel_bit q.val 2 (by omega) q.isLt _ _) (fun q k => by pointwise) concatenates_S8x1024_S120x1024_S128x1024_d0 p k]
  generalize hr : concatenate S128x1024 0 _ _ = r
  pointwise [k0_pay8, hu, hh, hr]

theorem pay13_of (a6 a7 a8 a9 : Vec Ideal S128x1024 .f32) (a10 : Vec Ideal S8x1024 .f32) (sh : Vec Ideal S128x1024 .f32)
    (hsh : concatenate S128x1024 0 [⟨S8x1024, select (cmpi .slt (iota .tc S8x1024 32 [0] iota_S8x1024_d0_w32) (broadcast S8x1024 1#32)) a10
        (extractStridedSlice S8x1024 ![0, 0] a9 slices_S128x1024_o0_0_S8x1024)⟩,
      ⟨S120x1024, extractStridedSlice S120x1024 ![8, 0] a9 slices_S128x1024_o8_0_S120x1024⟩] concatenates_S8x1024_S120x1024_S128x1024_d0 = sh)
    (p : Fin 128) (n : Fin 2048) :
    (k0_pay13 (F := Ideal) a6 a7 a8 a9 a10 k0_pay11 w1 w2 gt ya wo0 wo1 (ix2 p n) : EReal)
      = (∑ k : Fin 1024, ya (ix2 p k) * silu (gt (ix2 p ⟨k.val, by omega⟩)) * wo0 (ix3 0 k n))
        + ∑ k : Fin 1024, a6 (ix2 p k) * ((a8 (ix2 p k) + sh (ix2 p k) * w1 (ix3 0 0 k)) + a7 (ix2 p k) * w2 (ix3 0 0 k))
          * silu (gt (ix2 p ⟨1024 + k.val, by omega⟩)) * wo1 (ix3 0 k n) := by
  simp only [← pay12_apply]
  generalize hq : k0_pay12 (F := Ideal) gt = q
  pointwise [k0_pay13, k0_pay11, hq, hsh]

theorem pay13_apply (p : Fin 128) (n : Fin 2048) :
    (k0_pay13 (F := Ideal) (k0_pay6 bg) (k0_pay7 cg bx) (k0_pay8 hd cg bx cb w0) (k0_pay9 cg bx) (k0_pay10 hd) k0_pay11 w1 w2 gt ya wo0 wo1 (ix2 p n) : EReal)
      = (∑ k : Fin 1024, ya (ix2 p k) * silu (gt (ix2 p ⟨k.val, by omega⟩)) * wo0 (ix3 0 k n))
        + ∑ k : Fin 1024, bg (ix2 p k) * (((cb (ix3 0 0 k) + past 2 (by omega) (fun q k => hd (ix3 0 q k)) (fun q k => cg (ix2 q k) * bx (ix2 q k)) p k * w0 (ix3 0 0 k))
            + past 1 (by omega) (fun q k => hd (ix3 0 q k)) (fun q k => cg (ix2 q k) * bx (ix2 q k)) p k * w1 (ix3 0 0 k)) + cg (ix2 p k) * bx (ix2 p k) * w2 (ix3 0 0 k))
          * silu (gt (ix2 p ⟨1024 + k.val, by omega⟩)) * wo1 (ix3 0 k n) := by
  refine (pay13_of _ _ _ _ _ _ _ _ _ _ _ _ rfl p n).trans ?_
  refine congrArg (_ + ·) (Finset.sum_congr rfl fun k _ => ?_)
  refine congrArg (· * _) (congrArg (· * _) ?_)
  refine congr (congrArg _ (pay6_apply bg p k)) (congr (congrArg _ (congr (congrArg _ (pay8_apply hd bx cg cb w0 p k)) ?_)) ?_)
  · refine congrArg (· * _) ?_
    rw [show (fun (q : Fin 128) (k : Fin 1024) => (cg (ix2 q k) * bx (ix2 q k) : EReal)) = fun q k => k0_pay7 (F := Ideal) cg bx (ix2 q k) from
        funext fun q => funext fun k => (pay7_apply bx cg q k).symm,
      show (fun (q : Fin 8) (k : Fin 1024) => (hd (ix3 0 q k) : EReal)) = fun q k => k0_pay5 (F := Ideal) hd (ix2 q k) from
        funext fun q => funext fun k => (pay5_apply hd q k).symm]
    generalize hu : k0_pay7 (F := Ideal) cg bx = u
    generalize hh : k0_pay5 (F := Ideal) hd = h
    unfold k0_pay9 k0_pay10
    rw [hu, hh]
    exact shift_apply 1 (by omega) h u
      (select (cmpi .slt (iota .tc S8x1024 32 [0] iota_S8x1024_d0_w32) (broadcast S8x1024 1#32)) (dynamicRotate 0 1#32 none h rotates_S8x1024_d0)
        (extractStridedSlice S8x1024 ![0, 0] (dynamicRotate 0 1#32 none u rotates_S128x1024_d0) slices_S128x1024_o0_0_S8x1024))
      (dynamicRotate 0 1#32 none u rotates_S128x1024_d0)
      (fun q k => by pointwise; exact sel_bit q.val 1 (by omega) q.isLt _ _) (fun q k => by pointwise) concatenates_S8x1024_S120x1024_S128x1024_d0 p k
  · exact congrArg (· * _) (pay7_apply bx cg p k)

theorem pay15_of (d : FVec Ideal S128x2048 .f32) (e : FVec Ideal S128x512 .bf16) (p : Fin 128) (n : Fin 2048) :
    (k0_pay15 (F := Ideal) d e wo2 x g b (ix2 p n) : EReal)
      = row (fun n => x (ix2 p n)) (fun n => d (ix2 p n) + ∑ k : Fin 512, e (ix2 p k) * wo2 (ix3 0 k n))
          (fun n => g (ix3 0 0 n)) (fun n => b (ix3 0 0 n)) n := by
  unfold row layerNorm
  pointwise [k0_pay15]

/-- The upper half of a block, row by row. -/
theorem upper (p : Fin 128) (n : Fin 2048) :
    (k0_pay15 (F := Ideal) (k0_pay13 (k0_pay6 bg) (k0_pay7 cg bx) (k0_pay8 hd cg bx cb w0) (k0_pay9 cg bx) (k0_pay10 hd) k0_pay11 w1 w2 gt ya wo0 wo1) (k0_pay14 gt ym) wo2 x g b (ix2 p n) : EReal)
      = blockRow (fun q k => hd (ix3 0 q k)) gt bx bg cg ya ym cb w0 w1 w2 wo0 wo1 wo2 x g b p n := by
  rw [pay15_of]
  unfold blockRow mixed
  simp only [pay14_apply]
  exact congrArg (fun f => row _ f _ _ n) (funext fun n => congrArg (· + _) (pay13_apply hd gt bx bg cg ya cb w0 w1 w2 wo0 wo1 p n))

theorem pay16_of (d : FVec Ideal S128x2048 .f32) (e : FVec Ideal S128x512 .bf16) (i : S128x2048.Idx) :
    (k0_pay16 (F := Ideal) d e wo2 x g b i : EReal) = (k0_pay15 (F := Ideal) d e wo2 x g b i : EReal) := by
  generalize hq : k0_pay15 (F := Ideal) d e wo2 x g b = q
  pointwise [k0_pay16, k0_pay17, hq]

theorem pay17_of (d : FVec Ideal S128x2048 .f32) (e : FVec Ideal S128x512 .bf16) (i : S128x2048.Idx) :
    (k0_pay17 (F := Ideal) d e wo2 x g b i : EReal) = (k0_pay15 (F := Ideal) d e wo2 x g b i : EReal) - k0_pay15 (F := Ideal) d e wo2 x g b i := by
  generalize hq : k0_pay15 (F := Ideal) d e wo2 x g b = q
  pointwise [k0_pay16, k0_pay17, hq]

theorem pay21_apply (p : Fin 128) (k : Fin 1024) : (k0_pay21 (F := Ideal) cg8 bx8 cg bx cb w0 (ix2 p k) : EReal)
    = cb (ix3 0 0 k) + past 2 (by omega) (fun q k => cg8 (ix2 q k) * bx8 (ix2 q k)) (fun q k => cg (ix2 q k) * bx (ix2 q k)) p k * w0 (ix3 0 0 k) := by
  rw [show (fun (q : Fin 128) (k : Fin 1024) => (cg (ix2 q k) * bx (ix2 q k) : EReal)) = fun q k => k0_pay20 (F := Ideal) cg bx (ix2 q k) from
      funext fun q => funext fun k => (pay20_apply bx cg q k).symm,
    show (fun (q : Fin 8) (k : Fin 1024) => (cg8 (ix2 q k) * bx8 (ix2 q k) : EReal)) = fun q k => k0_pay18 (F := Ideal) cg8 bx8 (ix2 q k) from
      funext fun q => funext fun k => (pay18_apply bx8 cg8 q k).symm]
  generalize hu : k0_pay20 (F := Ideal) cg bx = u
  generalize hh : k0_pay18 (F := Ideal) cg8 bx8 = h
  rw [← shift_apply 2 (by omega) h u
    (select (cmpi .slt (iota .tc S8x1024 32 [0] iota_S8x1024_d0_w32) (broadcast S8x1024 2#32)) (dynamicRotate 0 2#32 none h rotates_S8x1024_d0)
      (extractStridedSlice S8x1024 ![0, 0] (dynamicRotate 0 2#32 none u rotates_S128x1024_d0) slices_S128x1024_o0_0_S8x1024))
    (dynamicRotate 0 2#32 none u rotates_S128x1024_d0)
    (fun q k => by pointwise; exact sel_bit q.val 2 (by omega) q.isLt _ _) (fun q k => by pointwise) concatenates_S8x1024_S120x1024_S128x1024_d0 p k]
  generalize hr : concatenate S128x1024 0 _ _ = r
  pointwise [k0_pay21, hu, hh, hr]

theorem pay26_of (a6 a7 a8 a9 : Vec Ideal S128x1024 .f32) (a10 : Vec Ideal S8x1024 .f32) (sh : Vec Ideal S128x1024 .f32)
    (hsh : concatenate S128x1024 0 [⟨S8x1024, select (cmpi .slt (iota .tc S8x1024 32 [0] iota_S8x1024_d0_w32) (broadcast S8x1024 1#32)) a10
        (extractStridedSlice S8x1024 ![0, 0] a9 slices_S128x1024_o0_0_S8x1024)⟩,
      ⟨S120x1024, extractStridedSlice S120x1024 ![8, 0] a9 slices_S128x1024_o8_0_S120x1024⟩] concatenates_S8x1024_S120x1024_S128x1024_d0 = sh)
    (p : Fin 128) (n : Fin 2048) :
    (k0_pay26 (F := Ideal) a6 a7 a8 a9 a10 (iota .tc S8x1024 32 [0] iota_S8x1024_d0_w32) 1#32 w1 w2 gt ya wo0 wo1 (ix2 p n) : EReal)
      = (∑ k : Fin 1024, ya (ix2 p k) * silu (gt (ix2 p ⟨k.val, by omega⟩)) * wo0 (ix3 0 k n))
        + ∑ k : Fin 1024, a6 (ix2 p k) * ((a8 (ix2 p k) + sh (ix2 p k) * w1 (ix3 0 0 k)) + a7 (ix2 p k) * w2 (ix3 0 0 k))
          * silu (gt (ix2 p ⟨1024 + k.val, by omega⟩)) * wo1 (ix3 0 k n) := by
  simp only [← pay24_apply]
  generalize hq : k0_pay24 (F := Ideal) gt = q
  pointwise [k0_pay26, k0_pay11, hq, hsh]

theorem pay26_apply (p : Fin 128) (n : Fin 2048) :
    (k0_pay26 (F := Ideal) (k0_pay19 bg) (k0_pay20 cg bx) (k0_pay21 cg8 bx8 cg bx cb w0) (k0_pay22 cg bx) (k0_pay23 cg8 bx8) (iota .tc S8x1024 32 [0] iota_S8x1024_d0_w32) 1#32 w1 w2 gt ya wo0 wo1 (ix2 p n) : EReal)
      = (∑ k : Fin 1024, ya (ix2 p k) * silu (gt (ix2 p ⟨k.val, by omega⟩)) * wo0 (ix3 0 k n))
        + ∑ k : Fin 1024, bg (ix2 p k) * (((cb (ix3 0 0 k) + past 2 (by omega) (fun q k => cg8 (ix2 q k) * bx8 (ix2 q k)) (fun q k => cg (ix2 q k) * bx (ix2 q k)) p k * w0 (ix3 0 0 k))
            + past 1 (by omega) (fun q k => cg8 (ix2 q k) * bx8 (ix2 q k)) (fun q k => cg (ix2 q k) * bx (ix2 q k)) p k * w1 (ix3 0 0 k)) + cg (ix2 p k) * bx (ix2 p k) * w2 (ix3 0 0 k))
          * silu (gt (ix2 p ⟨1024 + k.val, by omega⟩)) * wo1 (ix3 0 k n) := by
  refine (pay26_of _ _ _ _ _ _ _ _ _ _ _ _ rfl p n).trans ?_
  refine congrArg (_ + ·) (Finset.sum_congr rfl fun k _ => ?_)
  refine congrArg (· * _) (congrArg (· * _) ?_)
  refine congr (congrArg _ (pay19_apply bg p k)) (congr (congrArg _ (congr (congrArg _ (pay21_apply bx8 cg8 bx cg cb w0 p k)) ?_)) ?_)
  · refine congrArg (· * _) ?_
    rw [show (fun (q : Fin 128) (k : Fin 1024) => (cg (ix2 q k) * bx (ix2 q k) : EReal)) = fun q k => k0_pay20 (F := Ideal) cg bx (ix2 q k) from
        funext fun q => funext fun k => (pay20_apply bx cg q k).symm,
      show (fun (q : Fin 8) (k : Fin 1024) => (cg8 (ix2 q k) * bx8 (ix2 q k) : EReal)) = fun q k => k0_pay18 (F := Ideal) cg8 bx8 (ix2 q k) from
        funext fun q => funext fun k => (pay18_apply bx8 cg8 q k).symm]
    generalize hu : k0_pay20 (F := Ideal) cg bx = u
    generalize hh : k0_pay18 (F := Ideal) cg8 bx8 = h
    unfold k0_pay22 k0_pay23
    rw [hu, hh]
    exact shift_apply 1 (by omega) h u
      (select (cmpi .slt (iota .tc S8x1024 32 [0] iota_S8x1024_d0_w32) (broadcast S8x1024 1#32)) (dynamicRotate 0 1#32 none h rotates_S8x1024_d0)
        (extractStridedSlice S8x1024 ![0, 0] (dynamicRotate 0 1#32 none u rotates_S128x1024_d0) slices_S128x1024_o0_0_S8x1024))
      (dynamicRotate 0 1#32 none u rotates_S128x1024_d0)
      (fun q k => by pointwise; exact sel_bit q.val 1 (by omega) q.isLt _ _) (fun q k => by pointwise) concatenates_S8x1024_S120x1024_S128x1024_d0 p k
  · exact congrArg (· * _) (pay20_apply bx cg p k)

theorem pay27_of (d : FVec Ideal S128x2048 .f32) (e : FVec Ideal S128x512 .f32) (p : Fin 128) (n : Fin 2048) :
    (k0_pay27 (F := Ideal) e d wo2 x g b (ix2 p n) : EReal)
      = row (fun n => x (ix2 p n)) (fun n => d (ix2 p n) + ∑ k : Fin 512, e (ix2 p k) * wo2 (ix3 0 k n))
          (fun n => g (ix3 0 0 n)) (fun n => b (ix3 0 0 n)) n := by
  unfold row layerNorm
  pointwise [k0_pay27]

/-- The lower half of a block, row by row. -/
theorem lower (p : Fin 128) (n : Fin 2048) :
    (k0_pay27 (F := Ideal) (k0_pay25 gt ym) (k0_pay26 (k0_pay19 bg) (k0_pay20 cg bx) (k0_pay21 cg8 bx8 cg bx cb w0) (k0_pay22 cg bx) (k0_pay23 cg8 bx8) (iota .tc S8x1024 32 [0] iota_S8x1024_d0_w32) 1#32 w1 w2 gt ya wo0 wo1) wo2 x g b (ix2 p n) : EReal)
      = blockRow (fun q k => cg8 (ix2 q k) * bx8 (ix2 q k)) gt bx bg cg ya ym cb w0 w1 w2 wo0 wo1 wo2 x g b p n := by
  rw [pay27_of]
  unfold blockRow mixed
  simp only [pay25_apply]
  exact congrArg (fun f => row _ f _ _ n) (funext fun n => congrArg (· + _) (pay26_apply bx8 cg8 gt bx bg cg ya cb w0 w1 w2 wo0 wo1 p n))

theorem pay28_of (d : FVec Ideal S128x2048 .f32) (e : FVec Ideal S128x512 .f32) (i : S128x2048.Idx) :
    (k0_pay28 (F := Ideal) e d wo2 x g b i : EReal) = (k0_pay27 (F := Ideal) e d wo2 x g b i : EReal) := by
  generalize hq : k0_pay27 (F := Ideal) e d wo2 x g b = q
  pointwise [k0_pay28, k0_pay29, hq]

theorem pay29_of (d : FVec Ideal S128x2048 .f32) (e : FVec Ideal S128x512 .f32) (i : S128x2048.Idx) :
    (k0_pay29 (F := Ideal) e d wo2 x g b i : EReal) = (k0_pay27 (F := Ideal) e d wo2 x g b i : EReal) - k0_pay27 (F := Ideal) e d wo2 x g b i := by
  generalize hq : k0_pay27 (F := Ideal) e d wo2 x g b = q
  pointwise [k0_pay28, k0_pay29, hq]

theorem pay2_apply (q : Fin 8) (k : Fin 1024) : (k0_pay2 (F := Ideal) cg8 bx8 (ix3 0 q k) : EReal) = cg8 (ix2 q k) * bx8 (ix2 q k) := by
  pointwise [k0_pay2, k0_pay1]
theorem pay3_apply (q : Fin 8) (k : Fin 1024) : (k0_pay3 (F := Ideal) cg8 bx8 (ix3 0 q k) : EReal) = cg8 (ix2 q k) * bx8 (ix2 q k) := by
  pointwise [k0_pay3, k0_pay1]
theorem pay4_apply (v : Vec Ideal S1x1x8x1024 .f32) (q : Fin 8) (k : Fin 1024) : (k0_pay4 (F := Ideal) v (ix3 0 q k) : EReal) = v (ix4 0 0 q k) := by
  pointwise [k0_pay4]
end

end Cert.EvenTailIdeal.Pays

end
-- ==== Proof.EvenTailBlocks.lean ====
module

public import proofs.«01_k».proof.Defs
public import proofs.«01_k».proof.Proof.Gen.EvenTailIdeal.Value
public import proofs.«01_k».proof.Proof.EvenTailPays
public import Idealize.ShloMosaic.Lib.WholeRead
public import Idealize.ShloMosaic.Lib.Pipeline.Value
public import Idealize.ShloMosaic.Lib.Pipeline.ValueKit
public import Idealize.ShloMosaic.Lib.Pointwise

@[expose] public section

set_option maxRecDepth 16384

noncomputable section

namespace Cert.EvenTailIdeal.Blocks

open Cert.EvenTailIdeal Cert.EvenTailIdeal.Gen Idealize.ShloMosaic Idealize.ShloMosaic.TcCoe Idealize.SL.Sem
open Idealize.ShloMosaic.Pipeline (Dat)
open TailSpec

variable (m : (ℓ : Loc nD τ sig) → Buf (Elt Ideal) ℓ)

/-- Column `n` of the projection the kernel reads is column `src n` of the reference's. -/
def src (n : Nat) : Nat := if n < 2560 then n + 6656 else if n < 3072 then n + 3584 else n - 3072

theorem src_lt {n : Nat} (h : n < 9216) : src n < 9216 := by unfold src; split_ifs <;> omega

/-- The convolution's input at row `r`. -/
def ci (h : S1x16384x9216.Idx → EReal) (r : Fin 16384) (k : Fin 1024) : EReal :=
  h (ix3 (0 : Fin 1) r ⟨5120 + k.val, by omega⟩) * h (ix3 (0 : Fin 1) r ⟨3072 + k.val, by omega⟩)

/-- The convolution's input eight rows before row `n`: zero before the sequence. -/
def back (h : S1x16384x9216.Idx → EReal) (n : Nat) (k : Fin 1024) : EReal :=
  if hn : 8 ≤ n ∧ n - 8 < 16384 then ci h ⟨n - 8, hn.2⟩ k else 0

theorem back_of (h : S1x16384x9216.Idx → EReal) (n : Nat) (k : Fin 1024) (r : Fin 16384) (hr : n = r.val + 8) : back h n k = ci h r k := by
  have := r.isLt
  unfold back
  rw [dif_pos ⟨by omega, by omega⟩]
  exact congrArg (fun r => ci h r k) (Fin.ext (by show n - 8 = r.val; omega))

/-- The convolution at a row. -/
def conv (h : S1x16384x9216.Idx → EReal) (cw : S2x3x1024.Idx → EReal) (cb : S2x1024.Idx → EReal) (r : Fin 16384) (k : Fin 1024) : EReal :=
  ((cb (ix2 (0 : Fin 2) k) + back h (r.val + 6) k * cw (ix3 (0 : Fin 2) (0 : Fin 3) k)) + back h (r.val + 7) k * cw (ix3 (0 : Fin 2) (1 : Fin 3) k))
    + ci h r k * cw (ix3 (0 : Fin 2) (2 : Fin 3) k)

/-- A row of the layer's output from the row of the projection, of the branches and of the residual. -/
def outRow (h : S1x16384x9216.Idx → EReal) (ya : S1x16384x1024.Idx → EReal) (ym : S1x16384x512.Idx → EReal) (x : S1x16384x2048.Idx → EReal)
    (cw : S2x3x1024.Idx → EReal) (cb : S2x1024.Idx → EReal) (w : S4x2560x2048.Idx → EReal) (g b : S4x2048.Idx → EReal) (r : Fin 16384) (n : Fin 2048) : EReal :=
  row (fun n => x (ix3 (0 : Fin 1) r n))
    (mixed (fun k => ya (ix3 (0 : Fin 1) r k) * silu (h (ix3 (0 : Fin 1) r ⟨6656 + k.val, by omega⟩)))
      (fun k => h (ix3 (0 : Fin 1) r ⟨4096 + k.val, by omega⟩) * conv h cw cb r k * silu (h (ix3 (0 : Fin 1) r ⟨7680 + k.val, by omega⟩)))
      (fun k => ym (ix3 (0 : Fin 1) r k) * silu (h (ix3 (0 : Fin 1) r ⟨8704 + k.val, by omega⟩)))
      (fun k n => w (ix3 (0 : Fin 4) ⟨k.val, by omega⟩ n)) (fun k n => w (ix3 (0 : Fin 4) ⟨1024 + k.val, by omega⟩ n))
      (fun k n => w (ix3 (0 : Fin 4) ⟨2048 + k.val, by omega⟩ n)))
    (fun n => g (ix2 (0 : Fin 4) n)) (fun n => b (ix2 (0 : Fin 4) n)) n

/-- The same of the arguments a memory holds, at an index of the result. -/
def out (c : Dev nD) (i : S16384x2048.Idx) : EReal :=
  outRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (i 0) (i 1)

/-- What rounding the output leaves of it: nothing, unless it is infinite. -/
def rest (c : Dev nD) (i : S16384x2048.Idx) : EReal := out m c i - out m c i

/-- The last eight rows of the convolution's input. -/
def tail (c : Dev nD) (i : S1x8x1024.Idx) : EReal :=
  ci (m ((c : Thread nD τ).loc main_arg0)) ⟨16376 + (i 1).val, by have h : (i 1).val < 8 := (i 1).isLt; omega⟩ (i 2)

/-- The block coordinates of the windows at a grid point. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 6)
    ∧ (win0_2.index t (0 : Fin 2) = t.val ∧ win0_2.index t (1 : Fin 2) = 7)
    ∧ (win0_3.index t (0 : Fin 2) = t.val ∧ win0_3.index t (1 : Fin 2) = 8)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 3) = 0 ∧ win0_6.index t (1 : Fin 3) = 0 ∧ win0_6.index t (2 : Fin 3) = 0)
    ∧ (win0_7.index t (0 : Fin 3) = 0 ∧ win0_7.index t (1 : Fin 3) = 0 ∧ win0_7.index t (2 : Fin 3) = 0)
    ∧ (win0_9.index t (0 : Fin 2) = t.val ∧ win0_9.index t (1 : Fin 2) = 0)
    ∧ (win0_10.index t (0 : Fin 3) = 0 ∧ win0_10.index t (1 : Fin 3) = 0 ∧ win0_10.index t (2 : Fin 3) = 0)
    ∧ (win0_11.index t (0 : Fin 3) = 0 ∧ win0_11.index t (1 : Fin 3) = 0 ∧ win0_11.index t (2 : Fin 3) = 0)
    ∧ (win0_12.index t (0 : Fin 3) = 0 ∧ win0_12.index t (1 : Fin 3) = 0 ∧ win0_12.index t (2 : Fin 3) = 0)
    ∧ (win0_13.index t (0 : Fin 2) = t.val ∧ win0_13.index t (1 : Fin 2) = 0)
    ∧ (win0_14.index t (0 : Fin 2) = t.val ∧ win0_14.index t (1 : Fin 2) = 0)
    ∧ (win0_15.index t (0 : Fin 2) = t.val ∧ win0_15.index t (1 : Fin 2) = 0)
    ∧ (win0_16.index t (0 : Fin 3) = 0 ∧ win0_16.index t (1 : Fin 3) = 0 ∧ win0_16.index t (2 : Fin 3) = 0) :=
  (by decide +kernel : ∀ t : Fin grid0.N, _)

theorem lt64 : ∀ t : Fin cfg0.N, t.val < 64 := (by decide +kernel : ∀ t : Fin grid0.N, _)

/-! ## The arrays the region reads, as the arguments -/

theorem V_proj (c : Dev nD) : V m c main_v5 = shapeCast S16384x9216 (concatenate S1x16384x9216 2 [
      ⟨S1x16384x2560, extractStridedSlice S1x16384x2560 ![0, 0, 6656] (m ((c : Thread nD τ).loc main_arg0)) slices_S1x16384x9216_S1x16384x2560_0_0_6656⟩,
      ⟨S1x16384x512, extractStridedSlice S1x16384x512 ![0, 0, 6144] (m ((c : Thread nD τ).loc main_arg0)) slices_S1x16384x9216_S1x16384x512_0_0_6144⟩,
      ⟨S1x16384x6144, extractStridedSlice S1x16384x6144 ![0, 0, 0] (m ((c : Thread nD τ).loc main_arg0)) slices_S1x16384x9216_S1x16384x6144_0_0_0⟩]
      concatenates_S1x16384x2560_S1x16384x512_S1x16384x6144_S1x16384x9216_d2) shapeCasts_S1x16384x9216_S16384x9216 := by
  dsimp only [V]; after_results; rfl

theorem at_col (w : S1x16384x9216.Idx → EReal) (i : S1x16384x9216.Idx) (j : S1x16384x9216.Idx) (n : Fin 9216)
    (h0 : (j 0).val = (i 0).val) (h1 : (j 1).val = (i 1).val) (h : (j 2).val = n.val) : w j = w (ix3 (i 0) (i 1) n) :=
  congrArg w (funext fun a => by fin_cases a; exacts [Fin.ext h0, Fin.ext h1, Fin.ext h])

theorem permuted_apply (w : S1x16384x9216.Idx → EReal) (i : S1x16384x9216.Idx) : (concatenate S1x16384x9216 2 [
      ⟨S1x16384x2560, extractStridedSlice S1x16384x2560 ![0, 0, 6656] w slices_S1x16384x9216_S1x16384x2560_0_0_6656⟩,
      ⟨S1x16384x512, extractStridedSlice S1x16384x512 ![0, 0, 6144] w slices_S1x16384x9216_S1x16384x512_0_0_6144⟩,
      ⟨S1x16384x6144, extractStridedSlice S1x16384x6144 ![0, 0, 0] w slices_S1x16384x9216_S1x16384x6144_0_0_0⟩]
      concatenates_S1x16384x2560_S1x16384x512_S1x16384x6144_S1x16384x9216_d2 : S1x16384x9216.Idx → EReal) i
      = w (ix3 (i 0) (i 1) ⟨src (i 2).val, src_lt (i 2).isLt⟩) := by
  pointwise
  have h0' : (i 0).val < 1 := (i 0).isLt
  have h0 : (i 0).val = 0 := by omega
  have h2 : (i 2).val < 9216 := (i 2).isLt
  have hs : ((i 2).val < 2560 ∧ src (i 2).val = (i 2).val + 6656) ∨ (2560 ≤ (i 2).val ∧ (i 2).val < 3072 ∧ src (i 2).val = (i 2).val + 3584)
      ∨ (3072 ≤ (i 2).val ∧ src (i 2).val = (i 2).val - 3072) := by unfold src; split_ifs <;> omega
  by_cases c0 : (i 2).val < 2560
  · rw [dif_pos c0]; exact at_col w i _ _ h0.symm (by first | rfl | exact Nat.zero_add _) (by show 6656 + ((i 2).val) = src (i 2).val; omega)
  rw [dif_neg c0]
  by_cases c1 : (i 2).val - 2560 < 512
  · rw [dif_pos c1]; exact at_col w i _ _ h0.symm (by first | rfl | exact Nat.zero_add _) (by show 6144 + ((i 2).val - 2560) = src (i 2).val; omega)
  rw [dif_neg c1]
  exact at_col w i _ _ h0.symm (by first | rfl | exact Nat.zero_add _) (by show (i 2).val - 2560 - 512 = src (i 2).val; omega)

theorem V_proj_apply (c : Dev nD) (i : S16384x9216.Idx) : (V m c main_v5 : S16384x9216.Idx → EReal) i
    = (m ((c : Thread nD τ).loc main_arg0) : S1x16384x9216.Idx → EReal) (ix3 (0 : Fin 1) (i 0) ⟨src (i 1).val, src_lt (i 1).isLt⟩) := by
  rw [V_proj]
  refine Eq.trans (shapeCast_apply _ shapeCasts_S1x16384x9216_S16384x9216 i (ix3 (0 : Fin 1) (i 0 : Fin 16384) (i 1 : Fin 9216) : S1x16384x9216.Idx)
    (by rewrite [Shape.rowMajor_val_three, Shape.rowMajor_val_two]; show (0 * 16384 + (i 0).val) * 9216 + (i 1).val = (i 0).val * 9216 + (i 1).val; omega)) ?_
  exact permuted_apply _ _

theorem V_ya_apply (c : Dev nD) (i : S16384x1024.Idx) : (V m c main_v6 : S16384x1024.Idx → EReal) i
    = (m ((c : Thread nD τ).loc main_arg1) : S1x16384x1024.Idx → EReal) (ix3 (0 : Fin 1) (i 0) (i 1)) := by
  have e : V m c main_v6 = shapeCast S16384x1024 (m ((c : Thread nD τ).loc main_arg1)) shapeCasts_S1x16384x1024_S16384x1024 := by
    dsimp only [V]; after_results; rfl
  rw [e]
  exact shapeCast_apply _ shapeCasts_S1x16384x1024_S16384x1024 i (ix3 (0 : Fin 1) (i 0 : Fin 16384) (i 1 : Fin 1024) : S1x16384x1024.Idx)
    (by rewrite [Shape.rowMajor_val_three, Shape.rowMajor_val_two]; show (0 * 16384 + (i 0).val) * 1024 + (i 1).val = (i 0).val * 1024 + (i 1).val; omega)

theorem V_ym_apply (c : Dev nD) (i : S16384x512.Idx) : (V m c main_v7 : S16384x512.Idx → EReal) i
    = (m ((c : Thread nD τ).loc main_arg2) : S1x16384x512.Idx → EReal) (ix3 (0 : Fin 1) (i 0) (i 1)) := by
  have e : V m c main_v7 = shapeCast S16384x512 (m ((c : Thread nD τ).loc main_arg2)) shapeCasts_S1x16384x512_S16384x512 := by
    dsimp only [V]; after_results; rfl
  rw [e]
  exact shapeCast_apply _ shapeCasts_S1x16384x512_S16384x512 i (ix3 (0 : Fin 1) (i 0 : Fin 16384) (i 1 : Fin 512) : S1x16384x512.Idx)
    (by rewrite [Shape.rowMajor_val_three, Shape.rowMajor_val_two]; show (0 * 16384 + (i 0).val) * 512 + (i 1).val = (i 0).val * 512 + (i 1).val; omega)

theorem V_x_apply (c : Dev nD) (i : S16384x2048.Idx) : (V m c main_v8 : S16384x2048.Idx → EReal) i
    = (m ((c : Thread nD τ).loc main_arg3) : S1x16384x2048.Idx → EReal) (ix3 (0 : Fin 1) (i 0) (i 1)) := by
  have e : V m c main_v8 = shapeCast S16384x2048 (m ((c : Thread nD τ).loc main_arg3)) shapeCasts_S1x16384x2048_S16384x2048 := by
    dsimp only [V]; after_results; rfl
  rw [e]
  exact shapeCast_apply _ shapeCasts_S1x16384x2048_S16384x2048 i (ix3 (0 : Fin 1) (i 0 : Fin 16384) (i 1 : Fin 2048) : S1x16384x2048.Idx)
    (by rewrite [Shape.rowMajor_val_three, Shape.rowMajor_val_two]; show (0 * 16384 + (i 0).val) * 2048 + (i 1).val = (i 0).val * 2048 + (i 1).val; omega)

theorem V_cb_apply (c : Dev nD) (i : S2x1x1024.Idx) : (V m c main_v9 : S2x1x1024.Idx → EReal) i
    = (m ((c : Thread nD τ).loc main_arg5) : S2x1024.Idx → EReal) (ix2 (i 0) (i 2)) := by
  have e : V m c main_v9 = broadcastInDim S2x1x1024 ![0, 2] bcast_S2x1024_S2x1x1024_0_2 (m ((c : Thread nD τ).loc main_arg5)) := by
    dsimp only [V]; after_results
  rw [e]
  generalize (m ((c : Thread nD τ).loc main_arg5)) = x
  pointwise

theorem V_g_apply (c : Dev nD) (i : S4x1x2048.Idx) : (V m c main_v11 : S4x1x2048.Idx → EReal) i
    = (m ((c : Thread nD τ).loc main_arg7) : S4x2048.Idx → EReal) (ix2 (i 0) (i 2)) := by
  have e : V m c main_v11 = broadcastInDim S4x1x2048 ![0, 2] bcast_S4x2048_S4x1x2048_0_2 (m ((c : Thread nD τ).loc main_arg7)) := by
    dsimp only [V]; after_results
  rw [e]
  generalize (m ((c : Thread nD τ).loc main_arg7)) = x
  pointwise

theorem V_b_apply (c : Dev nD) (i : S4x1x2048.Idx) : (V m c main_v12 : S4x1x2048.Idx → EReal) i
    = (m ((c : Thread nD τ).loc main_arg8) : S4x2048.Idx → EReal) (ix2 (i 0) (i 2)) := by
  have e : V m c main_v12 = broadcastInDim S4x1x2048 ![0, 2] bcast_S4x2048_S4x1x2048_0_2 (m ((c : Thread nD τ).loc main_arg8)) := by
    dsimp only [V]; after_results
  rw [e]
  generalize (m ((c : Thread nD τ).loc main_arg8)) = x
  pointwise

theorem V_w (c : Dev nD) : V m c main_v10 = m ((c : Thread nD τ).loc main_arg6) := by
  dsimp only [V]; after_results; rfl

theorem V_cw (c : Dev nD) : V m c main_arg4 = m ((c : Thread nD τ).loc main_arg4) := by
  dsimp only [V]; after_results

theorem V_halo_apply (c : Dev nD) (i : S1x1x8x1024.Idx) : (V m c main_v0 : S1x1x8x1024.Idx → EReal) i = (0 : EReal) := by
  dsimp only [V]; after_results
  exact Ideal.ofBits_zero_f32

/-! ## Where an index of a block lies in its array -/

theorem emb0_0 (t : Fin cfg0.N) (z : (win0_0.rect t).shape.Idx) :
    ((win0_0.rect t).emb z 0 : Nat) = win0_0.index t (0 : Fin 2) * 256 + (z 0 : Nat) :=
  ValueKit.rect_emb_unit_val _ _ _ z (0 : Fin 2)
theorem emb0_1 (t : Fin cfg0.N) (z : (win0_0.rect t).shape.Idx) :
    ((win0_0.rect t).emb z 1 : Nat) = win0_0.index t (1 : Fin 2) * 2560 + (z 1 : Nat) :=
  ValueKit.rect_emb_unit_val _ _ _ z (1 : Fin 2)
theorem emb1_0 (t : Fin cfg0.N) (z : (win0_1.rect t).shape.Idx) :
    ((win0_1.rect t).emb z 0 : Nat) = win0_1.index t (0 : Fin 2) * 256 + (z 0 : Nat) :=
  ValueKit.rect_emb_unit_val _ _ _ z (0 : Fin 2)
theorem emb1_1 (t : Fin cfg0.N) (z : (win0_1.rect t).shape.Idx) :
    ((win0_1.rect t).emb z 1 : Nat) = win0_1.index t (1 : Fin 2) * 1024 + (z 1 : Nat) :=
  ValueKit.rect_emb_unit_val _ _ _ z (1 : Fin 2)
theorem emb2_0 (t : Fin cfg0.N) (z : (win0_2.rect t).shape.Idx) :
    ((win0_2.rect t).emb z 0 : Nat) = win0_2.index t (0 : Fin 2) * 256 + (z 0 : Nat) :=
  ValueKit.rect_emb_unit_val _ _ _ z (0 : Fin 2)
theorem emb2_1 (t : Fin cfg0.N) (z : (win0_2.rect t).shape.Idx) :
    ((win0_2.rect t).emb z 1 : Nat) = win0_2.index t (1 : Fin 2) * 1024 + (z 1 : Nat) :=
  ValueKit.rect_emb_unit_val _ _ _ z (1 : Fin 2)
theorem emb3_0 (t : Fin cfg0.N) (z : (win0_3.rect t).shape.Idx) :
    ((win0_3.rect t).emb z 0 : Nat) = win0_3.index t (0 : Fin 2) * 256 + (z 0 : Nat) :=
  ValueKit.rect_emb_unit_val _ _ _ z (0 : Fin 2)
theorem emb3_1 (t : Fin cfg0.N) (z : (win0_3.rect t).shape.Idx) :
    ((win0_3.rect t).emb z 1 : Nat) = win0_3.index t (1 : Fin 2) * 1024 + (z 1 : Nat) :=
  ValueKit.rect_emb_unit_val _ _ _ z (1 : Fin 2)
theorem emb4_0 (t : Fin cfg0.N) (z : (win0_4.rect t).shape.Idx) :
    ((win0_4.rect t).emb z 0 : Nat) = win0_4.index t (0 : Fin 2) * 256 + (z 0 : Nat) :=
  ValueKit.rect_emb_unit_val _ _ _ z (0 : Fin 2)
theorem emb4_1 (t : Fin cfg0.N) (z : (win0_4.rect t).shape.Idx) :
    ((win0_4.rect t).emb z 1 : Nat) = win0_4.index t (1 : Fin 2) * 1024 + (z 1 : Nat) :=
  ValueKit.rect_emb_unit_val _ _ _ z (1 : Fin 2)
theorem emb5_0 (t : Fin cfg0.N) (z : (win0_5.rect t).shape.Idx) :
    ((win0_5.rect t).emb z 0 : Nat) = win0_5.index t (0 : Fin 2) * 256 + (z 0 : Nat) :=
  ValueKit.rect_emb_unit_val _ _ _ z (0 : Fin 2)
theorem emb5_1 (t : Fin cfg0.N) (z : (win0_5.rect t).shape.Idx) :
    ((win0_5.rect t).emb z 1 : Nat) = win0_5.index t (1 : Fin 2) * 512 + (z 1 : Nat) :=
  ValueKit.rect_emb_unit_val _ _ _ z (1 : Fin 2)
theorem emb6_0 (t : Fin cfg0.N) (z : (win0_6.rect t).shape.Idx) :
    ((win0_6.rect t).emb z 0 : Nat) = win0_6.index t (0 : Fin 3) * 1 + (z 0 : Nat) :=
  ValueKit.rect_emb_unit_val _ _ _ z (0 : Fin 3)
theorem emb6_1 (t : Fin cfg0.N) (z : (win0_6.rect t).shape.Idx) :
    ((win0_6.rect t).emb z 1 : Nat) = win0_6.index t (1 : Fin 3) * 3 + (z 1 : Nat) :=
  ValueKit.rect_emb_unit_val _ _ _ z (1 : Fin 3)
theorem emb6_2 (t : Fin cfg0.N) (z : (win0_6.rect t).shape.Idx) :
    ((win0_6.rect t).emb z 2 : Nat) = win0_6.index t (2 : Fin 3) * 1024 + (z 2 : Nat) :=
  ValueKit.rect_emb_unit_val _ _ _ z (2 : Fin 3)
theorem emb7_0 (t : Fin cfg0.N) (z : (win0_7.rect t).shape.Idx) :
    ((win0_7.rect t).emb z 0 : Nat) = win0_7.index t (0 : Fin 3) * 1 + (z 0 : Nat) :=
  ValueKit.rect_emb_unit_val _ _ _ z (0 : Fin 3)
theorem emb7_1 (t : Fin cfg0.N) (z : (win0_7.rect t).shape.Idx) :
    ((win0_7.rect t).emb z 1 : Nat) = win0_7.index t (1 : Fin 3) * 1 + (z 1 : Nat) :=
  ValueKit.rect_emb_unit_val _ _ _ z (1 : Fin 3)
theorem emb7_2 (t : Fin cfg0.N) (z : (win0_7.rect t).shape.Idx) :
    ((win0_7.rect t).emb z 2 : Nat) = win0_7.index t (2 : Fin 3) * 1024 + (z 2 : Nat) :=
  ValueKit.rect_emb_unit_val _ _ _ z (2 : Fin 3)
theorem emb9_0 (t : Fin cfg0.N) (z : (win0_9.rect t).shape.Idx) :
    ((win0_9.rect t).emb z 0 : Nat) = win0_9.index t (0 : Fin 2) * 256 + (z 0 : Nat) :=
  ValueKit.rect_emb_unit_val _ _ _ z (0 : Fin 2)
theorem emb9_1 (t : Fin cfg0.N) (z : (win0_9.rect t).shape.Idx) :
    ((win0_9.rect t).emb z 1 : Nat) = win0_9.index t (1 : Fin 2) * 2048 + (z 1 : Nat) :=
  ValueKit.rect_emb_unit_val _ _ _ z (1 : Fin 2)
theorem emb10_0 (t : Fin cfg0.N) (z : (win0_10.rect t).shape.Idx) :
    ((win0_10.rect t).emb z 0 : Nat) = win0_10.index t (0 : Fin 3) * 1 + (z 0 : Nat) :=
  ValueKit.rect_emb_unit_val _ _ _ z (0 : Fin 3)
theorem emb10_1 (t : Fin cfg0.N) (z : (win0_10.rect t).shape.Idx) :
    ((win0_10.rect t).emb z 1 : Nat) = win0_10.index t (1 : Fin 3) * 2560 + (z 1 : Nat) :=
  ValueKit.rect_emb_unit_val _ _ _ z (1 : Fin 3)
theorem emb10_2 (t : Fin cfg0.N) (z : (win0_10.rect t).shape.Idx) :
    ((win0_10.rect t).emb z 2 : Nat) = win0_10.index t (2 : Fin 3) * 2048 + (z 2 : Nat) :=
  ValueKit.rect_emb_unit_val _ _ _ z (2 : Fin 3)
theorem emb11_0 (t : Fin cfg0.N) (z : (win0_11.rect t).shape.Idx) :
    ((win0_11.rect t).emb z 0 : Nat) = win0_11.index t (0 : Fin 3) * 1 + (z 0 : Nat) :=
  ValueKit.rect_emb_unit_val _ _ _ z (0 : Fin 3)
theorem emb11_1 (t : Fin cfg0.N) (z : (win0_11.rect t).shape.Idx) :
    ((win0_11.rect t).emb z 1 : Nat) = win0_11.index t (1 : Fin 3) * 1 + (z 1 : Nat) :=
  ValueKit.rect_emb_unit_val _ _ _ z (1 : Fin 3)
theorem emb11_2 (t : Fin cfg0.N) (z : (win0_11.rect t).shape.Idx) :
    ((win0_11.rect t).emb z 2 : Nat) = win0_11.index t (2 : Fin 3) * 2048 + (z 2 : Nat) :=
  ValueKit.rect_emb_unit_val _ _ _ z (2 : Fin 3)
theorem emb12_0 (t : Fin cfg0.N) (z : (win0_12.rect t).shape.Idx) :
    ((win0_12.rect t).emb z 0 : Nat) = win0_12.index t (0 : Fin 3) * 1 + (z 0 : Nat) :=
  ValueKit.rect_emb_unit_val _ _ _ z (0 : Fin 3)
theorem emb12_1 (t : Fin cfg0.N) (z : (win0_12.rect t).shape.Idx) :
    ((win0_12.rect t).emb z 1 : Nat) = win0_12.index t (1 : Fin 3) * 1 + (z 1 : Nat) :=
  ValueKit.rect_emb_unit_val _ _ _ z (1 : Fin 3)
theorem emb12_2 (t : Fin cfg0.N) (z : (win0_12.rect t).shape.Idx) :
    ((win0_12.rect t).emb z 2 : Nat) = win0_12.index t (2 : Fin 3) * 2048 + (z 2 : Nat) :=
  ValueKit.rect_emb_unit_val _ _ _ z (2 : Fin 3)
theorem emb13_0 (t : Fin cfg0.N) (z : (win0_13.rect t).shape.Idx) :
    ((win0_13.rect t).emb z 0 : Nat) = win0_13.index t (0 : Fin 2) * 256 + (z 0 : Nat) :=
  ValueKit.rect_emb_unit_val _ _ _ z (0 : Fin 2)
theorem emb13_1 (t : Fin cfg0.N) (z : (win0_13.rect t).shape.Idx) :
    ((win0_13.rect t).emb z 1 : Nat) = win0_13.index t (1 : Fin 2) * 2048 + (z 1 : Nat) :=
  ValueKit.rect_emb_unit_val _ _ _ z (1 : Fin 2)
theorem emb14_0 (t : Fin cfg0.N) (z : (win0_14.rect t).shape.Idx) :
    ((win0_14.rect t).emb z 0 : Nat) = win0_14.index t (0 : Fin 2) * 256 + (z 0 : Nat) :=
  ValueKit.rect_emb_unit_val _ _ _ z (0 : Fin 2)
theorem emb14_1 (t : Fin cfg0.N) (z : (win0_14.rect t).shape.Idx) :
    ((win0_14.rect t).emb z 1 : Nat) = win0_14.index t (1 : Fin 2) * 2048 + (z 1 : Nat) :=
  ValueKit.rect_emb_unit_val _ _ _ z (1 : Fin 2)
theorem emb15_0 (t : Fin cfg0.N) (z : (win0_15.rect t).shape.Idx) :
    ((win0_15.rect t).emb z 0 : Nat) = win0_15.index t (0 : Fin 2) * 256 + (z 0 : Nat) :=
  ValueKit.rect_emb_unit_val _ _ _ z (0 : Fin 2)
theorem emb15_1 (t : Fin cfg0.N) (z : (win0_15.rect t).shape.Idx) :
    ((win0_15.rect t).emb z 1 : Nat) = win0_15.index t (1 : Fin 2) * 2048 + (z 1 : Nat) :=
  ValueKit.rect_emb_unit_val _ _ _ z (1 : Fin 2)
theorem emb16_0 (t : Fin cfg0.N) (z : (win0_16.rect t).shape.Idx) :
    ((win0_16.rect t).emb z 0 : Nat) = win0_16.index t (0 : Fin 3) * 1 + (z 0 : Nat) :=
  ValueKit.rect_emb_unit_val _ _ _ z (0 : Fin 3)
theorem emb16_1 (t : Fin cfg0.N) (z : (win0_16.rect t).shape.Idx) :
    ((win0_16.rect t).emb z 1 : Nat) = win0_16.index t (1 : Fin 3) * 8 + (z 1 : Nat) :=
  ValueKit.rect_emb_unit_val _ _ _ z (1 : Fin 3)
theorem emb16_2 (t : Fin cfg0.N) (z : (win0_16.rect t).shape.Idx) :
    ((win0_16.rect t).emb z 2 : Nat) = win0_16.index t (2 : Fin 3) * 1024 + (z 2 : Nat) :=
  ValueKit.rect_emb_unit_val _ _ _ z (2 : Fin 3)

/-! ## The loads, as the arguments at a row -/

variable (c : Dev nD) (t : Fin cfg0.N)

theorem ld4 (o R : Nat) (inb) (p : Fin R) (k : Fin 1024) (r : Fin 16384) (hr : r.val = t.val * 256 + (o + p.val)) :
    (View.ld (iblk m c 4 t) (Rect.unit (s := S256x1024) ![o, 0] ![R, 1024] inb) (ix2 p k) : EReal) = (m ((c : Thread nD τ).loc main_arg1) : S1x16384x1024.Idx → EReal) (ix3 (0 : Fin 1) r k) := by
  have ho : o + R ≤ 256 := inb 0
  rw [View.ld_unit_apply_of (iblk m c 4 t) ![o, 0] ![R, 1024] inb (ix2 p k) (ix2 (⟨o + p.val, by omega⟩ : Fin 256) k : S256x1024.Idx)
    (by intro a; fin_cases a; exacts [rfl, (Nat.zero_add _).symm])]
  refine (V_ya_apply m c ((win0_4.rect t).emb (ix2 (⟨o + p.val, by omega⟩ : Fin 256) k : S256x1024.Idx))).trans (congrArg _ (funext fun a => ?_))
  have e := (idx_facts t).2.2.2.2.1
  have z0 := emb4_0 t (ix2 (⟨o + p.val, by omega⟩ : Fin 256) k : S256x1024.Idx)
  have z1 := emb4_1 t (ix2 (⟨o + p.val, by omega⟩ : Fin 256) k : S256x1024.Idx)
  rw [e.1] at z0
  rw [e.2] at z1
  fin_cases a
  · rfl
  · exact Fin.ext (z0.trans hr.symm)
  · exact Fin.ext (z1.trans (by show 0 * 1024 + k.val = k.val; omega))

theorem ld5 (o R : Nat) (inb) (p : Fin R) (k : Fin 512) (r : Fin 16384) (hr : r.val = t.val * 256 + (o + p.val)) :
    (View.ld (iblk m c 5 t) (Rect.unit (s := S256x512) ![o, 0] ![R, 512] inb) (ix2 p k) : EReal) = (m ((c : Thread nD τ).loc main_arg2) : S1x16384x512.Idx → EReal) (ix3 (0 : Fin 1) r k) := by
  have ho : o + R ≤ 256 := inb 0
  rw [View.ld_unit_apply_of (iblk m c 5 t) ![o, 0] ![R, 512] inb (ix2 p k) (ix2 (⟨o + p.val, by omega⟩ : Fin 256) k : S256x512.Idx)
    (by intro a; fin_cases a; exacts [rfl, (Nat.zero_add _).symm])]
  refine (V_ym_apply m c ((win0_5.rect t).emb (ix2 (⟨o + p.val, by omega⟩ : Fin 256) k : S256x512.Idx))).trans (congrArg _ (funext fun a => ?_))
  have e := (idx_facts t).2.2.2.2.2.1
  have z0 := emb5_0 t (ix2 (⟨o + p.val, by omega⟩ : Fin 256) k : S256x512.Idx)
  have z1 := emb5_1 t (ix2 (⟨o + p.val, by omega⟩ : Fin 256) k : S256x512.Idx)
  rw [e.1] at z0
  rw [e.2] at z1
  fin_cases a
  · rfl
  · exact Fin.ext (z0.trans hr.symm)
  · exact Fin.ext (z1.trans (by show 0 * 512 + k.val = k.val; omega))

theorem ld9 (o R : Nat) (inb) (p : Fin R) (k : Fin 2048) (r : Fin 16384) (hr : r.val = t.val * 256 + (o + p.val)) :
    (View.ld (iblk m c 9 t) (Rect.unit (s := S256x2048) ![o, 0] ![R, 2048] inb) (ix2 p k) : EReal) = (m ((c : Thread nD τ).loc main_arg3) : S1x16384x2048.Idx → EReal) (ix3 (0 : Fin 1) r k) := by
  have ho : o + R ≤ 256 := inb 0
  rw [View.ld_unit_apply_of (iblk m c 9 t) ![o, 0] ![R, 2048] inb (ix2 p k) (ix2 (⟨o + p.val, by omega⟩ : Fin 256) k : S256x2048.Idx)
    (by intro a; fin_cases a; exacts [rfl, (Nat.zero_add _).symm])]
  refine (V_x_apply m c ((win0_9.rect t).emb (ix2 (⟨o + p.val, by omega⟩ : Fin 256) k : S256x2048.Idx))).trans (congrArg _ (funext fun a => ?_))
  have e := (idx_facts t).2.2.2.2.2.2.2.2.1
  have z0 := emb9_0 t (ix2 (⟨o + p.val, by omega⟩ : Fin 256) k : S256x2048.Idx)
  have z1 := emb9_1 t (ix2 (⟨o + p.val, by omega⟩ : Fin 256) k : S256x2048.Idx)
  rw [e.1] at z0
  rw [e.2] at z1
  fin_cases a
  · rfl
  · exact Fin.ext (z0.trans hr.symm)
  · exact Fin.ext (z1.trans (by show 0 * 2048 + k.val = k.val; omega))

theorem src_bx (j k : Nat) (hk : k < 1024) (h : j = 6 * 1024 + k) : src j = 3072 + k := by unfold src; split_ifs <;> omega

theorem src_bg (j k : Nat) (hk : k < 1024) (h : j = 7 * 1024 + k) : src j = 4096 + k := by unfold src; split_ifs <;> omega

theorem src_cg (j k : Nat) (hk : k < 1024) (h : j = 8 * 1024 + k) : src j = 5120 + k := by unfold src; split_ifs <;> omega

theorem src_gate (j k : Nat) (hk : k < 2560) (h : j = 0 * 2560 + k) : src j = 6656 + k := by unfold src; split_ifs <;> omega

theorem X0_0_at (z : S256x2560.Idx) : ∃ y : (win0_0.rect t).shape.Idx, (y 0 : Nat) = z 0 ∧ (y 1 : Nat) = z 1
    ∧ (X0_0 m c t z : EReal) = V m c main_v5 ((win0_0.rect t).emb y) := by
  unfold X0_0 Pipeline.Window.fill
  rw [dif_pos (moved0_0 t _)]
  exact ⟨_, rfl, rfl, rfl⟩

theorem ld0 (o R : Nat) (inb) (p : Fin R) (k : Fin 2560) (r : Fin 16384) (hr : r.val = t.val * 256 + (o + p.val)) :
    (View.ld (X0_0 m c t) (Rect.unit (s := S256x2560) ![o, 0] ![R, 2560] inb) (ix2 p k) : EReal) = (m ((c : Thread nD τ).loc main_arg0) : S1x16384x9216.Idx → EReal) (ix3 (0 : Fin 1) r ⟨6656 + k.val, by omega⟩) := by
  have ho : o + R ≤ 256 := inb 0
  rw [View.ld_unit_apply_of (X0_0 m c t) ![o, 0] ![R, 2560] inb (ix2 p k) (ix2 (⟨o + p.val, by omega⟩ : Fin 256) k : S256x2560.Idx)
    (by intro a; fin_cases a; exacts [rfl, (Nat.zero_add _).symm])]
  obtain ⟨y, y0, y1, ey⟩ := X0_0_at m c t (ix2 (⟨o + p.val, by omega⟩ : Fin 256) k : S256x2560.Idx)
  rw [ey]
  refine (V_proj_apply m c ((win0_0.rect t).emb y)).trans (congrArg _ (funext fun a => ?_))
  have e := (idx_facts t).1
  have z0 := emb0_0 t y
  have z1 := emb0_1 t y
  rw [e.1] at z0
  rw [e.2] at z1
  rw [y0] at z0
  rw [y1] at z1
  fin_cases a
  · rfl
  · exact Fin.ext (z0.trans hr.symm)
  · exact Fin.ext (src_gate _ _ k.isLt z1)

theorem ld1 (o R : Nat) (inb) (p : Fin R) (k : Fin 1024) (r : Fin 16384) (hr : r.val = t.val * 256 + (o + p.val)) :
    (View.ld (iblk m c 1 t) (Rect.unit (s := S256x1024) ![o, 0] ![R, 1024] inb) (ix2 p k) : EReal) = (m ((c : Thread nD τ).loc main_arg0) : S1x16384x9216.Idx → EReal) (ix3 (0 : Fin 1) r ⟨3072 + k.val, by omega⟩) := by
  have ho : o + R ≤ 256 := inb 0
  rw [View.ld_unit_apply_of (iblk m c 1 t) ![o, 0] ![R, 1024] inb (ix2 p k) (ix2 (⟨o + p.val, by omega⟩ : Fin 256) k : S256x1024.Idx)
    (by intro a; fin_cases a; exacts [rfl, (Nat.zero_add _).symm])]
  refine (V_proj_apply m c ((win0_1.rect t).emb (ix2 (⟨o + p.val, by omega⟩ : Fin 256) k : S256x1024.Idx))).trans (congrArg _ (funext fun a => ?_))
  have e := (idx_facts t).2.1
  have z0 := emb1_0 t (ix2 (⟨o + p.val, by omega⟩ : Fin 256) k : S256x1024.Idx)
  have z1 := emb1_1 t (ix2 (⟨o + p.val, by omega⟩ : Fin 256) k : S256x1024.Idx)
  rw [e.1] at z0
  rw [e.2] at z1
  fin_cases a
  · rfl
  · exact Fin.ext (z0.trans hr.symm)
  · exact Fin.ext (src_bx _ _ k.isLt z1)

theorem ld2 (o R : Nat) (inb) (p : Fin R) (k : Fin 1024) (r : Fin 16384) (hr : r.val = t.val * 256 + (o + p.val)) :
    (View.ld (iblk m c 2 t) (Rect.unit (s := S256x1024) ![o, 0] ![R, 1024] inb) (ix2 p k) : EReal) = (m ((c : Thread nD τ).loc main_arg0) : S1x16384x9216.Idx → EReal) (ix3 (0 : Fin 1) r ⟨4096 + k.val, by omega⟩) := by
  have ho : o + R ≤ 256 := inb 0
  rw [View.ld_unit_apply_of (iblk m c 2 t) ![o, 0] ![R, 1024] inb (ix2 p k) (ix2 (⟨o + p.val, by omega⟩ : Fin 256) k : S256x1024.Idx)
    (by intro a; fin_cases a; exacts [rfl, (Nat.zero_add _).symm])]
  refine (V_proj_apply m c ((win0_2.rect t).emb (ix2 (⟨o + p.val, by omega⟩ : Fin 256) k : S256x1024.Idx))).trans (congrArg _ (funext fun a => ?_))
  have e := (idx_facts t).2.2.1
  have z0 := emb2_0 t (ix2 (⟨o + p.val, by omega⟩ : Fin 256) k : S256x1024.Idx)
  have z1 := emb2_1 t (ix2 (⟨o + p.val, by omega⟩ : Fin 256) k : S256x1024.Idx)
  rw [e.1] at z0
  rw [e.2] at z1
  fin_cases a
  · rfl
  · exact Fin.ext (z0.trans hr.symm)
  · exact Fin.ext (src_bg _ _ k.isLt z1)

theorem ld3 (o R : Nat) (inb) (p : Fin R) (k : Fin 1024) (r : Fin 16384) (hr : r.val = t.val * 256 + (o + p.val)) :
    (View.ld (iblk m c 3 t) (Rect.unit (s := S256x1024) ![o, 0] ![R, 1024] inb) (ix2 p k) : EReal) = (m ((c : Thread nD τ).loc main_arg0) : S1x16384x9216.Idx → EReal) (ix3 (0 : Fin 1) r ⟨5120 + k.val, by omega⟩) := by
  have ho : o + R ≤ 256 := inb 0
  rw [View.ld_unit_apply_of (iblk m c 3 t) ![o, 0] ![R, 1024] inb (ix2 p k) (ix2 (⟨o + p.val, by omega⟩ : Fin 256) k : S256x1024.Idx)
    (by intro a; fin_cases a; exacts [rfl, (Nat.zero_add _).symm])]
  refine (V_proj_apply m c ((win0_3.rect t).emb (ix2 (⟨o + p.val, by omega⟩ : Fin 256) k : S256x1024.Idx))).trans (congrArg _ (funext fun a => ?_))
  have e := (idx_facts t).2.2.2.1
  have z0 := emb3_0 t (ix2 (⟨o + p.val, by omega⟩ : Fin 256) k : S256x1024.Idx)
  have z1 := emb3_1 t (ix2 (⟨o + p.val, by omega⟩ : Fin 256) k : S256x1024.Idx)
  rw [e.1] at z0
  rw [e.2] at z1
  fin_cases a
  · rfl
  · exact Fin.ext (z0.trans hr.symm)
  · exact Fin.ext (src_cg _ _ k.isLt z1)

theorem ld10 (o s : Nat) (inb) (k : Fin s) (n : Fin 2048) (q : Fin 2560) (hq : q.val = o + k.val) :
    (View.ld (iblk m c 10 t) (Rect.unit (s := S1x2560x2048) ![0, o, 0] ![1, s, 2048] inb) (ix3 (0 : Fin 1) k n) : EReal) = (m ((c : Thread nD τ).loc main_arg6) : S4x2560x2048.Idx → EReal) (ix3 (0 : Fin 4) q n) := by
  rw [View.ld_unit_apply_of (iblk m c 10 t) ![0, o, 0] ![1, s, 2048] inb (ix3 (0 : Fin 1) k n) (ix3 (0 : Fin 1) q n : S1x2560x2048.Idx)
    (by intro a; fin_cases a; exacts [rfl, hq, (Nat.zero_add _).symm])]
  refine (congrFun (V_w m c) ((win0_10.rect t).emb (ix3 (0 : Fin 1) q n : S1x2560x2048.Idx))).trans (congrArg _ (funext fun a => ?_))
  obtain ⟨e0, e1, e2⟩ := (idx_facts t).2.2.2.2.2.2.2.2.2.1
  have z0 := emb10_0 t (ix3 (0 : Fin 1) q n : S1x2560x2048.Idx)
  have z1 := emb10_1 t (ix3 (0 : Fin 1) q n : S1x2560x2048.Idx)
  have z2 := emb10_2 t (ix3 (0 : Fin 1) q n : S1x2560x2048.Idx)
  rw [e0] at z0
  rw [e1] at z1
  rw [e2] at z2
  fin_cases a
  · exact Fin.ext z0
  · exact Fin.ext (z1.trans (by show 0 * 2560 + q.val = q.val; omega))
  · exact Fin.ext (z2.trans (by show 0 * 2048 + n.val = n.val; omega))

theorem ld6 (j : Fin 3) (inb) (k : Fin 1024) :
    (View.ld (iblk m c 6 t) (Rect.unit (s := S1x3x1024) ![0, j.val, 0] ![1, 1, 1024] inb) (ix3 (0 : Fin 1) (0 : Fin 1) k) : EReal) = (m ((c : Thread nD τ).loc main_arg4) : S2x3x1024.Idx → EReal) (ix3 (0 : Fin 2) j k) := by
  rw [View.ld_unit_apply_of (iblk m c 6 t) ![0, j.val, 0] ![1, 1, 1024] inb (ix3 (0 : Fin 1) (0 : Fin 1) k) (ix3 (0 : Fin 1) j k : S1x3x1024.Idx)
    (by intro a; fin_cases a; exacts [rfl, rfl, (Nat.zero_add _).symm])]
  refine (congrFun (V_cw m c) ((win0_6.rect t).emb (ix3 (0 : Fin 1) j k : S1x3x1024.Idx))).trans (congrArg _ (funext fun a => ?_))
  obtain ⟨e0, e1, e2⟩ := (idx_facts t).2.2.2.2.2.2.1
  have z0 := emb6_0 t (ix3 (0 : Fin 1) j k : S1x3x1024.Idx)
  have z1 := emb6_1 t (ix3 (0 : Fin 1) j k : S1x3x1024.Idx)
  have z2 := emb6_2 t (ix3 (0 : Fin 1) j k : S1x3x1024.Idx)
  rw [e0] at z0
  rw [e1] at z1
  rw [e2] at z2
  fin_cases a
  · exact Fin.ext z0
  · exact Fin.ext (z1.trans (by show 0 * 3 + j.val = j.val; omega))
  · exact Fin.ext (z2.trans (by show 0 * 1024 + k.val = k.val; omega))

theorem blk7 (k : Fin 1024) : (iblk m c 7 t (ix3 (0 : Fin 1) (0 : Fin 1) k) : EReal) = (m ((c : Thread nD τ).loc main_arg5) : S2x1024.Idx → EReal) (ix2 (0 : Fin 2) k) := by
  refine (V_cb_apply m c ((win0_7.rect t).emb _)).trans (congrArg _ (funext fun a => ?_))
  obtain ⟨e0, e1, e2⟩ := (idx_facts t).2.2.2.2.2.2.2.1
  fin_cases a
  · exact Fin.ext ((emb7_0 t _).trans (by rw [e0]; rfl))
  · exact Fin.ext ((emb7_2 t _).trans (by rw [e2]; exact Nat.zero_add _))

theorem blk11 (k : Fin 2048) : (iblk m c 11 t (ix3 (0 : Fin 1) (0 : Fin 1) k) : EReal) = (m ((c : Thread nD τ).loc main_arg7) : S4x2048.Idx → EReal) (ix2 (0 : Fin 4) k) := by
  refine (V_g_apply m c ((win0_11.rect t).emb _)).trans (congrArg _ (funext fun a => ?_))
  obtain ⟨e0, e1, e2⟩ := (idx_facts t).2.2.2.2.2.2.2.2.2.2.1
  fin_cases a
  · exact Fin.ext ((emb11_0 t _).trans (by rw [e0]; rfl))
  · exact Fin.ext ((emb11_2 t _).trans (by rw [e2]; exact Nat.zero_add _))

theorem blk12 (k : Fin 2048) : (iblk m c 12 t (ix3 (0 : Fin 1) (0 : Fin 1) k) : EReal) = (m ((c : Thread nD τ).loc main_arg8) : S4x2048.Idx → EReal) (ix2 (0 : Fin 4) k) := by
  refine (V_b_apply m c ((win0_12.rect t).emb _)).trans (congrArg _ (funext fun a => ?_))
  obtain ⟨e0, e1, e2⟩ := (idx_facts t).2.2.2.2.2.2.2.2.2.2.2.1
  fin_cases a
  · exact Fin.ext ((emb12_0 t _).trans (by rw [e0]; rfl))
  · exact Fin.ext ((emb12_2 t _).trans (by rw [e2]; exact Nat.zero_add _))

/-- A row of a half block shifted down is the row that lies as far back in the sequence. -/
theorem past_eq (s : Nat) (hs : s ≤ 8) (hd : Fin 8 → Fin 1024 → EReal) (u : Fin 128 → Fin 1024 → EReal) (h : S1x16384x9216.Idx → EReal) (n : Nat)
    (hhd : ∀ q k, hd q k = back h (n + q.val) k) (hu : ∀ q k, u q k = back h (n + 8 + q.val) k) (p : Fin 128) (k : Fin 1024) (n' : Nat)
    (hn : n' + s = n + 8 + p.val) : Pays.past s hs hd u p k = back h n' k := by
  unfold Pays.past
  by_cases hp : p.val < s
  · rw [dif_pos hp, hhd]
    exact congrArg (fun j => back h j k) (by show n + (p.val + 8 - s) = n'; omega)
  · rw [dif_neg hp, hu]
    exact congrArg (fun j => back h j k) (by show n + 8 + (p.val - s) = n'; omega)

/-- The row of the loaded blocks is the row of the arguments. -/
theorem blockRow_eq (o : Nat) (hd : Fin 8 → Fin 1024 → EReal) (i0) (i1) (i2) (i3) (j0) (j1) (j2) (k0) (k1) (k2) (p : Fin 128) (n : Fin 2048) (r : Fin 16384)
    (hr : r.val = t.val * 256 + (o + p.val)) (hhd : ∀ q k, hd q k = back (m ((c : Thread nD τ).loc main_arg0) : S1x16384x9216.Idx → EReal) (t.val * 256 + o + q.val) k) :
    Pays.blockRow hd (View.ld (X0_0 m c t) (Rect.unit (s := S256x2560) ![o, 0] ![128, 2560] i0)) (View.ld (iblk m c 1 t) (Rect.unit (s := S256x1024) ![o, 0] ![128, 1024] i1)) (View.ld (iblk m c 2 t) (Rect.unit (s := S256x1024) ![o, 0] ![128, 1024] i1))
      (View.ld (iblk m c 3 t) (Rect.unit (s := S256x1024) ![o, 0] ![128, 1024] i1)) (View.ld (iblk m c 4 t) (Rect.unit (s := S256x1024) ![o, 0] ![128, 1024] i1)) (View.ld (iblk m c 5 t) (Rect.unit (s := S256x512) ![o, 0] ![128, 512] i2))
      (iblk m c 7 t) (View.ld (iblk m c 6 t) (Rect.unit (s := S1x3x1024) ![0, 0, 0] ![1, 1, 1024] k0))
      (View.ld (iblk m c 6 t) (Rect.unit (s := S1x3x1024) ![0, 1, 0] ![1, 1, 1024] k1)) (View.ld (iblk m c 6 t) (Rect.unit (s := S1x3x1024) ![0, 2, 0] ![1, 1, 1024] k2))
      (View.ld (iblk m c 10 t) (Rect.unit (s := S1x2560x2048) ![0, 0, 0] ![1, 1024, 2048] j0)) (View.ld (iblk m c 10 t) (Rect.unit (s := S1x2560x2048) ![0, 1024, 0] ![1, 1024, 2048] j1))
      (View.ld (iblk m c 10 t) (Rect.unit (s := S1x2560x2048) ![0, 2048, 0] ![1, 512, 2048] j2)) (View.ld (iblk m c 9 t) (Rect.unit (s := S256x2048) ![o, 0] ![128, 2048] i3))
      (iblk m c 11 t) (iblk m c 12 t) p n
      = outRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) r n := by
  have ho : o + 128 ≤ 256 := i1 0
  have ht := lt64 t
  unfold Pays.blockRow outRow conv
  have h0 := fun k => ld0 m c t o 128 i0 p k r hr
  have hci : ∀ (q : Fin 128) k, @HMul.hMul EReal EReal EReal instHMul ((View.ld (iblk m c 3 t) (Rect.unit (s := S256x1024) ![o, 0] ![128, 1024] i1)) (ix2 q k)) ((View.ld (iblk m c 1 t) (Rect.unit (s := S256x1024) ![o, 0] ![128, 1024] i1)) (ix2 q k)) = back (m ((c : Thread nD τ).loc main_arg0) : S1x16384x9216.Idx → EReal) (t.val * 256 + o + 8 + q.val) k := fun q k => by
    have hq := q.isLt
    rw [ld1 m c t o 128 i1 q k ⟨t.val * 256 + (o + q.val), by omega⟩ rfl, ld3 m c t o 128 i1 q k ⟨t.val * 256 + (o + q.val), by omega⟩ rfl]
    exact (back_of _ _ k ⟨t.val * 256 + (o + q.val), by omega⟩ (by show t.val * 256 + o + 8 + q.val = t.val * 256 + (o + q.val) + 8; omega)).symm
  have h2 := fun k => ld2 m c t o 128 i1 p k r hr
  have h4 := fun k => ld4 m c t o 128 i1 p k r hr
  have h5 := fun k => ld5 m c t o 128 i2 p k r hr
  have h9 := fun k => ld9 m c t o 128 i3 p k r hr
  have h10a := fun (k : Fin 1024) n => ld10 m c t 0 1024 j0 k n ⟨k.val, by omega⟩ (Nat.zero_add _).symm
  have h10b := fun (k : Fin 1024) n => ld10 m c t 1024 1024 j1 k n ⟨1024 + k.val, by omega⟩ rfl
  have h10c := fun (k : Fin 512) n => ld10 m c t 2048 512 j2 k n ⟨2048 + k.val, by omega⟩ rfl
  have h6a := ld6 m c t (0 : Fin 3) k0
  have h6b := ld6 m c t (1 : Fin 3) k1
  have h6c := ld6 m c t (2 : Fin 3) k2
  have h7 := blk7 m c t
  have h11 := blk11 m c t
  have h12 := blk12 m c t
  refine congrFun (congr (congr (congr (congrArg row (funext h9)) ?_) (funext h11)) (funext h12)) n
  refine congr (congr (congr (congr (congr (congrArg mixed ?_) ?_) ?_) ?_) ?_) ?_
  · funext k; exact congr (congrArg _ (h4 k)) (congrArg silu ((h0 _).trans rfl))
  · funext k
    refine congr (congrArg _ (congr (congrArg _ (h2 k)) ?_)) (congrArg silu ((h0 _).trans (congrArg _ (congrArg _ (Fin.ext (by show 6656 + (1024 + k.val) = 7680 + k.val; omega))))))
    refine congr (congrArg _ (congr (congrArg _ (congr (congrArg _ (h7 k)) (congr (congrArg _ ?_) (h6a k)))) (congr (congrArg _ ?_) (h6b k)))) (congr (congrArg _ ?_) (h6c k))
    · exact past_eq 2 (by omega) _ _ _ (t.val * 256 + o) hhd hci p k (r.val + 6) (by omega)
    · exact past_eq 1 (by omega) _ _ _ (t.val * 256 + o) hhd hci p k (r.val + 7) (by omega)
    · exact (hci p k).trans (back_of _ _ k r (by omega))
  · funext k
    exact congr (congrArg _ (h5 k)) (congrArg silu ((h0 _).trans (congrArg _ (congrArg _ (Fin.ext (by show 6656 + (2048 + k.val) = 8704 + k.val; omega))))))
  · funext k n; exact h10a k n
  · funext k n; exact h10b k n
  · funext k n; exact h10c k n

/-! ## The rows carried from a block to the next -/

/-- Eight rows of a block, multiplied. -/
theorem rows8 (o : Nat) (inb) (q : Fin 8) (k : Fin 1024) (n : Nat) (hn : n = t.val * 256 + o + 8 + q.val) :
    @HMul.hMul EReal EReal EReal instHMul (View.ld (iblk m c 3 t) (Rect.unit (s := S256x1024) ![o, 0] ![8, 1024] inb) (ix2 q k)) (View.ld (iblk m c 1 t) (Rect.unit (s := S256x1024) ![o, 0] ![8, 1024] inb) (ix2 q k))
      = back (m ((c : Thread nD τ).loc main_arg0) : S1x16384x9216.Idx → EReal) n k := by
  have ho : o + 8 ≤ 256 := inb 0
  have ht := lt64 t
  have hq := q.isLt
  rw [ld1 m c t o 8 inb q k ⟨t.val * 256 + (o + q.val), by omega⟩ rfl, ld3 m c t o 8 inb q k ⟨t.val * 256 + (o + q.val), by omega⟩ rfl]
  exact (back_of _ _ k ⟨t.val * 256 + (o + q.val), by omega⟩ (by show n = t.val * 256 + (o + q.val) + 8; omega)).symm

theorem carried (q : Fin 8) (k : Fin 1024) : ((outsAt0 m c t.val t.isLt).2.2.2.2 (ix3 (0 : Fin 1) q k) : EReal) = back (m ((c : Thread nD τ).loc main_arg0) : S1x16384x9216.Idx → EReal) (t.val * 256 + 256 + q.val) k := by
  by_cases h : t.val % 64 = 0
  · rw [outsAt0_A m c t h]
    frame_out
    exact (Pays.pay2_apply _ _ q k).trans (rows8 m c t 248 _ q k (t.val * 256 + 256 + q.val) (by omega))
  · rw [outsAt0_B m c t h]
    frame_out
    exact (Pays.pay2_apply _ _ q k).trans (rows8 m c t 248 _ q k (t.val * 256 + 256 + q.val) (by omega))

theorem kept (q : Fin 8) (k : Fin 1024) : ((outsAt0 m c t.val t.isLt).2.2.2.1 (ix3 (0 : Fin 1) q k) : EReal) = back (m ((c : Thread nD τ).loc main_arg0) : S1x16384x9216.Idx → EReal) (t.val * 256 + 256 + q.val) k := by
  by_cases h : t.val % 64 = 0
  · rw [outsAt0_A m c t h]
    frame_out
    exact (Pays.pay3_apply _ _ q k).trans (rows8 m c t 248 _ q k (t.val * 256 + 256 + q.val) (by omega))
  · rw [outsAt0_B m c t h]
    frame_out
    exact (Pays.pay3_apply _ _ q k).trans (rows8 m c t 248 _ q k (t.val * 256 + 256 + q.val) (by omega))

theorem halo (q : Fin 8) (k : Fin 1024) : (k0_pay4 (F := Ideal) (iblk m c 8 t) (ix3 (0 : Fin 1) q k) : EReal) = 0 :=
  (Pays.pay4_apply _ q k).trans (V_halo_apply m c _)

theorem ix2_surj (x : S128x2048.Idx) : ∃ (p : Fin 128) (n : Fin 2048), x = ix2 p n :=
  ⟨x 0, x 1, by funext a; fin_cases a <;> rfl⟩

/-- After the run result array 0 holds the layer's output. -/
theorem final13 (c : Dev nD) : (dats m 0 c).arrAt 13 cfg0.N = (out m c : Buf (Elt Ideal) ((c : Thread nD τ).loc main_v13_0)) := by
  refine (dats m 0 c).arrAt_eq_of_covers 13 _ (by decide +kernel) fun t hf y => ?_
  blk_simp
  rw [after0_13]
  have ht := lt64 t
  have e := (idx_facts t).2.2.2.2.2.2.2.2.2.2.2.2.1
  have e0 := emb13_0 t y
  have e1 := emb13_1 t y
  rw [e.1] at e0
  rw [e.2] at e1
  have e0' : ((((win0_13.rect t).emb y) 0 : Fin 16384) : Nat) = t.val * 256 + (y 0).val := e0
  have e1' := e1.trans (by omega : 0 * 2048 + (y 1).val = (y 1).val)
  by_cases h : t.val % 64 = 0
  · have before : ∀ (h : S1x16384x9216.Idx → EReal) (q : Fin 8) (k : Fin 1024), back h (t.val * 256 + 0 + q.val) k = 0 := fun h q k => by
      unfold back; exact dif_neg (by omega)
    rw [outsAt0_A m c t h]
    frame_out
    canon_tiles x h
    · obtain ⟨p, n, rfl⟩ := ix2_surj x
      exact ((Pays.lower _ _ _ _ _ _ _ _ _ _ _ _ _ _ _ _ _ _ p n).trans ((blockRow_eq m c t 128 _ _ _ _ _ _ _ _ _ _ _ p n (((win0_13.rect t).emb y) 0) (e0'.trans (congrArg (_ + ·) h0)) (fun q k => rows8 m c t 120 _ q k (t.val * 256 + 128 + q.val) (by omega))).trans
        (congrArg _ (Fin.ext (h1.symm.trans e1'.symm)))))
    · obtain ⟨p, n, rfl⟩ := ix2_surj x
      exact ((Pays.upper _ _ _ _ _ _ _ _ _ _ _ _ _ _ _ _ _ p n).trans ((blockRow_eq m c t 0 _ _ _ _ _ _ _ _ _ _ _ p n (((win0_13.rect t).emb y) 0) (e0'.trans (congrArg (_ + ·) (h0.trans (Nat.zero_add _).symm))) (fun q k => (halo m c t q k).trans (before _ q k).symm)).trans
        (congrArg _ (Fin.ext (h1.symm.trans e1'.symm)))))
  · rw [outsAt0_B m c t h]
    frame_out
    canon_tiles x h
    · obtain ⟨p, n, rfl⟩ := ix2_surj x
      exact ((Pays.lower _ _ _ _ _ _ _ _ _ _ _ _ _ _ _ _ _ _ p n).trans ((blockRow_eq m c t 128 _ _ _ _ _ _ _ _ _ _ _ p n (((win0_13.rect t).emb y) 0) (e0'.trans (congrArg (_ + ·) h0)) (fun q k => rows8 m c t 120 _ q k (t.val * 256 + 128 + q.val) (by omega))).trans
        (congrArg _ (Fin.ext (h1.symm.trans e1'.symm)))))
    · obtain ⟨p, n, rfl⟩ := ix2_surj x
      exact ((Pays.upper _ _ _ _ _ _ _ _ _ _ _ _ _ _ _ _ _ p n).trans ((blockRow_eq m c t 0 _ _ _ _ _ _ _ _ _ _ _ p n (((win0_13.rect t).emb y) 0) (e0'.trans (congrArg (_ + ·) (h0.trans (Nat.zero_add _).symm))) (fun q k => (congrFun (Memref.IsWhole.read_unread _ _) (ix3 (0 : Fin 1) q k)).trans ((carried m c ⟨t.val - 1, by omega⟩ q k).trans (congrArg (fun j => back _ j k) (by show (t.val - 1) * 256 + 256 + q.val = t.val * 256 + 0 + q.val; omega))))).trans
        (congrArg _ (Fin.ext (h1.symm.trans e1'.symm)))))

/-- After the run result array 1 holds the layer's output. -/
theorem final14 (c : Dev nD) : (dats m 0 c).arrAt 14 cfg0.N = (out m c : Buf (Elt Ideal) ((c : Thread nD τ).loc main_v13_1)) := by
  refine (dats m 0 c).arrAt_eq_of_covers 14 _ (by decide +kernel) fun t hf y => ?_
  blk_simp
  rw [after0_14]
  have ht := lt64 t
  have e := (idx_facts t).2.2.2.2.2.2.2.2.2.2.2.2.2.1
  have e0 := emb14_0 t y
  have e1 := emb14_1 t y
  rw [e.1] at e0
  rw [e.2] at e1
  have e0' : ((((win0_14.rect t).emb y) 0 : Fin 16384) : Nat) = t.val * 256 + (y 0).val := e0
  have e1' := e1.trans (by omega : 0 * 2048 + (y 1).val = (y 1).val)
  by_cases h : t.val % 64 = 0
  · have before : ∀ (h : S1x16384x9216.Idx → EReal) (q : Fin 8) (k : Fin 1024), back h (t.val * 256 + 0 + q.val) k = 0 := fun h q k => by
      unfold back; exact dif_neg (by omega)
    rw [outsAt0_A m c t h]
    frame_out
    canon_tiles x h
    · obtain ⟨p, n, rfl⟩ := ix2_surj x
      exact (Pays.pay28_of _ _ _ _ _ _ _ ).trans ((Pays.lower _ _ _ _ _ _ _ _ _ _ _ _ _ _ _ _ _ _ p n).trans ((blockRow_eq m c t 128 _ _ _ _ _ _ _ _ _ _ _ p n (((win0_14.rect t).emb y) 0) (e0'.trans (congrArg (_ + ·) h0)) (fun q k => rows8 m c t 120 _ q k (t.val * 256 + 128 + q.val) (by omega))).trans
        (congrArg _ (Fin.ext (h1.symm.trans e1'.symm)))))
    · obtain ⟨p, n, rfl⟩ := ix2_surj x
      exact (Pays.pay16_of _ _ _ _ _ _ _ ).trans ((Pays.upper _ _ _ _ _ _ _ _ _ _ _ _ _ _ _ _ _ p n).trans ((blockRow_eq m c t 0 _ _ _ _ _ _ _ _ _ _ _ p n (((win0_14.rect t).emb y) 0) (e0'.trans (congrArg (_ + ·) (h0.trans (Nat.zero_add _).symm))) (fun q k => (halo m c t q k).trans (before _ q k).symm)).trans
        (congrArg _ (Fin.ext (h1.symm.trans e1'.symm)))))
  · rw [outsAt0_B m c t h]
    frame_out
    canon_tiles x h
    · obtain ⟨p, n, rfl⟩ := ix2_surj x
      exact (Pays.pay28_of _ _ _ _ _ _ _ ).trans ((Pays.lower _ _ _ _ _ _ _ _ _ _ _ _ _ _ _ _ _ _ p n).trans ((blockRow_eq m c t 128 _ _ _ _ _ _ _ _ _ _ _ p n (((win0_14.rect t).emb y) 0) (e0'.trans (congrArg (_ + ·) h0)) (fun q k => rows8 m c t 120 _ q k (t.val * 256 + 128 + q.val) (by omega))).trans
        (congrArg _ (Fin.ext (h1.symm.trans e1'.symm)))))
    · obtain ⟨p, n, rfl⟩ := ix2_surj x
      exact (Pays.pay16_of _ _ _ _ _ _ _ ).trans ((Pays.upper _ _ _ _ _ _ _ _ _ _ _ _ _ _ _ _ _ p n).trans ((blockRow_eq m c t 0 _ _ _ _ _ _ _ _ _ _ _ p n (((win0_14.rect t).emb y) 0) (e0'.trans (congrArg (_ + ·) (h0.trans (Nat.zero_add _).symm))) (fun q k => (congrFun (Memref.IsWhole.read_unread _ _) (ix3 (0 : Fin 1) q k)).trans ((carried m c ⟨t.val - 1, by omega⟩ q k).trans (congrArg (fun j => back _ j k) (by show (t.val - 1) * 256 + 256 + q.val = t.val * 256 + 0 + q.val; omega))))).trans
        (congrArg _ (Fin.ext (h1.symm.trans e1'.symm)))))

/-- After the run result array 2 holds the layer's output, less itself. -/
theorem final15 (c : Dev nD) : (dats m 0 c).arrAt 15 cfg0.N = (rest m c : Buf (Elt Ideal) ((c : Thread nD τ).loc main_v13_2)) := by
  refine (dats m 0 c).arrAt_eq_of_covers 15 _ (by decide +kernel) fun t hf y => ?_
  blk_simp
  rw [after0_15]
  have ht := lt64 t
  have e := (idx_facts t).2.2.2.2.2.2.2.2.2.2.2.2.2.2.1
  have e0 := emb15_0 t y
  have e1 := emb15_1 t y
  rw [e.1] at e0
  rw [e.2] at e1
  have e0' : ((((win0_15.rect t).emb y) 0 : Fin 16384) : Nat) = t.val * 256 + (y 0).val := e0
  have e1' := e1.trans (by omega : 0 * 2048 + (y 1).val = (y 1).val)
  by_cases h : t.val % 64 = 0
  · have before : ∀ (h : S1x16384x9216.Idx → EReal) (q : Fin 8) (k : Fin 1024), back h (t.val * 256 + 0 + q.val) k = 0 := fun h q k => by
      unfold back; exact dif_neg (by omega)
    rw [outsAt0_A m c t h]
    frame_out
    canon_tiles x h
    · obtain ⟨p, n, rfl⟩ := ix2_surj x
      exact (Pays.pay29_of _ _ _ _ _ _ _ ).trans (congrArg (fun z : EReal => z - z) ((Pays.lower _ _ _ _ _ _ _ _ _ _ _ _ _ _ _ _ _ _ p n).trans ((blockRow_eq m c t 128 _ _ _ _ _ _ _ _ _ _ _ p n (((win0_15.rect t).emb y) 0) (e0'.trans (congrArg (_ + ·) h0)) (fun q k => rows8 m c t 120 _ q k (t.val * 256 + 128 + q.val) (by omega))).trans
        (congrArg _ (Fin.ext (h1.symm.trans e1'.symm))))))
    · obtain ⟨p, n, rfl⟩ := ix2_surj x
      exact (Pays.pay17_of _ _ _ _ _ _ _ ).trans (congrArg (fun z : EReal => z - z) ((Pays.upper _ _ _ _ _ _ _ _ _ _ _ _ _ _ _ _ _ p n).trans ((blockRow_eq m c t 0 _ _ _ _ _ _ _ _ _ _ _ p n (((win0_15.rect t).emb y) 0) (e0'.trans (congrArg (_ + ·) (h0.trans (Nat.zero_add _).symm))) (fun q k => (halo m c t q k).trans (before _ q k).symm)).trans
        (congrArg _ (Fin.ext (h1.symm.trans e1'.symm))))))
  · rw [outsAt0_B m c t h]
    frame_out
    canon_tiles x h
    · obtain ⟨p, n, rfl⟩ := ix2_surj x
      exact (Pays.pay29_of _ _ _ _ _ _ _ ).trans (congrArg (fun z : EReal => z - z) ((Pays.lower _ _ _ _ _ _ _ _ _ _ _ _ _ _ _ _ _ _ p n).trans ((blockRow_eq m c t 128 _ _ _ _ _ _ _ _ _ _ _ p n (((win0_15.rect t).emb y) 0) (e0'.trans (congrArg (_ + ·) h0)) (fun q k => rows8 m c t 120 _ q k (t.val * 256 + 128 + q.val) (by omega))).trans
        (congrArg _ (Fin.ext (h1.symm.trans e1'.symm))))))
    · obtain ⟨p, n, rfl⟩ := ix2_surj x
      exact (Pays.pay17_of _ _ _ _ _ _ _ ).trans (congrArg (fun z : EReal => z - z) ((Pays.upper _ _ _ _ _ _ _ _ _ _ _ _ _ _ _ _ _ p n).trans ((blockRow_eq m c t 0 _ _ _ _ _ _ _ _ _ _ _ p n (((win0_15.rect t).emb y) 0) (e0'.trans (congrArg (_ + ·) (h0.trans (Nat.zero_add _).symm))) (fun q k => (congrFun (Memref.IsWhole.read_unread _ _) (ix3 (0 : Fin 1) q k)).trans ((carried m c ⟨t.val - 1, by omega⟩ q k).trans (congrArg (fun j => back _ j k) (by show (t.val - 1) * 256 + 256 + q.val = t.val * 256 + 0 + q.val; omega))))).trans
        (congrArg _ (Fin.ext (h1.symm.trans e1'.symm))))))

/-- After the run result array 3 holds the last rows of the convolution's input. -/
theorem final16 (c : Dev nD) : (dats m 0 c).arrAt 16 cfg0.N = (tail m c : Buf (Elt Ideal) ((c : Thread nD τ).loc main_v13_3)) := by
  refine (dats m 0 c).arrAt_eq_of_covers 16 _ (by decide +kernel) fun t hf y => ?_
  have ht : t.val = 63 := (by decide +kernel : ∀ t : Fin grid0.N, win0_16.flush t = true → t.val = 63) t hf
  blk_simp
  rw [after0_16]
  have e := (idx_facts t).2.2.2.2.2.2.2.2.2.2.2.2.2.2.2
  have e1 := emb16_1 t y
  have e2 := emb16_2 t y
  rw [e.2.1] at e1
  rw [e.2.2] at e2
  have hy : y = ix3 (0 : Fin 1) (y 1 : Fin 8) (y 2 : Fin 1024) := by
    funext a
    fin_cases a
    · exact Fin.ext (Nat.lt_one_iff.1 (y 0).isLt)
    · rfl
    · rfl
  have hq : ((y 1 : Fin 8) : Nat) < 8 := (y 1 : Fin 8).isLt
  have hk : ((y 2 : Fin 1024) : Nat) < 1024 := (y 2 : Fin 1024).isLt
  rw [hy]
  refine (kept m c t (y 1) (y 2)).trans ((back_of _ _ _ ⟨16376 + (y 1).val, by omega⟩ (by show t.val * 256 + 256 + (y 1).val = 16376 + (y 1).val + 8; omega)).trans ?_)
  rw [← hy]
  refine congr (congrArg (ci _) (Fin.ext ?_)) (Fin.ext ?_)
  · show 16376 + (y 1).val = 16376 + _
    exact congrArg (16376 + ·) ((e1.trans (by omega : 0 * 8 + (y 1).val = (y 1).val)).symm)
  · exact (e2.trans (by omega : 0 * 1024 + (y 2).val = (y 2).val)).symm

end Cert.EvenTailIdeal.Blocks

end
-- ==== Proof.EvenTailRefRead.lean ====
module

public import proofs.«01_k».proof.Proof.EvenTailBlocks
public import proofs.«01_k».proof.Proof.Gen.EvenTailRefIdeal.Read

@[expose] public section

set_option maxRecDepth 16384

noncomputable section

namespace Cert.EvenTailRefIdeal.Entry

open Cert.EvenTailRefIdeal Cert.EvenTailRefIdeal.Gen Cert.EvenTailRefIdeal.Read Idealize.ShloMosaic Idealize.ShloMosaic.TcCoe Idealize.SL.Sem
open TailSpec
open Cert.EvenTailIdeal.Blocks (outRow ci back back_of conv)

variable (h : S1x16384x9216.Idx → EReal) (ya : S1x16384x1024.Idx → EReal) (ym : S1x16384x512.Idx → EReal) (x : S1x16384x2048.Idx → EReal)
  (cw : S2x3x1024.Idx → EReal) (cb : S2x1024.Idx → EReal) (w : S4x2560x2048.Idx → EReal) (g b : S4x2048.Idx → EReal)

/-- The reference's sigmoid is the logistic function. -/
theorem sigmoid (y : EReal) : Ideal.div (Ideal.ofBits .f32 0x3F800000#32) (Ideal.ofBits .f32 0x3F800000#32 + Ideal.exp (-y)) = Ideal.logistic y := by
  rw [Ideal.ofBits_one_f32]; rfl

/-- The gate through `x · sigmoid x`. -/
theorem v43_apply (r : Fin 16384) (k : Fin 2560) : (val_main_v43 (F := Ideal) h (ix3 (0 : Fin 1) r k) : EReal)
    = silu (h (ix3 (0 : Fin 1) r ⟨6656 + k.val, by omega⟩)) := by
  unfold silu
  have e : val_main_v7 (F := Ideal) h (ix3 (0 : Fin 1) r k) = h (ix3 (0 : Fin 1) r ⟨6656 + k.val, by omega⟩) := by
    rw [val_main_v7_apply]; exact congrArg h (by funext a; fin_cases a <;> rfl)
  rw [← e, ← sigmoid]
  rfl

/-- The convolution's input. -/
theorem v8_apply (r : Fin 16384) (k : Fin 1024) : (val_main_v8 (F := Ideal) h (ix3 (0 : Fin 1) r k) : EReal) = ci h r k := by
  have e5 : val_main_v5 (F := Ideal) h (ix3 (0 : Fin 1) r k) = h (ix3 (0 : Fin 1) r ⟨5120 + k.val, by omega⟩) := by
    rw [val_main_v5_apply]; exact congrArg h (by funext a; fin_cases a <;> rfl)
  have e3 : val_main_v3 (F := Ideal) h (ix3 (0 : Fin 1) r k) = h (ix3 (0 : Fin 1) r ⟨3072 + k.val, by omega⟩) := by
    rw [val_main_v3_apply]; exact congrArg h (by funext a; fin_cases a <;> rfl)
  unfold ci
  rw [← e5, ← e3]
  rfl

theorem v9_apply (i : S1x2x1024.Idx) : (val_main_v9 (F := Ideal) i : EReal) = 0 := by
  rw [val_main_v9_apply]; exact Ideal.ofBits_zero_f32

/-- The padded input. -/
theorem v14_apply (n : Fin 16386) (k : Fin 1024) : (val_main_v14 (F := Ideal) h (ix3 (0 : Fin 1) n k) : EReal) = back h (n.val + 6) k := by
  have hn := n.isLt
  unfold val_main_v14
  generalize hz : val_main_v9 (F := Ideal) = z
  generalize hc : val_main_v8 (F := Ideal) h = u
  pointwise
  by_cases h2 : n.val < 2
  · rw [dif_pos h2, ← hz, v9_apply]
    have h8 : ¬ (8 ≤ n.val + 6 ∧ n.val + 6 - 8 < 16384) := by omega
    unfold back
    rw [dif_neg h8]
  · rw [dif_neg h2, ← hc, v8_apply]
    exact (back_of h _ k ⟨n.val - 2, by omega⟩ (by show n.val + 6 = n.val - 2 + 8; omega)).symm

theorem v15_apply (r : Fin 16384) (k : Fin 1024) : (val_main_v15 (F := Ideal) h (ix3 (0 : Fin 1) r k) : EReal) = back h (r.val + 6) k := by
  rw [val_main_v15_apply, show idx_main_v15 (ix3 (0 : Fin 1) r k) = ix3 (0 : Fin 1) (⟨r.val + 0, by omega⟩ : Fin 16386) k by
    funext a; apply Fin.ext; fin_cases a <;> simp <;> omega]
  exact v14_apply h ⟨r.val + 0, by omega⟩ k

theorem v19_apply (r : Fin 16384) (k : Fin 1024) : (val_main_v19 (F := Ideal) cw (ix3 (0 : Fin 1) r k) : EReal) = cw (ix3 (0 : Fin 2) (0 : Fin 3) k) := by
  have hk := k.isLt
  rw [val_main_v19_apply, val_main_v18_apply, val_main_v17_apply, val_main_v16_apply, val_main_v11_apply, val_main_v10_apply]
  refine congrArg cw (by funext a; apply Fin.ext; fin_cases a <;> simp <;> omega)

theorem v23_apply (r : Fin 16384) (k : Fin 1024) : (val_main_v23 (F := Ideal) h (ix3 (0 : Fin 1) r k) : EReal) = back h (r.val + 7) k := by
  rw [val_main_v23_apply, show idx_main_v23 (ix3 (0 : Fin 1) r k) = ix3 (0 : Fin 1) (⟨r.val + 1, by omega⟩ : Fin 16386) k by
    funext a; apply Fin.ext; fin_cases a <;> simp <;> omega]
  exact v14_apply h ⟨r.val + 1, by omega⟩ k

theorem v27_apply (r : Fin 16384) (k : Fin 1024) : (val_main_v27 (F := Ideal) cw (ix3 (0 : Fin 1) r k) : EReal) = cw (ix3 (0 : Fin 2) (1 : Fin 3) k) := by
  have hk := k.isLt
  rw [val_main_v27_apply, val_main_v26_apply, val_main_v25_apply, val_main_v24_apply, val_main_v11_apply, val_main_v10_apply]
  refine congrArg cw (by funext a; apply Fin.ext; fin_cases a <;> simp <;> omega)

theorem v30_apply (r : Fin 16384) (k : Fin 1024) : (val_main_v30 (F := Ideal) h (ix3 (0 : Fin 1) r k) : EReal) = back h (r.val + 8) k := by
  rw [val_main_v30_apply, show idx_main_v30 (ix3 (0 : Fin 1) r k) = ix3 (0 : Fin 1) (⟨r.val + 2, by omega⟩ : Fin 16386) k by
    funext a; apply Fin.ext; fin_cases a <;> simp <;> omega]
  exact v14_apply h ⟨r.val + 2, by omega⟩ k

theorem v34_apply (r : Fin 16384) (k : Fin 1024) : (val_main_v34 (F := Ideal) cw (ix3 (0 : Fin 1) r k) : EReal) = cw (ix3 (0 : Fin 2) (2 : Fin 3) k) := by
  have hk := k.isLt
  rw [val_main_v34_apply, val_main_v33_apply, val_main_v32_apply, val_main_v31_apply, val_main_v11_apply, val_main_v10_apply]
  refine congrArg cw (by funext a; apply Fin.ext; fin_cases a <;> simp <;> omega)

/-- The reference's convolution. -/
theorem v39_apply (r : Fin 16384) (k : Fin 1024) : (val_main_v39 (F := Ideal) h cw cb (ix3 (0 : Fin 1) r k) : EReal) = conv h cw cb r k := by
  have e38 : val_main_v38 (F := Ideal) cb (ix3 (0 : Fin 1) r k) = cb (ix2 (0 : Fin 2) k) := by
    have hk := k.isLt
    rw [val_main_v38_apply, val_main_v37_apply, val_main_v13_apply, val_main_v12_apply]
    exact congrArg cb (by funext a; apply Fin.ext; fin_cases a; exacts [rfl, Nat.mod_eq_of_lt hk])
  refine (show _ = val_main_v38 (F := Ideal) cb (ix3 (0 : Fin 1) r k) + (((Ideal.ofBits .f32 0x00000000#32
    + val_main_v15 (F := Ideal) h (ix3 (0 : Fin 1) r k) * val_main_v19 (F := Ideal) cw (ix3 (0 : Fin 1) r k))
    + val_main_v23 (F := Ideal) h (ix3 (0 : Fin 1) r k) * val_main_v27 (F := Ideal) cw (ix3 (0 : Fin 1) r k))
    + val_main_v30 (F := Ideal) h (ix3 (0 : Fin 1) r k) * val_main_v34 (F := Ideal) cw (ix3 (0 : Fin 1) r k)) from rfl).trans ?_
  rw [e38, v15_apply, v19_apply, v23_apply, v27_apply, v30_apply, v34_apply, Ideal.ofBits_zero_f32, zero_add,
    back_of h (r.val + 8) k r rfl]
  unfold conv
  rw [← add_assoc, ← add_assoc]

theorem v41_apply (r : Fin 16384) (k : Fin 1024) : (val_main_v41 (F := Ideal) h cw cb (ix3 (0 : Fin 1) r k) : EReal)
    = h (ix3 (0 : Fin 1) r ⟨4096 + k.val, by omega⟩) * conv h cw cb r k := by
  have e4 : val_main_v4 (F := Ideal) h (ix3 (0 : Fin 1) r k) = h (ix3 (0 : Fin 1) r ⟨4096 + k.val, by omega⟩) := by
    rw [val_main_v4_apply]; exact congrArg h (by funext a; fin_cases a <;> rfl)
  rw [← e4, ← v39_apply]
  rfl

/-- The three branches side by side, piece by piece. -/
theorem v42_a (r : Fin 16384) (k : Fin 1024) : (val_main_v42 (F := Ideal) h ya ym cw cb (ix3 (0 : Fin 1) r ⟨k.val, by omega⟩) : EReal) = ya (ix3 (0 : Fin 1) r k) := by
  have hk := k.isLt
  unfold val_main_v42
  generalize val_main_v41 (F := Ideal) h cw cb = z
  pointwise

theorem v42_b (r : Fin 16384) (k : Fin 1024) : (val_main_v42 (F := Ideal) h ya ym cw cb (ix3 (0 : Fin 1) r ⟨1024 + k.val, by omega⟩) : EReal)
    = h (ix3 (0 : Fin 1) r ⟨4096 + k.val, by omega⟩) * conv h cw cb r k := by
  have hk := k.isLt
  rw [← v41_apply]
  unfold val_main_v42
  generalize val_main_v41 (F := Ideal) h cw cb = z
  pointwise

theorem v42_c (r : Fin 16384) (k : Fin 512) : (val_main_v42 (F := Ideal) h ya ym cw cb (ix3 (0 : Fin 1) r ⟨2048 + k.val, by omega⟩) : EReal) = ym (ix3 (0 : Fin 1) r k) := by
  have hk := k.isLt
  unfold val_main_v42
  generalize val_main_v41 (F := Ideal) h cw cb = z
  pointwise
  rw [dif_neg (by show ¬ (2048 + k.val < 1024); omega), dif_neg (by show ¬ (2048 + k.val - 1024 < 1024); omega)]
  exact congrArg _ (by funext a; apply Fin.ext; fin_cases a; exacts [rfl, rfl, (by show 2048 + k.val - 1024 - 1024 = k.val; omega)])

/-- The mixed branches through the output weights. -/
theorem v49_apply (r : Fin 16384) (n : Fin 2048) : (val_main_v49 (F := Ideal) h ya ym cw cb w (ix3 (0 : Fin 1) r n) : EReal)
    = mixed (fun k => ya (ix3 (0 : Fin 1) r k) * silu (h (ix3 (0 : Fin 1) r ⟨6656 + k.val, by omega⟩)))
      (fun k => h (ix3 (0 : Fin 1) r ⟨4096 + k.val, by omega⟩) * conv h cw cb r k * silu (h (ix3 (0 : Fin 1) r ⟨7680 + k.val, by omega⟩)))
      (fun k => ym (ix3 (0 : Fin 1) r k) * silu (h (ix3 (0 : Fin 1) r ⟨8704 + k.val, by omega⟩)))
      (fun k n => w (ix3 (0 : Fin 4) ⟨k.val, by omega⟩ n)) (fun k n => w (ix3 (0 : Fin 4) ⟨1024 + k.val, by omega⟩ n))
      (fun k n => w (ix3 (0 : Fin 4) ⟨2048 + k.val, by omega⟩ n)) n := by
  have ew : ∀ k : Fin 2560, val_main_v48 (F := Ideal) w (ridx_main_v49 (ix3 (0 : Fin 1) r n) k) = w (ix3 (0 : Fin 4) k n) := fun k => by
    have hk := k.isLt
    have hn := n.isLt
    rw [val_main_v48_apply, val_main_v47_apply]
    refine congrArg w (by funext a; apply Fin.ext; fin_cases a <;> simp <;> omega)
  have el : ∀ k : Fin 2560, (val_main_v44 (F := Ideal) h ya ym cw cb (lidx_main_v49 (ix3 (0 : Fin 1) r n) k) : EReal)
      = val_main_v42 (F := Ideal) h ya ym cw cb (ix3 (0 : Fin 1) r k) * silu (h (ix3 (0 : Fin 1) r ⟨6656 + k.val, by omega⟩)) := fun k => by
    rw [show lidx_main_v49 (ix3 (0 : Fin 1) r n) k = ix3 (0 : Fin 1) r k by funext a; fin_cases a <;> rfl, ← v43_apply]
    rfl
  rw [val_main_v49_apply, sum_branches]
  unfold mixed
  simp only [ew, el]
  refine congr (congrArg _ (congr (congrArg _ ?_) ?_)) ?_
  · exact Finset.sum_congr rfl fun k _ => congrArg (· * _) (congrArg (· * _) (v42_a h ya ym cw cb r k))
  · refine Finset.sum_congr rfl fun k _ => congrArg (· * _) ?_
    exact congr (congrArg _ (v42_b h ya ym cw cb r k)) (congrArg silu (congrArg h (congrArg _ (Fin.ext (by show 6656 + (1024 + k.val) = 7680 + k.val; omega)))))
  · refine Finset.sum_congr rfl fun k _ => congrArg (· * _) ?_
    exact congr (congrArg _ (v42_c h ya ym cw cb r k)) (congrArg silu (congrArg h (congrArg _ (Fin.ext (by show 6656 + (2048 + k.val) = 8704 + k.val; omega)))))

/-- The rows the reference ends with. -/
theorem v78_apply (r : Fin 16384) (n : Fin 2048) : (val_main_v78 (F := Ideal) h ya ym x cw cb w g b (ix3 (0 : Fin 1) r n) : EReal)
    = outRow h ya ym x cw cb w g b r n := by
  unfold outRow row layerNorm
  simp only [← v49_apply]
  have e50 : ∀ n : Fin 2048, (val_main_v50 (F := Ideal) h ya ym x cw cb w (ix3 (0 : Fin 1) r n) : EReal)
      = Ideal.ofBits .f32 0x3FD744FD#32 * x (ix3 (0 : Fin 1) r n) + val_main_v49 (F := Ideal) h ya ym cw cb w (ix3 (0 : Fin 1) r n) := fun n => rfl
  simp only [← e50]
  have eg : val_main_v74 (F := Ideal) g (ix3 (0 : Fin 1) r n) = g (ix2 (0 : Fin 4) n) := by
    have hn := n.isLt
    rw [val_main_v74_apply, val_main_v73_apply, val_main_v52_apply, val_main_v51_apply]
    exact congrArg g (by funext a; apply Fin.ext; fin_cases a; exacts [rfl, Nat.mod_eq_of_lt hn])
  have eb : val_main_v77 (F := Ideal) b (ix3 (0 : Fin 1) r n) = b (ix2 (0 : Fin 4) n) := by
    have hn := n.isLt
    rw [val_main_v77_apply, val_main_v76_apply, val_main_v54_apply, val_main_v53_apply]
    exact congrArg b (by funext a; apply Fin.ext; fin_cases a; exacts [rfl, Nat.mod_eq_of_lt hn])
  have em : ∀ n : Fin 2048, (val_main_v58 (F := Ideal) h ya ym x cw cb w (idx_main_v59 (ix3 (0 : Fin 1) r n)) : EReal)
      = Ideal.div (∑ k, val_main_v50 (F := Ideal) h ya ym x cw cb w (ix3 (0 : Fin 1) r k)) (Ideal.ofBits .f32 0x45000000#32) := fun n => by
    refine congrArg (Ideal.div · _) ?_
    rw [val_main_v56_apply, val_main_v55_apply]
    refine (congrArg (· + _) (Ideal.ofBits_zero_f32)).trans ((zero_add _).trans (Finset.sum_congr rfl fun j _ => ?_))
    exact congrArg _ (by funext a; fin_cases a <;> rfl)
  have e60 : ∀ n : Fin 2048, (val_main_v60 (F := Ideal) h ya ym x cw cb w (ix3 (0 : Fin 1) r n) : EReal)
      = val_main_v50 (F := Ideal) h ya ym x cw cb w (ix3 (0 : Fin 1) r n)
        - Ideal.div (∑ k, val_main_v50 (F := Ideal) h ya ym x cw cb w (ix3 (0 : Fin 1) r k)) (Ideal.ofBits .f32 0x45000000#32) := fun n => by
    rw [val_main_v60_apply, val_main_v59_apply, em n]; rfl
  have e67 : (val_main_v67 (F := Ideal) h ya ym x cw cb w (ix3 (0 : Fin 1) r n) : EReal)
      = val_main_v50 (F := Ideal) h ya ym x cw cb w (ix3 (0 : Fin 1) r n)
        - Ideal.div (∑ k, val_main_v50 (F := Ideal) h ya ym x cw cb w (ix3 (0 : Fin 1) r k)) (Ideal.ofBits .f32 0x45000000#32) := by
    rw [val_main_v67_apply, val_main_v66_apply]
    exact (congrArg (FloatOps.subf (F := Ideal) (val_main_v50 (F := Ideal) h ya ym x cw cb w (ix3 (0 : Fin 1) r n))) (em n)).trans rfl
  have e71 : (val_main_v71 (F := Ideal) h ya ym x cw cb w (ix3 (0 : Fin 1) r n) : EReal)
      = Ideal.rsqrt (Ideal.div (∑ j, val_main_v60 (F := Ideal) h ya ym x cw cb w (ix3 (0 : Fin 1) r j) * val_main_v60 (F := Ideal) h ya ym x cw cb w (ix3 (0 : Fin 1) r j))
          (Ideal.ofBits .f32 0x45000000#32) + Ideal.ofBits .f32 0x3727C5AC#32) := by
    rw [val_main_v71_apply]
    refine congrArg Ideal.rsqrt (congrArg (· + _) (congrArg (Ideal.div · _) ?_))
    rw [val_main_v63_apply, val_main_v62_apply]
    refine (congrArg (· + _) (Ideal.ofBits_zero_f32)).trans ((zero_add _).trans (Finset.sum_congr rfl fun j _ => ?_))
    rw [show idx_main_v62 (idx_main_v63 (idx_main_v71 (ix3 (0 : Fin 1) r n))) j = ix3 (0 : Fin 1) r j by funext a; fin_cases a <;> rfl]
    rfl
  simp only [e60] at e71
  refine (show _ = val_main_v67 (F := Ideal) h ya ym x cw cb w (ix3 (0 : Fin 1) r n) * val_main_v71 (F := Ideal) h ya ym x cw cb w (ix3 (0 : Fin 1) r n)
    * val_main_v74 (F := Ideal) g (ix3 (0 : Fin 1) r n) + val_main_v77 (F := Ideal) b (ix3 (0 : Fin 1) r n) from rfl).trans ?_
  rw [eg, eb, e67, e71]

/-- The reference's results are the layer's output. -/
theorem result (i : S16384x2048.Idx) : (val_main_v79 (F := Ideal) h ya ym x cw cb w g b i : EReal) = outRow h ya ym x cw cb w g b (i 0) (i 1) := by
  have h0 : (i 0).val < 16384 := (i 0).isLt
  have h1 : (i 1).val < 2048 := (i 1).isLt
  have e : idx_main_v79 i = ix3 (0 : Fin 1) (i 0) (i 1) := by
    funext a; apply Fin.ext
    match a with
    | ⟨0, _⟩ => rfl
    | ⟨1, _⟩ => show ((i 0).val * 2048 + (i 1).val) / 2048 % 16384 = (i 0).val; omega
    | ⟨2, _⟩ => show ((i 0).val * 2048 + (i 1).val) % 2048 = (i 1).val; omega
  rw [val_main_v79_apply, e]
  exact v78_apply h ya ym x cw cb w g b (i 0) (i 1)

/-- The last rows of the convolution's input. -/
theorem tail (i : S1x8x1024.Idx) : (val_main_v85 (F := Ideal) h i : EReal)
    = ci h ⟨16376 + (i 1).val, by have h : (i 1).val < 8 := (i 1).isLt; omega⟩ (i 2) := by
  rw [val_main_v85_apply]
  refine (congrArg (val_main_v84 (F := Ideal) h) (show idx_main_v85 i = ix3 (0 : Fin 1) ⟨16376 + (i 1).val, by have h : (i 1).val < 8 := (i 1).isLt; omega⟩ (i 2) from ?_)).trans
    (v8_apply h ⟨16376 + (i 1).val, by have h : (i 1).val < 8 := (i 1).isLt; omega⟩ (i 2))
  funext a; apply Fin.ext
  match a with
  | ⟨0, _⟩ => have h : (i 0).val < 1 := (i 0).isLt; show (i 0).val = 0; omega
  | ⟨1, _⟩ => rfl
  | ⟨2, _⟩ => rfl

end Cert.EvenTailRefIdeal.Entry

end
-- ==== Proof.EvenTailClaims.lean ====
module

public import proofs.«01_k».proof.Proof.EvenTailRefRead
public import proofs.«01_k».proof.Proof.Gen.EvenTail.Frame
public import proofs.«01_k».proof.Proof.Gen.EvenTailRefIdeal.Run
public import Idealize.ShloMosaic.Lib.Quiescent

@[expose] public section

noncomputable section

namespace Cert.EvenTailClaims

open Idealize.ShloMosaic Idealize.ShloMosaic.TcCoe Idealize.SL.Sem

/-- The kernel and its ideal reading leave their arguments alone and no semaphore raised. -/
theorem frame_k : Cert.quiescent_EvenTail := fun m ρ _ => Cert.EvenTail.Gen.frame m ρ
theorem frame_ki : Cert.quiescent_EvenTailIdeal := fun m ρ _ => Cert.EvenTailIdeal.Gen.frame m ρ

/-- So does the reference, which has no semaphore. -/
theorem frame_ri : Cert.quiescent_EvenTailRefIdeal := fun m ρ _ =>
  (θ_run Cert.EvenTailRefIdeal.defs _ _).mono (fun r h => ⟨fun c => (h c).2.2.2.2, Idealize.ShloMosaic.sem_eq_zero_of_no_sems (by decide) r.2⟩)
    (Cert.EvenTailRefIdeal.Value.run (F := Ideal) m ρ)

/-- At the ideal reading the kernel's four results and the reference's are the same rows of the same arguments. -/
theorem algebraic : Cert.algebraic_EvenTailIdeal_EvenTailRefIdeal := by
  intro m ρ m' ρ' _ hag
  refine ⟨fun c => Cert.EvenTailIdeal.Blocks.out m c, fun c => Cert.EvenTailIdeal.Blocks.out m c, fun c => Cert.EvenTailIdeal.Blocks.rest m c,
    fun c => Cert.EvenTailIdeal.Blocks.tail m c, ?_, ?_⟩
  · exact (θ_run Cert.EvenTailIdeal.defs _ _).mono (fun _ h c => ⟨(h c).1.trans (Cert.EvenTailIdeal.Blocks.final13 m c),
      (h c).2.1.trans (Cert.EvenTailIdeal.Blocks.final14 m c), (h c).2.2.1.trans (Cert.EvenTailIdeal.Blocks.final15 m c),
      (h c).2.2.2.1.trans (Cert.EvenTailIdeal.Blocks.final16 m c), (h c).2.2.2.2⟩)
      (Cert.EvenTailIdeal.Value.run_blocks (F := Ideal) m ρ)
  · refine (θ_run Cert.EvenTailRefIdeal.defs _ _).mono (fun _ h c => ⟨(h c).1.trans ?_, (h c).2.1.trans ?_, (h c).2.2.1.trans ?_, (h c).2.2.2.1.trans ?_, (h c).2.2.2.2⟩)
      (Cert.EvenTailRefIdeal.Value.run (F := Ideal) m' ρ')
    · obtain ⟨a0, a1, a2, a3, a4, a5, a6, a7, a8⟩ := hag c
      rw [Cert.EvenTailRefIdeal.Read.val_main_v79_eq, a0, a1, a2, a3, a4, a5, a6, a7, a8]
      exact funext fun i => Cert.EvenTailRefIdeal.Entry.result _ _ _ _ _ _ _ _ _ i
    · obtain ⟨a0, a1, a2, a3, a4, a5, a6, a7, a8⟩ := hag c
      rw [Cert.EvenTailRefIdeal.Read.val_main_v80_eq, a0, a1, a2, a3, a4, a5, a6, a7, a8]
      exact funext fun i => Cert.EvenTailRefIdeal.Entry.result _ _ _ _ _ _ _ _ _ i
    · obtain ⟨a0, a1, a2, a3, a4, a5, a6, a7, a8⟩ := hag c
      rw [Cert.EvenTailRefIdeal.Read.val_main_v83_eq, a0, a1, a2, a3, a4, a5, a6, a7, a8]
      exact funext fun i => congrArg (fun z : EReal => z - z) (Cert.EvenTailRefIdeal.Entry.result _ _ _ _ _ _ _ _ _ i)
    · obtain ⟨a0, a1, a2, a3, a4, a5, a6, a7, a8⟩ := hag c
      refine (Cert.EvenTailRefIdeal.Read.val_main_v85_eq _).trans ?_
      rw [a0]
      exact funext fun i => Cert.EvenTailRefIdeal.Entry.tail _ i

end Cert.EvenTailClaims

end
-- ==== Proof.SsdLoads.lean ====
module

public import proofs.«01_k».proof.Defs
public import proofs.«01_k».proof.Proof.Gen.SsdIdeal.Value
public import Idealize.ShloMosaic.Lib.WholeRead
public import Idealize.ShloMosaic.Lib.Pipeline.Value
public import Idealize.ShloMosaic.Lib.Pipeline.ValueKit
public import Idealize.ShloMosaic.Lib.Pointwise

@[expose] public section

set_option maxRecDepth 16384

noncomputable section

/-! The blocks the scan reads at a grid point, as the arguments. -/

namespace Cert.SsdIdeal.Loads

open Cert.SsdIdeal Cert.SsdIdeal.Gen Idealize.ShloMosaic Idealize.ShloMosaic.TcCoe Idealize.SL.Sem
open Idealize.ShloMosaic.Pipeline (Dat)

variable (m : (ℓ : Loc nD τ sig) → Buf (Elt Ideal) ℓ)

theorem lt32 : ∀ t : Fin cfg0.N, t.val < 32 := (by decide +kernel : ∀ t : Fin grid0.N, _)

theorem idx0 : ∀ t : Fin cfg0.N, win0_0.index t (0 : Fin 2) = t.val ∧ win0_0.index t (1 : Fin 2) = 7 :=
  (by decide +kernel : ∀ t : Fin grid0.N, _)
theorem idx1 : ∀ t : Fin cfg0.N, win0_1.index t (0 : Fin 2) = t.val ∧ win0_1.index t (1 : Fin 2) = 16 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 3) = t.val ∧ win0_3.index t (1 : Fin 3) = 0 ∧ win0_3.index t (2 : Fin 3) = 0 :=
  (by decide +kernel : ∀ t : Fin grid0.N, _)
theorem idx4 : ∀ t : Fin cfg0.N, win0_4.index t (0 : Fin 3) = 0 ∧ win0_4.index t (1 : Fin 3) = 0 ∧ win0_4.index t (2 : Fin 3) = 0 :=
  (by decide +kernel : ∀ t : Fin grid0.N, _)
theorem idx5 : ∀ t : Fin cfg0.N, win0_5.index t (0 : Fin 3) = 0 ∧ win0_5.index t (1 : Fin 3) = 0 ∧ win0_5.index t (2 : Fin 3) = 0 :=
  (by decide +kernel : ∀ t : Fin grid0.N, _)
theorem idx6 : ∀ t : Fin cfg0.N, win0_6.index t (0 : Fin 3) = 0 ∧ win0_6.index t (1 : Fin 3) = 0 ∧ win0_6.index t (2 : Fin 3) = 0 :=
  (by decide +kernel : ∀ t : Fin grid0.N, _)
theorem idx7 : ∀ t : Fin cfg0.N, win0_7.index t (0 : Fin 3) = 0 ∧ win0_7.index t (1 : Fin 3) = 0 ∧ win0_7.index t (2 : Fin 3) = 0 :=
  (by decide +kernel : ∀ t : Fin grid0.N, _)
theorem idx8 : ∀ t : Fin cfg0.N, win0_8.index t (0 : Fin 3) = 0 ∧ win0_8.index t (1 : Fin 3) = 0 ∧ win0_8.index t (2 : Fin 3) = 0 :=
  (by decide +kernel : ∀ t : Fin grid0.N, _)
theorem idx9 : ∀ t : Fin cfg0.N, win0_9.index t (0 : Fin 3) = 0 ∧ win0_9.index t (1 : Fin 3) = 0 ∧ win0_9.index t (2 : Fin 3) = 0 :=
  (by decide +kernel : ∀ t : Fin grid0.N, _)
theorem idx10 : ∀ t : Fin cfg0.N, win0_10.index t (0 : Fin 3) = 0 ∧ win0_10.index t (1 : Fin 3) = 0 ∧ win0_10.index t (2 : Fin 3) = 0 :=
  (by decide +kernel : ∀ t : Fin grid0.N, _)
theorem idx11 : ∀ t : Fin cfg0.N, win0_11.index t (0 : Fin 4) = 0 ∧ win0_11.index t (1 : Fin 4) = t.val ∧ win0_11.index t (2 : Fin 4) = 0 ∧ win0_11.index t (3 : Fin 4) = 0 :=
  (by decide +kernel : ∀ t : Fin grid0.N, _)
theorem idx12 : ∀ t : Fin cfg0.N, win0_12.index t (0 : Fin 4) = 0 ∧ win0_12.index t (1 : Fin 4) = t.val ∧ win0_12.index t (2 : Fin 4) = 0 ∧ win0_12.index t (3 : Fin 4) = 0 :=
  (by decide +kernel : ∀ t : Fin grid0.N, _)
theorem idx13 : ∀ t : Fin cfg0.N, win0_13.index t (0 : Fin 5) = 0 ∧ win0_13.index t (1 : Fin 5) = t.val ∧ win0_13.index t (2 : Fin 5) = 0 ∧ win0_13.index t (3 : Fin 5) = 0 ∧ win0_13.index t (4 : Fin 5) = 0 :=
  (by decide +kernel : ∀ t : Fin grid0.N, _)
theorem idx14 : ∀ t : Fin cfg0.N, win0_14.index t (0 : Fin 2) = t.val ∧ win0_14.index t (1 : Fin 2) = 0 :=
  (by decide +kernel : ∀ t : Fin grid0.N, _)
theorem idx15 : ∀ t : Fin cfg0.N, win0_15.index t (0 : Fin 4) = t.val ∧ win0_15.index t (1 : Fin 4) = 0 ∧ win0_15.index t (2 : Fin 4) = 0 ∧ win0_15.index t (3 : Fin 4) = 0 :=
  (by decide +kernel : ∀ t : Fin grid0.N, _)
theorem idx16 : ∀ t : Fin cfg0.N, win0_16.index t (0 : Fin 3) = t.val ∧ win0_16.index t (1 : Fin 3) = 0 ∧ win0_16.index t (2 : Fin 3) = 0 :=
  (by decide +kernel : ∀ t : Fin grid0.N, _)
theorem idx17 : ∀ t : Fin cfg0.N, win0_17.index t (0 : Fin 3) = t.val ∧ win0_17.index t (1 : Fin 3) = 0 ∧ win0_17.index t (2 : Fin 3) = 0 :=
  (by decide +kernel : ∀ t : Fin grid0.N, _)
theorem emb0_0 (t : Fin cfg0.N) (z : (win0_0.rect t).shape.Idx) : ((win0_0.rect t).emb z 0 : Nat) = t.val * 16 + (z 0 : Nat) :=
  (ValueKit.rect_emb_unit_val _ _ _ z (0 : Fin 2)).trans (congrArg (· * 16 + (z 0 : Nat)) ((idx0 t).1))
theorem emb0_1 (t : Fin cfg0.N) (z : (win0_0.rect t).shape.Idx) : ((win0_0.rect t).emb z 1 : Nat) = 7 * 1024 + (z 1 : Nat) :=
  (ValueKit.rect_emb_unit_val _ _ _ z (1 : Fin 2)).trans (congrArg (· * 1024 + (z 1 : Nat)) ((idx0 t).2))
theorem emb1_0 (t : Fin cfg0.N) (z : (win0_1.rect t).shape.Idx) : ((win0_1.rect t).emb z 0 : Nat) = t.val * 16 + (z 0 : Nat) :=
  (ValueKit.rect_emb_unit_val _ _ _ z (0 : Fin 2)).trans (congrArg (· * 16 + (z 0 : Nat)) ((idx1 t).1))
theorem emb1_1 (t : Fin cfg0.N) (z : (win0_1.rect t).shape.Idx) : ((win0_1.rect t).emb z 1 : Nat) = 16 * 512 + (z 1 : Nat) :=
  (ValueKit.rect_emb_unit_val _ _ _ z (1 : Fin 2)).trans (congrArg (· * 512 + (z 1 : Nat)) ((idx1 t).2))
theorem emb2_0 (t : Fin cfg0.N) (z : (win0_2.rect t).shape.Idx) : ((win0_2.rect t).emb z 0 : Nat) = t.val * 16 + (z 0 : Nat) :=
  (ValueKit.rect_emb_unit_val _ _ _ z (0 : Fin 2)).trans (congrArg (· * 16 + (z 0 : Nat)) ((idx2 t).1))
theorem emb2_1 (t : Fin cfg0.N) (z : (win0_2.rect t).shape.Idx) : ((win0_2.rect t).emb z 1 : Nat) = 0 * 128 + (z 1 : Nat) :=
  (ValueKit.rect_emb_unit_val _ _ _ z (1 : Fin 2)).trans (congrArg (· * 128 + (z 1 : Nat)) ((idx2 t).2))
theorem emb3_0 (t : Fin cfg0.N) (z : (win0_3.rect t).shape.Idx) : ((win0_3.rect t).emb z 0 : Nat) = t.val * 1 + (z 0 : Nat) :=
  (ValueKit.rect_emb_unit_val _ _ _ z (0 : Fin 3)).trans (congrArg (· * 1 + (z 0 : Nat)) ((idx3 t).1))
theorem emb3_1 (t : Fin cfg0.N) (z : (win0_3.rect t).shape.Idx) : ((win0_3.rect t).emb z 1 : Nat) = 0 * 32 + (z 1 : Nat) :=
  (ValueKit.rect_emb_unit_val _ _ _ z (1 : Fin 3)).trans (congrArg (· * 32 + (z 1 : Nat)) ((idx3 t).2.1))
theorem emb3_2 (t : Fin cfg0.N) (z : (win0_3.rect t).shape.Idx) : ((win0_3.rect t).emb z 2 : Nat) = 0 * 16 + (z 2 : Nat) :=
  (ValueKit.rect_emb_unit_val _ _ _ z (2 : Fin 3)).trans (congrArg (· * 16 + (z 2 : Nat)) ((idx3 t).2.2))
theorem emb4_0 (t : Fin cfg0.N) (z : (win0_4.rect t).shape.Idx) : ((win0_4.rect t).emb z 0 : Nat) = 0 * 1 + (z 0 : Nat) :=
  (ValueKit.rect_emb_unit_val _ _ _ z (0 : Fin 3)).trans (congrArg (· * 1 + (z 0 : Nat)) ((idx4 t).1))
theorem emb4_1 (t : Fin cfg0.N) (z : (win0_4.rect t).shape.Idx) : ((win0_4.rect t).emb z 1 : Nat) = 0 * 4 + (z 1 : Nat) :=
  (ValueKit.rect_emb_unit_val _ _ _ z (1 : Fin 3)).trans (congrArg (· * 4 + (z 1 : Nat)) ((idx4 t).2.1))
theorem emb4_2 (t : Fin cfg0.N) (z : (win0_4.rect t).shape.Idx) : ((win0_4.rect t).emb z 2 : Nat) = 0 * 1024 + (z 2 : Nat) :=
  (ValueKit.rect_emb_unit_val _ _ _ z (2 : Fin 3)).trans (congrArg (· * 1024 + (z 2 : Nat)) ((idx4 t).2.2))
theorem emb5_0 (t : Fin cfg0.N) (z : (win0_5.rect t).shape.Idx) : ((win0_5.rect t).emb z 0 : Nat) = 0 * 1 + (z 0 : Nat) :=
  (ValueKit.rect_emb_unit_val _ _ _ z (0 : Fin 3)).trans (congrArg (· * 1 + (z 0 : Nat)) ((idx5 t).1))
theorem emb5_1 (t : Fin cfg0.N) (z : (win0_5.rect t).shape.Idx) : ((win0_5.rect t).emb z 1 : Nat) = 0 * 4 + (z 1 : Nat) :=
  (ValueKit.rect_emb_unit_val _ _ _ z (1 : Fin 3)).trans (congrArg (· * 4 + (z 1 : Nat)) ((idx5 t).2.1))
theorem emb5_2 (t : Fin cfg0.N) (z : (win0_5.rect t).shape.Idx) : ((win0_5.rect t).emb z 2 : Nat) = 0 * 512 + (z 2 : Nat) :=
  (ValueKit.rect_emb_unit_val _ _ _ z (2 : Fin 3)).trans (congrArg (· * 512 + (z 2 : Nat)) ((idx5 t).2.2))
theorem emb6_0 (t : Fin cfg0.N) (z : (win0_6.rect t).shape.Idx) : ((win0_6.rect t).emb z 0 : Nat) = 0 * 1 + (z 0 : Nat) :=
  (ValueKit.rect_emb_unit_val _ _ _ z (0 : Fin 3)).trans (congrArg (· * 1 + (z 0 : Nat)) ((idx6 t).1))
theorem emb6_1 (t : Fin cfg0.N) (z : (win0_6.rect t).shape.Idx) : ((win0_6.rect t).emb z 1 : Nat) = 0 * 1 + (z 1 : Nat) :=
  (ValueKit.rect_emb_unit_val _ _ _ z (1 : Fin 3)).trans (congrArg (· * 1 + (z 1 : Nat)) ((idx6 t).2.1))
theorem emb6_2 (t : Fin cfg0.N) (z : (win0_6.rect t).shape.Idx) : ((win0_6.rect t).emb z 2 : Nat) = 0 * 1024 + (z 2 : Nat) :=
  (ValueKit.rect_emb_unit_val _ _ _ z (2 : Fin 3)).trans (congrArg (· * 1024 + (z 2 : Nat)) ((idx6 t).2.2))
theorem emb7_0 (t : Fin cfg0.N) (z : (win0_7.rect t).shape.Idx) : ((win0_7.rect t).emb z 0 : Nat) = 0 * 1 + (z 0 : Nat) :=
  (ValueKit.rect_emb_unit_val _ _ _ z (0 : Fin 3)).trans (congrArg (· * 1 + (z 0 : Nat)) ((idx7 t).1))
theorem emb7_1 (t : Fin cfg0.N) (z : (win0_7.rect t).shape.Idx) : ((win0_7.rect t).emb z 1 : Nat) = 0 * 1 + (z 1 : Nat) :=
  (ValueKit.rect_emb_unit_val _ _ _ z (1 : Fin 3)).trans (congrArg (· * 1 + (z 1 : Nat)) ((idx7 t).2.1))
theorem emb7_2 (t : Fin cfg0.N) (z : (win0_7.rect t).shape.Idx) : ((win0_7.rect t).emb z 2 : Nat) = 0 * 512 + (z 2 : Nat) :=
  (ValueKit.rect_emb_unit_val _ _ _ z (2 : Fin 3)).trans (congrArg (· * 512 + (z 2 : Nat)) ((idx7 t).2.2))
theorem emb8_0 (t : Fin cfg0.N) (z : (win0_8.rect t).shape.Idx) : ((win0_8.rect t).emb z 0 : Nat) = 0 * 1 + (z 0 : Nat) :=
  (ValueKit.rect_emb_unit_val _ _ _ z (0 : Fin 3)).trans (congrArg (· * 1 + (z 0 : Nat)) ((idx8 t).1))
theorem emb8_1 (t : Fin cfg0.N) (z : (win0_8.rect t).shape.Idx) : ((win0_8.rect t).emb z 1 : Nat) = 0 * 1 + (z 1 : Nat) :=
  (ValueKit.rect_emb_unit_val _ _ _ z (1 : Fin 3)).trans (congrArg (· * 1 + (z 1 : Nat)) ((idx8 t).2.1))
theorem emb8_2 (t : Fin cfg0.N) (z : (win0_8.rect t).shape.Idx) : ((win0_8.rect t).emb z 2 : Nat) = 0 * 16 + (z 2 : Nat) :=
  (ValueKit.rect_emb_unit_val _ _ _ z (2 : Fin 3)).trans (congrArg (· * 16 + (z 2 : Nat)) ((idx8 t).2.2))
theorem emb9_0 (t : Fin cfg0.N) (z : (win0_9.rect t).shape.Idx) : ((win0_9.rect t).emb z 0 : Nat) = 0 * 1 + (z 0 : Nat) :=
  (ValueKit.rect_emb_unit_val _ _ _ z (0 : Fin 3)).trans (congrArg (· * 1 + (z 0 : Nat)) ((idx9 t).1))
theorem emb9_1 (t : Fin cfg0.N) (z : (win0_9.rect t).shape.Idx) : ((win0_9.rect t).emb z 1 : Nat) = 0 * 16 + (z 1 : Nat) :=
  (ValueKit.rect_emb_unit_val _ _ _ z (1 : Fin 3)).trans (congrArg (· * 16 + (z 1 : Nat)) ((idx9 t).2.1))
theorem emb9_2 (t : Fin cfg0.N) (z : (win0_9.rect t).shape.Idx) : ((win0_9.rect t).emb z 2 : Nat) = 0 * 1 + (z 2 : Nat) :=
  (ValueKit.rect_emb_unit_val _ _ _ z (2 : Fin 3)).trans (congrArg (· * 1 + (z 2 : Nat)) ((idx9 t).2.2))
theorem emb10_0 (t : Fin cfg0.N) (z : (win0_10.rect t).shape.Idx) : ((win0_10.rect t).emb z 0 : Nat) = 0 * 1 + (z 0 : Nat) :=
  (ValueKit.rect_emb_unit_val _ _ _ z (0 : Fin 3)).trans (congrArg (· * 1 + (z 0 : Nat)) ((idx10 t).1))
theorem emb10_1 (t : Fin cfg0.N) (z : (win0_10.rect t).shape.Idx) : ((win0_10.rect t).emb z 1 : Nat) = 0 * 1 + (z 1 : Nat) :=
  (ValueKit.rect_emb_unit_val _ _ _ z (1 : Fin 3)).trans (congrArg (· * 1 + (z 1 : Nat)) ((idx10 t).2.1))
theorem emb10_2 (t : Fin cfg0.N) (z : (win0_10.rect t).shape.Idx) : ((win0_10.rect t).emb z 2 : Nat) = 0 * 1024 + (z 2 : Nat) :=
  (ValueKit.rect_emb_unit_val _ _ _ z (2 : Fin 3)).trans (congrArg (· * 1024 + (z 2 : Nat)) ((idx10 t).2.2))
theorem emb11_0 (t : Fin cfg0.N) (z : (win0_11.rect t).shape.Idx) : ((win0_11.rect t).emb z 0 : Nat) = 0 * 1 + (z 0 : Nat) :=
  (ValueKit.rect_emb_unit_val _ _ _ z (0 : Fin 4)).trans (congrArg (· * 1 + (z 0 : Nat)) ((idx11 t).1))
theorem emb11_1 (t : Fin cfg0.N) (z : (win0_11.rect t).shape.Idx) : ((win0_11.rect t).emb z 1 : Nat) = t.val * 1 + (z 1 : Nat) :=
  (ValueKit.rect_emb_unit_val _ _ _ z (1 : Fin 4)).trans (congrArg (· * 1 + (z 1 : Nat)) ((idx11 t).2.1))
theorem emb11_2 (t : Fin cfg0.N) (z : (win0_11.rect t).shape.Idx) : ((win0_11.rect t).emb z 2 : Nat) = 0 * 8 + (z 2 : Nat) :=
  (ValueKit.rect_emb_unit_val _ _ _ z (2 : Fin 4)).trans (congrArg (· * 8 + (z 2 : Nat)) ((idx11 t).2.2.1))
theorem emb11_3 (t : Fin cfg0.N) (z : (win0_11.rect t).shape.Idx) : ((win0_11.rect t).emb z 3 : Nat) = 0 * 1024 + (z 3 : Nat) :=
  (ValueKit.rect_emb_unit_val _ _ _ z (3 : Fin 4)).trans (congrArg (· * 1024 + (z 3 : Nat)) ((idx11 t).2.2.2))
theorem emb12_0 (t : Fin cfg0.N) (z : (win0_12.rect t).shape.Idx) : ((win0_12.rect t).emb z 0 : Nat) = 0 * 1 + (z 0 : Nat) :=
  (ValueKit.rect_emb_unit_val _ _ _ z (0 : Fin 4)).trans (congrArg (· * 1 + (z 0 : Nat)) ((idx12 t).1))
theorem emb12_1 (t : Fin cfg0.N) (z : (win0_12.rect t).shape.Idx) : ((win0_12.rect t).emb z 1 : Nat) = t.val * 1 + (z 1 : Nat) :=
  (ValueKit.rect_emb_unit_val _ _ _ z (1 : Fin 4)).trans (congrArg (· * 1 + (z 1 : Nat)) ((idx12 t).2.1))
theorem emb12_2 (t : Fin cfg0.N) (z : (win0_12.rect t).shape.Idx) : ((win0_12.rect t).emb z 2 : Nat) = 0 * 8 + (z 2 : Nat) :=
  (ValueKit.rect_emb_unit_val _ _ _ z (2 : Fin 4)).trans (congrArg (· * 8 + (z 2 : Nat)) ((idx12 t).2.2.1))
theorem emb12_3 (t : Fin cfg0.N) (z : (win0_12.rect t).shape.Idx) : ((win0_12.rect t).emb z 3 : Nat) = 0 * 512 + (z 3 : Nat) :=
  (ValueKit.rect_emb_unit_val _ _ _ z (3 : Fin 4)).trans (congrArg (· * 512 + (z 3 : Nat)) ((idx12 t).2.2.2))
theorem emb13_0 (t : Fin cfg0.N) (z : (win0_13.rect t).shape.Idx) : ((win0_13.rect t).emb z 0 : Nat) = 0 * 1 + (z 0 : Nat) :=
  (ValueKit.rect_emb_unit_val _ _ _ z (0 : Fin 5)).trans (congrArg (· * 1 + (z 0 : Nat)) ((idx13 t).1))
theorem emb13_1 (t : Fin cfg0.N) (z : (win0_13.rect t).shape.Idx) : ((win0_13.rect t).emb z 1 : Nat) = t.val * 1 + (z 1 : Nat) :=
  (ValueKit.rect_emb_unit_val _ _ _ z (1 : Fin 5)).trans (congrArg (· * 1 + (z 1 : Nat)) ((idx13 t).2.1))
theorem emb13_2 (t : Fin cfg0.N) (z : (win0_13.rect t).shape.Idx) : ((win0_13.rect t).emb z 2 : Nat) = 0 * 16 + (z 2 : Nat) :=
  (ValueKit.rect_emb_unit_val _ _ _ z (2 : Fin 5)).trans (congrArg (· * 16 + (z 2 : Nat)) ((idx13 t).2.2.1))
theorem emb13_3 (t : Fin cfg0.N) (z : (win0_13.rect t).shape.Idx) : ((win0_13.rect t).emb z 3 : Nat) = 0 * 64 + (z 3 : Nat) :=
  (ValueKit.rect_emb_unit_val _ _ _ z (3 : Fin 5)).trans (congrArg (· * 64 + (z 3 : Nat)) ((idx13 t).2.2.2.1))
theorem emb13_4 (t : Fin cfg0.N) (z : (win0_13.rect t).shape.Idx) : ((win0_13.rect t).emb z 4 : Nat) = 0 * 128 + (z 4 : Nat) :=
  (ValueKit.rect_emb_unit_val _ _ _ z (4 : Fin 5)).trans (congrArg (· * 128 + (z 4 : Nat)) ((idx13 t).2.2.2.2))
theorem emb14_0 (t : Fin cfg0.N) (z : (win0_14.rect t).shape.Idx) : ((win0_14.rect t).emb z 0 : Nat) = t.val * 16 + (z 0 : Nat) :=
  (ValueKit.rect_emb_unit_val _ _ _ z (0 : Fin 2)).trans (congrArg (· * 16 + (z 0 : Nat)) ((idx14 t).1))
theorem emb14_1 (t : Fin cfg0.N) (z : (win0_14.rect t).shape.Idx) : ((win0_14.rect t).emb z 1 : Nat) = 0 * 1024 + (z 1 : Nat) :=
  (ValueKit.rect_emb_unit_val _ _ _ z (1 : Fin 2)).trans (congrArg (· * 1024 + (z 1 : Nat)) ((idx14 t).2))
theorem emb15_0 (t : Fin cfg0.N) (z : (win0_15.rect t).shape.Idx) : ((win0_15.rect t).emb z 0 : Nat) = t.val * 1 + (z 0 : Nat) :=
  (ValueKit.rect_emb_unit_val _ _ _ z (0 : Fin 4)).trans (congrArg (· * 1 + (z 0 : Nat)) ((idx15 t).1))
theorem emb15_1 (t : Fin cfg0.N) (z : (win0_15.rect t).shape.Idx) : ((win0_15.rect t).emb z 1 : Nat) = 0 * 16 + (z 1 : Nat) :=
  (ValueKit.rect_emb_unit_val _ _ _ z (1 : Fin 4)).trans (congrArg (· * 16 + (z 1 : Nat)) ((idx15 t).2.1))
theorem emb15_2 (t : Fin cfg0.N) (z : (win0_15.rect t).shape.Idx) : ((win0_15.rect t).emb z 2 : Nat) = 0 * 64 + (z 2 : Nat) :=
  (ValueKit.rect_emb_unit_val _ _ _ z (2 : Fin 4)).trans (congrArg (· * 64 + (z 2 : Nat)) ((idx15 t).2.2.1))
theorem emb15_3 (t : Fin cfg0.N) (z : (win0_15.rect t).shape.Idx) : ((win0_15.rect t).emb z 3 : Nat) = 0 * 128 + (z 3 : Nat) :=
  (ValueKit.rect_emb_unit_val _ _ _ z (3 : Fin 4)).trans (congrArg (· * 128 + (z 3 : Nat)) ((idx15 t).2.2.2))
theorem emb16_0 (t : Fin cfg0.N) (z : (win0_16.rect t).shape.Idx) : ((win0_16.rect t).emb z 0 : Nat) = t.val * 1 + (z 0 : Nat) :=
  (ValueKit.rect_emb_unit_val _ _ _ z (0 : Fin 3)).trans (congrArg (· * 1 + (z 0 : Nat)) ((idx16 t).1))
theorem emb16_1 (t : Fin cfg0.N) (z : (win0_16.rect t).shape.Idx) : ((win0_16.rect t).emb z 1 : Nat) = 0 * 8 + (z 1 : Nat) :=
  (ValueKit.rect_emb_unit_val _ _ _ z (1 : Fin 3)).trans (congrArg (· * 8 + (z 1 : Nat)) ((idx16 t).2.1))
theorem emb16_2 (t : Fin cfg0.N) (z : (win0_16.rect t).shape.Idx) : ((win0_16.rect t).emb z 2 : Nat) = 0 * 1024 + (z 2 : Nat) :=
  (ValueKit.rect_emb_unit_val _ _ _ z (2 : Fin 3)).trans (congrArg (· * 1024 + (z 2 : Nat)) ((idx16 t).2.2))
theorem emb17_0 (t : Fin cfg0.N) (z : (win0_17.rect t).shape.Idx) : ((win0_17.rect t).emb z 0 : Nat) = t.val * 1 + (z 0 : Nat) :=
  (ValueKit.rect_emb_unit_val _ _ _ z (0 : Fin 3)).trans (congrArg (· * 1 + (z 0 : Nat)) ((idx17 t).1))
theorem emb17_1 (t : Fin cfg0.N) (z : (win0_17.rect t).shape.Idx) : ((win0_17.rect t).emb z 1 : Nat) = 0 * 8 + (z 1 : Nat) :=
  (ValueKit.rect_emb_unit_val _ _ _ z (1 : Fin 3)).trans (congrArg (· * 8 + (z 1 : Nat)) ((idx17 t).2.1))
theorem emb17_2 (t : Fin cfg0.N) (z : (win0_17.rect t).shape.Idx) : ((win0_17.rect t).emb z 2 : Nat) = 0 * 512 + (z 2 : Nat) :=
  (ValueKit.rect_emb_unit_val _ _ _ z (2 : Fin 3)).trans (congrArg (· * 512 + (z 2 : Nat)) ((idx17 t).2.2))

/-! ## The arrays, as the arguments -/

theorem at3 (w : S32x16x8736.Idx → EReal) (i j : S32x16x8736.Idx) (h0 : (j 0).val = (i 0).val) (h1 : (j 1).val = (i 1).val) (h2 : (j 2).val = (i 2).val) : w j = w i :=
  congrArg w (funext fun a => by fin_cases a; exacts [Fin.ext h0, Fin.ext h1, Fin.ext h2])

theorem perm_apply (w : S32x16x8736.Idx → EReal) (b : Fin 32) (p : Fin 16) (n : Fin 1536) : (concatenate S32x16x8704 2 [
      ⟨S32x16x2560, extractStridedSlice S32x16x2560 ![0, 0, 6176] w slices_S32x16x8736_S32x16x2560_0_0_6176⟩,
      ⟨S32x16x512, extractStridedSlice S32x16x512 ![0, 0, 5664] w slices_S32x16x8736_S32x16x512_0_0_5664⟩,
      ⟨S32x16x4096, extractStridedSlice S32x16x4096 ![0, 0, 0] w slices_S32x16x8736_S32x16x4096_0_0_0⟩,
      ⟨S32x16x1536, extractStridedSlice S32x16x1536 ![0, 0, 4112] w slices_S32x16x8736_S32x16x1536_0_0_4112⟩]
      concatenates_S32x16x2560_S32x16x512_S32x16x4096_S32x16x1536_S32x16x8704_d2 : S32x16x8704.Idx → EReal) (ix3 b p (⟨7168 + n.val, by omega⟩ : Fin 8704))
      = w (ix3 b p (⟨4112 + n.val, by omega⟩ : Fin 8736)) := by
  pointwise
  rw [dif_neg (by omega), dif_neg (by omega), dif_neg (by omega)]
  refine congrArg w (congrArg (ix3 b p) (Fin.ext ?_))
  show 4112 + (7168 + n.val - 2560 - 512 - 4096) = 4112 + n.val
  omega

theorem V_proj (c : Dev nD) : V m c main_v5 = shapeCast S512x8704 (concatenate S32x16x8704 2 [
      ⟨S32x16x2560, extractStridedSlice S32x16x2560 ![0, 0, 6176] (m ((c : Thread nD τ).loc main_arg0)) slices_S32x16x8736_S32x16x2560_0_0_6176⟩,
      ⟨S32x16x512, extractStridedSlice S32x16x512 ![0, 0, 5664] (m ((c : Thread nD τ).loc main_arg0)) slices_S32x16x8736_S32x16x512_0_0_5664⟩,
      ⟨S32x16x4096, extractStridedSlice S32x16x4096 ![0, 0, 0] (m ((c : Thread nD τ).loc main_arg0)) slices_S32x16x8736_S32x16x4096_0_0_0⟩,
      ⟨S32x16x1536, extractStridedSlice S32x16x1536 ![0, 0, 4112] (m ((c : Thread nD τ).loc main_arg0)) slices_S32x16x8736_S32x16x1536_0_0_4112⟩]
      concatenates_S32x16x2560_S32x16x512_S32x16x4096_S32x16x1536_S32x16x8704_d2) shapeCasts_S32x16x8704_S512x8704 := by
  dsimp only [V]; after_results; rfl

theorem V_proj_apply (c : Dev nD) (i : S512x8704.Idx) (b : Fin 32) (p : Fin 16) (n : Fin 1536) (h0 : (i 0).val = b.val * 16 + p.val) (h1 : (i 1).val = 7168 + n.val) :
    (V m c main_v5 : S512x8704.Idx → EReal) i = (m ((c : Thread nD τ).loc main_arg0) : S32x16x8736.Idx → EReal) (ix3 b p (⟨4112 + n.val, by omega⟩ : Fin 8736)) := by
  rw [V_proj]
  refine Eq.trans (shapeCast_apply _ shapeCasts_S32x16x8704_S512x8704 i (ix3 b p (⟨7168 + n.val, by omega⟩ : Fin 8704) : S32x16x8704.Idx)
    (by rewrite [Shape.rowMajor_val_three, Shape.rowMajor_val_two]; show (b.val * 16 + p.val) * 8704 + (7168 + n.val) = (i 0).val * 8704 + (i 1).val; omega)) ?_
  exact perm_apply _ b p n

theorem gate_apply (w : S32x16x8736.Idx → EReal) (z : S32x16x96.Idx → EReal) (b : Fin 32) (p : Fin 16) (k : Fin 16) : (concatenate S32x16x128 2 [
      ⟨S32x16x16, extractStridedSlice S32x16x16 ![0, 0, 4096] w slices_S32x16x8736_S32x16x16_0_0_4096⟩,
      ⟨S32x16x16, extractStridedSlice S32x16x16 ![0, 0, 5648] w slices_S32x16x8736_S32x16x16_0_0_5648⟩,
      ⟨S32x16x96, z⟩]
      concatenates_S32x16x16_S32x16x16_S32x16x96_S32x16x128_d2 : S32x16x128.Idx → EReal) (ix3 b p (⟨16 + k.val, by omega⟩ : Fin 128))
      = w (ix3 b p (⟨5648 + k.val, by omega⟩ : Fin 8736)) := by
  pointwise

theorem V_gates (c : Dev nD) : ∃ z, V m c main_v10 = shapeCast S512x128 (concatenate S32x16x128 2 [
      ⟨S32x16x16, extractStridedSlice S32x16x16 ![0, 0, 4096] (m ((c : Thread nD τ).loc main_arg0)) slices_S32x16x8736_S32x16x16_0_0_4096⟩,
      ⟨S32x16x16, extractStridedSlice S32x16x16 ![0, 0, 5648] (m ((c : Thread nD τ).loc main_arg0)) slices_S32x16x8736_S32x16x16_0_0_5648⟩,
      ⟨S32x16x96, z⟩] concatenates_S32x16x16_S32x16x16_S32x16x96_S32x16x128_d2) shapeCasts_S32x16x128_S512x128 := by
  dsimp only [V]; after_results; exact ⟨_, rfl⟩

theorem V_gates_apply (c : Dev nD) (i : S512x128.Idx) (b : Fin 32) (p : Fin 16) (k : Fin 16) (h0 : (i 0).val = b.val * 16 + p.val) (h1 : (i 1).val = 16 + k.val) :
    (V m c main_v10 : S512x128.Idx → EReal) i = (m ((c : Thread nD τ).loc main_arg0) : S32x16x8736.Idx → EReal) (ix3 b p (⟨5648 + k.val, by omega⟩ : Fin 8736)) := by
  obtain ⟨z, e⟩ := V_gates m c
  rw [e]
  refine Eq.trans (shapeCast_apply _ shapeCasts_S32x16x128_S512x128 i (ix3 b p (⟨16 + k.val, by omega⟩ : Fin 128) : S32x16x128.Idx)
    (by rewrite [Shape.rowMajor_val_three, Shape.rowMajor_val_two]; show (b.val * 16 + p.val) * 128 + (16 + k.val) = (i 0).val * 128 + (i 1).val; omega)) ?_
  exact gate_apply _ z b p k

theorem V_rows (c : Dev nD) : V m c main_v13 = transpose S32x32x16 [0, 2, 1] (shapeCast S32x16x32 (extractStridedSlice S512x32 ![0, 0] (V m c main_v10)
    slices_S512x128_S512x32_0_0) shapeCasts_S512x32_S32x16x32) transposes_S32x16x32_S32x32x16_0_2_1 := by
  dsimp only [V]; after_results; rfl

theorem V_rows_apply (c : Dev nD) (i : S32x32x16.Idx) (b : Fin 32) (p : Fin 16) (k : Fin 16) (h0 : (i 0).val = b.val) (h1 : (i 1).val = 16 + k.val) (h2 : (i 2).val = p.val) :
    (V m c main_v13 : S32x32x16.Idx → EReal) i = (m ((c : Thread nD τ).loc main_arg0) : S32x16x8736.Idx → EReal) (ix3 b p (⟨5648 + k.val, by omega⟩ : Fin 8736)) := by
  rw [V_rows]
  generalize hg : (V m c main_v10 : S512x128.Idx → EReal) = g
  have e : (transpose S32x32x16 [0, 2, 1] (shapeCast S32x16x32 (extractStridedSlice S512x32 ![0, 0] g
    slices_S512x128_S512x32_0_0) shapeCasts_S512x32_S32x16x32) transposes_S32x16x32_S32x32x16_0_2_1 : S32x32x16.Idx → EReal) i
      = (shapeCast S32x16x32 (extractStridedSlice S512x32 ![0, 0] g slices_S512x128_S512x32_0_0) shapeCasts_S512x32_S32x16x32 : S32x16x32.Idx → EReal) (ix3 (i 0) (i 2) (i 1)) := by
    generalize (shapeCast S32x16x32 (extractStridedSlice S512x32 ![0, 0] g slices_S512x128_S512x32_0_0) shapeCasts_S512x32_S32x16x32 : S32x16x32.Idx → EReal) = q
    pointwise
  rw [e]
  refine Eq.trans (shapeCast_apply _ shapeCasts_S512x32_S32x16x32 _ (ix2 (⟨b.val * 16 + p.val, by omega⟩ : Fin 512) (⟨16 + k.val, by omega⟩ : Fin 32) : S512x32.Idx)
    (by rewrite [Shape.rowMajor_val_three, Shape.rowMajor_val_two]; show (b.val * 16 + p.val) * 32 + (16 + k.val) = ((i 0).val * 16 + (i 2).val) * 32 + (i 1).val; omega)) ?_
  pointwise
  rw [← hg]
  exact V_gates_apply m c _ b p k (by first | rfl | exact Nat.zero_add _) (by first | rfl | exact Nat.zero_add _)

theorem V_wx_apply (c : Dev nD) (i : S2x4x1024.Idx) : (V m c main_v14 : S2x4x1024.Idx → EReal) i = (m ((c : Thread nD τ).loc main_arg1) : S2x4x1536.Idx → EReal) (ix3 (i 0) (i 1) (⟨(i 2).val, by have h : (i 2).val < 1024 := (i 2).isLt; omega⟩ : Fin 1536)) := by
  have e : V m c main_v14 = extractStridedSlice S2x4x1024 ![0, 0, 0] (m ((c : Thread nD τ).loc main_arg1)) slices_S2x4x1536_S2x4x1024_0_0_0 := by
    dsimp only [V]; after_results
  rw [e]
  generalize ((m ((c : Thread nD τ).loc main_arg1)) : S2x4x1536.Idx → EReal) = x
  pointwise

theorem V_wbc_apply (c : Dev nD) (i : S2x4x512.Idx) : (V m c main_v15 : S2x4x512.Idx → EReal) i = (m ((c : Thread nD τ).loc main_arg1) : S2x4x1536.Idx → EReal) (ix3 (i 0) (i 1) (⟨1024 + (i 2).val, by have h : (i 2).val < 512 := (i 2).isLt; omega⟩ : Fin 1536)) := by
  have e : V m c main_v15 = extractStridedSlice S2x4x512 ![0, 0, 1024] (m ((c : Thread nD τ).loc main_arg1)) slices_S2x4x1536_S2x4x512_0_0_1024 := by
    dsimp only [V]; after_results
  rw [e]
  generalize ((m ((c : Thread nD τ).loc main_arg1)) : S2x4x1536.Idx → EReal) = x
  pointwise

theorem V_bx_apply (c : Dev nD) (i : S2x1x1024.Idx) : (V m c main_v17 : S2x1x1024.Idx → EReal) i = (m ((c : Thread nD τ).loc main_arg2) : S2x1536.Idx → EReal) (ix2 (i 0) (⟨(i 2).val, by have h : (i 2).val < 1024 := (i 2).isLt; omega⟩ : Fin 1536)) := by
  have e : V m c main_v17 = broadcastInDim S2x1x1024 ![0, 2] bcast_S2x1024_S2x1x1024_0_2 (extractStridedSlice S2x1024 ![0, 0] (m ((c : Thread nD τ).loc main_arg2)) slices_S2x1536_S2x1024_0_0) := by
    dsimp only [V]; after_results
  rw [e]
  generalize ((m ((c : Thread nD τ).loc main_arg2)) : S2x1536.Idx → EReal) = x
  pointwise

theorem V_bbc_apply (c : Dev nD) (i : S2x1x512.Idx) : (V m c main_v19 : S2x1x512.Idx → EReal) i = (m ((c : Thread nD τ).loc main_arg2) : S2x1536.Idx → EReal) (ix2 (i 0) (⟨1024 + (i 2).val, by have h : (i 2).val < 512 := (i 2).isLt; omega⟩ : Fin 1536)) := by
  have e : V m c main_v19 = broadcastInDim S2x1x512 ![0, 2] bcast_S2x512_S2x1x512_0_2 (extractStridedSlice S2x512 ![0, 1024] (m ((c : Thread nD τ).loc main_arg2)) slices_S2x1536_S2x512_0_1024) := by
    dsimp only [V]; after_results
  rw [e]
  generalize ((m ((c : Thread nD τ).loc main_arg2)) : S2x1536.Idx → EReal) = x
  pointwise

theorem V_alr_apply (c : Dev nD) (i : S2x1x16.Idx) : (V m c main_v20 : S2x1x16.Idx → EReal) i = (m ((c : Thread nD τ).loc main_arg3) : S2x16.Idx → EReal) (ix2 (i 0) (i 2)) := by
  have e : V m c main_v20 = broadcastInDim S2x1x16 ![0, 2] bcast_S2x16_S2x1x16_0_2 (m ((c : Thread nD τ).loc main_arg3)) := by
    dsimp only [V]; after_results
  rw [e]
  generalize ((m ((c : Thread nD τ).loc main_arg3)) : S2x16.Idx → EReal) = x
  pointwise

theorem V_alc_apply (c : Dev nD) (i : S2x16x1.Idx) : (V m c main_v21 : S2x16x1.Idx → EReal) i = (m ((c : Thread nD τ).loc main_arg3) : S2x16.Idx → EReal) (ix2 (i 0) (i 1)) := by
  have e : V m c main_v21 = broadcastInDim S2x16x1 ![0, 1] bcast_S2x16_S2x16x1_0_1 (m ((c : Thread nD τ).loc main_arg3)) := by
    dsimp only [V]; after_results
  rw [e]
  generalize ((m ((c : Thread nD τ).loc main_arg3)) : S2x16.Idx → EReal) = x
  pointwise

theorem V_skip_apply (c : Dev nD) (i : S2x1x1024.Idx) (l : Fin 2) (h : Fin 16) (d : Fin 64) (h0 : (i 0).val = l.val) (h2 : (i 2).val = h.val * 64 + d.val) :
    (V m c main_v24 : S2x1x1024.Idx → EReal) i = (m ((c : Thread nD τ).loc main_arg4) : S2x16.Idx → EReal) (ix2 l h) := by
  have e : V m c main_v24 = broadcastInDim S2x1x1024 ![0, 2] bcast_S2x1024_S2x1x1024_0_2 (shapeCast S2x1024 (broadcastInDim S2x16x64 ![0, 1] bcast_S2x16_S2x16x64_0_1 (m ((c : Thread nD τ).loc main_arg4))) shapeCasts_S2x16x64_S2x1024) := by
    dsimp only [V]; after_results; rfl
  rw [e]
  generalize ((m ((c : Thread nD τ).loc main_arg4)) : S2x16.Idx → EReal) = x
  have e2 : (broadcastInDim S2x1x1024 ![0, 2] bcast_S2x1024_S2x1x1024_0_2 (shapeCast S2x1024 (broadcastInDim S2x16x64 ![0, 1] bcast_S2x16_S2x16x64_0_1 x) shapeCasts_S2x16x64_S2x1024) : S2x1x1024.Idx → EReal) i
      = (shapeCast S2x1024 (broadcastInDim S2x16x64 ![0, 1] bcast_S2x16_S2x16x64_0_1 x) shapeCasts_S2x16x64_S2x1024 : S2x1024.Idx → EReal) (ix2 (i 0) (i 2)) := by
    generalize (shapeCast S2x1024 (broadcastInDim S2x16x64 ![0, 1] bcast_S2x16_S2x16x64_0_1 x) shapeCasts_S2x16x64_S2x1024 : S2x1024.Idx → EReal) = q
    pointwise
  rw [e2]
  refine Eq.trans (shapeCast_apply _ shapeCasts_S2x16x64_S2x1024 _ (ix3 l h d : S2x16x64.Idx)
    (by rewrite [Shape.rowMajor_val_three, Shape.rowMajor_val_two]; show (l.val * 16 + h.val) * 64 + d.val = (i 0).val * 1024 + (i 2).val; omega)) ?_
  pointwise

theorem pad_apply (z : S2x32x5x1536.Idx → EReal) (w : S2x32x3x1536.Idx → EReal) (l : Fin 2) (b : Fin 32) (j : Fin 3) (k : Fin 1536) :
    (concatenate S2x32x8x1536 2 [⟨S2x32x5x1536, z⟩, ⟨S2x32x3x1536, w⟩] concatenates_S2x32x5x1536_S2x32x3x1536_S2x32x8x1536_d2 : S2x32x8x1536.Idx → EReal)
      (ix4 l b (⟨5 + j.val, by omega⟩ : Fin 8) k) = w (ix4 l b j k) := by
  pointwise

theorem V_hx (c : Dev nD) : ∃ z, V m c main_v27 = extractStridedSlice S2x32x8x1024 ![0, 0, 0, 0] (concatenate S2x32x8x1536 2 [⟨S2x32x5x1536, z⟩, ⟨S2x32x3x1536, (m ((c : Thread nD τ).loc main_arg6))⟩]
    concatenates_S2x32x5x1536_S2x32x3x1536_S2x32x8x1536_d2) slices_S2x32x8x1536_S2x32x8x1024_0_0_0_0 := by
  dsimp only [V]; after_results; exact ⟨_, rfl⟩

theorem V_hx_apply (c : Dev nD) (i : S2x32x8x1024.Idx) (l : Fin 2) (b : Fin 32) (j : Fin 3) (k : Fin 1536) (h0 : (i 0).val = l.val) (h1 : (i 1).val = b.val)
    (h2 : (i 2).val = 5 + j.val) (h3 : 0 + (i 3).val = k.val) : (V m c main_v27 : S2x32x8x1024.Idx → EReal) i = (m ((c : Thread nD τ).loc main_arg6) : S2x32x3x1536.Idx → EReal) (ix4 l b j k) := by
  obtain ⟨z, e⟩ := V_hx m c
  rw [e]
  refine Eq.trans ?_ (pad_apply z _ l b j k)
  generalize (concatenate S2x32x8x1536 2 [⟨S2x32x5x1536, z⟩, ⟨S2x32x3x1536, (m ((c : Thread nD τ).loc main_arg6))⟩] concatenates_S2x32x5x1536_S2x32x3x1536_S2x32x8x1536_d2 : S2x32x8x1536.Idx → EReal) = q
  pointwise
  refine congrArg q (funext fun a => ?_)
  fin_cases a
  exacts [Fin.ext (by first | exact h0 | exact (Nat.zero_add _).trans h0), Fin.ext (by first | exact h1 | exact (Nat.zero_add _).trans h1), Fin.ext (by first | exact h2 | exact (Nat.zero_add _).trans h2), Fin.ext (by first | exact h3 | exact (Nat.zero_add _).symm.trans h3)]

theorem V_hbc (c : Dev nD) : ∃ z, V m c main_v28 = extractStridedSlice S2x32x8x512 ![0, 0, 0, 1024] (concatenate S2x32x8x1536 2 [⟨S2x32x5x1536, z⟩, ⟨S2x32x3x1536, (m ((c : Thread nD τ).loc main_arg6))⟩]
    concatenates_S2x32x5x1536_S2x32x3x1536_S2x32x8x1536_d2) slices_S2x32x8x1536_S2x32x8x512_0_0_0_1024 := by
  dsimp only [V]; after_results; exact ⟨_, rfl⟩

theorem V_hbc_apply (c : Dev nD) (i : S2x32x8x512.Idx) (l : Fin 2) (b : Fin 32) (j : Fin 3) (k : Fin 1536) (h0 : (i 0).val = l.val) (h1 : (i 1).val = b.val)
    (h2 : (i 2).val = 5 + j.val) (h3 : 1024 + (i 3).val = k.val) : (V m c main_v28 : S2x32x8x512.Idx → EReal) i = (m ((c : Thread nD τ).loc main_arg6) : S2x32x3x1536.Idx → EReal) (ix4 l b j k) := by
  obtain ⟨z, e⟩ := V_hbc m c
  rw [e]
  refine Eq.trans ?_ (pad_apply z _ l b j k)
  generalize (concatenate S2x32x8x1536 2 [⟨S2x32x5x1536, z⟩, ⟨S2x32x3x1536, (m ((c : Thread nD τ).loc main_arg6))⟩] concatenates_S2x32x5x1536_S2x32x3x1536_S2x32x8x1536_d2 : S2x32x8x1536.Idx → EReal) = q
  pointwise
  refine congrArg q (funext fun a => ?_)
  fin_cases a
  exacts [Fin.ext (by first | exact h0 | exact (Nat.zero_add _).trans h0), Fin.ext (by first | exact h1 | exact (Nat.zero_add _).trans h1), Fin.ext (by first | exact h2 | exact (Nat.zero_add _).trans h2), Fin.ext (by first | exact h3 | exact (Nat.zero_add _).symm.trans h3)]

theorem V_s (c : Dev nD) : V m c main_arg5 = m ((c : Thread nD τ).loc main_arg5) := by
  dsimp only [V]; after_results

/-! ## The blocks -/

variable (c : Dev nD) (t : Fin cfg0.N)

/-- The sample's number. -/
def smp : Fin 32 := ⟨t.val, lt32 t⟩

theorem X0_0_at (z : S16x1024.Idx) : ∃ y : (win0_0.rect t).shape.Idx, (y 0 : Nat) = z 0 ∧ (y 1 : Nat) = z 1
    ∧ (X0_0 m c t z : EReal) = V m c main_v5 ((win0_0.rect t).emb y) := by
  unfold X0_0 Pipeline.Window.fill
  rw [dif_pos (moved0_0 t _)]
  exact ⟨_, rfl, rfl, rfl⟩

theorem blk0 (p : Fin 16) (k : Fin 1024) : (X0_0 m c t (ix2 p k) : EReal) = (m ((c : Thread nD τ).loc main_arg0) : S32x16x8736.Idx → EReal) (ix3 (smp t) p (⟨4112 + k.val, by omega⟩ : Fin 8736)) := by
  obtain ⟨y, y0, y1, ey⟩ := X0_0_at m c t (ix2 p k)
  rw [ey]
  refine V_proj_apply m c _ (smp t) p (⟨k.val, by omega⟩ : Fin 1536) ?_ ?_
  · rw [emb0_0, y0]; rfl
  · rw [emb0_1, y1]; rfl

theorem blk1 (p : Fin 16) (k : Fin 512) : (iblk m c 1 t (ix2 p k) : EReal) = (m ((c : Thread nD τ).loc main_arg0) : S32x16x8736.Idx → EReal) (ix3 (smp t) p (⟨4112 + (1024 + k.val), by omega⟩ : Fin 8736)) :=
  V_proj_apply m c ((win0_1.rect t).emb (ix2 p k)) (smp t) p (⟨1024 + k.val, by omega⟩ : Fin 1536) (by rw [emb1_0]; rfl) (by rw [emb1_1]; show 16 * 512 + k.val = 7168 + (1024 + k.val); omega)

theorem blk2 (p : Fin 16) (k : Fin 16) : (iblk m c 2 t (ix2 p (⟨16 + k.val, by omega⟩ : Fin 128)) : EReal) = (m ((c : Thread nD τ).loc main_arg0) : S32x16x8736.Idx → EReal) (ix3 (smp t) p (⟨5648 + k.val, by omega⟩ : Fin 8736)) :=
  V_gates_apply m c ((win0_2.rect t).emb (ix2 p (⟨16 + k.val, by omega⟩ : Fin 128))) (smp t) p k (by rw [emb2_0]; rfl) (by rw [emb2_1]; show 0 * 128 + (16 + k.val) = 16 + k.val; omega)

theorem blk3 (p : Fin 16) (k : Fin 16) : (iblk m c 3 t (ix3 0 (⟨16 + k.val, by omega⟩ : Fin 32) p) : EReal) = (m ((c : Thread nD τ).loc main_arg0) : S32x16x8736.Idx → EReal) (ix3 (smp t) p (⟨5648 + k.val, by omega⟩ : Fin 8736)) :=
  V_rows_apply m c ((win0_3.rect t).emb (ix3 0 (⟨16 + k.val, by omega⟩ : Fin 32) p)) (smp t) p k (by rw [emb3_0]; show t.val * 1 + 0 = t.val; omega)
    (by rw [emb3_1]; show 0 * 32 + (16 + k.val) = 16 + k.val; omega) (by rw [emb3_2]; show 0 * 16 + p.val = p.val; omega)

theorem blk4 (j : Fin 4) (k : Fin 1024) : (iblk m c 4 t (ix3 0 j k) : EReal) = (m ((c : Thread nD τ).loc main_arg1) : S2x4x1536.Idx → EReal) (ix3 (0 : Fin 2) j (⟨k.val, by omega⟩ : Fin 1536)) :=
  (V_wx_apply m c ((win0_4.rect t).emb (ix3 0 j k))).trans (congrArg _ (funext fun a => by
    fin_cases a; exacts [Fin.ext (by show ((win0_4.rect t).emb (ix3 0 j k) 0 : Nat) = 0; rw [emb4_0]; first | done | (show 0 * 1 + 0 = 0; omega)), Fin.ext (by show ((win0_4.rect t).emb (ix3 0 j k) 1 : Nat) = j.val; rw [emb4_1]; first | done | (show 0 * 4 + j.val = j.val; omega)), Fin.ext (by show ((win0_4.rect t).emb (ix3 0 j k) 2 : Nat) = k.val; rw [emb4_2]; first | done | (show 0 * 1024 + k.val = k.val; omega))]))

theorem blk5 (j : Fin 4) (k : Fin 512) : (iblk m c 5 t (ix3 0 j k) : EReal) = (m ((c : Thread nD τ).loc main_arg1) : S2x4x1536.Idx → EReal) (ix3 (0 : Fin 2) j (⟨1024 + k.val, by omega⟩ : Fin 1536)) :=
  (V_wbc_apply m c ((win0_5.rect t).emb (ix3 0 j k))).trans (congrArg _ (funext fun a => by
    fin_cases a; exacts [Fin.ext (by show ((win0_5.rect t).emb (ix3 0 j k) 0 : Nat) = 0; rw [emb5_0]; first | done | (show 0 * 1 + 0 = 0; omega)), Fin.ext (by show ((win0_5.rect t).emb (ix3 0 j k) 1 : Nat) = j.val; rw [emb5_1]; first | done | (show 0 * 4 + j.val = j.val; omega)), Fin.ext (by show 1024 + ((win0_5.rect t).emb (ix3 0 j k) 2 : Nat) = 1024 + k.val; rw [emb5_2]; first | done | (show 1024 + (0 * 512 + k.val) = 1024 + k.val; omega))]))

theorem blk6 (k : Fin 1024) : (iblk m c 6 t (ix3 0 0 k) : EReal) = (m ((c : Thread nD τ).loc main_arg2) : S2x1536.Idx → EReal) (ix2 (0 : Fin 2) (⟨k.val, by omega⟩ : Fin 1536)) :=
  (V_bx_apply m c ((win0_6.rect t).emb (ix3 0 0 k))).trans (congrArg _ (funext fun a => by
    fin_cases a; exacts [Fin.ext (by show ((win0_6.rect t).emb (ix3 0 0 k) 0 : Nat) = 0; rw [emb6_0]; first | done | (show 0 * 1 + 0 = 0; omega)), Fin.ext (by show ((win0_6.rect t).emb (ix3 0 0 k) 2 : Nat) = k.val; rw [emb6_2]; first | done | (show 0 * 1024 + k.val = k.val; omega))]))

theorem blk7 (k : Fin 512) : (iblk m c 7 t (ix3 0 0 k) : EReal) = (m ((c : Thread nD τ).loc main_arg2) : S2x1536.Idx → EReal) (ix2 (0 : Fin 2) (⟨1024 + k.val, by omega⟩ : Fin 1536)) :=
  (V_bbc_apply m c ((win0_7.rect t).emb (ix3 0 0 k))).trans (congrArg _ (funext fun a => by
    fin_cases a; exacts [Fin.ext (by show ((win0_7.rect t).emb (ix3 0 0 k) 0 : Nat) = 0; rw [emb7_0]; first | done | (show 0 * 1 + 0 = 0; omega)), Fin.ext (by show 1024 + ((win0_7.rect t).emb (ix3 0 0 k) 2 : Nat) = 1024 + k.val; rw [emb7_2]; first | done | (show 1024 + (0 * 512 + k.val) = 1024 + k.val; omega))]))

theorem blk8 (k : Fin 16) : (iblk m c 8 t (ix3 0 0 k) : EReal) = (m ((c : Thread nD τ).loc main_arg3) : S2x16.Idx → EReal) (ix2 (0 : Fin 2) k) :=
  (V_alr_apply m c ((win0_8.rect t).emb (ix3 0 0 k))).trans (congrArg _ (funext fun a => by
    fin_cases a; exacts [Fin.ext (by show ((win0_8.rect t).emb (ix3 0 0 k) 0 : Nat) = 0; rw [emb8_0]; first | done | (show 0 * 1 + 0 = 0; omega)), Fin.ext (by show ((win0_8.rect t).emb (ix3 0 0 k) 2 : Nat) = k.val; rw [emb8_2]; first | done | (show 0 * 16 + k.val = k.val; omega))]))

theorem blk9 (k : Fin 16) : (iblk m c 9 t (ix3 0 k 0) : EReal) = (m ((c : Thread nD τ).loc main_arg3) : S2x16.Idx → EReal) (ix2 (0 : Fin 2) k) :=
  (V_alc_apply m c ((win0_9.rect t).emb (ix3 0 k 0))).trans (congrArg _ (funext fun a => by
    fin_cases a; exacts [Fin.ext (by show ((win0_9.rect t).emb (ix3 0 k 0) 0 : Nat) = 0; rw [emb9_0]; first | done | (show 0 * 1 + 0 = 0; omega)), Fin.ext (by show ((win0_9.rect t).emb (ix3 0 k 0) 1 : Nat) = k.val; rw [emb9_1]; first | done | (show 0 * 16 + k.val = k.val; omega))]))

theorem blk10 (h : Fin 16) (d : Fin 64) : (iblk m c 10 t (ix3 0 0 (⟨h.val * 64 + d.val, by omega⟩ : Fin 1024)) : EReal) = (m ((c : Thread nD τ).loc main_arg4) : S2x16.Idx → EReal) (ix2 (0 : Fin 2) h) :=
  V_skip_apply m c ((win0_10.rect t).emb (ix3 0 0 (⟨h.val * 64 + d.val, by omega⟩ : Fin 1024))) 0 h d (by rw [emb10_0]; rfl) (by rw [emb10_2]; show 0 * 1024 + (h.val * 64 + d.val) = _; omega)

theorem blk11 (j : Fin 3) (k : Fin 1024) : (iblk m c 11 t (ix4 0 0 (⟨5 + j.val, by omega⟩ : Fin 8) k) : EReal) = (m ((c : Thread nD τ).loc main_arg6) : S2x32x3x1536.Idx → EReal) (ix4 (0 : Fin 2) (smp t) j (⟨k.val, by omega⟩ : Fin 1536)) :=
  V_hx_apply m c ((win0_11.rect t).emb (ix4 0 0 (⟨5 + j.val, by omega⟩ : Fin 8) k)) 0 (smp t) j _ (by rw [emb11_0]; rfl) (by rw [emb11_1]; show t.val * 1 + 0 = t.val; omega)
    (by rw [emb11_2]; show 0 * 8 + (5 + j.val) = _; omega) (by rw [emb11_3]; show 0 + (0 * 1024 + k.val) = k.val; omega)

theorem blk12 (j : Fin 3) (k : Fin 512) : (iblk m c 12 t (ix4 0 0 (⟨5 + j.val, by omega⟩ : Fin 8) k) : EReal) = (m ((c : Thread nD τ).loc main_arg6) : S2x32x3x1536.Idx → EReal) (ix4 (0 : Fin 2) (smp t) j (⟨1024 + k.val, by omega⟩ : Fin 1536)) :=
  V_hbc_apply m c ((win0_12.rect t).emb (ix4 0 0 (⟨5 + j.val, by omega⟩ : Fin 8) k)) 0 (smp t) j _ (by rw [emb12_0]; rfl) (by rw [emb12_1]; show t.val * 1 + 0 = t.val; omega)
    (by rw [emb12_2]; show 0 * 8 + (5 + j.val) = _; omega) (by rw [emb12_3]; show 1024 + (0 * 512 + k.val) = 1024 + k.val; omega)

theorem blk13 (h : Fin 16) (p : Fin 64) (n : Fin 128) : (iblk m c 13 t (ix5 0 0 h p n) : EReal) = (m ((c : Thread nD τ).loc main_arg5) : S2x32x16x64x128.Idx → EReal) (ix5 (0 : Fin 2) (smp t) h p n) := by
  refine Eq.trans (congrFun (V_s m c) ((win0_13.rect t).emb (ix5 0 0 h p n))) (congrArg _ (funext fun a => ?_))
  fin_cases a
  exacts [Fin.ext ((emb13_0 t _).trans rfl), Fin.ext ((emb13_1 t _).trans (by show t.val * 1 + 0 = t.val; omega)), Fin.ext ((emb13_2 t _).trans (by show 0 * 16 + h.val = h.val; omega)),
    Fin.ext ((emb13_3 t _).trans (by show 0 * 64 + p.val = p.val; omega)), Fin.ext ((emb13_4 t _).trans (by show 0 * 128 + n.val = n.val; omega))]

end Cert.SsdIdeal.Loads

end
-- ==== Proof.SsdSpec.lean ====
module

public import proofs.«01_k».proof.Proof.TailSpec

@[expose] public section

noncomputable section

/-! The state-space recurrence over one block of sixteen rows, for one head and one of its channels. -/

namespace SsdSpec

open Idealize.ShloMosaic

/-- `log (1 + exp x)`, as both sides compute it. -/
def softplus (x : EReal) : EReal := max x 0 + Ideal.log1p (Ideal.exp (0 - FloatOps.absf (F := Ideal) (φ := .f32) x))

/-- Row `p` of the output: the block's rows up to `p` by the products of `C` with `B`, decayed from row to row, the state before the
    block, decayed, and the channel's own share. `m` is the causal mask. -/
def rowOf (C B : Fin 16 → Fin 128 → EReal) (m : Fin 16 → Fin 16 → BitVec 1) (A R D X : Fin 16 → EReal) (S : Fin 128 → EReal) (k : EReal)
    (p : Fin 16) : EReal :=
  ∑ x, (∑ n, C p n * B x n) * (Ideal.exp (Scalar.select (m p x) (A p - R x) (Ideal.ofBits .f32 0xFF800000#32)) * D x) * X x
    + Ideal.exp (A p) * ∑ n, C p n * S n + k * X p

/-- The state after the block. -/
def stateOf (B A D X : Fin 16 → EReal) (s : EReal) : EReal :=
  Ideal.exp (A 15) * s + ∑ x, X x * (Ideal.exp (A 15 - A x) * D x) * B x

/-- The sum of the rows up to `p`, by the mask's numbers. -/
def upTo (m : Fin 16 → Fin 16 → EReal) (d : Fin 16 → EReal) (p : Fin 16) : EReal := ∑ x, m p x * d x

/-- The convolution of width four over rows that begin three before the block, in the silu. -/
def convAct (u : Nat → EReal) (w : Fin 4 → EReal) (b : EReal) (p : Nat) : EReal :=
  TailSpec.silu ((((b + u p * w 0) + u (p + 1) * w 1) + u (p + 2) * w 2) + u (p + 3) * w 3)

/-- The causal mask. -/
def mask (p x : Fin 16) : BitVec 1 := IntOp.cmpi .sge (BitVec.ofNat 32 p.val) (BitVec.ofNat 32 x.val)

/-- The mask as a number. -/
def num (b : BitVec 1) : EReal := FloatOps.sitofp (F := Ideal) .f32 (BitVec.setWidth 32 b)

section
variable (h : (⟨3, ![32, 16, 8736]⟩ : Shape).Idx → EReal) (cw : (⟨3, ![2, 4, 1536]⟩ : Shape).Idx → EReal) (cb : (⟨2, ![2, 1536]⟩ : Shape).Idx → EReal)
  (al sk : (⟨2, ![2, 16]⟩ : Shape).Idx → EReal) (s : (⟨5, ![2, 32, 16, 64, 128]⟩ : Shape).Idx → EReal) (sc : (⟨4, ![2, 32, 3, 1536]⟩ : Shape).Idx → EReal)

/-- Column `k` of the rows the convolution reads for sample `b`: the three carried rows, then the sample's own. -/
def xrow (b : Fin 32) (k : Fin 1536) (n : Nat) : EReal :=
  if hn : n < 3 then sc (ix4 (0 : Fin 2) b ⟨n, hn⟩ k) else if hm : n - 3 < 16 then h (ix3 b ⟨n - 3, hm⟩ (⟨4112 + k.val, by omega⟩ : Fin 8736)) else 0

/-- The convolution's output at row `p`, activated. -/
def act (b : Fin 32) (p : Fin 16) (k : Fin 1536) : EReal := convAct (xrow h sc b k) (fun j => cw (ix3 (0 : Fin 2) j k)) (cb (ix2 (0 : Fin 2) k)) p.val

/-- The step size of a head at row `p`. -/
def dtv (b : Fin 32) (p hd : Fin 16) : EReal := softplus (h (ix3 b p (⟨5648 + hd.val, by omega⟩ : Fin 8736)))

/-- The log of a head's decay up to row `p`. -/
def cum (b : Fin 32) (hd p : Fin 16) : EReal := ∑ x : Fin 16, num (mask p x) * (dtv h b x hd * (0 - Ideal.exp (al (ix2 (0 : Fin 2) hd))))

/-- The columns that hold a head's `B`, `C` and channels. -/
def bCol (hd : Fin 16) (n : Fin 128) : Fin 1536 := ⟨1024 + (hd.val / 8 * 128 + n.val), by omega⟩
def cCol (hd : Fin 16) (n : Fin 128) : Fin 1536 := ⟨1024 + (256 + hd.val / 8 * 128 + n.val), by omega⟩
def xCol (hd : Fin 16) (d : Fin 64) : Fin 1536 := ⟨hd.val * 64 + d.val, by omega⟩

/-- A head's output at row `p`, channel `d`. -/
def yOf (b : Fin 32) (hd : Fin 16) (d : Fin 64) (p : Fin 16) : EReal :=
  rowOf (fun r n => act h cw cb sc b r (cCol hd n)) (fun r n => act h cw cb sc b r (bCol hd n)) mask (cum h al b hd) (cum h al b hd)
    (fun r => dtv h b r hd) (fun r => act h cw cb sc b r (xCol hd d)) (fun n => s (ix5 (0 : Fin 2) b hd d n)) (sk (ix2 (0 : Fin 2) hd)) p

/-- A head's state after the block. -/
def sOf (b : Fin 32) (hd : Fin 16) (d : Fin 64) (n : Fin 128) : EReal :=
  stateOf (fun r => act h cw cb sc b r (bCol hd n)) (cum h al b hd) (fun r => dtv h b r hd) (fun r => act h cw cb sc b r (xCol hd d))
    (s (ix5 (0 : Fin 2) b hd d n))

end

theorem convAct_congr {u u' : Nat → EReal} {w w' : Fin 4 → EReal} {b b' : EReal} (hu : ∀ n, u n = u' n) (hw : ∀ j, w j = w' j) (hb : b = b') (p : Nat) :
    convAct u w b p = convAct u' w' b' p := by rw [funext hu, funext hw, hb]

theorem rowOf_congr {C C' B B' : Fin 16 → Fin 128 → EReal} {m m' : Fin 16 → Fin 16 → BitVec 1} {A A' R R' D D' X X' : Fin 16 → EReal} {S S' : Fin 128 → EReal} {k k' : EReal}
    (hC : ∀ r n, C r n = C' r n) (hB : ∀ r n, B r n = B' r n) (hm : ∀ r x, m r x = m' r x) (hA : ∀ r, A r = A' r) (hR : ∀ r, R r = R' r) (hD : ∀ r, D r = D' r)
    (hX : ∀ r, X r = X' r) (hS : ∀ n, S n = S' n) (hk : k = k') (p : Fin 16) : rowOf C B m A R D X S k p = rowOf C' B' m' A' R' D' X' S' k' p := by
  rw [funext fun r => funext (hC r), funext fun r => funext (hB r), funext fun r => funext (hm r), funext hA, funext hR, funext hD, funext hX, funext hS, hk]

theorem stateOf_congr {B B' A A' D D' X X' : Fin 16 → EReal} {s s' : EReal} (hB : ∀ r, B r = B' r) (hA : ∀ r, A r = A' r) (hD : ∀ r, D r = D' r)
    (hX : ∀ r, X r = X' r) (hs : s = s') : stateOf B A D X s = stateOf B' A' D' X' s' := by
  rw [funext hB, funext hA, funext hD, funext hX, hs]

end SsdSpec

end
-- ==== Proof.SsdHeads.lean ====
module

public import proofs.«01_k».proof.Proof.SsdSpec
public import proofs.«01_k».proof.Proof.Gen.SsdIdeal.Skeleton

@[expose] public section

set_option maxRecDepth 16384

noncomputable section

/-! Each head's two stored values, as the recurrence over the block: what the head adds to the block's rows, and the state it leaves. -/

namespace Cert.SsdIdeal.Heads

open Cert.SsdIdeal Cert.SsdIdeal.Gen Idealize.ShloMosaic Idealize.ShloMosaic.TcCoe
open SsdSpec

theorem y0 (v59 : FVec Ideal S16x1024 .f32) (v112 : FVec Ideal S16x512 .f32) (v131 : IVec S16x16 1) (v132 : IVec S16x16 1) (v142 : FVec Ideal S16x16 .f32) (v152 : FVec Ideal S16x16 .f32) (v153 : Vec Ideal S1x1x16 .f32) (v163 : Vec Ideal S1x16x1 .f32) (v189 : Vec Ideal S1x1x64x128 .f32) (v203 : Vec Ideal S1x1x64 .f32) (p : Fin 16) (k : Fin 64) :
    (k0_pay33 (F := Ideal) (k0_pay26 v112) (k0_pay29 v59) (k0_pay30 v189) (k0_pay31 v59 v112 v131 v132 v142 v152 v153 v163) (k0_pay32 v131 v142 v153) v203 (ix2 p k) : EReal)
      = rowOf (fun r n => v112 (ix2 r (⟨256 + n.val, by omega⟩ : Fin 512))) (fun r n => v112 (ix2 r (⟨0 + n.val, by omega⟩ : Fin 512)))
          (fun r x => v131 (ix2 r x)) (fun r => (k0_pay23 (F := Ideal) v131 v142 v153) (ix2 r 0)) (fun r => (k0_pay24 (F := Ideal) v132 v152 v163) (ix2 0 r)) (fun r => v152 (ix2 0 r))
          (fun r => v59 (ix2 r (⟨0 + k.val, by omega⟩ : Fin 1024))) (fun n => v189 (ix4 0 0 k n)) (v203 (ix3 0 0 k)) p := by
  unfold rowOf
  pointwise [k0_pay23, k0_pay24, k0_pay25, k0_pay26, k0_pay27, k0_pay28, k0_pay29, k0_pay30, k0_pay31, k0_pay32, k0_pay33]

theorem s0 (v59 : FVec Ideal S16x1024 .f32) (v112 : FVec Ideal S16x512 .f32) (v131 : IVec S16x16 1) (v142 : FVec Ideal S16x16 .f32) (v153 : Vec Ideal S1x1x16 .f32) (v189 : Vec Ideal S1x1x64x128 .f32) (p : Fin 64) (k : Fin 128) :
    (k0_pay34 (F := Ideal) v142 (k0_pay23 v131 v142 v153) (k0_pay25 v112) (k0_pay28 v131 v142 v153) (k0_pay29 v59) (k0_pay30 v189) (ix4 0 0 p k) : EReal)
      = stateOf (fun r => v112 (ix2 r (⟨0 + k.val, by omega⟩ : Fin 512))) (fun r => (k0_pay23 (F := Ideal) v131 v142 v153) (ix2 r 0)) (fun r => v142 (ix2 r 0))
          (fun r => v59 (ix2 r (⟨0 + p.val, by omega⟩ : Fin 1024))) (v189 (ix4 0 0 p k)) := by
  unfold stateOf
  pointwise [k0_pay23, k0_pay24, k0_pay25, k0_pay28, k0_pay29, k0_pay30, k0_pay34]

theorem y1 (v59 : FVec Ideal S16x1024 .f32) (v112 : FVec Ideal S16x512 .f32) (v131 : IVec S16x16 1) (v152 : FVec Ideal S16x16 .f32) (v162 : FVec Ideal S16x16 .f32) (v172 : FVec Ideal S16x16 .f32) (v237 : Vec Ideal S1x1x64x128 .f32) (v251 : Vec Ideal S1x1x64 .f32) (p : Fin 16) (k : Fin 64) :
    (k0_pay40 (F := Ideal) (k0_pay26 v112) (k0_pay27 v112) (k0_pay35 v162) (k0_pay36 v131 v162 v172) (k0_pay37 v59) (k0_pay38 v237) (k0_pay39 v152) v251 (ix2 p k) : EReal)
      = rowOf (fun r n => v112 (ix2 r (⟨256 + n.val, by omega⟩ : Fin 512))) (fun r n => v112 (ix2 r (⟨0 + n.val, by omega⟩ : Fin 512)))
          (fun r x => v131 (ix2 r x)) (fun r => v162 (ix2 r 1)) (fun r => v172 (ix2 1 r)) (fun r => v152 (ix2 1 r))
          (fun r => v59 (ix2 r (⟨64 + k.val, by omega⟩ : Fin 1024))) (fun n => v237 (ix4 0 0 k n)) (v251 (ix3 0 0 k)) p := by
  unfold rowOf
  pointwise [k0_pay25, k0_pay26, k0_pay27, k0_pay35, k0_pay36, k0_pay37, k0_pay38, k0_pay39, k0_pay40]

theorem s1 (v59 : FVec Ideal S16x1024 .f32) (v112 : FVec Ideal S16x512 .f32) (v142 : FVec Ideal S16x16 .f32) (v162 : FVec Ideal S16x16 .f32) (v237 : Vec Ideal S1x1x64x128 .f32) (p : Fin 64) (k : Fin 128) :
    (k0_pay41 (F := Ideal) v142 v162 (k0_pay25 v112) (k0_pay35 v162) (k0_pay37 v59) (k0_pay38 v237) (ix4 0 0 p k) : EReal)
      = stateOf (fun r => v112 (ix2 r (⟨0 + k.val, by omega⟩ : Fin 512))) (fun r => v162 (ix2 r 1)) (fun r => v142 (ix2 r 1))
          (fun r => v59 (ix2 r (⟨64 + p.val, by omega⟩ : Fin 1024))) (v237 (ix4 0 0 p k)) := by
  unfold stateOf
  pointwise [k0_pay25, k0_pay35, k0_pay37, k0_pay38, k0_pay41]

theorem y2 (v59 : FVec Ideal S16x1024 .f32) (v112 : FVec Ideal S16x512 .f32) (v131 : IVec S16x16 1) (v152 : FVec Ideal S16x16 .f32) (v162 : FVec Ideal S16x16 .f32) (v172 : FVec Ideal S16x16 .f32) (v285 : Vec Ideal S1x1x64x128 .f32) (v299 : Vec Ideal S1x1x64 .f32) (p : Fin 16) (k : Fin 64) :
    (k0_pay46 (F := Ideal) v152 (k0_pay26 v112) (k0_pay27 v112) (k0_pay42 v162) (k0_pay43 v131 v162 v172) (k0_pay44 v59) v285 v299 (ix2 p k) : EReal)
      = rowOf (fun r n => v112 (ix2 r (⟨256 + n.val, by omega⟩ : Fin 512))) (fun r n => v112 (ix2 r (⟨0 + n.val, by omega⟩ : Fin 512)))
          (fun r x => v131 (ix2 r x)) (fun r => v162 (ix2 r 2)) (fun r => v172 (ix2 2 r)) (fun r => v152 (ix2 2 r))
          (fun r => v59 (ix2 r (⟨128 + k.val, by omega⟩ : Fin 1024))) (fun n => v285 (ix4 0 0 k n)) (v299 (ix3 0 0 k)) p := by
  unfold rowOf
  pointwise [k0_pay25, k0_pay26, k0_pay27, k0_pay42, k0_pay43, k0_pay44, k0_pay45, k0_pay46]

theorem s2 (v59 : FVec Ideal S16x1024 .f32) (v112 : FVec Ideal S16x512 .f32) (v142 : FVec Ideal S16x16 .f32) (v162 : FVec Ideal S16x16 .f32) (v285 : Vec Ideal S1x1x64x128 .f32) (p : Fin 64) (k : Fin 128) :
    (k0_pay47 (F := Ideal) v142 v162 (k0_pay25 v112) (k0_pay42 v162) (k0_pay44 v59) v285 (ix4 0 0 p k) : EReal)
      = stateOf (fun r => v112 (ix2 r (⟨0 + k.val, by omega⟩ : Fin 512))) (fun r => v162 (ix2 r 2)) (fun r => v142 (ix2 r 2))
          (fun r => v59 (ix2 r (⟨128 + p.val, by omega⟩ : Fin 1024))) (v285 (ix4 0 0 p k)) := by
  unfold stateOf
  pointwise [k0_pay25, k0_pay42, k0_pay44, k0_pay45, k0_pay47]

theorem y3 (v59 : FVec Ideal S16x1024 .f32) (v112 : FVec Ideal S16x512 .f32) (v131 : IVec S16x16 1) (v152 : FVec Ideal S16x16 .f32) (v162 : FVec Ideal S16x16 .f32) (v172 : FVec Ideal S16x16 .f32) (v333 : Vec Ideal S1x1x64x128 .f32) (v347 : Vec Ideal S1x1x64 .f32) (p : Fin 16) (k : Fin 64) :
    (k0_pay53 (F := Ideal) v59 v131 v152 (k0_pay26 v112) (k0_pay27 v112) (k0_pay48 v162) (k0_pay49 v162) (k0_pay50 v172) v333 v347 (ix2 p k) : EReal)
      = rowOf (fun r n => v112 (ix2 r (⟨256 + n.val, by omega⟩ : Fin 512))) (fun r n => v112 (ix2 r (⟨0 + n.val, by omega⟩ : Fin 512)))
          (fun r x => v131 (ix2 r x)) (fun r => v162 (ix2 r 3)) (fun r => v172 (ix2 3 r)) (fun r => v152 (ix2 3 r))
          (fun r => v59 (ix2 r (⟨192 + k.val, by omega⟩ : Fin 1024))) (fun n => v333 (ix4 0 0 k n)) (v347 (ix3 0 0 k)) p := by
  unfold rowOf
  pointwise [k0_pay25, k0_pay26, k0_pay27, k0_pay48, k0_pay49, k0_pay50, k0_pay51, k0_pay52, k0_pay53]

theorem s3 (v59 : FVec Ideal S16x1024 .f32) (v112 : FVec Ideal S16x512 .f32) (v142 : FVec Ideal S16x16 .f32) (v162 : FVec Ideal S16x16 .f32) (v333 : Vec Ideal S1x1x64x128 .f32) (p : Fin 64) (k : Fin 128) :
    (k0_pay54 (F := Ideal) v59 v142 v162 (k0_pay25 v112) (k0_pay48 v162) v333 (ix4 0 0 p k) : EReal)
      = stateOf (fun r => v112 (ix2 r (⟨0 + k.val, by omega⟩ : Fin 512))) (fun r => v162 (ix2 r 3)) (fun r => v142 (ix2 r 3))
          (fun r => v59 (ix2 r (⟨192 + p.val, by omega⟩ : Fin 1024))) (v333 (ix4 0 0 p k)) := by
  unfold stateOf
  pointwise [k0_pay25, k0_pay48, k0_pay51, k0_pay52, k0_pay54]

theorem y4 (v59 : FVec Ideal S16x1024 .f32) (v112 : FVec Ideal S16x512 .f32) (v131 : IVec S16x16 1) (v152 : FVec Ideal S16x16 .f32) (v162 : FVec Ideal S16x16 .f32) (v172 : FVec Ideal S16x16 .f32) (v381 : Vec Ideal S1x1x64x128 .f32) (v395 : Vec Ideal S1x1x64 .f32) (p : Fin 16) (k : Fin 64) :
    (k0_pay58 (F := Ideal) v59 v131 v152 v162 v172 (k0_pay26 v112) (k0_pay27 v112) v381 v395 (ix2 p k) : EReal)
      = rowOf (fun r n => v112 (ix2 r (⟨256 + n.val, by omega⟩ : Fin 512))) (fun r n => v112 (ix2 r (⟨0 + n.val, by omega⟩ : Fin 512)))
          (fun r x => v131 (ix2 r x)) (fun r => v162 (ix2 r 4)) (fun r => v172 (ix2 4 r)) (fun r => v152 (ix2 4 r))
          (fun r => v59 (ix2 r (⟨256 + k.val, by omega⟩ : Fin 1024))) (fun n => v381 (ix4 0 0 k n)) (v395 (ix3 0 0 k)) p := by
  unfold rowOf
  pointwise [k0_pay25, k0_pay26, k0_pay27, k0_pay55, k0_pay56, k0_pay57, k0_pay58]

theorem s4 (v59 : FVec Ideal S16x1024 .f32) (v112 : FVec Ideal S16x512 .f32) (v142 : FVec Ideal S16x16 .f32) (v162 : FVec Ideal S16x16 .f32) (v381 : Vec Ideal S1x1x64x128 .f32) (p : Fin 64) (k : Fin 128) :
    (k0_pay60 (F := Ideal) (k0_pay59 v59 v142 v162 (k0_pay25 v112) v381) (ix4 0 0 p k) : EReal)
      = stateOf (fun r => v112 (ix2 r (⟨0 + k.val, by omega⟩ : Fin 512))) (fun r => v162 (ix2 r 4)) (fun r => v142 (ix2 r 4))
          (fun r => v59 (ix2 r (⟨256 + p.val, by omega⟩ : Fin 1024))) (v381 (ix4 0 0 p k)) := by
  unfold stateOf
  pointwise [k0_pay25, k0_pay55, k0_pay56, k0_pay57, k0_pay59, k0_pay60]

theorem y5 (v59 : FVec Ideal S16x1024 .f32) (v112 : FVec Ideal S16x512 .f32) (v131 : IVec S16x16 1) (v152 : FVec Ideal S16x16 .f32) (v162 : FVec Ideal S16x16 .f32) (v172 : FVec Ideal S16x16 .f32) (v429 : Vec Ideal S1x1x64x128 .f32) (v443 : Vec Ideal S1x1x64 .f32) (p : Fin 16) (k : Fin 64) :
    (k0_pay64 (F := Ideal) v59 v131 v152 v162 v172 (k0_pay26 v112) (k0_pay27 v112) v429 v443 (ix2 p k) : EReal)
      = rowOf (fun r n => v112 (ix2 r (⟨256 + n.val, by omega⟩ : Fin 512))) (fun r n => v112 (ix2 r (⟨0 + n.val, by omega⟩ : Fin 512)))
          (fun r x => v131 (ix2 r x)) (fun r => v162 (ix2 r 5)) (fun r => v172 (ix2 5 r)) (fun r => v152 (ix2 5 r))
          (fun r => v59 (ix2 r (⟨320 + k.val, by omega⟩ : Fin 1024))) (fun n => v429 (ix4 0 0 k n)) (v443 (ix3 0 0 k)) p := by
  unfold rowOf
  pointwise [k0_pay25, k0_pay26, k0_pay27, k0_pay61, k0_pay62, k0_pay63, k0_pay64]

theorem s5 (v59 : FVec Ideal S16x1024 .f32) (v112 : FVec Ideal S16x512 .f32) (v142 : FVec Ideal S16x16 .f32) (v162 : FVec Ideal S16x16 .f32) (v429 : Vec Ideal S1x1x64x128 .f32) (p : Fin 64) (k : Fin 128) :
    (k0_pay68 (F := Ideal) (k0_pay25 v112) (k0_pay62 v59) (k0_pay63 v429) (k0_pay66 v142 v162) (k0_pay67 v162) (ix4 0 0 p k) : EReal)
      = stateOf (fun r => v112 (ix2 r (⟨0 + k.val, by omega⟩ : Fin 512))) (fun r => v162 (ix2 r 5)) (fun r => v142 (ix2 r 5))
          (fun r => v59 (ix2 r (⟨320 + p.val, by omega⟩ : Fin 1024))) (v429 (ix4 0 0 p k)) := by
  unfold stateOf
  pointwise [k0_pay25, k0_pay61, k0_pay62, k0_pay63, k0_pay65, k0_pay66, k0_pay67, k0_pay68]

theorem y6 (v59 : FVec Ideal S16x1024 .f32) (v112 : FVec Ideal S16x512 .f32) (v131 : IVec S16x16 1) (v152 : FVec Ideal S16x16 .f32) (v162 : FVec Ideal S16x16 .f32) (v172 : FVec Ideal S16x16 .f32) (v477 : Vec Ideal S1x1x64x128 .f32) (v491 : Vec Ideal S1x1x64 .f32) (p : Fin 16) (k : Fin 64) :
    (k0_pay72 (F := Ideal) v59 v131 v152 v162 v172 (k0_pay26 v112) (k0_pay27 v112) v477 v491 (ix2 p k) : EReal)
      = rowOf (fun r n => v112 (ix2 r (⟨256 + n.val, by omega⟩ : Fin 512))) (fun r n => v112 (ix2 r (⟨0 + n.val, by omega⟩ : Fin 512)))
          (fun r x => v131 (ix2 r x)) (fun r => v162 (ix2 r 6)) (fun r => v172 (ix2 6 r)) (fun r => v152 (ix2 6 r))
          (fun r => v59 (ix2 r (⟨384 + k.val, by omega⟩ : Fin 1024))) (fun n => v477 (ix4 0 0 k n)) (v491 (ix3 0 0 k)) p := by
  unfold rowOf
  pointwise [k0_pay25, k0_pay26, k0_pay27, k0_pay69, k0_pay70, k0_pay71, k0_pay72]

theorem s6 (v59 : FVec Ideal S16x1024 .f32) (v112 : FVec Ideal S16x512 .f32) (v142 : FVec Ideal S16x16 .f32) (v162 : FVec Ideal S16x16 .f32) (v477 : Vec Ideal S1x1x64x128 .f32) (p : Fin 64) (k : Fin 128) :
    (k0_pay74 (F := Ideal) v142 (k0_pay25 v112) (k0_pay69 v162) (k0_pay70 v59) (k0_pay71 v477) (k0_pay73 v162) (ix4 0 0 p k) : EReal)
      = stateOf (fun r => v112 (ix2 r (⟨0 + k.val, by omega⟩ : Fin 512))) (fun r => v162 (ix2 r 6)) (fun r => v142 (ix2 r 6))
          (fun r => v59 (ix2 r (⟨384 + p.val, by omega⟩ : Fin 1024))) (v477 (ix4 0 0 p k)) := by
  unfold stateOf
  pointwise [k0_pay25, k0_pay69, k0_pay70, k0_pay71, k0_pay73, k0_pay74]

theorem y7 (v59 : FVec Ideal S16x1024 .f32) (v112 : FVec Ideal S16x512 .f32) (v131 : IVec S16x16 1) (v152 : FVec Ideal S16x16 .f32) (v162 : FVec Ideal S16x16 .f32) (v172 : FVec Ideal S16x16 .f32) (v525 : Vec Ideal S1x1x64x128 .f32) (v539 : Vec Ideal S1x1x64 .f32) (p : Fin 16) (k : Fin 64) :
    (k0_pay80 (F := Ideal) (k0_pay76 v59) (k0_pay78 v59 v131 v152 v162 v172 (k0_pay26 v112) (k0_pay27 v112) v525) (k0_pay79 v539) (ix2 p k) : EReal)
      = rowOf (fun r n => v112 (ix2 r (⟨256 + n.val, by omega⟩ : Fin 512))) (fun r n => v112 (ix2 r (⟨0 + n.val, by omega⟩ : Fin 512)))
          (fun r x => v131 (ix2 r x)) (fun r => v162 (ix2 r 7)) (fun r => v172 (ix2 7 r)) (fun r => v152 (ix2 7 r))
          (fun r => v59 (ix2 r (⟨448 + k.val, by omega⟩ : Fin 1024))) (fun n => v525 (ix4 0 0 k n)) (v539 (ix3 0 0 k)) p := by
  unfold rowOf
  pointwise [k0_pay25, k0_pay26, k0_pay27, k0_pay75, k0_pay76, k0_pay77, k0_pay78, k0_pay79, k0_pay80]

theorem s7 (v59 : FVec Ideal S16x1024 .f32) (v112 : FVec Ideal S16x512 .f32) (v142 : FVec Ideal S16x16 .f32) (v162 : FVec Ideal S16x16 .f32) (v525 : Vec Ideal S1x1x64x128 .f32) (p : Fin 64) (k : Fin 128) :
    (k0_pay81 (F := Ideal) v142 v162 (k0_pay25 v112) (k0_pay75 v162) (k0_pay76 v59) (k0_pay77 v525) (ix4 0 0 p k) : EReal)
      = stateOf (fun r => v112 (ix2 r (⟨0 + k.val, by omega⟩ : Fin 512))) (fun r => v162 (ix2 r 7)) (fun r => v142 (ix2 r 7))
          (fun r => v59 (ix2 r (⟨448 + p.val, by omega⟩ : Fin 1024))) (v525 (ix4 0 0 p k)) := by
  unfold stateOf
  pointwise [k0_pay25, k0_pay75, k0_pay76, k0_pay77, k0_pay81]

theorem y8 (v59 : FVec Ideal S16x1024 .f32) (v112 : FVec Ideal S16x512 .f32) (v131 : IVec S16x16 1) (v152 : FVec Ideal S16x16 .f32) (v162 : FVec Ideal S16x16 .f32) (v172 : FVec Ideal S16x16 .f32) (v578 : Vec Ideal S1x1x64x128 .f32) (v592 : Vec Ideal S1x1x64 .f32) (p : Fin 16) (k : Fin 64) :
    (k0_pay90 (F := Ideal) (k0_pay83 v112) (k0_pay85 v162) (k0_pay86 v59) (k0_pay87 v578) (k0_pay88 v112 v131 v152 v162 v172) (k0_pay89 v59) (constant S16x64 .f32 0x00000000#32) v592 (ix2 p k) : EReal)
      = rowOf (fun r n => v112 (ix2 r (⟨384 + n.val, by omega⟩ : Fin 512))) (fun r n => v112 (ix2 r (⟨128 + n.val, by omega⟩ : Fin 512)))
          (fun r x => v131 (ix2 r x)) (fun r => v162 (ix2 r 8)) (fun r => v172 (ix2 8 r)) (fun r => v152 (ix2 8 r))
          (fun r => v59 (ix2 r (⟨512 + k.val, by omega⟩ : Fin 1024))) (fun n => v578 (ix4 0 0 k n)) (v592 (ix3 0 0 k)) p := by
  unfold rowOf
  pointwise [k0_pay82, k0_pay83, k0_pay84, k0_pay85, k0_pay86, k0_pay87, k0_pay88, k0_pay89, k0_pay90]

theorem s8 (v59 : FVec Ideal S16x1024 .f32) (v112 : FVec Ideal S16x512 .f32) (v142 : FVec Ideal S16x16 .f32) (v162 : FVec Ideal S16x16 .f32) (v578 : Vec Ideal S1x1x64x128 .f32) (p : Fin 64) (k : Fin 128) :
    (k0_pay91 (F := Ideal) v142 v162 (k0_pay82 v112) (k0_pay85 v162) (k0_pay86 v59) (k0_pay87 v578) (ix4 0 0 p k) : EReal)
      = stateOf (fun r => v112 (ix2 r (⟨128 + k.val, by omega⟩ : Fin 512))) (fun r => v162 (ix2 r 8)) (fun r => v142 (ix2 r 8))
          (fun r => v59 (ix2 r (⟨512 + p.val, by omega⟩ : Fin 1024))) (v578 (ix4 0 0 p k)) := by
  unfold stateOf
  pointwise [k0_pay82, k0_pay85, k0_pay86, k0_pay87, k0_pay91]

theorem y9 (v59 : FVec Ideal S16x1024 .f32) (v112 : FVec Ideal S16x512 .f32) (v131 : IVec S16x16 1) (v152 : FVec Ideal S16x16 .f32) (v162 : FVec Ideal S16x16 .f32) (v172 : FVec Ideal S16x16 .f32) (v626 : Vec Ideal S1x1x64x128 .f32) (v640 : Vec Ideal S1x1x64 .f32) (p : Fin 16) (k : Fin 64) :
    (k0_pay96 (F := Ideal) v152 (k0_pay83 v112) (k0_pay84 v112) (k0_pay92 v162) (k0_pay93 v131 v162 v172) (k0_pay94 v59) (k0_pay95 v626) v640 (ix2 p k) : EReal)
      = rowOf (fun r n => v112 (ix2 r (⟨384 + n.val, by omega⟩ : Fin 512))) (fun r n => v112 (ix2 r (⟨128 + n.val, by omega⟩ : Fin 512)))
          (fun r x => v131 (ix2 r x)) (fun r => v162 (ix2 r 9)) (fun r => v172 (ix2 9 r)) (fun r => v152 (ix2 9 r))
          (fun r => v59 (ix2 r (⟨576 + k.val, by omega⟩ : Fin 1024))) (fun n => v626 (ix4 0 0 k n)) (v640 (ix3 0 0 k)) p := by
  unfold rowOf
  pointwise [k0_pay82, k0_pay83, k0_pay84, k0_pay92, k0_pay93, k0_pay94, k0_pay95, k0_pay96]

theorem s9 (v59 : FVec Ideal S16x1024 .f32) (v112 : FVec Ideal S16x512 .f32) (v142 : FVec Ideal S16x16 .f32) (v162 : FVec Ideal S16x16 .f32) (v626 : Vec Ideal S1x1x64x128 .f32) (p : Fin 64) (k : Fin 128) :
    (k0_pay97 (F := Ideal) v142 v162 (k0_pay82 v112) (k0_pay92 v162) (k0_pay94 v59) (k0_pay95 v626) (ix4 0 0 p k) : EReal)
      = stateOf (fun r => v112 (ix2 r (⟨128 + k.val, by omega⟩ : Fin 512))) (fun r => v162 (ix2 r 9)) (fun r => v142 (ix2 r 9))
          (fun r => v59 (ix2 r (⟨576 + p.val, by omega⟩ : Fin 1024))) (v626 (ix4 0 0 p k)) := by
  unfold stateOf
  pointwise [k0_pay82, k0_pay92, k0_pay94, k0_pay95, k0_pay97]

theorem y10 (v59 : FVec Ideal S16x1024 .f32) (v112 : FVec Ideal S16x512 .f32) (v131 : IVec S16x16 1) (v152 : FVec Ideal S16x16 .f32) (v162 : FVec Ideal S16x16 .f32) (v172 : FVec Ideal S16x16 .f32) (v674 : Vec Ideal S1x1x64x128 .f32) (v688 : Vec Ideal S1x1x64 .f32) (p : Fin 16) (k : Fin 64) :
    (k0_pay102 (F := Ideal) v59 v152 (k0_pay83 v112) (k0_pay84 v112) (k0_pay98 v162) (k0_pay99 v131 v162 v172) v674 v688 (ix2 p k) : EReal)
      = rowOf (fun r n => v112 (ix2 r (⟨384 + n.val, by omega⟩ : Fin 512))) (fun r n => v112 (ix2 r (⟨128 + n.val, by omega⟩ : Fin 512)))
          (fun r x => v131 (ix2 r x)) (fun r => v162 (ix2 r 10)) (fun r => v172 (ix2 10 r)) (fun r => v152 (ix2 10 r))
          (fun r => v59 (ix2 r (⟨640 + k.val, by omega⟩ : Fin 1024))) (fun n => v674 (ix4 0 0 k n)) (v688 (ix3 0 0 k)) p := by
  unfold rowOf
  pointwise [k0_pay82, k0_pay83, k0_pay84, k0_pay98, k0_pay99, k0_pay100, k0_pay101, k0_pay102]

theorem s10 (v59 : FVec Ideal S16x1024 .f32) (v112 : FVec Ideal S16x512 .f32) (v142 : FVec Ideal S16x16 .f32) (v162 : FVec Ideal S16x16 .f32) (v674 : Vec Ideal S1x1x64x128 .f32) (p : Fin 64) (k : Fin 128) :
    (k0_pay103 (F := Ideal) v59 v142 v162 (k0_pay82 v112) (k0_pay98 v162) v674 (ix4 0 0 p k) : EReal)
      = stateOf (fun r => v112 (ix2 r (⟨128 + k.val, by omega⟩ : Fin 512))) (fun r => v162 (ix2 r 10)) (fun r => v142 (ix2 r 10))
          (fun r => v59 (ix2 r (⟨640 + p.val, by omega⟩ : Fin 1024))) (v674 (ix4 0 0 p k)) := by
  unfold stateOf
  pointwise [k0_pay82, k0_pay98, k0_pay100, k0_pay101, k0_pay103]

theorem y11 (v59 : FVec Ideal S16x1024 .f32) (v112 : FVec Ideal S16x512 .f32) (v131 : IVec S16x16 1) (v152 : FVec Ideal S16x16 .f32) (v162 : FVec Ideal S16x16 .f32) (v172 : FVec Ideal S16x16 .f32) (v722 : Vec Ideal S1x1x64x128 .f32) (v736 : Vec Ideal S1x1x64 .f32) (p : Fin 16) (k : Fin 64) :
    (k0_pay108 (F := Ideal) v59 v131 v152 v172 (k0_pay83 v112) (k0_pay84 v112) (k0_pay104 v162) (k0_pay105 v162) v722 v736 (ix2 p k) : EReal)
      = rowOf (fun r n => v112 (ix2 r (⟨384 + n.val, by omega⟩ : Fin 512))) (fun r n => v112 (ix2 r (⟨128 + n.val, by omega⟩ : Fin 512)))
          (fun r x => v131 (ix2 r x)) (fun r => v162 (ix2 r 11)) (fun r => v172 (ix2 11 r)) (fun r => v152 (ix2 11 r))
          (fun r => v59 (ix2 r (⟨704 + k.val, by omega⟩ : Fin 1024))) (fun n => v722 (ix4 0 0 k n)) (v736 (ix3 0 0 k)) p := by
  unfold rowOf
  pointwise [k0_pay82, k0_pay83, k0_pay84, k0_pay104, k0_pay105, k0_pay106, k0_pay107, k0_pay108]

theorem s11 (v59 : FVec Ideal S16x1024 .f32) (v112 : FVec Ideal S16x512 .f32) (v142 : FVec Ideal S16x16 .f32) (v162 : FVec Ideal S16x16 .f32) (v722 : Vec Ideal S1x1x64x128 .f32) (p : Fin 64) (k : Fin 128) :
    (k0_pay110 (F := Ideal) (k0_pay109 v59 v142 v162 (k0_pay82 v112) (k0_pay104 v162) v722) (ix4 0 0 p k) : EReal)
      = stateOf (fun r => v112 (ix2 r (⟨128 + k.val, by omega⟩ : Fin 512))) (fun r => v162 (ix2 r 11)) (fun r => v142 (ix2 r 11))
          (fun r => v59 (ix2 r (⟨704 + p.val, by omega⟩ : Fin 1024))) (v722 (ix4 0 0 p k)) := by
  unfold stateOf
  pointwise [k0_pay82, k0_pay104, k0_pay106, k0_pay107, k0_pay109, k0_pay110]

theorem y12 (v59 : FVec Ideal S16x1024 .f32) (v112 : FVec Ideal S16x512 .f32) (v131 : IVec S16x16 1) (v152 : FVec Ideal S16x16 .f32) (v162 : FVec Ideal S16x16 .f32) (v172 : FVec Ideal S16x16 .f32) (v770 : Vec Ideal S1x1x64x128 .f32) (v784 : Vec Ideal S1x1x64 .f32) (p : Fin 16) (k : Fin 64) :
    (k0_pay114 (F := Ideal) v59 v131 v152 v162 v172 (k0_pay83 v112) (k0_pay84 v112) v770 v784 (ix2 p k) : EReal)
      = rowOf (fun r n => v112 (ix2 r (⟨384 + n.val, by omega⟩ : Fin 512))) (fun r n => v112 (ix2 r (⟨128 + n.val, by omega⟩ : Fin 512)))
          (fun r x => v131 (ix2 r x)) (fun r => v162 (ix2 r 12)) (fun r => v172 (ix2 12 r)) (fun r => v152 (ix2 12 r))
          (fun r => v59 (ix2 r (⟨768 + k.val, by omega⟩ : Fin 1024))) (fun n => v770 (ix4 0 0 k n)) (v784 (ix3 0 0 k)) p := by
  unfold rowOf
  pointwise [k0_pay82, k0_pay83, k0_pay84, k0_pay111, k0_pay112, k0_pay113, k0_pay114]

theorem s12 (v59 : FVec Ideal S16x1024 .f32) (v112 : FVec Ideal S16x512 .f32) (v142 : FVec Ideal S16x16 .f32) (v162 : FVec Ideal S16x16 .f32) (v770 : Vec Ideal S1x1x64x128 .f32) (p : Fin 64) (k : Fin 128) :
    (k0_pay118 (F := Ideal) (k0_pay82 v112) (k0_pay116 v162 v770) (k0_pay117 v59 v142 v162) (constant S64x128 .f32 0x00000000#32) (ix4 0 0 p k) : EReal)
      = stateOf (fun r => v112 (ix2 r (⟨128 + k.val, by omega⟩ : Fin 512))) (fun r => v162 (ix2 r 12)) (fun r => v142 (ix2 r 12))
          (fun r => v59 (ix2 r (⟨768 + p.val, by omega⟩ : Fin 1024))) (v770 (ix4 0 0 p k)) := by
  unfold stateOf
  pointwise [k0_pay82, k0_pay111, k0_pay112, k0_pay113, k0_pay115, k0_pay116, k0_pay117, k0_pay118]

theorem y13 (v59 : FVec Ideal S16x1024 .f32) (v112 : FVec Ideal S16x512 .f32) (v131 : IVec S16x16 1) (v152 : FVec Ideal S16x16 .f32) (v162 : FVec Ideal S16x16 .f32) (v172 : FVec Ideal S16x16 .f32) (v818 : Vec Ideal S1x1x64x128 .f32) (v832 : Vec Ideal S1x1x64 .f32) (p : Fin 16) (k : Fin 64) :
    (k0_pay122 (F := Ideal) v59 v131 v152 v162 v172 (k0_pay83 v112) (k0_pay84 v112) v818 v832 (ix2 p k) : EReal)
      = rowOf (fun r n => v112 (ix2 r (⟨384 + n.val, by omega⟩ : Fin 512))) (fun r n => v112 (ix2 r (⟨128 + n.val, by omega⟩ : Fin 512)))
          (fun r x => v131 (ix2 r x)) (fun r => v162 (ix2 r 13)) (fun r => v172 (ix2 13 r)) (fun r => v152 (ix2 13 r))
          (fun r => v59 (ix2 r (⟨832 + k.val, by omega⟩ : Fin 1024))) (fun n => v818 (ix4 0 0 k n)) (v832 (ix3 0 0 k)) p := by
  unfold rowOf
  pointwise [k0_pay82, k0_pay83, k0_pay84, k0_pay119, k0_pay120, k0_pay121, k0_pay122]

theorem s13 (v59 : FVec Ideal S16x1024 .f32) (v112 : FVec Ideal S16x512 .f32) (v142 : FVec Ideal S16x16 .f32) (v162 : FVec Ideal S16x16 .f32) (v818 : Vec Ideal S1x1x64x128 .f32) (p : Fin 64) (k : Fin 128) :
    (k0_pay126 (F := Ideal) (k0_pay82 v112) (k0_pay120 v59) (k0_pay121 v818) (k0_pay123 v162) (k0_pay124 v162) (k0_pay125 v142) (ix4 0 0 p k) : EReal)
      = stateOf (fun r => v112 (ix2 r (⟨128 + k.val, by omega⟩ : Fin 512))) (fun r => v162 (ix2 r 13)) (fun r => v142 (ix2 r 13))
          (fun r => v59 (ix2 r (⟨832 + p.val, by omega⟩ : Fin 1024))) (v818 (ix4 0 0 p k)) := by
  unfold stateOf
  pointwise [k0_pay82, k0_pay119, k0_pay120, k0_pay121, k0_pay123, k0_pay124, k0_pay125, k0_pay126]

theorem y14 (v59 : FVec Ideal S16x1024 .f32) (v112 : FVec Ideal S16x512 .f32) (v131 : IVec S16x16 1) (v152 : FVec Ideal S16x16 .f32) (v162 : FVec Ideal S16x16 .f32) (v172 : FVec Ideal S16x16 .f32) (v866 : Vec Ideal S1x1x64x128 .f32) (v880 : Vec Ideal S1x1x64 .f32) (p : Fin 16) (k : Fin 64) :
    (k0_pay130 (F := Ideal) v59 v131 v152 v162 v172 (k0_pay83 v112) (k0_pay84 v112) v866 v880 (ix2 p k) : EReal)
      = rowOf (fun r n => v112 (ix2 r (⟨384 + n.val, by omega⟩ : Fin 512))) (fun r n => v112 (ix2 r (⟨128 + n.val, by omega⟩ : Fin 512)))
          (fun r x => v131 (ix2 r x)) (fun r => v162 (ix2 r 14)) (fun r => v172 (ix2 14 r)) (fun r => v152 (ix2 14 r))
          (fun r => v59 (ix2 r (⟨896 + k.val, by omega⟩ : Fin 1024))) (fun n => v866 (ix4 0 0 k n)) (v880 (ix3 0 0 k)) p := by
  unfold rowOf
  pointwise [k0_pay82, k0_pay83, k0_pay84, k0_pay127, k0_pay128, k0_pay129, k0_pay130]

theorem s14 (v59 : FVec Ideal S16x1024 .f32) (v112 : FVec Ideal S16x512 .f32) (v142 : FVec Ideal S16x16 .f32) (v162 : FVec Ideal S16x16 .f32) (v866 : Vec Ideal S1x1x64x128 .f32) (p : Fin 64) (k : Fin 128) :
    (k0_pay131 (F := Ideal) v142 v162 (k0_pay82 v112) (k0_pay127 v162) (k0_pay128 v59) (k0_pay129 v866) (ix4 0 0 p k) : EReal)
      = stateOf (fun r => v112 (ix2 r (⟨128 + k.val, by omega⟩ : Fin 512))) (fun r => v162 (ix2 r 14)) (fun r => v142 (ix2 r 14))
          (fun r => v59 (ix2 r (⟨896 + p.val, by omega⟩ : Fin 1024))) (v866 (ix4 0 0 p k)) := by
  unfold stateOf
  pointwise [k0_pay82, k0_pay127, k0_pay128, k0_pay129, k0_pay131]

theorem y15 (v59 : FVec Ideal S16x1024 .f32) (v112 : FVec Ideal S16x512 .f32) (v131 : IVec S16x16 1) (v152 : FVec Ideal S16x16 .f32) (v162 : FVec Ideal S16x16 .f32) (v172 : FVec Ideal S16x16 .f32) (v914 : Vec Ideal S1x1x64x128 .f32) (v928 : Vec Ideal S1x1x64 .f32) (p : Fin 16) (k : Fin 64) :
    (k0_pay1 (F := Ideal) (k0_pay133 v59) (k0_pay135 v59 v131 v152 v162 v172 (k0_pay83 v112) (k0_pay84 v112) v914) v928 (ix2 p k) : EReal)
      = rowOf (fun r n => v112 (ix2 r (⟨384 + n.val, by omega⟩ : Fin 512))) (fun r n => v112 (ix2 r (⟨128 + n.val, by omega⟩ : Fin 512)))
          (fun r x => v131 (ix2 r x)) (fun r => v162 (ix2 r 15)) (fun r => v172 (ix2 15 r)) (fun r => v152 (ix2 15 r))
          (fun r => v59 (ix2 r (⟨960 + k.val, by omega⟩ : Fin 1024))) (fun n => v914 (ix4 0 0 k n)) (v928 (ix3 0 0 k)) p := by
  unfold rowOf
  pointwise [k0_pay1, k0_pay82, k0_pay83, k0_pay84, k0_pay132, k0_pay133, k0_pay134, k0_pay135]

theorem s15 (v59 : FVec Ideal S16x1024 .f32) (v112 : FVec Ideal S16x512 .f32) (v142 : FVec Ideal S16x16 .f32) (v162 : FVec Ideal S16x16 .f32) (v914 : Vec Ideal S1x1x64x128 .f32) (p : Fin 64) (k : Fin 128) :
    (k0_pay2 (F := Ideal) v142 v162 (k0_pay82 v112) (k0_pay132 v162) (k0_pay133 v59) (k0_pay134 v914) (ix4 0 0 p k) : EReal)
      = stateOf (fun r => v112 (ix2 r (⟨128 + k.val, by omega⟩ : Fin 512))) (fun r => v162 (ix2 r 15)) (fun r => v142 (ix2 r 15))
          (fun r => v59 (ix2 r (⟨960 + p.val, by omega⟩ : Fin 1024))) (v914 (ix4 0 0 p k)) := by
  unfold stateOf
  pointwise [k0_pay2, k0_pay82, k0_pay132, k0_pay133, k0_pay134]

end Cert.SsdIdeal.Heads

end
-- ==== Proof.SsdPays.lean ====
module

public import proofs.«01_k».proof.Proof.SsdSpec
public import proofs.«01_k».proof.Proof.Gen.SsdIdeal.Skeleton
public import Idealize.ShloMosaic.Lib.Pointwise

@[expose] public section

set_option maxRecDepth 16384

noncomputable section

/-! The convolutions, step sizes and decay sums the heads of a block work on, as functions of the loads. -/

namespace Cert.SsdIdeal.Pays

open Cert.SsdIdeal Cert.SsdIdeal.Gen Idealize.ShloMosaic Idealize.ShloMosaic.TcCoe
open SsdSpec TailSpec

/-- Row `n` of the rows that begin three before the block: `h` holds the eight rows before it, `u` its own. -/
def win (h : Fin 8 → EReal) (u : Fin 16 → EReal) (n : Nat) : EReal :=
  if hn : n < 3 then h ⟨5 + n, by omega⟩ else if hm : n - 3 < 16 then u ⟨n - 3, hm⟩ else 0

theorem sel_bit (n : Nat) (s : Nat) (hs : s ≤ 8) (hn : n < 8) (a b : EReal) :
    Scalar.select (IntOp.cmpi .slt (BitVec.ofNat 32 n) (BitVec.ofNat 32 s)) a b = if n < s then a else b := by
  have e : IntOp.cmpi .slt (BitVec.ofNat 32 n) (BitVec.ofNat 32 s) = BitVec.ofBool (decide (n < s)) := by
    interval_cases n <;> interval_cases s <;> rfl
  rw [e]
  by_cases h : n < s
  · rw [if_pos h, decide_eq_true h]; rfl
  · rw [if_neg h, decide_eq_false h]; rfl

/-- The two pieces of a shifted block. -/
theorem shift1024 (s : Nat) (hs : s ≤ 3) (h : Vec Ideal S8x1024 .f32) (u : Vec Ideal S16x1024 .f32) (sel : Vec Ideal S8x1024 .f32) (rot : Vec Ideal S16x1024 .f32)
    (hsel : ∀ (q : Fin 8) (k : Fin 1024), (sel (ix2 q k) : EReal) = if q.val < s then h (ix2 ⟨(q.val + 8 - s) % 8, Nat.mod_lt _ (by omega)⟩ k)
      else rot (ix2 ⟨q.val, by omega⟩ k))
    (hrot : ∀ (q : Fin 16) (k : Fin 1024), (rot (ix2 q k) : EReal) = u (ix2 ⟨(q.val + 16 - s) % 16, Nat.mod_lt _ (by omega)⟩ k))
    (hc) (p : Fin 16) (k : Fin 1024) :
    (concatenate S16x1024 0 [⟨S8x1024, sel⟩, ⟨S8x1024, extractStridedSlice S8x1024 ![8, 0] rot slices_S16x1024_o8_0_S8x1024⟩] hc (ix2 p k) : EReal)
      = win (fun q => h (ix2 q k)) (fun q => u (ix2 q k)) (p.val + (3 - s)) := by
  have hp := p.isLt
  have ev : (concatenate S16x1024 0 [⟨S8x1024, sel⟩, ⟨S8x1024, extractStridedSlice S8x1024 ![8, 0] rot slices_S16x1024_o8_0_S8x1024⟩] hc (ix2 p k) : EReal)
      = if h8 : p.val < 8 then sel (ix2 ⟨p.val, h8⟩ k) else rot (ix2 p k) := by
    pointwise
    by_cases h8 : p.val < 8
    · rw [dif_pos h8, dif_pos h8]
    · rw [dif_neg h8, dif_neg h8]
      exact congrArg rot (congrArg (fun q => ix2 q k) (Fin.ext (by show 8 + (p.val - 8) = p.val; omega)))
  rw [ev]
  unfold win
  by_cases h8 : p.val < 8
  · rw [dif_pos h8, hsel]
    by_cases h1 : p.val < s
    · rw [if_pos h1, dif_pos (by omega)]
      exact congrArg h (congrArg (fun q => ix2 q k) (Fin.ext (by show (p.val + 8 - s) % 8 = 5 + (p.val + (3 - s)); omega)))
    · rw [if_neg h1, dif_neg (by omega), dif_pos (by omega), hrot]
      exact congrArg u (congrArg (fun q => ix2 q k) (Fin.ext (by show (p.val + 16 - s) % 16 = p.val + (3 - s) - 3; omega)))
  · rw [dif_neg h8, dif_neg (by omega), dif_pos (by omega), hrot]
    exact congrArg u (congrArg (fun q => ix2 q k) (Fin.ext (by show (p.val + 16 - s) % 16 = p.val + (3 - s) - 3; omega)))

theorem own1024 (h : Vec Ideal S8x1024 .f32) (u : Vec Ideal S16x1024 .f32) (p : Fin 16) (k : Fin 1024) :
    (u (ix2 p k) : EReal) = win (fun q => h (ix2 q k)) (fun q => u (ix2 q k)) (p.val + 3) := by
  unfold win
  rw [dif_neg (by omega), dif_pos (by omega)]
  exact congrArg u (congrArg (fun q => ix2 q k) (Fin.ext (by show p.val = p.val + 3 - 3; omega)))

theorem shift1024_1 (h : Vec Ideal S8x1024 .f32) (u : Vec Ideal S16x1024 .f32) (p : Fin 16) (k : Fin 1024) :
    (concatenate S16x1024 0 [⟨S8x1024, select (cmpi .slt (iota .tc S8x1024 32 [0] iota_S8x1024_d0_w32) (broadcast S8x1024 1#32)) (dynamicRotate 0 1#32 none h rotates_S8x1024_d0)
        (extractStridedSlice S8x1024 ![0, 0] (dynamicRotate 0 1#32 none u rotates_S16x1024_d0) slices_S16x1024_o0_0_S8x1024)⟩,
      ⟨S8x1024, extractStridedSlice S8x1024 ![8, 0] (dynamicRotate 0 1#32 none u rotates_S16x1024_d0) slices_S16x1024_o8_0_S8x1024⟩] concatenates_S8x1024_S8x1024_S16x1024_d0 (ix2 p k) : EReal) = win (fun q => h (ix2 q k)) (fun q => u (ix2 q k)) (p.val + 2) :=
  shift1024 1 (by omega) h u _ _ (fun q k => by pointwise; exact sel_bit q.val 1 (by omega) q.isLt _ _) (fun q k => by pointwise) _ p k

theorem shift1024_2 (h : Vec Ideal S8x1024 .f32) (u : Vec Ideal S16x1024 .f32) (p : Fin 16) (k : Fin 1024) :
    (concatenate S16x1024 0 [⟨S8x1024, select (cmpi .slt (iota .tc S8x1024 32 [0] iota_S8x1024_d0_w32) (broadcast S8x1024 2#32)) (dynamicRotate 0 2#32 none h rotates_S8x1024_d0)
        (extractStridedSlice S8x1024 ![0, 0] (dynamicRotate 0 2#32 none u rotates_S16x1024_d0) slices_S16x1024_o0_0_S8x1024)⟩,
      ⟨S8x1024, extractStridedSlice S8x1024 ![8, 0] (dynamicRotate 0 2#32 none u rotates_S16x1024_d0) slices_S16x1024_o8_0_S8x1024⟩] concatenates_S8x1024_S8x1024_S16x1024_d0 (ix2 p k) : EReal) = win (fun q => h (ix2 q k)) (fun q => u (ix2 q k)) (p.val + 1) :=
  shift1024 2 (by omega) h u _ _ (fun q k => by pointwise; exact sel_bit q.val 2 (by omega) q.isLt _ _) (fun q k => by pointwise) _ p k

theorem shift1024_3 (h : Vec Ideal S8x1024 .f32) (u : Vec Ideal S16x1024 .f32) (p : Fin 16) (k : Fin 1024) :
    (concatenate S16x1024 0 [⟨S8x1024, select (cmpi .slt (iota .tc S8x1024 32 [0] iota_S8x1024_d0_w32) (broadcast S8x1024 3#32)) (dynamicRotate 0 3#32 none h rotates_S8x1024_d0)
        (extractStridedSlice S8x1024 ![0, 0] (dynamicRotate 0 3#32 none u rotates_S16x1024_d0) slices_S16x1024_o0_0_S8x1024)⟩,
      ⟨S8x1024, extractStridedSlice S8x1024 ![8, 0] (dynamicRotate 0 3#32 none u rotates_S16x1024_d0) slices_S16x1024_o8_0_S8x1024⟩] concatenates_S8x1024_S8x1024_S16x1024_d0 (ix2 p k) : EReal) = win (fun q => h (ix2 q k)) (fun q => u (ix2 q k)) (p.val + 0) :=
  shift1024 3 (by omega) h u _ _ (fun q k => by pointwise; exact sel_bit q.val 3 (by omega) q.isLt _ _) (fun q k => by pointwise) _ p k

theorem k0_pay6_eq (x : Vec Ideal S16x1024 .f32) : k0_pay6 (F := Ideal) x = x := by
  funext i; pointwise [k0_pay6]

theorem actX_apply (x : Vec Ideal S16x1024 .f32) (h : Vec Ideal S8x1024 .f32) (b w0 w1 w2 w3 : Vec Ideal S1x1x1024 .f32) (p : Fin 16) (k : Fin 1024) :
    (k0_pay10 (F := Ideal) (k0_pay6 x) h (k0_pay8 x h b w0) (k0_pay9 x h) w1 w2 w3 (ix2 p k) : EReal)
      = convAct (win (fun q => h (ix2 q k)) (fun q => x (ix2 q k)))
          (fun j => match j with | 0 => w0 (ix3 0 0 k) | 1 => w1 (ix3 0 0 k) | 2 => w2 (ix3 0 0 k) | 3 => w3 (ix3 0 0 k)) (b (ix3 0 0 k)) p.val := by
  rw [k0_pay6_eq]
  unfold convAct silu
  simp only [← shift1024_1 h x p k, ← shift1024_2 h x p k, ← own1024 h x p k]
  rw [← Nat.add_zero p.val, ← shift1024_3 h x p k]
  dsimp only [k0_pay10, k0_pay8, k0_pay9]
  rw [k0_pay6_eq]
  generalize hc3 : concatenate S16x1024 0 [⟨S8x1024, select (cmpi .slt (iota .tc S8x1024 32 [0] iota_S8x1024_d0_w32) (broadcast S8x1024 3#32)) (dynamicRotate 0 3#32 none h rotates_S8x1024_d0)
        (extractStridedSlice S8x1024 ![0, 0] (dynamicRotate 0 3#32 none x rotates_S16x1024_d0) slices_S16x1024_o0_0_S8x1024)⟩,
      ⟨S8x1024, extractStridedSlice S8x1024 ![8, 0] (dynamicRotate 0 3#32 none x rotates_S16x1024_d0) slices_S16x1024_o8_0_S8x1024⟩] concatenates_S8x1024_S8x1024_S16x1024_d0 = c3
  generalize hc2 : concatenate S16x1024 0 [⟨S8x1024, select (cmpi .slt (iota .tc S8x1024 32 [0] iota_S8x1024_d0_w32) (broadcast S8x1024 2#32)) (dynamicRotate 0 2#32 none h rotates_S8x1024_d0)
        (extractStridedSlice S8x1024 ![0, 0] (dynamicRotate 0 2#32 none x rotates_S16x1024_d0) slices_S16x1024_o0_0_S8x1024)⟩,
      ⟨S8x1024, extractStridedSlice S8x1024 ![8, 0] (dynamicRotate 0 2#32 none x rotates_S16x1024_d0) slices_S16x1024_o8_0_S8x1024⟩] concatenates_S8x1024_S8x1024_S16x1024_d0 = c2
  generalize hc1 : concatenate S16x1024 0 [⟨S8x1024, select (cmpi .slt (iota .tc S8x1024 32 [0] iota_S8x1024_d0_w32) (broadcast S8x1024 1#32)) (dynamicRotate 0 1#32 none h rotates_S8x1024_d0)
        (extractStridedSlice S8x1024 ![0, 0] (dynamicRotate 0 1#32 none x rotates_S16x1024_d0) slices_S16x1024_o0_0_S8x1024)⟩,
      ⟨S8x1024, extractStridedSlice S8x1024 ![8, 0] (dynamicRotate 0 1#32 none x rotates_S16x1024_d0) slices_S16x1024_o8_0_S8x1024⟩] concatenates_S8x1024_S8x1024_S16x1024_d0 = c1
  pointwise

/-- The two pieces of a shifted block. -/
theorem shift512 (s : Nat) (hs : s ≤ 3) (h : Vec Ideal S8x512 .f32) (u : Vec Ideal S16x512 .f32) (sel : Vec Ideal S8x512 .f32) (rot : Vec Ideal S16x512 .f32)
    (hsel : ∀ (q : Fin 8) (k : Fin 512), (sel (ix2 q k) : EReal) = if q.val < s then h (ix2 ⟨(q.val + 8 - s) % 8, Nat.mod_lt _ (by omega)⟩ k)
      else rot (ix2 ⟨q.val, by omega⟩ k))
    (hrot : ∀ (q : Fin 16) (k : Fin 512), (rot (ix2 q k) : EReal) = u (ix2 ⟨(q.val + 16 - s) % 16, Nat.mod_lt _ (by omega)⟩ k))
    (hc) (p : Fin 16) (k : Fin 512) :
    (concatenate S16x512 0 [⟨S8x512, sel⟩, ⟨S8x512, extractStridedSlice S8x512 ![8, 0] rot slices_S16x512_o8_0_S8x512⟩] hc (ix2 p k) : EReal)
      = win (fun q => h (ix2 q k)) (fun q => u (ix2 q k)) (p.val + (3 - s)) := by
  have hp := p.isLt
  have ev : (concatenate S16x512 0 [⟨S8x512, sel⟩, ⟨S8x512, extractStridedSlice S8x512 ![8, 0] rot slices_S16x512_o8_0_S8x512⟩] hc (ix2 p k) : EReal)
      = if h8 : p.val < 8 then sel (ix2 ⟨p.val, h8⟩ k) else rot (ix2 p k) := by
    pointwise
    by_cases h8 : p.val < 8
    · rw [dif_pos h8, dif_pos h8]
    · rw [dif_neg h8, dif_neg h8]
      exact congrArg rot (congrArg (fun q => ix2 q k) (Fin.ext (by show 8 + (p.val - 8) = p.val; omega)))
  rw [ev]
  unfold win
  by_cases h8 : p.val < 8
  · rw [dif_pos h8, hsel]
    by_cases h1 : p.val < s
    · rw [if_pos h1, dif_pos (by omega)]
      exact congrArg h (congrArg (fun q => ix2 q k) (Fin.ext (by show (p.val + 8 - s) % 8 = 5 + (p.val + (3 - s)); omega)))
    · rw [if_neg h1, dif_neg (by omega), dif_pos (by omega), hrot]
      exact congrArg u (congrArg (fun q => ix2 q k) (Fin.ext (by show (p.val + 16 - s) % 16 = p.val + (3 - s) - 3; omega)))
  · rw [dif_neg h8, dif_neg (by omega), dif_pos (by omega), hrot]
    exact congrArg u (congrArg (fun q => ix2 q k) (Fin.ext (by show (p.val + 16 - s) % 16 = p.val + (3 - s) - 3; omega)))

theorem own512 (h : Vec Ideal S8x512 .f32) (u : Vec Ideal S16x512 .f32) (p : Fin 16) (k : Fin 512) :
    (u (ix2 p k) : EReal) = win (fun q => h (ix2 q k)) (fun q => u (ix2 q k)) (p.val + 3) := by
  unfold win
  rw [dif_neg (by omega), dif_pos (by omega)]
  exact congrArg u (congrArg (fun q => ix2 q k) (Fin.ext (by show p.val = p.val + 3 - 3; omega)))

theorem shift512_1 (h : Vec Ideal S8x512 .f32) (u : Vec Ideal S16x512 .f32) (p : Fin 16) (k : Fin 512) :
    (concatenate S16x512 0 [⟨S8x512, select (cmpi .slt (iota .tc S8x512 32 [0] iota_S8x512_d0_w32) (broadcast S8x512 1#32)) (dynamicRotate 0 1#32 none h rotates_S8x512_d0)
        (extractStridedSlice S8x512 ![0, 0] (dynamicRotate 0 1#32 none u rotates_S16x512_d0) slices_S16x512_o0_0_S8x512)⟩,
      ⟨S8x512, extractStridedSlice S8x512 ![8, 0] (dynamicRotate 0 1#32 none u rotates_S16x512_d0) slices_S16x512_o8_0_S8x512⟩] concatenates_S8x512_S8x512_S16x512_d0 (ix2 p k) : EReal) = win (fun q => h (ix2 q k)) (fun q => u (ix2 q k)) (p.val + 2) :=
  shift512 1 (by omega) h u _ _ (fun q k => by pointwise; exact sel_bit q.val 1 (by omega) q.isLt _ _) (fun q k => by pointwise) _ p k

theorem shift512_2 (h : Vec Ideal S8x512 .f32) (u : Vec Ideal S16x512 .f32) (p : Fin 16) (k : Fin 512) :
    (concatenate S16x512 0 [⟨S8x512, select (cmpi .slt (iota .tc S8x512 32 [0] iota_S8x512_d0_w32) (broadcast S8x512 2#32)) (dynamicRotate 0 2#32 none h rotates_S8x512_d0)
        (extractStridedSlice S8x512 ![0, 0] (dynamicRotate 0 2#32 none u rotates_S16x512_d0) slices_S16x512_o0_0_S8x512)⟩,
      ⟨S8x512, extractStridedSlice S8x512 ![8, 0] (dynamicRotate 0 2#32 none u rotates_S16x512_d0) slices_S16x512_o8_0_S8x512⟩] concatenates_S8x512_S8x512_S16x512_d0 (ix2 p k) : EReal) = win (fun q => h (ix2 q k)) (fun q => u (ix2 q k)) (p.val + 1) :=
  shift512 2 (by omega) h u _ _ (fun q k => by pointwise; exact sel_bit q.val 2 (by omega) q.isLt _ _) (fun q k => by pointwise) _ p k

theorem shift512_3 (h : Vec Ideal S8x512 .f32) (u : Vec Ideal S16x512 .f32) (p : Fin 16) (k : Fin 512) :
    (concatenate S16x512 0 [⟨S8x512, select (cmpi .slt (iota .tc S8x512 32 [0] iota_S8x512_d0_w32) (broadcast S8x512 3#32)) (dynamicRotate 0 3#32 none h rotates_S8x512_d0)
        (extractStridedSlice S8x512 ![0, 0] (dynamicRotate 0 3#32 none u rotates_S16x512_d0) slices_S16x512_o0_0_S8x512)⟩,
      ⟨S8x512, extractStridedSlice S8x512 ![8, 0] (dynamicRotate 0 3#32 none u rotates_S16x512_d0) slices_S16x512_o8_0_S8x512⟩] concatenates_S8x512_S8x512_S16x512_d0 (ix2 p k) : EReal) = win (fun q => h (ix2 q k)) (fun q => u (ix2 q k)) (p.val + 0) :=
  shift512 3 (by omega) h u _ _ (fun q k => by pointwise; exact sel_bit q.val 3 (by omega) q.isLt _ _) (fun q k => by pointwise) _ p k

theorem k0_pay7_eq (x : Vec Ideal S16x512 .f32) : k0_pay7 (F := Ideal) x = x := by
  funext i; pointwise [k0_pay7]

theorem actBC_apply (x : Vec Ideal S16x512 .f32) (h : Vec Ideal S8x512 .f32) (b w0 w1 w2 w3 : Vec Ideal S1x1x512 .f32) (p : Fin 16) (k : Fin 512) :
    (k0_pay14 (F := Ideal) (k0_pay7 x) h (k0_pay11 b) (k0_pay12 (k0_pay7 x) h) (k0_pay13 w0) w1 w2 w3 (ix2 p k) : EReal)
      = convAct (win (fun q => h (ix2 q k)) (fun q => x (ix2 q k)))
          (fun j => match j with | 0 => w0 (ix3 0 0 k) | 1 => w1 (ix3 0 0 k) | 2 => w2 (ix3 0 0 k) | 3 => w3 (ix3 0 0 k)) (b (ix3 0 0 k)) p.val := by
  rw [k0_pay7_eq]
  unfold convAct silu
  simp only [← shift512_1 h x p k, ← shift512_2 h x p k, ← own512 h x p k]
  rw [← Nat.add_zero p.val, ← shift512_3 h x p k]
  dsimp only [k0_pay14, k0_pay11, k0_pay12, k0_pay13]
  skip
  generalize hc3 : concatenate S16x512 0 [⟨S8x512, select (cmpi .slt (iota .tc S8x512 32 [0] iota_S8x512_d0_w32) (broadcast S8x512 3#32)) (dynamicRotate 0 3#32 none h rotates_S8x512_d0)
        (extractStridedSlice S8x512 ![0, 0] (dynamicRotate 0 3#32 none x rotates_S16x512_d0) slices_S16x512_o0_0_S8x512)⟩,
      ⟨S8x512, extractStridedSlice S8x512 ![8, 0] (dynamicRotate 0 3#32 none x rotates_S16x512_d0) slices_S16x512_o8_0_S8x512⟩] concatenates_S8x512_S8x512_S16x512_d0 = c3
  generalize hc2 : concatenate S16x512 0 [⟨S8x512, select (cmpi .slt (iota .tc S8x512 32 [0] iota_S8x512_d0_w32) (broadcast S8x512 2#32)) (dynamicRotate 0 2#32 none h rotates_S8x512_d0)
        (extractStridedSlice S8x512 ![0, 0] (dynamicRotate 0 2#32 none x rotates_S16x512_d0) slices_S16x512_o0_0_S8x512)⟩,
      ⟨S8x512, extractStridedSlice S8x512 ![8, 0] (dynamicRotate 0 2#32 none x rotates_S16x512_d0) slices_S16x512_o8_0_S8x512⟩] concatenates_S8x512_S8x512_S16x512_d0 = c2
  generalize hc1 : concatenate S16x512 0 [⟨S8x512, select (cmpi .slt (iota .tc S8x512 32 [0] iota_S8x512_d0_w32) (broadcast S8x512 1#32)) (dynamicRotate 0 1#32 none h rotates_S8x512_d0)
        (extractStridedSlice S8x512 ![0, 0] (dynamicRotate 0 1#32 none x rotates_S16x512_d0) slices_S16x512_o0_0_S8x512)⟩,
      ⟨S8x512, extractStridedSlice S8x512 ![8, 0] (dynamicRotate 0 1#32 none x rotates_S16x512_d0) slices_S16x512_o8_0_S8x512⟩] concatenates_S8x512_S8x512_S16x512_d0 = c1
  pointwise

theorem dt21_apply (v : Vec Ideal S16x16 .f32) (p k : Fin 16) : (k0_pay21 (F := Ideal) v (ix2 p k) : EReal) = softplus (v (ix2 p k)) := by
  unfold softplus; pointwise [k0_pay21]

theorem dt22_apply (v : Vec Ideal S1x16x16 .f32) (p k : Fin 16) : (k0_pay22 (F := Ideal) v (ix2 p k) : EReal) = softplus (v (ix3 0 p k)) := by
  unfold softplus; pointwise [k0_pay22]

theorem mask19_apply (p x : Fin 16) : k0_pay19 (ix2 p x) = mask p x := by unfold mask; pointwise [k0_pay19]

theorem mask20_apply (p x : Fin 16) : k0_pay20 (ix2 x p) = mask p x := by
  unfold mask; pointwise [k0_pay20]
  exact (by decide +kernel : ∀ p x : Fin 16, IntOp.cmpi .sle (BitVec.ofNat 32 x.val) (BitVec.ofNat 32 p.val) = IntOp.cmpi .sge (BitVec.ofNat 32 p.val) (BitVec.ofNat 32 x.val)) p x

theorem num_mask (p x : Fin 16) : num (mask p x) = if x.val ≤ p.val then 1 else 0 := by
  have e : mask p x = BitVec.ofBool (decide (x.val ≤ p.val)) := (by decide +kernel : ∀ p x : Fin 16, IntOp.cmpi .sge (BitVec.ofNat 32 p.val) (BitVec.ofNat 32 x.val) = BitVec.ofBool (decide (x.val ≤ p.val))) p x
  unfold num
  rw [e]
  by_cases h : x.val ≤ p.val
  · rw [if_pos h, decide_eq_true h]; simp [FloatOps.sitofp]
  · rw [if_neg h, decide_eq_false h]; simp [FloatOps.sitofp]

theorem cum23_apply (v133 : Vec Ideal S16x16 .f32) (v153 : Vec Ideal S1x1x16 .f32) (p k : Fin 16) :
    (k0_pay23 (F := Ideal) k0_pay19 (k0_pay21 v133) v153 (ix2 p k) : EReal)
      = ∑ x : Fin 16, num (mask p x) * (softplus (v133 (ix2 x k)) * (0 - Ideal.exp (v153 (ix3 0 0 k)))) := by
  simp only [← mask19_apply, ← dt21_apply]
  generalize k0_pay21 (F := Ideal) v133 = d
  generalize k0_pay19 = m
  unfold num
  pointwise [k0_pay23]

theorem cum24_apply (v143 : Vec Ideal S1x16x16 .f32) (v163 : Vec Ideal S1x16x1 .f32) (k p : Fin 16) :
    (k0_pay24 (F := Ideal) k0_pay20 (k0_pay22 v143) v163 (ix2 k p) : EReal)
      = ∑ x : Fin 16, num (mask p x) * (softplus (v143 (ix3 0 k x)) * (0 - Ideal.exp (v163 (ix3 0 k 0)))) := by
  simp only [← mask20_apply, ← dt22_apply]
  generalize k0_pay22 (F := Ideal) v143 = d
  generalize k0_pay20 = m
  unfold num
  pointwise [k0_pay24]
  exact Finset.sum_congr rfl fun x _ => mul_comm _ _

theorem tail17_apply (x : Vec Ideal S16x1024 .f32) (q : Fin 8) (k : Fin 1024) : (k0_pay17 (F := Ideal) (k0_pay6 x) (ix3 0 q k) : EReal) = x (ix2 ⟨8 + q.val, by omega⟩ k) := by
  rw [k0_pay6_eq]; pointwise [k0_pay17]

theorem tail18_apply (x : Vec Ideal S16x512 .f32) (q : Fin 8) (k : Fin 512) : (k0_pay18 (F := Ideal) (k0_pay7 x) (ix3 0 q k) : EReal) = x (ix2 ⟨8 + q.val, by omega⟩ k) := by
  rw [k0_pay7_eq]; pointwise [k0_pay18]

end Cert.SsdIdeal.Pays

end
-- ==== Proof.SsdBlocks.lean ====
module

public import proofs.«01_k».proof.Proof.SsdLoads
public import proofs.«01_k».proof.Proof.SsdHeads
public import proofs.«01_k».proof.Proof.SsdPays
public import Idealize.ShloMosaic.Lib.Pipeline.ReadBack

@[expose] public section

set_option maxRecDepth 16384

noncomputable section

/-! What the heads of a block work on, as the arguments. -/

namespace Cert.SsdIdeal.Blocks

open Cert.SsdIdeal Cert.SsdIdeal.Gen Idealize.ShloMosaic Idealize.ShloMosaic.TcCoe Idealize.SL.Sem
open Idealize.ShloMosaic.Pipeline (Dat)
open Loads SsdSpec

variable (m : (ℓ : Loc nD τ sig) → Buf (Elt Ideal) ℓ)

section
variable (c : Dev nD) (t : Fin cfg0.N)

theorem pay4_apply (v : Vec Ideal S1x1x8x1024 .f32) (q : Fin 8) (k : Fin 1024) : (k0_pay4 (F := Ideal) v (ix2 q k) : EReal) = v (ix4 0 0 q k) := by pointwise [k0_pay4]
theorem pay5_apply (v : Vec Ideal S1x1x8x512 .f32) (q : Fin 8) (k : Fin 512) : (k0_pay5 (F := Ideal) v (ix2 q k) : EReal) = v (ix4 0 0 q k) := by pointwise [k0_pay5]
theorem pay3_apply (v : Vec Ideal S1x1x16x64x128 .f32) (h : Fin 16) (p : Fin 64) (n : Fin 128) : (k0_pay3 (F := Ideal) v (ix4 0 h p n) : EReal) = v (ix5 0 0 h p n) := by pointwise [k0_pay3]

theorem xRow (k : Fin 1024) (n : Nat) : Pays.win (fun q => k0_pay4 (F := Ideal) (iblk m c 11 t) (ix2 q k)) (fun q => (X0_0 m c t) (ix2 q k)) n = xrow (m ((c : Thread nD τ).loc main_arg0)) (m ((c : Thread nD τ).loc main_arg6)) (smp t) (⟨k.val, by omega⟩ : Fin 1536) n := by
  unfold Pays.win xrow
  by_cases hn : n < 3
  · rw [dif_pos hn, dif_pos hn]
    exact (pay4_apply _ (⟨5 + n, by omega⟩ : Fin 8) k).trans (blk11 m c t ⟨n, hn⟩ k)
  · rw [dif_neg hn, dif_neg hn]
    by_cases hm : n - 3 < 16
    · rw [dif_pos hm, dif_pos hm]
      exact blk0 m c t ⟨n - 3, hm⟩ k
    · rw [dif_neg hm, dif_neg hm]

theorem xTap (j : Nat) (hj : j < 4) (inb) (k : Fin 1024) : (View.ld (iblk m c 4 t) (Rect.unit (s := S1x4x1024) ![0, j, 0] ![1, 1, 1024] inb) (ix3 0 0 k) : EReal) = (m ((c : Thread nD τ).loc main_arg1)) (ix3 (0 : Fin 2) (⟨j, hj⟩ : Fin 4) (⟨k.val, by omega⟩ : Fin 1536)) :=
  (View.ld_unit_apply_of (iblk m c 4 t) ![0, j, 0] ![1, 1, 1024] inb (ix3 0 0 k) (ix3 0 (⟨j, hj⟩ : Fin 4) k : S1x4x1024.Idx)
    (by intro a; fin_cases a; exacts [rfl, rfl, (Nat.zero_add _).symm])).trans (blk4 m c t ⟨j, hj⟩ k)

theorem xVal (p : Fin 16) (k : Fin 1024) :
    (k0_pay10 (F := Ideal) (k0_pay6 (X0_0 m c t)) (k0_pay4 (iblk m c 11 t)) (k0_pay8 (X0_0 m c t) (k0_pay4 (iblk m c 11 t)) (iblk m c 6 t) (View.ld (iblk m c 4 t) (Rect.unit (s := S1x4x1024) ![0, 0, 0] ![1, 1, 1024] inb_S1x4x1024_S1x1x1024_0_0_0))) (k0_pay9 (X0_0 m c t) (k0_pay4 (iblk m c 11 t))) (View.ld (iblk m c 4 t) (Rect.unit (s := S1x4x1024) ![0, 1, 0] ![1, 1, 1024] inb_S1x4x1024_S1x1x1024_0_1_0)) (View.ld (iblk m c 4 t) (Rect.unit (s := S1x4x1024) ![0, 2, 0] ![1, 1, 1024] inb_S1x4x1024_S1x1x1024_0_2_0)) (View.ld (iblk m c 4 t) (Rect.unit (s := S1x4x1024) ![0, 3, 0] ![1, 1, 1024] inb_S1x4x1024_S1x1x1024_0_3_0)) (ix2 p k) : EReal) = act (m ((c : Thread nD τ).loc main_arg0)) (m ((c : Thread nD τ).loc main_arg1)) (m ((c : Thread nD τ).loc main_arg2)) (m ((c : Thread nD τ).loc main_arg6)) (smp t) p (⟨k.val, by omega⟩ : Fin 1536) :=
  (Pays.actX_apply _ _ _ _ _ _ _ p k).trans (convAct_congr (xRow m c t k)
    (fun j => by fin_cases j; exacts [xTap m c t 0 (by omega) _ k, xTap m c t 1 (by omega) _ k, xTap m c t 2 (by omega) _ k, xTap m c t 3 (by omega) _ k]) (blk6 m c t k) p.val)

theorem bcRow (k : Fin 512) (n : Nat) : Pays.win (fun q => k0_pay5 (F := Ideal) (iblk m c 12 t) (ix2 q k)) (fun q => (iblk m c 1 t) (ix2 q k)) n = xrow (m ((c : Thread nD τ).loc main_arg0)) (m ((c : Thread nD τ).loc main_arg6)) (smp t) (⟨1024 + k.val, by omega⟩ : Fin 1536) n := by
  unfold Pays.win xrow
  by_cases hn : n < 3
  · rw [dif_pos hn, dif_pos hn]
    exact (pay5_apply _ (⟨5 + n, by omega⟩ : Fin 8) k).trans (blk12 m c t ⟨n, hn⟩ k)
  · rw [dif_neg hn, dif_neg hn]
    by_cases hm : n - 3 < 16
    · rw [dif_pos hm, dif_pos hm]
      exact blk1 m c t ⟨n - 3, hm⟩ k
    · rw [dif_neg hm, dif_neg hm]

theorem bcTap (j : Nat) (hj : j < 4) (inb) (k : Fin 512) : (View.ld (iblk m c 5 t) (Rect.unit (s := S1x4x512) ![0, j, 0] ![1, 1, 512] inb) (ix3 0 0 k) : EReal) = (m ((c : Thread nD τ).loc main_arg1)) (ix3 (0 : Fin 2) (⟨j, hj⟩ : Fin 4) (⟨1024 + k.val, by omega⟩ : Fin 1536)) :=
  (View.ld_unit_apply_of (iblk m c 5 t) ![0, j, 0] ![1, 1, 512] inb (ix3 0 0 k) (ix3 0 (⟨j, hj⟩ : Fin 4) k : S1x4x512.Idx)
    (by intro a; fin_cases a; exacts [rfl, rfl, (Nat.zero_add _).symm])).trans (blk5 m c t ⟨j, hj⟩ k)

theorem bcVal (p : Fin 16) (k : Fin 512) :
    (k0_pay14 (F := Ideal) (k0_pay7 (iblk m c 1 t)) (k0_pay5 (iblk m c 12 t)) (k0_pay11 (iblk m c 7 t)) (k0_pay12 (k0_pay7 (iblk m c 1 t)) (k0_pay5 (iblk m c 12 t))) (k0_pay13 (View.ld (iblk m c 5 t) (Rect.unit (s := S1x4x512) ![0, 0, 0] ![1, 1, 512] inb_S1x4x512_S1x1x512_0_0_0))) (View.ld (iblk m c 5 t) (Rect.unit (s := S1x4x512) ![0, 1, 0] ![1, 1, 512] inb_S1x4x512_S1x1x512_0_1_0)) (View.ld (iblk m c 5 t) (Rect.unit (s := S1x4x512) ![0, 2, 0] ![1, 1, 512] inb_S1x4x512_S1x1x512_0_2_0)) (View.ld (iblk m c 5 t) (Rect.unit (s := S1x4x512) ![0, 3, 0] ![1, 1, 512] inb_S1x4x512_S1x1x512_0_3_0)) (ix2 p k) : EReal) = act (m ((c : Thread nD τ).loc main_arg0)) (m ((c : Thread nD τ).loc main_arg1)) (m ((c : Thread nD τ).loc main_arg2)) (m ((c : Thread nD τ).loc main_arg6)) (smp t) p (⟨1024 + k.val, by omega⟩ : Fin 1536) :=
  (Pays.actBC_apply _ _ _ _ _ _ _ p k).trans (convAct_congr (bcRow m c t k)
    (fun j => by fin_cases j; exacts [bcTap m c t 0 (by omega) _ k, bcTap m c t 1 (by omega) _ k, bcTap m c t 2 (by omega) _ k, bcTap m c t 3 (by omega) _ k]) (blk7 m c t k) p.val)

theorem gc (p k : Fin 16) : ((View.ld (iblk m c 2 t) (Rect.unit (s := S16x128) ![0, 16] ![16, 16] inb_S16x128_S16x16_0_16)) (ix2 p k) : EReal) = (m ((c : Thread nD τ).loc main_arg0)) (ix3 (smp t) p (⟨5648 + k.val, by omega⟩ : Fin 8736)) :=
  (View.ld_unit_apply_of (iblk m c 2 t) ![0, 16] ![16, 16] inb_S16x128_S16x16_0_16 (ix2 p k) (ix2 p (⟨16 + k.val, by omega⟩ : Fin 128) : S16x128.Idx)
    (by intro a; fin_cases a; exacts [(Nat.zero_add _).symm, rfl])).trans (blk2 m c t p k)

theorem gr (p k : Fin 16) : ((View.ld (iblk m c 3 t) (Rect.unit (s := S1x32x16) ![0, 16, 0] ![1, 16, 16] inb_S1x32x16_S1x16x16_0_16_0)) (ix3 0 k p) : EReal) = (m ((c : Thread nD τ).loc main_arg0)) (ix3 (smp t) p (⟨5648 + k.val, by omega⟩ : Fin 8736)) :=
  (View.ld_unit_apply_of (iblk m c 3 t) ![0, 16, 0] ![1, 16, 16] inb_S1x32x16_S1x16x16_0_16_0 (ix3 0 k p) (ix3 0 (⟨16 + k.val, by omega⟩ : Fin 32) p : S1x32x16.Idx)
    (by intro a; fin_cases a; exacts [rfl, rfl, (Nat.zero_add _).symm])).trans (blk3 m c t p k)

theorem dtC (r hd : Fin 16) : (k0_pay21 (F := Ideal) (View.ld (iblk m c 2 t) (Rect.unit (s := S16x128) ![0, 16] ![16, 16] inb_S16x128_S16x16_0_16)) (ix2 r hd) : EReal) = dtv (m ((c : Thread nD τ).loc main_arg0)) (smp t) r hd :=
  (Pays.dt21_apply _ r hd).trans (congrArg softplus (gc m c t r hd))

theorem dtR (r hd : Fin 16) : (k0_pay22 (F := Ideal) (View.ld (iblk m c 3 t) (Rect.unit (s := S1x32x16) ![0, 16, 0] ![1, 16, 16] inb_S1x32x16_S1x16x16_0_16_0)) (ix2 hd r) : EReal) = dtv (m ((c : Thread nD τ).loc main_arg0)) (smp t) r hd :=
  (Pays.dt22_apply _ hd r).trans (congrArg softplus (gr m c t r hd))

theorem cumC (r hd : Fin 16) : (k0_pay23 (F := Ideal) k0_pay19 (k0_pay21 (View.ld (iblk m c 2 t) (Rect.unit (s := S16x128) ![0, 16] ![16, 16] inb_S16x128_S16x16_0_16))) (iblk m c 8 t) (ix2 r hd) : EReal) = cum (m ((c : Thread nD τ).loc main_arg0)) (m ((c : Thread nD τ).loc main_arg3)) (smp t) hd r :=
  (Pays.cum23_apply _ _ r hd).trans (Finset.sum_congr rfl fun x _ => congrArg (num (mask r x) * ·)
    (congr (congrArg (@HMul.hMul EReal EReal EReal instHMul) (congrArg softplus (gc m c t x hd))) (congrArg (fun z : EReal => 0 - Ideal.exp z) (blk8 m c t hd))))

theorem cumR (r hd : Fin 16) : (k0_pay24 (F := Ideal) k0_pay20 (k0_pay22 (View.ld (iblk m c 3 t) (Rect.unit (s := S1x32x16) ![0, 16, 0] ![1, 16, 16] inb_S1x32x16_S1x16x16_0_16_0))) (iblk m c 9 t) (ix2 hd r) : EReal) = cum (m ((c : Thread nD τ).loc main_arg0)) (m ((c : Thread nD τ).loc main_arg3)) (smp t) hd r :=
  (Pays.cum24_apply _ _ hd r).trans (Finset.sum_congr rfl fun x _ => congrArg (num (mask r x) * ·)
    (congr (congrArg (@HMul.hMul EReal EReal EReal instHMul) (congrArg softplus (gr m c t x hd))) (congrArg (fun z : EReal => 0 - Ideal.exp z) (blk9 m c t hd))))

theorem stateVal (o : Nat) (hd : Fin 16) (ho : o = hd.val) (inb) (d : Fin 64) (n : Fin 128) :
    ((View.ld (S := S1x16x64x128) (Val := Elt Ideal) (e' := .f32) (k0_pay3 (F := Ideal) (iblk m c 13 t)) (Rect.unit (s := S1x16x64x128) ![0, o, 0, 0] ![1, 1, 64, 128] inb) : Vec Ideal S1x1x64x128 .f32) (ix4 0 0 d n) : EReal) = (m ((c : Thread nD τ).loc main_arg5)) (ix5 (0 : Fin 2) (smp t) hd d n) := by
  refine (View.ld_unit_apply_of _ _ _ _ _ (ix4 0 hd d n : S1x16x64x128.Idx) ?_).trans ((pay3_apply _ hd d n).trans (blk13 m c t hd d n))
  intro a; fin_cases a; exacts [rfl, ho.symm, (Nat.zero_add _).symm, (Nat.zero_add _).symm]

theorem skipVal (o : Nat) (hd : Fin 16) (ho : o = hd.val * 64) (inb) (d : Fin 64) :
    (View.ld (iblk m c 10 t) (Rect.unit (s := S1x1x1024) ![0, 0, o] ![1, 1, 64] inb) (ix3 0 0 d) : EReal) = (m ((c : Thread nD τ).loc main_arg4)) (ix2 (0 : Fin 2) hd) :=
  (View.ld_unit_apply_of (iblk m c 10 t) ![0, 0, o] ![1, 1, 64] inb (ix3 0 0 d) (ix3 0 0 (⟨hd.val * 64 + d.val, by omega⟩ : Fin 1024) : S1x1x1024.Idx)
    (by intro a; fin_cases a; exacts [rfl, rfl, congrArg (· + d.val) ho.symm])).trans (blk10 m c t hd d)

theorem act_at (b : Fin 32) (p : Fin 16) (k k' : Fin 1536) (h : k.val = k'.val) : act (m ((c : Thread nD τ).loc main_arg0)) (m ((c : Thread nD τ).loc main_arg1)) (m ((c : Thread nD τ).loc main_arg2)) (m ((c : Thread nD τ).loc main_arg6)) b p k = act (m ((c : Thread nD τ).loc main_arg0)) (m ((c : Thread nD τ).loc main_arg1)) (m ((c : Thread nD τ).loc main_arg2)) (m ((c : Thread nD τ).loc main_arg6)) b p k' := congrArg _ (Fin.ext h)

end

/-- The block's rows, of the arguments a memory holds. -/
def out14 (c : Dev nD) (i : S512x1024.Idx) : EReal :=
  yOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) ⟨(i 0).val / 16, by have h : (i 0).val < 512 := (i 0).isLt; omega⟩ ⟨(i 1).val / 64, by have h : (i 1).val < 1024 := (i 1).isLt; omega⟩
    ⟨(i 1).val % 64, Nat.mod_lt _ (by omega)⟩ ⟨(i 0).val % 16, Nat.mod_lt _ (by omega)⟩

/-- The states. -/
def out15 (c : Dev nD) (i : S32x16x64x128.Idx) : EReal := sOf (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (i 0) (i 1) (i 2) (i 3)

/-- The rows carried on, in two parts. -/
def out16 (c : Dev nD) (i : S32x8x1024.Idx) : EReal :=
  (m ((c : Thread nD τ).loc main_arg0)) (ix3 (i 0) (⟨8 + (i 1).val, by have h : (i 1).val < 8 := (i 1).isLt; omega⟩ : Fin 16) (⟨4112 + (i 2).val, by have h : (i 2).val < 1024 := (i 2).isLt; omega⟩ : Fin 8736))
def out17 (c : Dev nD) (i : S32x8x512.Idx) : EReal :=
  (m ((c : Thread nD τ).loc main_arg0)) (ix3 (i 0) (⟨8 + (i 1).val, by have h : (i 1).val < 8 := (i 1).isLt; omega⟩ : Fin 16) (⟨4112 + (1024 + (i 2).val), by have h : (i 2).val < 512 := (i 2).isLt; omega⟩ : Fin 8736))

theorem out14_at (c : Dev nD) (i : S512x1024.Idx) (b : Fin 32) (hd : Fin 16) (d : Fin 64) (p : Fin 16) (h0 : (i 0).val = b.val * 16 + p.val) (h1 : (i 1).val = hd.val * 64 + d.val) :
    yOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) b hd d p = out14 m c i := by
  unfold out14
  have e0 : b = ⟨(i 0).val / 16, by have h : (i 0).val < 512 := (i 0).isLt; omega⟩ := Fin.ext (by show b.val = (i 0).val / 16; omega)
  have e1 : hd = ⟨(i 1).val / 64, by have h : (i 1).val < 1024 := (i 1).isLt; omega⟩ := Fin.ext (by show hd.val = (i 1).val / 64; omega)
  have e2 : d = ⟨(i 1).val % 64, Nat.mod_lt _ (by omega)⟩ := Fin.ext (by show d.val = (i 1).val % 64; omega)
  have e3 : p = ⟨(i 0).val % 16, Nat.mod_lt _ (by omega)⟩ := Fin.ext (by show p.val = (i 0).val % 16; omega)
  rw [← e0, ← e1, ← e2, ← e3]

theorem out15_at (c : Dev nD) (i : S32x16x64x128.Idx) (b : Fin 32) (hd : Fin 16) (d : Fin 64) (n : Fin 128) (h0 : (i 0).val = b.val) (h1 : (i 1).val = hd.val) (h2 : (i 2).val = d.val) (h3 : (i 3).val = n.val) :
    sOf (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) b hd d n = out15 m c i := by
  unfold out15
  rw [show i 0 = b from Fin.ext h0, show i 1 = hd from Fin.ext h1, show i 2 = d from Fin.ext h2, show i 3 = n from Fin.ext h3]

theorem headY (c : Dev nD) (t : Fin cfg0.N) (i : S512x1024.Idx) (hd : Fin 16) {V59 : FVec Ideal S16x1024 .f32} {V112 : FVec Ideal S16x512 .f32} {V152 V162 V172 : FVec Ideal S16x16 .f32}
    {vS : Vec Ideal S1x1x64x128 .f32} {vK : Vec Ideal S1x1x64 .f32} (p : Fin 16) (d : Fin 64) (co bo xo : Nat) (hco : co + 128 ≤ 512) (hbo : bo + 128 ≤ 512) (hxo : xo + 64 ≤ 1024)
    (eco : co = 256 + hd.val / 8 * 128) (ebo : bo = hd.val / 8 * 128) (exo : xo = hd.val * 64)
    (h59 : ∀ (p : Fin 16) (k : Fin 1024), (V59 (ix2 p k) : EReal) = act (m ((c : Thread nD τ).loc main_arg0)) (m ((c : Thread nD τ).loc main_arg1)) (m ((c : Thread nD τ).loc main_arg2)) (m ((c : Thread nD τ).loc main_arg6)) (smp t) p (⟨k.val, by omega⟩ : Fin 1536))
    (h112 : ∀ (p : Fin 16) (k : Fin 512), (V112 (ix2 p k) : EReal) = act (m ((c : Thread nD τ).loc main_arg0)) (m ((c : Thread nD τ).loc main_arg1)) (m ((c : Thread nD τ).loc main_arg2)) (m ((c : Thread nD τ).loc main_arg6)) (smp t) p (⟨1024 + k.val, by omega⟩ : Fin 1536))
    (h152 : ∀ r : Fin 16, (V152 (ix2 hd r) : EReal) = dtv (m ((c : Thread nD τ).loc main_arg0)) (smp t) r hd)
    (h162 : ∀ r : Fin 16, (V162 (ix2 r hd) : EReal) = cum (m ((c : Thread nD τ).loc main_arg0)) (m ((c : Thread nD τ).loc main_arg3)) (smp t) hd r)
    (h172 : ∀ r : Fin 16, (V172 (ix2 hd r) : EReal) = cum (m ((c : Thread nD τ).loc main_arg0)) (m ((c : Thread nD τ).loc main_arg3)) (smp t) hd r)
    (hS : ∀ n : Fin 128, (vS (ix4 0 0 d n) : EReal) = (m ((c : Thread nD τ).loc main_arg5)) (ix5 (0 : Fin 2) (smp t) hd d n)) (hK : (vK (ix3 0 0 d) : EReal) = (m ((c : Thread nD τ).loc main_arg4)) (ix2 (0 : Fin 2) hd))
    (h0 : (i 0).val = (smp t).val * 16 + p.val) (h1 : (i 1).val = xo + d.val) :
    rowOf (fun r n => V112 (ix2 r (⟨co + n.val, by omega⟩ : Fin 512))) (fun r n => V112 (ix2 r (⟨bo + n.val, by omega⟩ : Fin 512)))
      (fun r x => k0_pay19 (ix2 r x)) (fun r => V162 (ix2 r hd)) (fun r => V172 (ix2 hd r)) (fun r => V152 (ix2 hd r))
      (fun r => V59 (ix2 r (⟨xo + d.val, by omega⟩ : Fin 1024))) (fun n => vS (ix4 0 0 d n)) (vK (ix3 0 0 d)) p = out14 m c i :=
  (rowOf_congr (fun r n => (h112 r _).trans (act_at m c _ _ _ (cCol hd n) (by show 1024 + (co + n.val) = 1024 + (256 + hd.val / 8 * 128 + n.val); omega)))
    (fun r n => (h112 r _).trans (act_at m c _ _ _ (bCol hd n) (by show 1024 + (bo + n.val) = 1024 + (hd.val / 8 * 128 + n.val); omega)))
    Pays.mask19_apply h162 h172 h152 (fun r => (h59 r _).trans (act_at m c _ _ _ (xCol hd d) (by show xo + d.val = hd.val * 64 + d.val; omega))) hS hK p).trans
    (out14_at m c i (smp t) hd d p h0 (by omega))

theorem headS (c : Dev nD) (t : Fin cfg0.N) (i : S32x16x64x128.Idx) (hd : Fin 16) {V59 : FVec Ideal S16x1024 .f32} {V112 : FVec Ideal S16x512 .f32} {V142 V162 : FVec Ideal S16x16 .f32}
    {vS : Vec Ideal S1x1x64x128 .f32} (d : Fin 64) (n : Fin 128) (bo xo : Nat) (hbo : bo + 128 ≤ 512) (hxo : xo + 64 ≤ 1024)
    (ebo : bo = hd.val / 8 * 128) (exo : xo = hd.val * 64)
    (h59 : ∀ (p : Fin 16) (k : Fin 1024), (V59 (ix2 p k) : EReal) = act (m ((c : Thread nD τ).loc main_arg0)) (m ((c : Thread nD τ).loc main_arg1)) (m ((c : Thread nD τ).loc main_arg2)) (m ((c : Thread nD τ).loc main_arg6)) (smp t) p (⟨k.val, by omega⟩ : Fin 1536))
    (h112 : ∀ (p : Fin 16) (k : Fin 512), (V112 (ix2 p k) : EReal) = act (m ((c : Thread nD τ).loc main_arg0)) (m ((c : Thread nD τ).loc main_arg1)) (m ((c : Thread nD τ).loc main_arg2)) (m ((c : Thread nD τ).loc main_arg6)) (smp t) p (⟨1024 + k.val, by omega⟩ : Fin 1536))
    (h142 : ∀ r : Fin 16, (V142 (ix2 r hd) : EReal) = dtv (m ((c : Thread nD τ).loc main_arg0)) (smp t) r hd)
    (h162 : ∀ r : Fin 16, (V162 (ix2 r hd) : EReal) = cum (m ((c : Thread nD τ).loc main_arg0)) (m ((c : Thread nD τ).loc main_arg3)) (smp t) hd r)
    (hS : (vS (ix4 0 0 d n) : EReal) = (m ((c : Thread nD τ).loc main_arg5)) (ix5 (0 : Fin 2) (smp t) hd d n))
    (h0 : (i 0).val = (smp t).val) (h1 : (i 1).val = hd.val) (h2 : (i 2).val = d.val) (h3 : (i 3).val = n.val) :
    stateOf (fun r => V112 (ix2 r (⟨bo + n.val, by omega⟩ : Fin 512))) (fun r => V162 (ix2 r hd)) (fun r => V142 (ix2 r hd))
      (fun r => V59 (ix2 r (⟨xo + d.val, by omega⟩ : Fin 1024))) (vS (ix4 0 0 d n)) = out15 m c i :=
  (stateOf_congr (fun r => (h112 r _).trans (act_at m c _ _ _ (bCol hd n) (by show 1024 + (bo + n.val) = 1024 + (hd.val / 8 * 128 + n.val); omega)))
    h162 h142 (fun r => (h59 r _).trans (act_at m c _ _ _ (xCol hd d) (by show xo + d.val = hd.val * 64 + d.val; omega))) hS).trans
    (out15_at m c i (smp t) hd d n h0 h1 h2 h3)

theorem out16_at (c : Dev nD) (i : S32x8x1024.Idx) (b : Fin 32) (q : Fin 8) (k : Fin 1024) (h0 : (i 0).val = b.val) (h1 : (i 1).val = q.val) (h2 : (i 2).val = k.val) :
    (m ((c : Thread nD τ).loc main_arg0)) (ix3 b (⟨8 + q.val, by omega⟩ : Fin 16) (⟨4112 + k.val, by omega⟩ : Fin 8736)) = out16 m c i := by
  unfold out16
  refine congrArg _ (funext fun a => Fin.ext ?_)
  fin_cases a
  exacts [h0.symm, congrArg (8 + ·) h1.symm, congrArg (4112 + ·) h2.symm]

theorem out17_at (c : Dev nD) (i : S32x8x512.Idx) (b : Fin 32) (q : Fin 8) (k : Fin 512) (h0 : (i 0).val = b.val) (h1 : (i 1).val = q.val) (h2 : (i 2).val = k.val) :
    (m ((c : Thread nD τ).loc main_arg0)) (ix3 b (⟨8 + q.val, by omega⟩ : Fin 16) (⟨4112 + (1024 + k.val), by omega⟩ : Fin 8736)) = out17 m c i := by
  unfold out17
  refine congrArg _ (funext fun a => Fin.ext ?_)
  fin_cases a
  exacts [h0.symm, congrArg (8 + ·) h1.symm, congrArg (fun z => 4112 + (1024 + z)) h2.symm]

theorem ix2_surj (x : S16x64.Idx) : ∃ (p : Fin 16) (n : Fin 64), x = ix2 p n := ⟨x 0, x 1, funext fun a => by fin_cases a <;> rfl⟩

theorem surjX (x : S1x8x1024.Idx) : ∃ (q : Fin 8) (k : Fin 1024), x = ix3 0 q k :=
  ⟨x 1, x 2, funext fun a => by
    have h0 : (x 0).val < 1 := (x 0).isLt
    fin_cases a
    exacts [Fin.ext (by show (x 0).val = 0; omega), rfl, rfl]⟩

theorem surjB (x : S1x8x512.Idx) : ∃ (q : Fin 8) (k : Fin 512), x = ix3 0 q k :=
  ⟨x 1, x 2, funext fun a => by
    have h0 : (x 0).val < 1 := (x 0).isLt
    fin_cases a
    exacts [Fin.ext (by show (x 0).val = 0; omega), rfl, rfl]⟩

theorem surj4 (x : S1x1x64x128.Idx) : ∃ (p : Fin 64) (n : Fin 128), x = ix4 0 0 p n :=
  ⟨x 2, x 3, funext fun a => by
    have h0 : (x 0).val < 1 := (x 0).isLt
    have h1 : (x 1).val < 1 := (x 1).isLt
    fin_cases a
    exacts [Fin.ext (by show (x 0).val = 0; omega), Fin.ext (by show (x 1).val = 0; omega), rfl, rfl]⟩

end Cert.SsdIdeal.Blocks

end
-- ==== Proof.SsdRows.lean ====
module

public import proofs.«01_k».proof.Proof.SsdBlocks

@[expose] public section

set_option maxRecDepth 16384

noncomputable section

/-! The block's rows after the run. -/

namespace Cert.SsdIdeal.Blocks

open Cert.SsdIdeal Cert.SsdIdeal.Gen Idealize.ShloMosaic Idealize.ShloMosaic.TcCoe Idealize.SL.Sem
open Idealize.ShloMosaic.Pipeline (Dat)
open Loads SsdSpec

variable (m : (ℓ : Loc nD τ sig) → Buf (Elt Ideal) ℓ)

set_option maxHeartbeats 4000000 in
/-- After the run result array 0 holds the block's rows. -/
theorem final14 (c : Dev nD) : (dats m 0 c).arrAt 14 cfg0.N = (out14 m c : Buf (Elt Ideal) ((c : Thread nD τ).loc main_v29_0)) := by
  refine (dats m 0 c).arrAt_eq_of_covers 14 _ (by decide +kernel) fun t hf y => ?_
  blk_simp
  rw [after0_14]
  have e0' : ((((win0_14.rect t).emb y) 0 : Fin 512) : Nat) = t.val * 16 + (y 0).val := emb14_0 t y
  have e1' : ((((win0_14.rect t).emb y) 1 : Fin 1024) : Nat) = (y 1).val := (emb14_1 t y).trans (by omega : 0 * 1024 + (y 1).val = (y 1).val)
  dsimp only [outsAt0]
  frame_open
  simp (disch := decide) only [↓ View.readCov_skip, ↓ View.readCov_cons_toLoadRect, ↓ View.readCov_fill]
  frame_out
  canon_tiles x h
  · obtain ⟨p, n, rfl⟩ := ix2_surj x
    exact ((Heads.y15 _ _ _ _ _ _ _ _ p n).trans (headY m c t _ 15 p n 384 128 960 (by omega) (by omega) (by omega) rfl rfl rfl (xVal m c t) (bcVal m c t) (fun r => dtR m c t r 15) (fun r => cumC m c t r 15) (fun r => cumR m c t r 15) (fun q => stateVal m c t 15 15 rfl _ n q) (skipVal m c t 960 15 rfl _ n) (e0'.trans (congrArg (t.val * 16 + ·) h0)) (e1'.trans h1)))
  · obtain ⟨p, n, rfl⟩ := ix2_surj x
    exact ((Heads.y14 _ _ _ _ _ _ _ _ p n).trans (headY m c t _ 14 p n 384 128 896 (by omega) (by omega) (by omega) rfl rfl rfl (xVal m c t) (bcVal m c t) (fun r => dtR m c t r 14) (fun r => cumC m c t r 14) (fun r => cumR m c t r 14) (fun q => stateVal m c t 14 14 rfl _ n q) (skipVal m c t 896 14 rfl _ n) (e0'.trans (congrArg (t.val * 16 + ·) h0)) (e1'.trans h1)))
  · obtain ⟨p, n, rfl⟩ := ix2_surj x
    exact ((Heads.y13 _ _ _ _ _ _ _ _ p n).trans (headY m c t _ 13 p n 384 128 832 (by omega) (by omega) (by omega) rfl rfl rfl (xVal m c t) (bcVal m c t) (fun r => dtR m c t r 13) (fun r => cumC m c t r 13) (fun r => cumR m c t r 13) (fun q => stateVal m c t 13 13 rfl _ n q) (skipVal m c t 832 13 rfl _ n) (e0'.trans (congrArg (t.val * 16 + ·) h0)) (e1'.trans h1)))
  · obtain ⟨p, n, rfl⟩ := ix2_surj x
    exact ((Heads.y12 _ _ _ _ _ _ _ _ p n).trans (headY m c t _ 12 p n 384 128 768 (by omega) (by omega) (by omega) rfl rfl rfl (xVal m c t) (bcVal m c t) (fun r => dtR m c t r 12) (fun r => cumC m c t r 12) (fun r => cumR m c t r 12) (fun q => stateVal m c t 12 12 rfl _ n q) (skipVal m c t 768 12 rfl _ n) (e0'.trans (congrArg (t.val * 16 + ·) h0)) (e1'.trans h1)))
  · obtain ⟨p, n, rfl⟩ := ix2_surj x
    exact ((Heads.y11 _ _ _ _ _ _ _ _ p n).trans (headY m c t _ 11 p n 384 128 704 (by omega) (by omega) (by omega) rfl rfl rfl (xVal m c t) (bcVal m c t) (fun r => dtR m c t r 11) (fun r => cumC m c t r 11) (fun r => cumR m c t r 11) (fun q => stateVal m c t 11 11 rfl _ n q) (skipVal m c t 704 11 rfl _ n) (e0'.trans (congrArg (t.val * 16 + ·) h0)) (e1'.trans h1)))
  · obtain ⟨p, n, rfl⟩ := ix2_surj x
    exact ((Heads.y10 _ _ _ _ _ _ _ _ p n).trans (headY m c t _ 10 p n 384 128 640 (by omega) (by omega) (by omega) rfl rfl rfl (xVal m c t) (bcVal m c t) (fun r => dtR m c t r 10) (fun r => cumC m c t r 10) (fun r => cumR m c t r 10) (fun q => stateVal m c t 10 10 rfl _ n q) (skipVal m c t 640 10 rfl _ n) (e0'.trans (congrArg (t.val * 16 + ·) h0)) (e1'.trans h1)))
  · obtain ⟨p, n, rfl⟩ := ix2_surj x
    exact ((Heads.y9 _ _ _ _ _ _ _ _ p n).trans (headY m c t _ 9 p n 384 128 576 (by omega) (by omega) (by omega) rfl rfl rfl (xVal m c t) (bcVal m c t) (fun r => dtR m c t r 9) (fun r => cumC m c t r 9) (fun r => cumR m c t r 9) (fun q => stateVal m c t 9 9 rfl _ n q) (skipVal m c t 576 9 rfl _ n) (e0'.trans (congrArg (t.val * 16 + ·) h0)) (e1'.trans h1)))
  · obtain ⟨p, n, rfl⟩ := ix2_surj x
    exact ((Heads.y8 _ _ _ _ _ _ _ _ p n).trans (headY m c t _ 8 p n 384 128 512 (by omega) (by omega) (by omega) rfl rfl rfl (xVal m c t) (bcVal m c t) (fun r => dtR m c t r 8) (fun r => cumC m c t r 8) (fun r => cumR m c t r 8) (fun q => stateVal m c t 8 8 rfl _ n q) (skipVal m c t 512 8 rfl _ n) (e0'.trans (congrArg (t.val * 16 + ·) h0)) (e1'.trans h1)))
  · obtain ⟨p, n, rfl⟩ := ix2_surj x
    exact ((Heads.y7 _ _ _ _ _ _ _ _ p n).trans (headY m c t _ 7 p n 256 0 448 (by omega) (by omega) (by omega) rfl rfl rfl (xVal m c t) (bcVal m c t) (fun r => dtR m c t r 7) (fun r => cumC m c t r 7) (fun r => cumR m c t r 7) (fun q => stateVal m c t 7 7 rfl _ n q) (skipVal m c t 448 7 rfl _ n) (e0'.trans (congrArg (t.val * 16 + ·) h0)) (e1'.trans h1)))
  · obtain ⟨p, n, rfl⟩ := ix2_surj x
    exact ((Heads.y6 _ _ _ _ _ _ _ _ p n).trans (headY m c t _ 6 p n 256 0 384 (by omega) (by omega) (by omega) rfl rfl rfl (xVal m c t) (bcVal m c t) (fun r => dtR m c t r 6) (fun r => cumC m c t r 6) (fun r => cumR m c t r 6) (fun q => stateVal m c t 6 6 rfl _ n q) (skipVal m c t 384 6 rfl _ n) (e0'.trans (congrArg (t.val * 16 + ·) h0)) (e1'.trans h1)))
  · obtain ⟨p, n, rfl⟩ := ix2_surj x
    exact ((Heads.y5 _ _ _ _ _ _ _ _ p n).trans (headY m c t _ 5 p n 256 0 320 (by omega) (by omega) (by omega) rfl rfl rfl (xVal m c t) (bcVal m c t) (fun r => dtR m c t r 5) (fun r => cumC m c t r 5) (fun r => cumR m c t r 5) (fun q => stateVal m c t 5 5 rfl _ n q) (skipVal m c t 320 5 rfl _ n) (e0'.trans (congrArg (t.val * 16 + ·) h0)) (e1'.trans h1)))
  · obtain ⟨p, n, rfl⟩ := ix2_surj x
    exact ((Heads.y4 _ _ _ _ _ _ _ _ p n).trans (headY m c t _ 4 p n 256 0 256 (by omega) (by omega) (by omega) rfl rfl rfl (xVal m c t) (bcVal m c t) (fun r => dtR m c t r 4) (fun r => cumC m c t r 4) (fun r => cumR m c t r 4) (fun q => stateVal m c t 4 4 rfl _ n q) (skipVal m c t 256 4 rfl _ n) (e0'.trans (congrArg (t.val * 16 + ·) h0)) (e1'.trans h1)))
  · obtain ⟨p, n, rfl⟩ := ix2_surj x
    exact ((Heads.y3 _ _ _ _ _ _ _ _ p n).trans (headY m c t _ 3 p n 256 0 192 (by omega) (by omega) (by omega) rfl rfl rfl (xVal m c t) (bcVal m c t) (fun r => dtR m c t r 3) (fun r => cumC m c t r 3) (fun r => cumR m c t r 3) (fun q => stateVal m c t 3 3 rfl _ n q) (skipVal m c t 192 3 rfl _ n) (e0'.trans (congrArg (t.val * 16 + ·) h0)) (e1'.trans h1)))
  · obtain ⟨p, n, rfl⟩ := ix2_surj x
    exact ((Heads.y2 _ _ _ _ _ _ _ _ p n).trans (headY m c t _ 2 p n 256 0 128 (by omega) (by omega) (by omega) rfl rfl rfl (xVal m c t) (bcVal m c t) (fun r => dtR m c t r 2) (fun r => cumC m c t r 2) (fun r => cumR m c t r 2) (fun q => stateVal m c t 2 2 rfl _ n q) (skipVal m c t 128 2 rfl _ n) (e0'.trans (congrArg (t.val * 16 + ·) h0)) (e1'.trans h1)))
  · obtain ⟨p, n, rfl⟩ := ix2_surj x
    exact ((Heads.y1 _ _ _ _ _ _ _ _ p n).trans (headY m c t _ 1 p n 256 0 64 (by omega) (by omega) (by omega) rfl rfl rfl (xVal m c t) (bcVal m c t) (fun r => dtR m c t r 1) (fun r => cumC m c t r 1) (fun r => cumR m c t r 1) (fun q => stateVal m c t 1 1 rfl _ n q) (skipVal m c t 64 1 rfl _ n) (e0'.trans (congrArg (t.val * 16 + ·) h0)) (e1'.trans h1)))
  · obtain ⟨p, n, rfl⟩ := ix2_surj x
    exact ((Heads.y0 _ _ _ _ _ _ _ _ _ _ p n).trans (headY m c t _ 0 p n 256 0 0 (by omega) (by omega) (by omega) rfl rfl rfl (xVal m c t) (bcVal m c t) (fun r => dtR m c t r 0) (fun r => cumC m c t r 0) (fun r => cumR m c t r 0) (fun q => stateVal m c t 0 0 rfl _ n q) (skipVal m c t 0 0 rfl _ n) (e0'.trans (congrArg (t.val * 16 + ·) h0)) (e1'.trans (h1.trans (Nat.zero_add _).symm))))

end Cert.SsdIdeal.Blocks

end
-- ==== Proof.SsdStates.lean ====
module

public import proofs.«01_k».proof.Proof.SsdBlocks

@[expose] public section

set_option maxRecDepth 16384

noncomputable section

/-! The states after the run. -/

namespace Cert.SsdIdeal.Blocks

open Cert.SsdIdeal Cert.SsdIdeal.Gen Idealize.ShloMosaic Idealize.ShloMosaic.TcCoe Idealize.SL.Sem
open Idealize.ShloMosaic.Pipeline (Dat)
open Loads SsdSpec

variable (m : (ℓ : Loc nD τ sig) → Buf (Elt Ideal) ℓ)

/-- A store that later ones cover is not read. -/
theorem canon_drop {Val : EltTy → Type} [∀ e, Nonempty (Val e)] {S : Shape} {e : EltTy} (p : View.Piece Val S e) (y : S.Idx) :
    ∀ L : List (View.Piece Val S e), (∃ q ∈ L, y ∈ q.1.set) → View.canon (L ++ [p]) y = View.canon L y
  | [], hc => by obtain ⟨q, hq, _⟩ := hc; exact absurd hq List.not_mem_nil
  | q :: L, hc => by
    by_cases hm : y ∈ q.1.set
    · obtain ⟨x, rfl⟩ := q.1.exists_idx_of_mem hm
      rw [show q.1.idx x = q.1.emb x from rfl, List.cons_append, View.canon_cons_emb, View.canon_cons_emb]
    · rw [List.cons_append, View.canon_cons_of_not_mem _ _ hm, View.canon_cons_of_not_mem _ _ hm]
      refine canon_drop p y L ?_
      obtain ⟨r, hr, hyr⟩ := hc
      rcases List.mem_cons.mp hr with rfl | hr'
      · exact absurd hyr hm
      · exact ⟨r, hr', hyr⟩

set_option maxHeartbeats 4000000 in
/-- After the run result array 1 holds the states. -/
theorem final15 (c : Dev nD) : (dats m 0 c).arrAt 15 cfg0.N = (out15 m c : Buf (Elt Ideal) ((c : Thread nD τ).loc main_v29_1)) := by
  refine (dats m 0 c).arrAt_eq_of_covers 15 _ (by decide +kernel) fun t hf y => ?_
  blk_simp
  rw [after0_15]
  have e0' : ((((win0_15.rect t).emb y) 0 : Fin 32) : Nat) = t.val * 1 + (y 0).val := emb15_0 t y
  have e1' : ((((win0_15.rect t).emb y) 1 : Fin 16) : Nat) = (y 1).val := (emb15_1 t y).trans (by omega : 0 * 16 + (y 1).val = (y 1).val)
  have e2' : ((((win0_15.rect t).emb y) 2 : Fin 64) : Nat) = (y 2).val := (emb15_2 t y).trans (by omega : 0 * 64 + (y 2).val = (y 2).val)
  have e3' : ((((win0_15.rect t).emb y) 3 : Fin 128) : Nat) = (y 3).val := (emb15_3 t y).trans (by omega : 0 * 128 + (y 3).val = (y 3).val)
  dsimp only [outsAt0]
  frame_open
  simp (disch := decide) only [↓ View.readCov_skip, ↓ View.readCov_cons_toLoadRect, ↓ View.readCov_fill]
  frame_out
  refine Eq.trans (canon_drop _ _ [_, _, _, _, _, _, _, _, _, _, _, _, _, _, _, _] ?_) ?_
  · exact View.cover_of_tiled _ ![1, 1, 64, 128] rfl _
  canon_tiles x h
  · obtain ⟨d, n, rfl⟩ := surj4 x
    exact ((Heads.s15 _ _ _ _ _ d n).trans (headS m c t _ 15 d n 128 960 (by omega) (by omega) rfl rfl (xVal m c t) (bcVal m c t) (fun r => dtC m c t r 15) (fun r => cumC m c t r 15) (stateVal m c t 15 15 rfl _ d n) (e0'.trans (by rw [h0]; exact Nat.mul_one _)) (e1'.trans h1) (e2'.trans h2) (e3'.trans h3)))
  · obtain ⟨d, n, rfl⟩ := surj4 x
    exact ((Heads.s14 _ _ _ _ _ d n).trans (headS m c t _ 14 d n 128 896 (by omega) (by omega) rfl rfl (xVal m c t) (bcVal m c t) (fun r => dtC m c t r 14) (fun r => cumC m c t r 14) (stateVal m c t 14 14 rfl _ d n) (e0'.trans (by rw [h0]; exact Nat.mul_one _)) (e1'.trans h1) (e2'.trans h2) (e3'.trans h3)))
  · obtain ⟨d, n, rfl⟩ := surj4 x
    exact ((Heads.s13 _ _ _ _ _ d n).trans (headS m c t _ 13 d n 128 832 (by omega) (by omega) rfl rfl (xVal m c t) (bcVal m c t) (fun r => dtC m c t r 13) (fun r => cumC m c t r 13) (stateVal m c t 13 13 rfl _ d n) (e0'.trans (by rw [h0]; exact Nat.mul_one _)) (e1'.trans h1) (e2'.trans h2) (e3'.trans h3)))
  · obtain ⟨d, n, rfl⟩ := surj4 x
    exact ((Heads.s12 _ _ _ _ _ d n).trans (headS m c t _ 12 d n 128 768 (by omega) (by omega) rfl rfl (xVal m c t) (bcVal m c t) (fun r => dtC m c t r 12) (fun r => cumC m c t r 12) (stateVal m c t 12 12 rfl _ d n) (e0'.trans (by rw [h0]; exact Nat.mul_one _)) (e1'.trans h1) (e2'.trans h2) (e3'.trans h3)))
  · obtain ⟨d, n, rfl⟩ := surj4 x
    exact ((Heads.s11 _ _ _ _ _ d n).trans (headS m c t _ 11 d n 128 704 (by omega) (by omega) rfl rfl (xVal m c t) (bcVal m c t) (fun r => dtC m c t r 11) (fun r => cumC m c t r 11) (stateVal m c t 11 11 rfl _ d n) (e0'.trans (by rw [h0]; exact Nat.mul_one _)) (e1'.trans h1) (e2'.trans h2) (e3'.trans h3)))
  · obtain ⟨d, n, rfl⟩ := surj4 x
    exact ((Heads.s10 _ _ _ _ _ d n).trans (headS m c t _ 10 d n 128 640 (by omega) (by omega) rfl rfl (xVal m c t) (bcVal m c t) (fun r => dtC m c t r 10) (fun r => cumC m c t r 10) (stateVal m c t 10 10 rfl _ d n) (e0'.trans (by rw [h0]; exact Nat.mul_one _)) (e1'.trans h1) (e2'.trans h2) (e3'.trans h3)))
  · obtain ⟨d, n, rfl⟩ := surj4 x
    exact ((Heads.s9 _ _ _ _ _ d n).trans (headS m c t _ 9 d n 128 576 (by omega) (by omega) rfl rfl (xVal m c t) (bcVal m c t) (fun r => dtC m c t r 9) (fun r => cumC m c t r 9) (stateVal m c t 9 9 rfl _ d n) (e0'.trans (by rw [h0]; exact Nat.mul_one _)) (e1'.trans h1) (e2'.trans h2) (e3'.trans h3)))
  · obtain ⟨d, n, rfl⟩ := surj4 x
    exact ((Heads.s8 _ _ _ _ _ d n).trans (headS m c t _ 8 d n 128 512 (by omega) (by omega) rfl rfl (xVal m c t) (bcVal m c t) (fun r => dtC m c t r 8) (fun r => cumC m c t r 8) (stateVal m c t 8 8 rfl _ d n) (e0'.trans (by rw [h0]; exact Nat.mul_one _)) (e1'.trans h1) (e2'.trans h2) (e3'.trans h3)))
  · obtain ⟨d, n, rfl⟩ := surj4 x
    exact ((Heads.s7 _ _ _ _ _ d n).trans (headS m c t _ 7 d n 0 448 (by omega) (by omega) rfl rfl (xVal m c t) (bcVal m c t) (fun r => dtC m c t r 7) (fun r => cumC m c t r 7) (stateVal m c t 7 7 rfl _ d n) (e0'.trans (by rw [h0]; exact Nat.mul_one _)) (e1'.trans h1) (e2'.trans h2) (e3'.trans h3)))
  · obtain ⟨d, n, rfl⟩ := surj4 x
    exact ((Heads.s6 _ _ _ _ _ d n).trans (headS m c t _ 6 d n 0 384 (by omega) (by omega) rfl rfl (xVal m c t) (bcVal m c t) (fun r => dtC m c t r 6) (fun r => cumC m c t r 6) (stateVal m c t 6 6 rfl _ d n) (e0'.trans (by rw [h0]; exact Nat.mul_one _)) (e1'.trans h1) (e2'.trans h2) (e3'.trans h3)))
  · obtain ⟨d, n, rfl⟩ := surj4 x
    exact ((Heads.s5 _ _ _ _ _ d n).trans (headS m c t _ 5 d n 0 320 (by omega) (by omega) rfl rfl (xVal m c t) (bcVal m c t) (fun r => dtC m c t r 5) (fun r => cumC m c t r 5) (stateVal m c t 5 5 rfl _ d n) (e0'.trans (by rw [h0]; exact Nat.mul_one _)) (e1'.trans h1) (e2'.trans h2) (e3'.trans h3)))
  · obtain ⟨d, n, rfl⟩ := surj4 x
    exact ((Heads.s4 _ _ _ _ _ d n).trans (headS m c t _ 4 d n 0 256 (by omega) (by omega) rfl rfl (xVal m c t) (bcVal m c t) (fun r => dtC m c t r 4) (fun r => cumC m c t r 4) (stateVal m c t 4 4 rfl _ d n) (e0'.trans (by rw [h0]; exact Nat.mul_one _)) (e1'.trans h1) (e2'.trans h2) (e3'.trans h3)))
  · obtain ⟨d, n, rfl⟩ := surj4 x
    exact ((Heads.s3 _ _ _ _ _ d n).trans (headS m c t _ 3 d n 0 192 (by omega) (by omega) rfl rfl (xVal m c t) (bcVal m c t) (fun r => dtC m c t r 3) (fun r => cumC m c t r 3) (stateVal m c t 3 3 rfl _ d n) (e0'.trans (by rw [h0]; exact Nat.mul_one _)) (e1'.trans h1) (e2'.trans h2) (e3'.trans h3)))
  · obtain ⟨d, n, rfl⟩ := surj4 x
    exact ((Heads.s2 _ _ _ _ _ d n).trans (headS m c t _ 2 d n 0 128 (by omega) (by omega) rfl rfl (xVal m c t) (bcVal m c t) (fun r => dtC m c t r 2) (fun r => cumC m c t r 2) (stateVal m c t 2 2 rfl _ d n) (e0'.trans (by rw [h0]; exact Nat.mul_one _)) (e1'.trans h1) (e2'.trans h2) (e3'.trans h3)))
  · obtain ⟨d, n, rfl⟩ := surj4 x
    exact ((Heads.s1 _ _ _ _ _ d n).trans (headS m c t _ 1 d n 0 64 (by omega) (by omega) rfl rfl (xVal m c t) (bcVal m c t) (fun r => dtC m c t r 1) (fun r => cumC m c t r 1) (stateVal m c t 1 1 rfl _ d n) (e0'.trans (by rw [h0]; exact Nat.mul_one _)) (e1'.trans h1) (e2'.trans h2) (e3'.trans h3)))
  · obtain ⟨d, n, rfl⟩ := surj4 x
    exact ((Heads.s0 _ _ _ _ _ _ d n).trans (headS m c t _ 0 d n 0 0 (by omega) (by omega) rfl rfl (xVal m c t) (bcVal m c t) (fun r => dtC m c t r 0) (fun r => cumC m c t r 0) (stateVal m c t 0 0 rfl _ d n) (e0'.trans (by rw [h0]; exact Nat.mul_one _)) (e1'.trans h1) (e2'.trans h2) (e3'.trans h3)))

end Cert.SsdIdeal.Blocks

end
-- ==== Proof.SsdCarried.lean ====
module

public import proofs.«01_k».proof.Proof.SsdBlocks

@[expose] public section

set_option maxRecDepth 16384

noncomputable section

/-! The carried rows after the run. -/

namespace Cert.SsdIdeal.Blocks

open Cert.SsdIdeal Cert.SsdIdeal.Gen Idealize.ShloMosaic Idealize.ShloMosaic.TcCoe Idealize.SL.Sem
open Idealize.ShloMosaic.Pipeline (Dat)
open Loads SsdSpec

variable (m : (ℓ : Loc nD τ sig) → Buf (Elt Ideal) ℓ)

/-- After the run result array 2 holds the rows carried on. -/
theorem final16 (c : Dev nD) : (dats m 0 c).arrAt 16 cfg0.N = (out16 m c : Buf (Elt Ideal) ((c : Thread nD τ).loc main_v29_2)) := by
  refine (dats m 0 c).arrAt_eq_of_covers 16 _ (by decide +kernel) fun t hf y => ?_
  blk_simp
  rw [after0_16]
  have e0' : ((((win0_16.rect t).emb y) 0 : Fin 32) : Nat) = t.val * 1 + (y 0).val := emb16_0 t y
  have e1' : ((((win0_16.rect t).emb y) 1 : Fin 8) : Nat) = (y 1).val := (emb16_1 t y).trans (by omega : 0 * 8 + (y 1).val = (y 1).val)
  have e2' : ((((win0_16.rect t).emb y) 2 : Fin 1024) : Nat) = (y 2).val := (emb16_2 t y).trans (by omega : 0 * 1024 + (y 2).val = (y 2).val)
  dsimp only [outsAt0]
  frame_out
  obtain ⟨q, k, rfl⟩ := surjX y
  exact (Pays.tail17_apply _ q k).trans ((blk0 m c t ⟨8 + q.val, by omega⟩ k).trans (out16_at m c _ (smp t) q k (e0'.trans (Nat.mul_one _)) e1' e2'))

/-- After the run result array 3 holds the rows carried on. -/
theorem final17 (c : Dev nD) : (dats m 0 c).arrAt 17 cfg0.N = (out17 m c : Buf (Elt Ideal) ((c : Thread nD τ).loc main_v29_3)) := by
  refine (dats m 0 c).arrAt_eq_of_covers 17 _ (by decide +kernel) fun t hf y => ?_
  blk_simp
  rw [after0_17]
  have e0' : ((((win0_17.rect t).emb y) 0 : Fin 32) : Nat) = t.val * 1 + (y 0).val := emb17_0 t y
  have e1' : ((((win0_17.rect t).emb y) 1 : Fin 8) : Nat) = (y 1).val := (emb17_1 t y).trans (by omega : 0 * 8 + (y 1).val = (y 1).val)
  have e2' : ((((win0_17.rect t).emb y) 2 : Fin 512) : Nat) = (y 2).val := (emb17_2 t y).trans (by omega : 0 * 512 + (y 2).val = (y 2).val)
  dsimp only [outsAt0]
  frame_out
  obtain ⟨q, k, rfl⟩ := surjB y
  exact (Pays.tail18_apply _ q k).trans ((blk1 m c t ⟨8 + q.val, by omega⟩ k).trans (out17_at m c _ (smp t) q k (e0'.trans (Nat.mul_one _)) e1' e2'))

end Cert.SsdIdeal.Blocks

end
-- ==== Proof.SsdRefRead.lean ====
module

public import proofs.«01_k».proof.Proof.SsdSpec
public import proofs.«01_k».proof.Proof.Gen.SsdRefIdeal.Read

@[expose] public section

set_option maxRecDepth 16384

noncomputable section

/-! The reference of the state-space recurrence, stage by stage. -/

namespace Cert.SsdRefIdeal.Entry

open Cert.SsdRefIdeal Cert.SsdRefIdeal.Gen Cert.SsdRefIdeal.Read Idealize.ShloMosaic Idealize.ShloMosaic.TcCoe Idealize.SL.Sem
open SsdSpec

variable (h : S32x16x8736.Idx → EReal) (cw : S2x4x1536.Idx → EReal) (cb : S2x1536.Idx → EReal) (al sk : S2x16.Idx → EReal)
  (s : S2x32x16x64x128.Idx → EReal) (sc : S2x32x3x1536.Idx → EReal)

theorem zero_f32 : Ideal.ofBits .f32 0x00000000#32 = 0 := Ideal.ofBits_zero_f32

/-- The rows of the convolution, the three carried ones in front. -/
theorem v0_apply (b : Fin 32) (p : Fin 16) (k : Fin 1536) : (val_main_v0 (F := Ideal) h (ix3 b p k) : EReal) = h (ix3 b p (⟨4112 + k.val, by omega⟩ : Fin 8736)) := by
  rw [val_main_v0_apply]; exact congrArg h (by funext a; fin_cases a <;> rfl)

theorem v3_apply (b : Fin 32) (p : Fin 3) (k : Fin 1536) : (val_main_v3 (F := Ideal) sc (ix3 b p k) : EReal) = sc (ix4 (0 : Fin 2) b p k) := by
  have hb := b.isLt
  have hp := p.isLt
  have hk := k.isLt
  rw [val_main_v3_apply, val_main_v2_apply]; exact congrArg sc (by funext a; apply Fin.ext; fin_cases a <;> simp <;> omega)

theorem v4_apply (b : Fin 32) (n : Fin 19) (k : Fin 1536) : (val_main_v4 (F := Ideal) h sc (ix3 b n k) : EReal) = xrow h sc b k n.val := by
  have hn := n.isLt
  unfold val_main_v4 xrow
  generalize hz : val_main_v3 (F := Ideal) sc = z
  generalize hc : val_main_v0 (F := Ideal) h = u
  pointwise
  by_cases h2 : n.val < 3
  · rw [dif_pos h2, dif_pos h2, ← hz, v3_apply]
  · rw [dif_neg h2, dif_neg h2, dif_pos (by omega), ← hc, v0_apply]

theorem v13_apply (j : Fin 4) (b : Fin 32) (p : Fin 16) (k : Fin 1536) : (val_main_v13 (F := Ideal) h sc (ix4 j b p k) : EReal) = xrow h sc b k (p.val + j.val) := by
  have hp := p.isLt
  have e9 : val_main_v9 (F := Ideal) h sc (ix4 (0 : Fin 1) b p k) = xrow h sc b k (p.val + 0) := by
    rw [val_main_v9_apply, val_main_v5_apply]
    exact (congrArg (val_main_v4 (F := Ideal) h sc) (by funext a; apply Fin.ext; fin_cases a <;> simp)).trans (v4_apply h sc b ⟨p.val + 0, by omega⟩ k)
  have e10 : val_main_v10 (F := Ideal) h sc (ix4 (0 : Fin 1) b p k) = xrow h sc b k (p.val + 1) := by
    rw [val_main_v10_apply, val_main_v6_apply]
    exact (congrArg (val_main_v4 (F := Ideal) h sc) (by funext a; apply Fin.ext; fin_cases a <;> simp <;> omega)).trans (v4_apply h sc b ⟨p.val + 1, by omega⟩ k)
  have e11 : val_main_v11 (F := Ideal) h sc (ix4 (0 : Fin 1) b p k) = xrow h sc b k (p.val + 2) := by
    rw [val_main_v11_apply, val_main_v7_apply]
    exact (congrArg (val_main_v4 (F := Ideal) h sc) (by funext a; apply Fin.ext; fin_cases a <;> simp <;> omega)).trans (v4_apply h sc b ⟨p.val + 2, by omega⟩ k)
  have e12 : val_main_v12 (F := Ideal) h sc (ix4 (0 : Fin 1) b p k) = xrow h sc b k (p.val + 3) := by
    rw [val_main_v12_apply, val_main_v8_apply]
    exact (congrArg (val_main_v4 (F := Ideal) h sc) (by funext a; apply Fin.ext; fin_cases a <;> simp <;> omega)).trans (v4_apply h sc b ⟨p.val + 3, by omega⟩ k)
  unfold val_main_v13
  generalize val_main_v9 (F := Ideal) h sc = y0 at *
  generalize val_main_v10 (F := Ideal) h sc = y1 at *
  generalize val_main_v11 (F := Ideal) h sc = y2 at *
  generalize val_main_v12 (F := Ideal) h sc = y3 at *
  fin_cases j
  · pointwise
    exact e9
  · pointwise
    exact e10
  · pointwise
    exact e11
  · pointwise
    exact e12

theorem v17_apply (j : Fin 4) (k : Fin 1536) : (val_main_v17 (F := Ideal) cw (ix2 j k) : EReal) = cw (ix3 (0 : Fin 2) j k) := by
  have hj := j.isLt
  have hk := k.isLt
  rw [val_main_v17_apply, val_main_v16_apply]; exact congrArg cw (by funext a; apply Fin.ext; fin_cases a <;> simp <;> omega)

theorem v21_apply (b : Fin 32) (p : Fin 16) (k : Fin 1536) : (val_main_v21 (F := Ideal) cb (ix3 b p k) : EReal) = cb (ix2 (0 : Fin 2) k) := by
  have hk := k.isLt
  rw [val_main_v21_apply, val_main_v20_apply, val_main_v15_apply, val_main_v14_apply]
  exact congrArg cb (by funext a; apply Fin.ext; fin_cases a; exacts [rfl, Nat.mod_eq_of_lt hk])

theorem v19_apply (b : Fin 32) (p : Fin 16) (k : Fin 1536) : (val_main_v19 (F := Ideal) h cw sc (ix3 b p k) : EReal)
    = ∑ j : Fin 4, cw (ix3 (0 : Fin 2) j k) * xrow h sc b k (p.val + j.val) := by
  rw [val_main_v19_apply, val_main_v18_apply]
  refine Finset.sum_congr rfl fun j _ => ?_
  rw [← v17_apply cw, ← v13_apply h sc]
  exact congr (congrArg (@HMul.hMul EReal EReal EReal instHMul) (congrArg (val_main_v17 (F := Ideal) cw) (by funext a; fin_cases a <;> rfl)))
    (congrArg (val_main_v13 (F := Ideal) h sc) (by funext a; fin_cases a <;> rfl))

theorem exp_nonneg : ∀ x : EReal, (0 : EReal) ≤ Ideal.exp x
  | ⊥ => le_refl _
  | ⊤ => le_top
  | (r : ℝ) => EReal.coe_nonneg.mpr (Real.exp_pos r).le

/-- The reference's sigmoid quotient is the logistic product. -/
theorem sigmoid (y : EReal) : Ideal.div y (Ideal.ofBits .f32 0x3F800000#32 + Ideal.exp (-y)) = TailSpec.silu y := by
  rw [Ideal.ofBits_one_f32]
  unfold TailSpec.silu Ideal.logistic Ideal.div
  have hz : (1 : EReal) + Ideal.exp (-y) ≠ 0 := by
    have : (0 : EReal) ≤ Ideal.exp (-y) := exp_nonneg (-y)
    intro hh
    have h1 : (1 : EReal) ≤ 1 + Ideal.exp (-y) := le_add_of_nonneg_right this
    rw [hh] at h1
    exact absurd h1 (by norm_num)
  rw [if_neg hz, if_neg hz, one_mul]

theorem v27_apply (b : Fin 32) (p : Fin 16) (k : Fin 1536) : (val_main_v27 (F := Ideal) h cw cb sc (ix3 b p k) : EReal) = act h cw cb sc b p k := by
  unfold act convAct
  rw [← sigmoid]
  have e : (val_main_v22 (F := Ideal) h cw cb sc (ix3 b p k) : EReal) = (((cb (ix2 (0 : Fin 2) k) + xrow h sc b k p.val * cw (ix3 (0 : Fin 2) 0 k)) + xrow h sc b k (p.val + 1) * cw (ix3 (0 : Fin 2) 1 k))
      + xrow h sc b k (p.val + 2) * cw (ix3 (0 : Fin 2) 2 k)) + xrow h sc b k (p.val + 3) * cw (ix3 (0 : Fin 2) 3 k) := by
    refine (show _ = (val_main_v21 (F := Ideal) cb (ix3 b p k) : EReal) + val_main_v19 (F := Ideal) h cw sc (ix3 b p k) from rfl).trans ?_
    rw [v21_apply, v19_apply, Fin.sum_univ_four, ← add_assoc, ← add_assoc, ← add_assoc, mul_comm (cw (ix3 (0 : Fin 2) 0 k)), mul_comm (cw (ix3 (0 : Fin 2) 1 k)),
      mul_comm (cw (ix3 (0 : Fin 2) 2 k)), mul_comm (cw (ix3 (0 : Fin 2) 3 k))]
    rfl
  rw [← e]
  rfl

/-- The channels, `B` and `C`, by head. -/
theorem v29_apply (b : Fin 32) (t hd : Fin 16) (d : Fin 64) : (val_main_v29 (F := Ideal) h cw cb sc (ix4 b t hd d) : EReal) = act h cw cb sc b t (xCol hd d) := by
  have hb := b.isLt
  have ht := t.isLt
  have hh := hd.isLt
  have hD := d.isLt
  rw [val_main_v29_apply, val_main_v28_apply, ← v27_apply]
  exact congrArg (val_main_v27 (F := Ideal) h cw cb sc) (by funext a; apply Fin.ext; fin_cases a <;> simp [xCol] <;> omega)

theorem v33_apply (b : Fin 32) (t hd : Fin 16) (n : Fin 128) : (val_main_v33 (F := Ideal) h cw cb sc (ix4 b t hd n) : EReal) = act h cw cb sc b t (bCol hd n) := by
  have hb := b.isLt
  have ht := t.isLt
  have hh := hd.isLt
  have hD := n.isLt
  rw [val_main_v33_apply, val_main_v32_apply,
    show idx_main_v32 (idx_main_v33 (ix4 b t hd n)) = ix4 b t (⟨hd.val / 8, by omega⟩ : Fin 2) n by funext a; apply Fin.ext; fin_cases a <;> simp <;> omega,
    val_main_v31_apply, val_main_v30_apply, ← v27_apply]
  exact congrArg (val_main_v27 (F := Ideal) h cw cb sc) (by funext a; apply Fin.ext; fin_cases a <;> simp [bCol] <;> omega)

theorem v37_apply (b : Fin 32) (t hd : Fin 16) (n : Fin 128) : (val_main_v37 (F := Ideal) h cw cb sc (ix4 b t hd n) : EReal) = act h cw cb sc b t (cCol hd n) := by
  have hb := b.isLt
  have ht := t.isLt
  have hh := hd.isLt
  have hD := n.isLt
  rw [val_main_v37_apply, val_main_v36_apply,
    show idx_main_v36 (idx_main_v37 (ix4 b t hd n)) = ix4 b t (⟨hd.val / 8, by omega⟩ : Fin 2) n by funext a; apply Fin.ext; fin_cases a <;> simp <;> omega,
    val_main_v35_apply, val_main_v34_apply, ← v27_apply]
  exact congrArg (val_main_v27 (F := Ideal) h cw cb sc) (by funext a; apply Fin.ext; fin_cases a <;> simp [cCol] <;> omega)

/-- The step sizes. -/
theorem v44_apply (b : Fin 32) (t hd : Fin 16) : (val_main_v44 (F := Ideal) h (ix3 b t hd) : EReal) = dtv h b t hd := by
  have e : val_main_v1 (F := Ideal) h (ix3 b t hd) = h (ix3 b t (⟨5648 + hd.val, by omega⟩ : Fin 8736)) := by
    rw [val_main_v1_apply]; exact congrArg h (by funext a; fin_cases a <;> rfl)
  unfold dtv softplus
  rw [← e, ← zero_f32, zero_f32, sub_eq_add_neg, zero_add, ← zero_f32]
  rfl

theorem v46_apply (b : Fin 32) (hd : Fin 16) (d : Fin 64) (n : Fin 128) : (val_main_v46 (F := Ideal) s (ix4 b hd d n) : EReal) = s (ix5 (0 : Fin 2) b hd d n) := by
  have hb := b.isLt
  have hh := hd.isLt
  have hd' := d.isLt
  have hn := n.isLt
  rw [val_main_v46_apply, val_main_v45_apply]; exact congrArg s (by funext a; apply Fin.ext; fin_cases a <;> simp <;> omega)

theorem v53_apply (b : Fin 32) (t hd : Fin 16) : (val_main_v53 (F := Ideal) h al (ix3 b t hd) : EReal) = dtv h b t hd * (0 - Ideal.exp (al (ix2 (0 : Fin 2) hd))) := by
  have hh := hd.isLt
  have e : val_main_v52 (F := Ideal) al (ix3 b t hd) = -Ideal.exp (al (ix2 (0 : Fin 2) hd)) := by
    rw [val_main_v52_apply, val_main_v51_apply]
    refine (show _ = -Ideal.exp (val_main_v48 (F := Ideal) al (fun a => match a with | ⟨0, _⟩ => hd)) from congrArg (val_main_v50 (F := Ideal) al) (by funext a; fin_cases a; rfl)).trans ?_
    rw [val_main_v48_apply, val_main_v47_apply]
    exact congrArg (fun z : EReal => -Ideal.exp z) (congrArg al (by funext a; apply Fin.ext; fin_cases a; exacts [rfl, Nat.mod_eq_of_lt hh]))
  rw [← v44_apply, sub_eq_add_neg, zero_add, ← e]
  rfl

end Cert.SsdRefIdeal.Entry

end
-- ==== Proof.SsdRefCum.lean ====
module

public import proofs.«01_k».proof.Proof.SsdRefRead
public import proofs.«01_k».proof.Proof.SsdPays

@[expose] public section

set_option maxRecDepth 16384

noncomputable section

/-! The reference's running sum down the rows of a block. -/

namespace Cert.SsdRefIdeal.Entry

open Cert.SsdRefIdeal Cert.SsdRefIdeal.Gen Cert.SsdRefIdeal.Read Idealize.ShloMosaic Idealize.ShloMosaic.TcCoe Idealize.SL.Sem
open SsdSpec

/-- A fold of a sum. -/
theorem foldl_sum {n : Nat} (g : Fin n → EReal) (v : EReal) : (List.finRange n).foldl (fun r k => r + g k) v = v + ∑ k, g k := by
  rw [← List.foldl_map (f := g) (g := fun (a b : EReal) => a + b), Fin.sum_univ_def]
  generalize (List.finRange n).map g = l
  induction l generalizing v with
  | nil => simp
  | cons a l ih => rw [List.foldl_cons, ih, List.sum_cons, add_assoc]

/-- The positions of a window. -/
def pos : Fin 16 ≃ (⟨3, ![1, 16, 1]⟩ : Shape).Idx where
  toFun n := ix3 (0 : Fin 1) n (0 : Fin 1)
  invFun i := i 1
  left_inv _ := rfl
  right_inv i := funext fun a => by
    have h0 : (i 0).val < 1 := (i 0).isLt
    have h2 : (i 2).val < 1 := (i 2).isLt
    fin_cases a
    exacts [Fin.ext (by show 0 = (i 0).val; omega), rfl, Fin.ext (by show 0 = (i 2).val; omega)]

/-- A window that ends at row `p` holds the rows up to it. -/
theorem window_sum (g : Fin 16 → EReal) (p : Fin 16) :
    (∑ n : Fin 16, if hn : 15 ≤ p.val + n.val ∧ p.val + n.val - 15 < 16 then g ⟨p.val + n.val - 15, hn.2⟩ else 0)
      = ∑ x : Fin 16, if x.val ≤ p.val then g x else 0 := by
  have hp := p.isLt
  refine Finset.sum_bij_ne_zero (fun n _ hn => (⟨p.val + n.val - 15, by have := n.isLt; omega⟩ : Fin 16)) (fun _ _ _ => Finset.mem_univ _) ?_ ?_ ?_
  · intro a _ ha b _ hb hab
    have h1 : 15 ≤ p.val + a.val := by
      by_contra hc
      exact ha (dif_neg (by omega))
    have h2 : 15 ≤ p.val + b.val := by
      by_contra hc
      exact hb (dif_neg (by omega))
    have h3 : p.val + a.val - 15 = p.val + b.val - 15 := congrArg Fin.val hab
    exact Fin.ext (by omega)
  · intro x _ hx
    have h1 : x.val ≤ p.val := by
      by_contra hc
      exact hx (if_neg hc)
    have hxl := x.isLt
    have e : (⟨p.val + (x.val + 15 - p.val) - 15, by omega⟩ : Fin 16) = x := Fin.ext (by show p.val + (x.val + 15 - p.val) - 15 = x.val; omega)
    refine ⟨⟨x.val + 15 - p.val, by omega⟩, Finset.mem_univ _, ?_, e⟩
    rw [if_pos h1] at hx
    rw [dif_pos (by constructor <;> show _ <;> simp <;> omega)]
    rw [show (⟨p.val + (⟨x.val + 15 - p.val, by omega⟩ : Fin 16).val - 15, by show p.val + (x.val + 15 - p.val) - 15 < 16; omega⟩ : Fin 16) = x from e]
    exact hx
  · intro n _ hn
    have hnl := n.isLt
    have h1 : 15 ≤ p.val + n.val := by
      by_contra hc
      exact hn (dif_neg (by omega))
    rw [dif_pos (by omega), if_pos (by show p.val + n.val - 15 ≤ p.val; omega)]

/-- The running sum. -/
theorem window_apply (y : S32x16x16.Idx → EReal) (v : S_.Idx → EReal) (hv : ∀ i, v i = 0) (hw) (hs) (b : Fin 32) (p hd : Fin 16) :
    (Host.reduceWindowAdd (F := Ideal) (φ := .f32) (s := S32x16x16) (t := S32x16x16) (u := S_) ![1, 16, 1] ![1, 1, 1] ![0, 15, 0] ![0, 0, 0] y v hw hs (ix3 b p hd) : EReal)
      = ∑ x : Fin 16, if x.val ≤ p.val then y (ix3 b x hd) else 0 := by
  have hp := p.isLt
  have hb := b.isLt
  have hh := hd.isLt
  rw [← window_sum (fun x => y (ix3 b x hd)) p]
  refine (foldl_sum _ _).trans ?_
  rw [hv, zero_add]
  refine Fintype.sum_equiv ((Shape.rowMajor (⟨3, ![1, 16, 1]⟩ : Shape)).symm.trans pos.symm) _ _ fun k => ?_
  rw [Equiv.trans_apply]
  obtain ⟨n, hn⟩ := pos.surjective ((Shape.rowMajor (⟨3, ![1, 16, 1]⟩ : Shape)).symm k)
  have en : pos.symm ((Shape.rowMajor (⟨3, ![1, 16, 1]⟩ : Shape)).symm k) = n := by rw [← hn, Equiv.symm_apply_apply]
  rw [en]
  have hnl := n.isLt
  have q0 : ∀ q : Fin 3, ((Shape.rowMajor (⟨3, ![1, 16, 1]⟩ : Shape)).symm k q).val = (pos n q).val := fun q => by rw [hn]
  by_cases hc : 15 ≤ p.val + n.val
  · rw [dif_pos (show 15 ≤ p.val + n.val ∧ p.val + n.val - 15 < 16 by omega)]
    refine (dif_pos ?_).trans (congrArg y (funext fun a => Fin.ext ?_))
    · intro a
      fin_cases a
      · show 0 ≤ b.val * 1 + ((Shape.rowMajor (⟨3, ![1, 16, 1]⟩ : Shape)).symm k 0).val ∧ b.val * 1 + ((Shape.rowMajor (⟨3, ![1, 16, 1]⟩ : Shape)).symm k 0).val - 0 < 32
        rw [q0 0, show (pos n 0).val = 0 from rfl]
        omega
      · show 15 ≤ p.val * 1 + ((Shape.rowMajor (⟨3, ![1, 16, 1]⟩ : Shape)).symm k 1).val ∧ p.val * 1 + ((Shape.rowMajor (⟨3, ![1, 16, 1]⟩ : Shape)).symm k 1).val - 15 < 16
        rw [q0 1, show (pos n 1).val = n.val from rfl]
        omega
      · show 0 ≤ hd.val * 1 + ((Shape.rowMajor (⟨3, ![1, 16, 1]⟩ : Shape)).symm k 2).val ∧ hd.val * 1 + ((Shape.rowMajor (⟨3, ![1, 16, 1]⟩ : Shape)).symm k 2).val - 0 < 16
        rw [q0 2, show (pos n 2).val = 0 from rfl]
        omega
    · fin_cases a
      · show b.val * 1 + ((Shape.rowMajor (⟨3, ![1, 16, 1]⟩ : Shape)).symm k 0).val - 0 = b.val
        rw [q0 0, show (pos n 0).val = 0 from rfl]
        omega
      · show p.val * 1 + ((Shape.rowMajor (⟨3, ![1, 16, 1]⟩ : Shape)).symm k 1).val - 15 = p.val + n.val - 15
        rw [q0 1, show (pos n 1).val = n.val from rfl]
        omega
      · show hd.val * 1 + ((Shape.rowMajor (⟨3, ![1, 16, 1]⟩ : Shape)).symm k 2).val - 0 = hd.val
        rw [q0 2, show (pos n 2).val = 0 from rfl]
        omega
  · rw [dif_neg (show ¬(15 ≤ p.val + n.val ∧ p.val + n.val - 15 < 16) by omega)]
    refine dif_neg fun hh => hc ?_
    have h1 : 15 ≤ p.val * 1 + ((Shape.rowMajor (⟨3, ![1, 16, 1]⟩ : Shape)).symm k 1).val := (hh 1).1
    rw [q0 1, show (pos n 1).val = n.val from rfl] at h1
    omega

end Cert.SsdRefIdeal.Entry

end
-- ==== Proof.SsdRefOut.lean ====
module

public import proofs.«01_k».proof.Proof.SsdRefCum

@[expose] public section

set_option maxRecDepth 16384

noncomputable section

/-! The reference's results, in the terms the kernel's blocks are stated in. -/

namespace Cert.SsdRefIdeal.Entry

open Cert.SsdRefIdeal Cert.SsdRefIdeal.Gen Cert.SsdRefIdeal.Read Idealize.ShloMosaic Idealize.ShloMosaic.TcCoe Idealize.SL.Sem
open SsdSpec

variable (h : S32x16x8736.Idx → EReal) (cw : S2x4x1536.Idx → EReal) (cb : S2x1536.Idx → EReal) (al sk : S2x16.Idx → EReal)
  (s : S2x32x16x64x128.Idx → EReal) (sc : S2x32x3x1536.Idx → EReal)

/-- The log of the decay. -/
theorem v54_apply (b : Fin 32) (p hd : Fin 16) : (val_main_v54 (F := Ideal) h al (ix3 b p hd) : EReal) = cum h al b hd p := by
  unfold val_main_v54 cum
  refine (window_apply _ _ (fun i => by rw [val_main_call0_call0_v0_apply]; exact Ideal.ofBits_zero_f32) _ _ b p hd).trans (Finset.sum_congr rfl fun x _ => ?_)
  rw [v53_apply, Cert.SsdIdeal.Pays.num_mask]
  by_cases hx : x.val ≤ p.val
  · rw [if_pos hx, if_pos hx, one_mul]
  · rw [if_neg hx, if_neg hx, zero_mul]

/-- The decay between two rows, causal. -/
theorem v66_apply (b : Fin 32) (hd t j : Fin 16) : (val_main_v66 (F := Ideal) h al (ix4 b hd t j) : EReal)
    = Ideal.exp (Scalar.select (mask t j) (cum h al b hd t - cum h al b hd j) (Ideal.ofBits .f32 0xFF800000#32)) := by
  have e62 : (val_main_v62 (F := Ideal) h al (ix4 b hd t j) : EReal) = cum h al b hd t := by
    rw [val_main_v62_apply, val_main_v60_apply, val_main_v56_apply, ← v54_apply]
    exact congrArg (val_main_v54 (F := Ideal) h al) (by funext a; fin_cases a <;> rfl)
  have e63 : (val_main_v63 (F := Ideal) h al (ix4 b hd t j) : EReal) = cum h al b hd j := by
    rw [val_main_v63_apply, val_main_v61_apply, val_main_v56_apply, ← v54_apply]
    exact congrArg (val_main_v54 (F := Ideal) h al) (by funext a; fin_cases a <;> rfl)
  have em : val_main_call1_v1 (F := Ideal) (ix4 b hd t j) = mask t j := by
    rw [val_main_call1_v1_apply]; rfl
  have ei : (val_main_call1_v2 (F := Ideal) (ix4 b hd t j) : EReal) = Ideal.ofBits .f32 0xFF800000#32 := by
    rw [val_main_call1_v2_apply]; rfl
  rw [← e62, ← e63, ← em, ← ei]
  rfl

theorem v72_apply (b : Fin 32) (hd t : Fin 16) (d : Fin 64) : (val_main_v72 (F := Ideal) h cw cb al sc (ix4 b hd d t) : EReal)
    = ∑ x : Fin 16, (∑ n : Fin 128, act h cw cb sc b t (cCol hd n) * act h cw cb sc b x (bCol hd n))
      * (Ideal.exp (Scalar.select (mask t x) (cum h al b hd t - cum h al b hd x) (Ideal.ofBits .f32 0xFF800000#32)) * dtv h b x hd) * act h cw cb sc b x (xCol hd d) := by
  rw [val_main_v72_apply]
  refine Finset.sum_congr rfl fun x _ => ?_
  have e71 : (val_main_v71 (F := Ideal) h cw cb sc (ix4 b x hd d) : EReal) = dtv h b x hd * act h cw cb sc b x (xCol hd d) := by
    have e70 : (val_main_v70 (F := Ideal) h (ix4 b x hd d) : EReal) = dtv h b x hd := by
      rw [val_main_v70_apply, val_main_v69_apply, ← v44_apply]
      exact congrArg (val_main_v44 (F := Ideal) h) (by funext a; fin_cases a <;> rfl)
    rw [← e70, ← v29_apply]
    rfl
  have e67 : (val_main_v67 (F := Ideal) h cw cb sc (ix4 b hd t x) : EReal) = ∑ n : Fin 128, act h cw cb sc b t (cCol hd n) * act h cw cb sc b x (bCol hd n) := by
    rw [val_main_v67_apply]
    refine Finset.sum_congr rfl fun n _ => ?_
    rw [← v37_apply, ← v33_apply]
    exact congr (congrArg (@HMul.hMul EReal EReal EReal instHMul) (congrArg (val_main_v37 (F := Ideal) h cw cb sc) (by funext a; fin_cases a <;> rfl)))
      (congrArg (val_main_v33 (F := Ideal) h cw cb sc) (by funext a; fin_cases a <;> rfl))
  have e68 : (val_main_v68 (F := Ideal) h cw cb al sc (ix4 b hd t x) : EReal) = (∑ n : Fin 128, act h cw cb sc b t (cCol hd n) * act h cw cb sc b x (bCol hd n))
      * Ideal.exp (Scalar.select (mask t x) (cum h al b hd t - cum h al b hd x) (Ideal.ofBits .f32 0xFF800000#32)) := by
    rw [← e67, ← v66_apply]
    rfl
  refine (congr (congrArg (@HMul.hMul EReal EReal EReal instHMul) ((congrArg (val_main_v71 (F := Ideal) h cw cb sc) (by funext a; fin_cases a <;> rfl)).trans e71))
      ((congrArg (val_main_v68 (F := Ideal) h cw cb al sc) (by funext a; fin_cases a <;> rfl)).trans e68)).trans ?_
  generalize (∑ n : Fin 128, act h cw cb sc b t (cCol hd n) * act h cw cb sc b x (bCol hd n)) = A
  generalize Ideal.exp (Scalar.select (mask t x) (cum h al b hd t - cum h al b hd x) (Ideal.ofBits .f32 0xFF800000#32)) = E
  generalize dtv h b x hd = D
  generalize act h cw cb sc b x (xCol hd d) = X
  ac_rfl

/-- A head's output. -/
theorem v101_apply (b : Fin 32) (hd t : Fin 16) (d : Fin 64) : (val_main_v101 (F := Ideal) h cw cb al sk s sc (ix4 b t hd d) : EReal) = yOf h cw cb al sk s sc b hd d t := by
  have e73 : (val_main_v73 (F := Ideal) h cw cb al sc (ix4 b t hd d) : EReal) = val_main_v72 (F := Ideal) h cw cb al sc (ix4 b hd d t) := by
    rw [val_main_v73_apply]
    exact congrArg (val_main_v72 (F := Ideal) h cw cb al sc) (by funext a; fin_cases a <;> rfl)
  have e77 : (val_main_v77 (F := Ideal) h cw cb s sc (ix4 b t hd d) : EReal) = ∑ n : Fin 128, act h cw cb sc b t (cCol hd n) * s (ix5 (0 : Fin 2) b hd d n) := by
    rw [val_main_v77_apply, val_main_v76_apply]
    refine Finset.sum_congr rfl fun n _ => ?_
    rw [← v37_apply, ← v46_apply s, mul_comm]
    exact congr (congrArg (@HMul.hMul EReal EReal EReal instHMul) (congrArg (val_main_v37 (F := Ideal) h cw cb sc) (by funext a; fin_cases a <;> rfl)))
      (congrArg (val_main_v46 (F := Ideal) s) (by funext a; fin_cases a <;> rfl))
  have e78 : (val_main_v78 (F := Ideal) h al (ix4 b t hd d) : EReal) = Ideal.exp (cum h al b hd t) := by
    rw [val_main_v78_apply, val_main_v75_apply, ← v54_apply]
    exact congrArg (val_main_v74 (F := Ideal) h al) (by funext a; fin_cases a <;> rfl)
  have e99 : (val_main_v99 (F := Ideal) sk (ix4 b t hd d) : EReal) = sk (ix2 (0 : Fin 2) hd) := by
    have hh := hd.isLt
    rw [val_main_v99_apply, val_main_v98_apply, val_main_v97_apply, val_main_v96_apply, val_main_v95_apply]
    exact congrArg sk (by funext a; apply Fin.ext; fin_cases a; exacts [rfl, Nat.mod_eq_of_lt hh])
  unfold yOf rowOf
  dsimp only
  rw [← v72_apply, ← e73, ← e77, ← e78, ← e99, ← v29_apply]
  rfl

/-- A head's state after the block. -/
theorem v94_apply (b : Fin 32) (hd : Fin 16) (d : Fin 64) (n : Fin 128) : (val_main_v94 (F := Ideal) h cw cb al s sc (ix4 b hd d n) : EReal) = sOf h cw cb al s sc b hd d n := by
  have hb := b.isLt
  have hh := hd.isLt
  have e55 : ∀ hd : Fin 16, (val_main_v55 (F := Ideal) h al (ix3 b (0 : Fin 1) hd) : EReal) = cum h al b hd 15 := fun hd => by
    rw [val_main_v55_apply, ← v54_apply]
    exact congrArg (val_main_v54 (F := Ideal) h al) (by funext a; fin_cases a <;> rfl)
  have e88 : (val_main_v88 (F := Ideal) h al (ix4 b hd d n) : EReal) = Ideal.exp (cum h al b hd 15) := by
    rw [val_main_v88_apply, val_main_v87_apply, val_main_v86_apply, ← e55]
    exact congrArg (val_main_v85 (F := Ideal) h al) (by funext a; apply Fin.ext; fin_cases a <;> simp <;> omega)
  have e84 : ∀ x : Fin 16, (val_main_v84 (F := Ideal) h al (ix3 b x hd) : EReal) = Ideal.exp (cum h al b hd 15 - cum h al b hd x) * dtv h b x hd := fun x => by
    have e81 : (val_main_v81 (F := Ideal) h al (ix3 b x hd) : EReal) = cum h al b hd 15 := by
      rw [val_main_v81_apply, ← e55]
      exact congrArg (val_main_v55 (F := Ideal) h al) (by funext a; fin_cases a <;> rfl)
    rw [← e81, ← v54_apply h al b x hd, ← v44_apply]
    rfl
  have e93 : (val_main_v93 (F := Ideal) h cw cb al sc (ix4 b hd d n) : EReal) = ∑ x : Fin 16, act h cw cb sc b x (xCol hd d)
      * (Ideal.exp (cum h al b hd 15 - cum h al b hd x) * dtv h b x hd) * act h cw cb sc b x (bCol hd n) := by
    rw [val_main_v93_apply]
    refine Finset.sum_congr rfl fun x _ => ?_
    have e91 : (val_main_v91 (F := Ideal) h al (ix4 b x hd d) : EReal) = val_main_v84 (F := Ideal) h al (ix3 b x hd) := by
      rw [val_main_v91_apply, val_main_v90_apply]
      exact congrArg (val_main_v84 (F := Ideal) h al) (by funext a; fin_cases a <;> rfl)
    rw [← e84, ← e91, ← v33_apply, ← v29_apply, mul_comm (val_main_v29 (F := Ideal) h cw cb sc (ix4 b x hd d) : EReal)]
    exact congr (congrArg (@HMul.hMul EReal EReal EReal instHMul) (congrArg (val_main_v92 (F := Ideal) h cw cb al sc) (by funext a; fin_cases a <;> rfl)))
      (congrArg (val_main_v33 (F := Ideal) h cw cb sc) (by funext a; fin_cases a <;> rfl))
  unfold sOf stateOf
  rw [← e93, ← e88, ← v46_apply s]
  rfl

/-- The block's rows. -/
theorem v102_apply (i : S512x1024.Idx) : (val_main_v102 (F := Ideal) h cw cb al sk s sc i : EReal)
    = yOf h cw cb al sk s sc ⟨(i 0).val / 16, by have h : (i 0).val < 512 := (i 0).isLt; omega⟩ ⟨(i 1).val / 64, by have h : (i 1).val < 1024 := (i 1).isLt; omega⟩
      ⟨(i 1).val % 64, Nat.mod_lt _ (by omega)⟩ ⟨(i 0).val % 16, Nat.mod_lt _ (by omega)⟩ := by
  have h0 : (i 0).val < 512 := (i 0).isLt
  have h1 : (i 1).val < 1024 := (i 1).isLt
  rw [val_main_v102_apply, ← v101_apply]
  refine congrArg (val_main_v101 (F := Ideal) h cw cb al sk s sc) (funext fun a => Fin.ext ?_)
  fin_cases a
  · show ((i 0).val * 1024 + (i 1).val) / 16384 = (i 0).val / 16
    omega
  · show ((i 0).val * 1024 + (i 1).val) / 1024 % 16 = (i 0).val % 16
    omega
  · show ((i 0).val * 1024 + (i 1).val) / 64 % 16 = (i 1).val / 64
    omega
  · show ((i 0).val * 1024 + (i 1).val) % 64 = (i 1).val % 64
    omega

/-- The rows carried on. -/
theorem v103_apply (b : Fin 32) (q : Fin 8) (k : Fin 1024) : (val_main_v103 (F := Ideal) h (ix3 b q k) : EReal) = h (ix3 b (⟨8 + q.val, by omega⟩ : Fin 16) (⟨4112 + k.val, by omega⟩ : Fin 8736)) := by
  rw [val_main_v103_apply, val_main_v0_apply]; exact congrArg h (by funext a; apply Fin.ext; fin_cases a <;> simp <;> omega)

theorem v104_apply (b : Fin 32) (q : Fin 8) (k : Fin 512) : (val_main_v104 (F := Ideal) h (ix3 b q k) : EReal) = h (ix3 b (⟨8 + q.val, by omega⟩ : Fin 16) (⟨4112 + (1024 + k.val), by omega⟩ : Fin 8736)) := by
  rw [val_main_v104_apply, val_main_v0_apply]; exact congrArg h (by funext a; apply Fin.ext; fin_cases a <;> simp <;> omega)

end Cert.SsdRefIdeal.Entry

end
-- ==== Proof.SsdClaims.lean ====
module

public import proofs.«01_k».proof.Proof.SsdRows
public import proofs.«01_k».proof.Proof.SsdStates
public import proofs.«01_k».proof.Proof.SsdCarried
public import proofs.«01_k».proof.Proof.SsdRefOut
public import proofs.«01_k».proof.Proof.Gen.Ssd.Frame
public import proofs.«01_k».proof.Proof.Gen.SsdRefIdeal.Run
public import Idealize.ShloMosaic.Lib.Quiescent

@[expose] public section

noncomputable section

/-! The claims of the state-space recurrence. -/

namespace Cert.SsdClaims

open Idealize.ShloMosaic Idealize.ShloMosaic.TcCoe Idealize.SL.Sem

/-- The kernel and its ideal reading leave their arguments alone and no semaphore raised. -/
theorem frame_k : Cert.quiescent_Ssd := fun m ρ _ => Cert.Ssd.Gen.frame m ρ
theorem frame_ki : Cert.quiescent_SsdIdeal := fun m ρ _ => Cert.SsdIdeal.Gen.frame m ρ

/-- So does the reference, which has no semaphore. -/
theorem frame_ri : Cert.quiescent_SsdRefIdeal := fun m ρ _ =>
  (θ_run Cert.SsdRefIdeal.defs _ _).mono (fun r h => ⟨fun c => (h c).2.2.2.2, Idealize.ShloMosaic.sem_eq_zero_of_no_sems (by decide) r.2⟩)
    (Cert.SsdRefIdeal.Value.run (F := Ideal) m ρ)

/-- At the ideal reading the kernel's four results and the reference's are the same functions of the same arguments. -/
theorem algebraic : Cert.algebraic_SsdIdeal_SsdRefIdeal := by
  intro m ρ m' ρ' _ hag
  refine ⟨fun c => Cert.SsdIdeal.Blocks.out14 m c, fun c => Cert.SsdIdeal.Blocks.out15 m c, fun c => Cert.SsdIdeal.Blocks.out16 m c,
    fun c => Cert.SsdIdeal.Blocks.out17 m c, ?_, ?_⟩
  · exact (θ_run Cert.SsdIdeal.defs _ _).mono (fun _ h c => ⟨(h c).1.trans (Cert.SsdIdeal.Blocks.final14 m c),
      (h c).2.1.trans (Cert.SsdIdeal.Blocks.final15 m c), (h c).2.2.1.trans (Cert.SsdIdeal.Blocks.final16 m c),
      (h c).2.2.2.1.trans (Cert.SsdIdeal.Blocks.final17 m c), (h c).2.2.2.2⟩)
      (Cert.SsdIdeal.Value.run_blocks (F := Ideal) m ρ)
  · refine (θ_run Cert.SsdRefIdeal.defs _ _).mono (fun _ h c => ⟨(h c).1.trans ?_, (h c).2.1.trans ?_, (h c).2.2.1.trans ?_, (h c).2.2.2.1.trans ?_, (h c).2.2.2.2⟩)
      (Cert.SsdRefIdeal.Value.run (F := Ideal) m' ρ')
    · obtain ⟨a0, a1, a2, a3, a4, a5, a6⟩ := hag c
      rw [Cert.SsdRefIdeal.Read.val_main_v102_eq, a0, a1, a2, a3, a4, a5, a6]
      exact funext fun i => Cert.SsdRefIdeal.Entry.v102_apply _ _ _ _ _ _ _ i
    · obtain ⟨a0, a1, a2, a3, a4, a5, a6⟩ := hag c
      rw [Cert.SsdRefIdeal.Read.val_main_v94_eq, a0, a1, a2, a3, a5, a6]
      exact funext fun i => (congrArg _ (show i = ix4 (i 0) (i 1) (i 2) (i 3) by funext a; fin_cases a <;> rfl)).trans (Cert.SsdRefIdeal.Entry.v94_apply _ _ _ _ _ _ (i 0) (i 1) (i 2) (i 3))
    · obtain ⟨a0, a1, a2, a3, a4, a5, a6⟩ := hag c
      refine (Cert.SsdRefIdeal.Read.val_main_v103_eq _).trans ?_
      rw [a0]
      exact funext fun i => (congrArg _ (show i = ix3 (i 0) (i 1) (i 2) by funext a; fin_cases a <;> rfl)).trans (Cert.SsdRefIdeal.Entry.v103_apply _ (i 0) (i 1) (i 2))
    · obtain ⟨a0, a1, a2, a3, a4, a5, a6⟩ := hag c
      refine (Cert.SsdRefIdeal.Read.val_main_v104_eq _).trans ?_
      rw [a0]
      exact funext fun i => (congrArg _ (show i = ix3 (i 0) (i 1) (i 2) by funext a; fin_cases a <;> rfl)).trans (Cert.SsdRefIdeal.Entry.v104_apply _ (i 0) (i 1) (i 2))

end Cert.SsdClaims

end
-- ==== Proof.lean ====
module

public import proofs.«01_k».proof.Defs
public import proofs.«01_k».proof.Proof.Gen.Linear
public import proofs.«01_k».proof.Proof.Gen.LinearIdeal
public import proofs.«01_k».proof.Proof.Gen.LinearRefIdeal
public import proofs.«01_k».proof.Proof.LinearClaims
public import proofs.«01_k».proof.Proof.Gen.MemKv
public import proofs.«01_k».proof.Proof.Gen.MemKvIdeal
public import proofs.«01_k».proof.Proof.Gen.MemKvRefIdeal
public import proofs.«01_k».proof.Proof.MemKvClaims
public import proofs.«01_k».proof.Proof.Gen.OddLinear
public import proofs.«01_k».proof.Proof.Gen.OddLinearIdeal
public import proofs.«01_k».proof.Proof.Gen.OddLinearRefIdeal
public import proofs.«01_k».proof.Proof.OddLinearClaims
public import proofs.«01_k».proof.Proof.Gen.OddTail
public import proofs.«01_k».proof.Proof.Gen.OddTailIdeal
public import proofs.«01_k».proof.Proof.Gen.OddTailRefIdeal
public import proofs.«01_k».proof.Proof.OddTailClaims
public import proofs.«01_k».proof.Proof.Gen.MemAtt
public import proofs.«01_k».proof.Proof.Gen.MemAttIdeal
public import proofs.«01_k».proof.Proof.Gen.MemAttRefIdeal
public import proofs.«01_k».proof.Proof.MemAttClaims
public import proofs.«01_k».proof.Proof.Gen.EvenTail
public import proofs.«01_k».proof.Proof.Gen.EvenTailIdeal
public import proofs.«01_k».proof.Proof.Gen.EvenTailRefIdeal
public import proofs.«01_k».proof.Proof.EvenTailClaims
public import proofs.«01_k».proof.Proof.Gen.Ssd
public import proofs.«01_k».proof.Proof.Gen.SsdIdeal
public import proofs.«01_k».proof.Proof.Gen.SsdRefIdeal
public import proofs.«01_k».proof.Proof.SsdClaims

@[expose] public section

noncomputable section

namespace Cert.Proof

/-- Every claim, each proved in its call's module. -/
theorem claim : Cert.Claim :=
  ⟨Cert.Linear.Gen.facts, Cert.LinearIdeal.Gen.facts, Cert.LinearRefIdeal.Gen.facts,
   Cert.MemKv.Gen.facts, Cert.MemKvIdeal.Gen.facts, Cert.MemKvRefIdeal.Gen.facts,
   Cert.OddLinear.Gen.facts, Cert.OddLinearIdeal.Gen.facts, Cert.OddLinearRefIdeal.Gen.facts,
   Cert.OddTail.Gen.facts, Cert.OddTailIdeal.Gen.facts, Cert.OddTailRefIdeal.Gen.facts,
   Cert.MemAtt.Gen.facts, Cert.MemAttIdeal.Gen.facts, Cert.MemAttRefIdeal.Gen.facts,
   Cert.EvenTail.Gen.facts, Cert.EvenTailIdeal.Gen.facts, Cert.EvenTailRefIdeal.Gen.facts,
   Cert.Ssd.Gen.facts, Cert.SsdIdeal.Gen.facts, Cert.SsdRefIdeal.Gen.facts,
   MemAttClaims.pre_facts,
   LinearClaims.frame_k, LinearClaims.frame_ki, LinearClaims.frame_ri,
   MemKvClaims.frame_k, MemKvClaims.frame_ki, MemKvClaims.frame_ri,
   OddLinearClaims.frame_k, OddLinearClaims.frame_ki, OddLinearClaims.frame_ri,
   OddTailClaims.frame_k, OddTailClaims.frame_ki, OddTailClaims.frame_ri,
   MemAttClaims.frame_k, MemAttClaims.frame_ki, MemAttClaims.frame_ki_pre, MemAttClaims.frame_ri, MemAttClaims.frame_ri_pre,
   EvenTailClaims.frame_k, EvenTailClaims.frame_ki, EvenTailClaims.frame_ri,
   SsdClaims.frame_k, SsdClaims.frame_ki, SsdClaims.frame_ri,
   trivial, LinearClaims.algebraic,
   trivial, MemKvClaims.algebraic,
   trivial, OddLinearClaims.algebraic,
   trivial, OddTailClaims.algebraic,
   trivial, MemAttClaims.algebraic,
   trivial, EvenTailClaims.algebraic,
   trivial, SsdClaims.algebraic⟩

end Cert.Proof

end
